-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_KernelGqa (m : (ℓ : Loc Cert.KernelGqa.nD Cert.KernelGqa.τ Cert.KernelGqa.sig) → Buf (Elt Bits) ℓ) : Prop :=
  True

def Pre_KernelGqaIdeal (m : (ℓ : Loc Cert.KernelGqaIdeal.nD Cert.KernelGqaIdeal.τ Cert.KernelGqaIdeal.sig) → Buf (Elt Ideal) ℓ) : Prop :=
  True

def Pre_KernelGqaIdeal_gqa_finite [hPre_gqa_finite : Cert.Pre_gqa_finite.Facts] (m : (ℓ : Loc Cert.KernelGqaIdeal.nD Cert.KernelGqaIdeal.τ Cert.KernelGqaIdeal.sig) → Buf (Elt Ideal) ℓ) : Prop :=
  ∀ c : Dev Cert.KernelGqaIdeal.nD,
    (Cert.Pre_gqa_finite.fn (F := Ideal) (m ((c.tc : Thread Cert.KernelGqaIdeal.nD Cert.KernelGqaIdeal.τ).loc Cert.KernelGqaIdeal.main_arg0)) (m ((c.tc : Thread Cert.KernelGqaIdeal.nD Cert.KernelGqaIdeal.τ).loc Cert.KernelGqaIdeal.main_arg1)) (m ((c.tc : Thread Cert.KernelGqaIdeal.nD Cert.KernelGqaIdeal.τ).loc Cert.KernelGqaIdeal.main_arg2)) (m ((c.tc : Thread Cert.KernelGqaIdeal.nD Cert.KernelGqaIdeal.τ).loc Cert.KernelGqaIdeal.main_arg3))).1 = (fun _ => 1#1)
    ∧ (Cert.Pre_gqa_finite.fn (F := Ideal) (m ((c.tc : Thread Cert.KernelGqaIdeal.nD Cert.KernelGqaIdeal.τ).loc Cert.KernelGqaIdeal.main_arg0)) (m ((c.tc : Thread Cert.KernelGqaIdeal.nD Cert.KernelGqaIdeal.τ).loc Cert.KernelGqaIdeal.main_arg1)) (m ((c.tc : Thread Cert.KernelGqaIdeal.nD Cert.KernelGqaIdeal.τ).loc Cert.KernelGqaIdeal.main_arg2)) (m ((c.tc : Thread Cert.KernelGqaIdeal.nD Cert.KernelGqaIdeal.τ).loc Cert.KernelGqaIdeal.main_arg3))).2.1 = (fun _ => 1#1)
    ∧ (Cert.Pre_gqa_finite.fn (F := Ideal) (m ((c.tc : Thread Cert.KernelGqaIdeal.nD Cert.KernelGqaIdeal.τ).loc Cert.KernelGqaIdeal.main_arg0)) (m ((c.tc : Thread Cert.KernelGqaIdeal.nD Cert.KernelGqaIdeal.τ).loc Cert.KernelGqaIdeal.main_arg1)) (m ((c.tc : Thread Cert.KernelGqaIdeal.nD Cert.KernelGqaIdeal.τ).loc Cert.KernelGqaIdeal.main_arg2)) (m ((c.tc : Thread Cert.KernelGqaIdeal.nD Cert.KernelGqaIdeal.τ).loc Cert.KernelGqaIdeal.main_arg3))).2.2.1 = (fun _ => 1#1)
    ∧ (Cert.Pre_gqa_finite.fn (F := Ideal) (m ((c.tc : Thread Cert.KernelGqaIdeal.nD Cert.KernelGqaIdeal.τ).loc Cert.KernelGqaIdeal.main_arg0)) (m ((c.tc : Thread Cert.KernelGqaIdeal.nD Cert.KernelGqaIdeal.τ).loc Cert.KernelGqaIdeal.main_arg1)) (m ((c.tc : Thread Cert.KernelGqaIdeal.nD Cert.KernelGqaIdeal.τ).loc Cert.KernelGqaIdeal.main_arg2)) (m ((c.tc : Thread Cert.KernelGqaIdeal.nD Cert.KernelGqaIdeal.τ).loc Cert.KernelGqaIdeal.main_arg3))).2.2.2 = (fun _ => 1#1)

def Pre_ReferenceGqaIdeal (m : (ℓ : Loc Cert.ReferenceGqaIdeal.nD Cert.ReferenceGqaIdeal.τ Cert.ReferenceGqaIdeal.sig) → Buf (Elt Ideal) ℓ) : Prop :=
  True

def Pre_ReferenceGqaIdeal_gqa_finite [hPre_gqa_finite : Cert.Pre_gqa_finite.Facts] (m : (ℓ : Loc Cert.ReferenceGqaIdeal.nD Cert.ReferenceGqaIdeal.τ Cert.ReferenceGqaIdeal.sig) → Buf (Elt Ideal) ℓ) : Prop :=
  ∀ c : Dev Cert.ReferenceGqaIdeal.nD,
    (Cert.Pre_gqa_finite.fn (F := Ideal) (m ((c.tc : Thread Cert.ReferenceGqaIdeal.nD Cert.ReferenceGqaIdeal.τ).loc Cert.ReferenceGqaIdeal.main_arg0)) (m ((c.tc : Thread Cert.ReferenceGqaIdeal.nD Cert.ReferenceGqaIdeal.τ).loc Cert.ReferenceGqaIdeal.main_arg1)) (m ((c.tc : Thread Cert.ReferenceGqaIdeal.nD Cert.ReferenceGqaIdeal.τ).loc Cert.ReferenceGqaIdeal.main_arg2)) (m ((c.tc : Thread Cert.ReferenceGqaIdeal.nD Cert.ReferenceGqaIdeal.τ).loc Cert.ReferenceGqaIdeal.main_arg3))).1 = (fun _ => 1#1)
    ∧ (Cert.Pre_gqa_finite.fn (F := Ideal) (m ((c.tc : Thread Cert.ReferenceGqaIdeal.nD Cert.ReferenceGqaIdeal.τ).loc Cert.ReferenceGqaIdeal.main_arg0)) (m ((c.tc : Thread Cert.ReferenceGqaIdeal.nD Cert.ReferenceGqaIdeal.τ).loc Cert.ReferenceGqaIdeal.main_arg1)) (m ((c.tc : Thread Cert.ReferenceGqaIdeal.nD Cert.ReferenceGqaIdeal.τ).loc Cert.ReferenceGqaIdeal.main_arg2)) (m ((c.tc : Thread Cert.ReferenceGqaIdeal.nD Cert.ReferenceGqaIdeal.τ).loc Cert.ReferenceGqaIdeal.main_arg3))).2.1 = (fun _ => 1#1)
    ∧ (Cert.Pre_gqa_finite.fn (F := Ideal) (m ((c.tc : Thread Cert.ReferenceGqaIdeal.nD Cert.ReferenceGqaIdeal.τ).loc Cert.ReferenceGqaIdeal.main_arg0)) (m ((c.tc : Thread Cert.ReferenceGqaIdeal.nD Cert.ReferenceGqaIdeal.τ).loc Cert.ReferenceGqaIdeal.main_arg1)) (m ((c.tc : Thread Cert.ReferenceGqaIdeal.nD Cert.ReferenceGqaIdeal.τ).loc Cert.ReferenceGqaIdeal.main_arg2)) (m ((c.tc : Thread Cert.ReferenceGqaIdeal.nD Cert.ReferenceGqaIdeal.τ).loc Cert.ReferenceGqaIdeal.main_arg3))).2.2.1 = (fun _ => 1#1)
    ∧ (Cert.Pre_gqa_finite.fn (F := Ideal) (m ((c.tc : Thread Cert.ReferenceGqaIdeal.nD Cert.ReferenceGqaIdeal.τ).loc Cert.ReferenceGqaIdeal.main_arg0)) (m ((c.tc : Thread Cert.ReferenceGqaIdeal.nD Cert.ReferenceGqaIdeal.τ).loc Cert.ReferenceGqaIdeal.main_arg1)) (m ((c.tc : Thread Cert.ReferenceGqaIdeal.nD Cert.ReferenceGqaIdeal.τ).loc Cert.ReferenceGqaIdeal.main_arg2)) (m ((c.tc : Thread Cert.ReferenceGqaIdeal.nD Cert.ReferenceGqaIdeal.τ).loc Cert.ReferenceGqaIdeal.main_arg3))).2.2.2 = (fun _ => 1#1)

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDu (m : (ℓ : Loc Cert.KernelDu.nD Cert.KernelDu.τ Cert.KernelDu.sig) → Buf (Elt Bits) ℓ) : Prop :=
  True

def Pre_KernelDuIdeal (m : (ℓ : Loc Cert.KernelDuIdeal.nD Cert.KernelDuIdeal.τ Cert.KernelDuIdeal.sig) → Buf (Elt Ideal) ℓ) : Prop :=
  True

def Pre_ReferenceDuIdeal (m : (ℓ : Loc Cert.ReferenceDuIdeal.nD Cert.ReferenceDuIdeal.τ Cert.ReferenceDuIdeal.sig) → Buf (Elt Ideal) ℓ) : Prop :=
  True

def Pre_KernelDwDown (m : (ℓ : Loc Cert.KernelDwDown.nD Cert.KernelDwDown.τ Cert.KernelDwDown.sig) → Buf (Elt Bits) ℓ) : Prop :=
  True

def Pre_KernelDwDownIdeal (m : (ℓ : Loc Cert.KernelDwDownIdeal.nD Cert.KernelDwDownIdeal.τ Cert.KernelDwDownIdeal.sig) → Buf (Elt Ideal) ℓ) : Prop :=
  True

def Pre_ReferenceDwDownIdeal (m : (ℓ : Loc Cert.ReferenceDwDownIdeal.nD Cert.ReferenceDwDownIdeal.τ Cert.ReferenceDwDownIdeal.sig) → Buf (Elt Ideal) ℓ) : Prop :=
  True

def Pre_KernelDwUp (m : (ℓ : Loc Cert.KernelDwUp.nD Cert.KernelDwUp.τ Cert.KernelDwUp.sig) → Buf (Elt Bits) ℓ) : Prop :=
  True

def Pre_KernelDwUpIdeal (m : (ℓ : Loc Cert.KernelDwUpIdeal.nD Cert.KernelDwUpIdeal.τ Cert.KernelDwUpIdeal.sig) → Buf (Elt Ideal) ℓ) : Prop :=
  True

def Pre_ReferenceDwUpIdeal (m : (ℓ : Loc Cert.ReferenceDwUpIdeal.nD Cert.ReferenceDwUpIdeal.τ Cert.ReferenceDwUpIdeal.sig) → Buf (Elt Ideal) ℓ) : Prop :=
  True

def Pre_KernelDz (m : (ℓ : Loc Cert.KernelDz.nD Cert.KernelDz.τ Cert.KernelDz.sig) → Buf (Elt Bits) ℓ) : Prop :=
  True

def Pre_KernelDzIdeal (m : (ℓ : Loc Cert.KernelDzIdeal.nD Cert.KernelDzIdeal.τ Cert.KernelDzIdeal.sig) → Buf (Elt Ideal) ℓ) : Prop :=
  True

def Pre_ReferenceDzIdeal (m : (ℓ : Loc Cert.ReferenceDzIdeal.nD Cert.ReferenceDzIdeal.τ Cert.ReferenceDzIdeal.sig) → Buf (Elt Ideal) ℓ) : Prop :=
  True

def Pre_KernelDwIn (m : (ℓ : Loc Cert.KernelDwIn.nD Cert.KernelDwIn.τ Cert.KernelDwIn.sig) → Buf (Elt Bits) ℓ) : Prop :=
  True

def Pre_KernelDwInIdeal (m : (ℓ : Loc Cert.KernelDwInIdeal.nD Cert.KernelDwInIdeal.τ Cert.KernelDwInIdeal.sig) → Buf (Elt Ideal) ℓ) : Prop :=
  True

def Pre_ReferenceDwInIdeal (m : (ℓ : Loc Cert.ReferenceDwInIdeal.nD Cert.ReferenceDwInIdeal.τ Cert.ReferenceDwInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelGqa [hKernelGqa : Cert.KernelGqa.Facts] : Prop :=
  ∀ (m : (ℓ : Loc Cert.KernelGqa.nD Cert.KernelGqa.τ Cert.KernelGqa.sig) → Buf (Elt Bits) ℓ) (g : Dev Cert.KernelGqa.nD → PrngReg), Pre_KernelGqa m →
    θ_run (Cert.KernelGqa.defs (F := Bits)) (onTc (τ := Cert.KernelGqa.τ) (Cert.KernelGqa.main (F := Bits))) ⟨m, fun _ => 0, g⟩ (fun r => (∀ c : Dev Cert.KernelGqa.nD,
      r.2.mem ((c.tc : Thread Cert.KernelGqa.nD Cert.KernelGqa.τ).loc Cert.KernelGqa.main_arg0) = m ((c.tc : Thread Cert.KernelGqa.nD Cert.KernelGqa.τ).loc Cert.KernelGqa.main_arg0)
      ∧ r.2.mem ((c.tc : Thread Cert.KernelGqa.nD Cert.KernelGqa.τ).loc Cert.KernelGqa.main_arg1) = m ((c.tc : Thread Cert.KernelGqa.nD Cert.KernelGqa.τ).loc Cert.KernelGqa.main_arg1)
      ∧ r.2.mem ((c.tc : Thread Cert.KernelGqa.nD Cert.KernelGqa.τ).loc Cert.KernelGqa.main_arg2) = m ((c.tc : Thread Cert.KernelGqa.nD Cert.KernelGqa.τ).loc Cert.KernelGqa.main_arg2)
      ∧ r.2.mem ((c.tc : Thread Cert.KernelGqa.nD Cert.KernelGqa.τ).loc Cert.KernelGqa.main_arg3) = m ((c.tc : Thread Cert.KernelGqa.nD Cert.KernelGqa.τ).loc Cert.KernelGqa.main_arg3))
      ∧ r.2.sem = fun _ => 0)

def quiescent_KernelGqaIdeal [hKernelGqaIdeal : Cert.KernelGqaIdeal.Facts] : Prop :=
  ∀ (m : (ℓ : Loc Cert.KernelGqaIdeal.nD Cert.KernelGqaIdeal.τ Cert.KernelGqaIdeal.sig) → Buf (Elt Ideal) ℓ) (g : Dev Cert.KernelGqaIdeal.nD → PrngReg), Pre_KernelGqaIdeal m →
    θ_run (Cert.KernelGqaIdeal.defs (F := Ideal)) (onTc (τ := Cert.KernelGqaIdeal.τ) (Cert.KernelGqaIdeal.main (F := Ideal))) ⟨m, fun _ => 0, g⟩ (fun r => (∀ c : Dev Cert.KernelGqaIdeal.nD,
      r.2.mem ((c.tc : Thread Cert.KernelGqaIdeal.nD Cert.KernelGqaIdeal.τ).loc Cert.KernelGqaIdeal.main_arg0) = m ((c.tc : Thread Cert.KernelGqaIdeal.nD Cert.KernelGqaIdeal.τ).loc Cert.KernelGqaIdeal.main_arg0)
      ∧ r.2.mem ((c.tc : Thread Cert.KernelGqaIdeal.nD Cert.KernelGqaIdeal.τ).loc Cert.KernelGqaIdeal.main_arg1) = m ((c.tc : Thread Cert.KernelGqaIdeal.nD Cert.KernelGqaIdeal.τ).loc Cert.KernelGqaIdeal.main_arg1)
      ∧ r.2.mem ((c.tc : Thread Cert.KernelGqaIdeal.nD Cert.KernelGqaIdeal.τ).loc Cert.KernelGqaIdeal.main_arg2) = m ((c.tc : Thread Cert.KernelGqaIdeal.nD Cert.KernelGqaIdeal.τ).loc Cert.KernelGqaIdeal.main_arg2)
      ∧ r.2.mem ((c.tc : Thread Cert.KernelGqaIdeal.nD Cert.KernelGqaIdeal.τ).loc Cert.KernelGqaIdeal.main_arg3) = m ((c.tc : Thread Cert.KernelGqaIdeal.nD Cert.KernelGqaIdeal.τ).loc Cert.KernelGqaIdeal.main_arg3))
      ∧ r.2.sem = fun _ => 0)

def quiescent_KernelGqaIdeal_pre_gqa_finite [hKernelGqaIdeal : Cert.KernelGqaIdeal.Facts] [hPre_gqa_finite : Cert.Pre_gqa_finite.Facts] : Prop :=
  ∀ (m : (ℓ : Loc Cert.KernelGqaIdeal.nD Cert.KernelGqaIdeal.τ Cert.KernelGqaIdeal.sig) → Buf (Elt Ideal) ℓ) (g : Dev Cert.KernelGqaIdeal.nD → PrngReg), Pre_KernelGqaIdeal_gqa_finite m →
    θ_run (Cert.KernelGqaIdeal.defs (F := Ideal)) (onTc (τ := Cert.KernelGqaIdeal.τ) (Cert.KernelGqaIdeal.main (F := Ideal))) ⟨m, fun _ => 0, g⟩ (fun r => (∀ c : Dev Cert.KernelGqaIdeal.nD,
      r.2.mem ((c.tc : Thread Cert.KernelGqaIdeal.nD Cert.KernelGqaIdeal.τ).loc Cert.KernelGqaIdeal.main_arg0) = m ((c.tc : Thread Cert.KernelGqaIdeal.nD Cert.KernelGqaIdeal.τ).loc Cert.KernelGqaIdeal.main_arg0)
      ∧ r.2.mem ((c.tc : Thread Cert.KernelGqaIdeal.nD Cert.KernelGqaIdeal.τ).loc Cert.KernelGqaIdeal.main_arg1) = m ((c.tc : Thread Cert.KernelGqaIdeal.nD Cert.KernelGqaIdeal.τ).loc Cert.KernelGqaIdeal.main_arg1)
      ∧ r.2.mem ((c.tc : Thread Cert.KernelGqaIdeal.nD Cert.KernelGqaIdeal.τ).loc Cert.KernelGqaIdeal.main_arg2) = m ((c.tc : Thread Cert.KernelGqaIdeal.nD Cert.KernelGqaIdeal.τ).loc Cert.KernelGqaIdeal.main_arg2)
      ∧ r.2.mem ((c.tc : Thread Cert.KernelGqaIdeal.nD Cert.KernelGqaIdeal.τ).loc Cert.KernelGqaIdeal.main_arg3) = m ((c.tc : Thread Cert.KernelGqaIdeal.nD Cert.KernelGqaIdeal.τ).loc Cert.KernelGqaIdeal.main_arg3))
      ∧ r.2.sem = fun _ => 0)

def quiescent_ReferenceGqaIdeal [hReferenceGqaIdeal : Cert.ReferenceGqaIdeal.Facts] : Prop :=
  ∀ (m : (ℓ : Loc Cert.ReferenceGqaIdeal.nD Cert.ReferenceGqaIdeal.τ Cert.ReferenceGqaIdeal.sig) → Buf (Elt Ideal) ℓ) (g : Dev Cert.ReferenceGqaIdeal.nD → PrngReg), Pre_ReferenceGqaIdeal m →
    θ_run (Cert.ReferenceGqaIdeal.defs (F := Ideal)) (onTc (τ := Cert.ReferenceGqaIdeal.τ) (Cert.ReferenceGqaIdeal.main (F := Ideal))) ⟨m, fun _ => 0, g⟩ (fun r => (∀ c : Dev Cert.ReferenceGqaIdeal.nD,
      r.2.mem ((c.tc : Thread Cert.ReferenceGqaIdeal.nD Cert.ReferenceGqaIdeal.τ).loc Cert.ReferenceGqaIdeal.main_arg0) = m ((c.tc : Thread Cert.ReferenceGqaIdeal.nD Cert.ReferenceGqaIdeal.τ).loc Cert.ReferenceGqaIdeal.main_arg0)
      ∧ r.2.mem ((c.tc : Thread Cert.ReferenceGqaIdeal.nD Cert.ReferenceGqaIdeal.τ).loc Cert.ReferenceGqaIdeal.main_arg1) = m ((c.tc : Thread Cert.ReferenceGqaIdeal.nD Cert.ReferenceGqaIdeal.τ).loc Cert.ReferenceGqaIdeal.main_arg1)
      ∧ r.2.mem ((c.tc : Thread Cert.ReferenceGqaIdeal.nD Cert.ReferenceGqaIdeal.τ).loc Cert.ReferenceGqaIdeal.main_arg2) = m ((c.tc : Thread Cert.ReferenceGqaIdeal.nD Cert.ReferenceGqaIdeal.τ).loc Cert.ReferenceGqaIdeal.main_arg2)
      ∧ r.2.mem ((c.tc : Thread Cert.ReferenceGqaIdeal.nD Cert.ReferenceGqaIdeal.τ).loc Cert.ReferenceGqaIdeal.main_arg3) = m ((c.tc : Thread Cert.ReferenceGqaIdeal.nD Cert.ReferenceGqaIdeal.τ).loc Cert.ReferenceGqaIdeal.main_arg3))
      ∧ r.2.sem = fun _ => 0)

def quiescent_ReferenceGqaIdeal_pre_gqa_finite [hReferenceGqaIdeal : Cert.ReferenceGqaIdeal.Facts] [hPre_gqa_finite : Cert.Pre_gqa_finite.Facts] : Prop :=
  ∀ (m : (ℓ : Loc Cert.ReferenceGqaIdeal.nD Cert.ReferenceGqaIdeal.τ Cert.ReferenceGqaIdeal.sig) → Buf (Elt Ideal) ℓ) (g : Dev Cert.ReferenceGqaIdeal.nD → PrngReg), Pre_ReferenceGqaIdeal_gqa_finite m →
    θ_run (Cert.ReferenceGqaIdeal.defs (F := Ideal)) (onTc (τ := Cert.ReferenceGqaIdeal.τ) (Cert.ReferenceGqaIdeal.main (F := Ideal))) ⟨m, fun _ => 0, g⟩ (fun r => (∀ c : Dev Cert.ReferenceGqaIdeal.nD,
      r.2.mem ((c.tc : Thread Cert.ReferenceGqaIdeal.nD Cert.ReferenceGqaIdeal.τ).loc Cert.ReferenceGqaIdeal.main_arg0) = m ((c.tc : Thread Cert.ReferenceGqaIdeal.nD Cert.ReferenceGqaIdeal.τ).loc Cert.ReferenceGqaIdeal.main_arg0)
      ∧ r.2.mem ((c.tc : Thread Cert.ReferenceGqaIdeal.nD Cert.ReferenceGqaIdeal.τ).loc Cert.ReferenceGqaIdeal.main_arg1) = m ((c.tc : Thread Cert.ReferenceGqaIdeal.nD Cert.ReferenceGqaIdeal.τ).loc Cert.ReferenceGqaIdeal.main_arg1)
      ∧ r.2.mem ((c.tc : Thread Cert.ReferenceGqaIdeal.nD Cert.ReferenceGqaIdeal.τ).loc Cert.ReferenceGqaIdeal.main_arg2) = m ((c.tc : Thread Cert.ReferenceGqaIdeal.nD Cert.ReferenceGqaIdeal.τ).loc Cert.ReferenceGqaIdeal.main_arg2)
      ∧ r.2.mem ((c.tc : Thread Cert.ReferenceGqaIdeal.nD Cert.ReferenceGqaIdeal.τ).loc Cert.ReferenceGqaIdeal.main_arg3) = m ((c.tc : Thread Cert.ReferenceGqaIdeal.nD Cert.ReferenceGqaIdeal.τ).loc Cert.ReferenceGqaIdeal.main_arg3))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2))
      ∧ r.2.sem = fun _ => 0)

def quiescent_KernelDu [hKernelDu : Cert.KernelDu.Facts] : Prop :=
  ∀ (m : (ℓ : Loc Cert.KernelDu.nD Cert.KernelDu.τ Cert.KernelDu.sig) → Buf (Elt Bits) ℓ) (g : Dev Cert.KernelDu.nD → PrngReg), Pre_KernelDu m →
    θ_run (Cert.KernelDu.defs (F := Bits)) (onTc (τ := Cert.KernelDu.τ) (Cert.KernelDu.main (F := Bits))) ⟨m, fun _ => 0, g⟩ (fun r => (∀ c : Dev Cert.KernelDu.nD,
      r.2.mem ((c.tc : Thread Cert.KernelDu.nD Cert.KernelDu.τ).loc Cert.KernelDu.main_arg0) = m ((c.tc : Thread Cert.KernelDu.nD Cert.KernelDu.τ).loc Cert.KernelDu.main_arg0)
      ∧ r.2.mem ((c.tc : Thread Cert.KernelDu.nD Cert.KernelDu.τ).loc Cert.KernelDu.main_arg1) = m ((c.tc : Thread Cert.KernelDu.nD Cert.KernelDu.τ).loc Cert.KernelDu.main_arg1))
      ∧ r.2.sem = fun _ => 0)

def quiescent_KernelDuIdeal [hKernelDuIdeal : Cert.KernelDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg), Pre_KernelDuIdeal m →
    θ_run (Cert.KernelDuIdeal.defs (F := Ideal)) (onTc (τ := Cert.KernelDuIdeal.τ) (Cert.KernelDuIdeal.main (F := Ideal))) ⟨m, fun _ => 0, g⟩ (fun r => (∀ c : Dev Cert.KernelDuIdeal.nD,
      r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
      ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
      ∧ r.2.sem = fun _ => 0)

def quiescent_ReferenceDuIdeal [hReferenceDuIdeal : Cert.ReferenceDuIdeal.Facts] : Prop :=
  ∀ (m : (ℓ : Loc Cert.ReferenceDuIdeal.nD Cert.ReferenceDuIdeal.τ Cert.ReferenceDuIdeal.sig) → Buf (Elt Ideal) ℓ) (g : Dev Cert.ReferenceDuIdeal.nD → PrngReg), Pre_ReferenceDuIdeal m →
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1))
      ∧ r.2.sem = fun _ => 0)

def quiescent_KernelDwDown [hKernelDwDown : Cert.KernelDwDown.Facts] : Prop :=
  ∀ (m : (ℓ : Loc Cert.KernelDwDown.nD Cert.KernelDwDown.τ Cert.KernelDwDown.sig) → Buf (Elt Bits) ℓ) (g : Dev Cert.KernelDwDown.nD → PrngReg), Pre_KernelDwDown m →
    θ_run (Cert.KernelDwDown.defs (F := Bits)) (onTc (τ := Cert.KernelDwDown.τ) (Cert.KernelDwDown.main (F := Bits))) ⟨m, fun _ => 0, g⟩ (fun r => (∀ c : Dev Cert.KernelDwDown.nD,
      r.2.mem ((c.tc : Thread Cert.KernelDwDown.nD Cert.KernelDwDown.τ).loc Cert.KernelDwDown.main_arg0) = m ((c.tc : Thread Cert.KernelDwDown.nD Cert.KernelDwDown.τ).loc Cert.KernelDwDown.main_arg0)
      ∧ r.2.mem ((c.tc : Thread Cert.KernelDwDown.nD Cert.KernelDwDown.τ).loc Cert.KernelDwDown.main_arg1) = m ((c.tc : Thread Cert.KernelDwDown.nD Cert.KernelDwDown.τ).loc Cert.KernelDwDown.main_arg1)
      ∧ r.2.mem ((c.tc : Thread Cert.KernelDwDown.nD Cert.KernelDwDown.τ).loc Cert.KernelDwDown.main_arg2) = m ((c.tc : Thread Cert.KernelDwDown.nD Cert.KernelDwDown.τ).loc Cert.KernelDwDown.main_arg2))
      ∧ r.2.sem = fun _ => 0)

def quiescent_KernelDwDownIdeal [hKernelDwDownIdeal : Cert.KernelDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg), Pre_KernelDwDownIdeal m →
    θ_run (Cert.KernelDwDownIdeal.defs (F := Ideal)) (onTc (τ := Cert.KernelDwDownIdeal.τ) (Cert.KernelDwDownIdeal.main (F := Ideal))) ⟨m, fun _ => 0, g⟩ (fun r => (∀ c : Dev Cert.KernelDwDownIdeal.nD,
      r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
      ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1)
      ∧ r.2.mem ((c.tc : Thread Cert.KernelDwDownIdeal.nD Cert.KernelDwDownIdeal.τ).loc Cert.KernelDwDownIdeal.main_arg2) = m ((c.tc : Thread Cert.KernelDwDownIdeal.nD Cert.KernelDwDownIdeal.τ).loc Cert.KernelDwDownIdeal.main_arg2))
      ∧ r.2.sem = fun _ => 0)

def quiescent_ReferenceDwDownIdeal [hReferenceDwDownIdeal : Cert.ReferenceDwDownIdeal.Facts] : Prop :=
  ∀ (m : (ℓ : Loc Cert.ReferenceDwDownIdeal.nD Cert.ReferenceDwDownIdeal.τ Cert.ReferenceDwDownIdeal.sig) → Buf (Elt Ideal) ℓ) (g : Dev Cert.ReferenceDwDownIdeal.nD → PrngReg), Pre_ReferenceDwDownIdeal m →
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1)
      ∧ r.2.mem ((c.tc : Thread Cert.ReferenceDwDownIdeal.nD Cert.ReferenceDwDownIdeal.τ).loc Cert.ReferenceDwDownIdeal.main_arg2) = m ((c.tc : Thread Cert.ReferenceDwDownIdeal.nD Cert.ReferenceDwDownIdeal.τ).loc Cert.ReferenceDwDownIdeal.main_arg2))
      ∧ r.2.sem = fun _ => 0)

def quiescent_KernelDwUp [hKernelDwUp : Cert.KernelDwUp.Facts] : Prop :=
  ∀ (m : (ℓ : Loc Cert.KernelDwUp.nD Cert.KernelDwUp.τ Cert.KernelDwUp.sig) → Buf (Elt Bits) ℓ) (g : Dev Cert.KernelDwUp.nD → PrngReg), Pre_KernelDwUp m →
    θ_run (Cert.KernelDwUp.defs (F := Bits)) (onTc (τ := Cert.KernelDwUp.τ) (Cert.KernelDwUp.main (F := Bits))) ⟨m, fun _ => 0, g⟩ (fun r => (∀ c : Dev Cert.KernelDwUp.nD,
      r.2.mem ((c.tc : Thread Cert.KernelDwUp.nD Cert.KernelDwUp.τ).loc Cert.KernelDwUp.main_arg0) = m ((c.tc : Thread Cert.KernelDwUp.nD Cert.KernelDwUp.τ).loc Cert.KernelDwUp.main_arg0)
      ∧ r.2.mem ((c.tc : Thread Cert.KernelDwUp.nD Cert.KernelDwUp.τ).loc Cert.KernelDwUp.main_arg1) = m ((c.tc : Thread Cert.KernelDwUp.nD Cert.KernelDwUp.τ).loc Cert.KernelDwUp.main_arg1)
      ∧ r.2.mem ((c.tc : Thread Cert.KernelDwUp.nD Cert.KernelDwUp.τ).loc Cert.KernelDwUp.main_arg2) = m ((c.tc : Thread Cert.KernelDwUp.nD Cert.KernelDwUp.τ).loc Cert.KernelDwUp.main_arg2))
      ∧ r.2.sem = fun _ => 0)

def quiescent_KernelDwUpIdeal [hKernelDwUpIdeal : Cert.KernelDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg), Pre_KernelDwUpIdeal m →
    θ_run (Cert.KernelDwUpIdeal.defs (F := Ideal)) (onTc (τ := Cert.KernelDwUpIdeal.τ) (Cert.KernelDwUpIdeal.main (F := Ideal))) ⟨m, fun _ => 0, g⟩ (fun r => (∀ c : Dev Cert.KernelDwUpIdeal.nD,
      r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
      ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1)
      ∧ r.2.mem ((c.tc : Thread Cert.KernelDwUpIdeal.nD Cert.KernelDwUpIdeal.τ).loc Cert.KernelDwUpIdeal.main_arg2) = m ((c.tc : Thread Cert.KernelDwUpIdeal.nD Cert.KernelDwUpIdeal.τ).loc Cert.KernelDwUpIdeal.main_arg2))
      ∧ r.2.sem = fun _ => 0)

def quiescent_ReferenceDwUpIdeal [hReferenceDwUpIdeal : Cert.ReferenceDwUpIdeal.Facts] : Prop :=
  ∀ (m : (ℓ : Loc Cert.ReferenceDwUpIdeal.nD Cert.ReferenceDwUpIdeal.τ Cert.ReferenceDwUpIdeal.sig) → Buf (Elt Ideal) ℓ) (g : Dev Cert.ReferenceDwUpIdeal.nD → PrngReg), Pre_ReferenceDwUpIdeal m →
    θ_run (Cert.ReferenceDwUpIdeal.defs (F := Ideal)) (onTc (τ := Cert.ReferenceDwUpIdeal.τ) (Cert.ReferenceDwUpIdeal.main (F := Ideal))) ⟨m, fun _ => 0, g⟩ (fun r => (∀ c : Dev Cert.ReferenceDwUpIdeal.nD,
      r.2.mem ((c.tc : Thread Cert.ReferenceDwUpIdeal.nD Cert.ReferenceDwUpIdeal.τ).loc Cert.ReferenceDwUpIdeal.main_arg0) = m ((c.tc : Thread Cert.ReferenceDwUpIdeal.nD Cert.ReferenceDwUpIdeal.τ).loc Cert.ReferenceDwUpIdeal.main_arg0)
      ∧ r.2.mem ((c.tc : Thread Cert.ReferenceDwUpIdeal.nD Cert.ReferenceDwUpIdeal.τ).loc Cert.ReferenceDwUpIdeal.main_arg1) = m ((c.tc : Thread Cert.ReferenceDwUpIdeal.nD Cert.ReferenceDwUpIdeal.τ).loc Cert.ReferenceDwUpIdeal.main_arg1)
      ∧ r.2.mem ((c.tc : Thread Cert.ReferenceDwUpIdeal.nD Cert.ReferenceDwUpIdeal.τ).loc Cert.ReferenceDwUpIdeal.main_arg2) = m ((c.tc : Thread Cert.ReferenceDwUpIdeal.nD Cert.ReferenceDwUpIdeal.τ).loc Cert.ReferenceDwUpIdeal.main_arg2))
      ∧ r.2.sem = fun _ => 0)

def quiescent_KernelDz [hKernelDz : Cert.KernelDz.Facts] : Prop :=
  ∀ (m : (ℓ : Loc Cert.KernelDz.nD Cert.KernelDz.τ Cert.KernelDz.sig) → Buf (Elt Bits) ℓ) (g : Dev Cert.KernelDz.nD → PrngReg), Pre_KernelDz m →
    θ_run (Cert.KernelDz.defs (F := Bits)) (onTc (τ := Cert.KernelDz.τ) (Cert.KernelDz.main (F := Bits))) ⟨m, fun _ => 0, g⟩ (fun r => (∀ c : Dev Cert.KernelDz.nD,
      r.2.mem ((c.tc : Thread Cert.KernelDz.nD Cert.KernelDz.τ).loc Cert.KernelDz.main_arg0) = m ((c.tc : Thread Cert.KernelDz.nD Cert.KernelDz.τ).loc Cert.KernelDz.main_arg0)
      ∧ r.2.mem ((c.tc : Thread Cert.KernelDz.nD Cert.KernelDz.τ).loc Cert.KernelDz.main_arg1) = m ((c.tc : Thread Cert.KernelDz.nD Cert.KernelDz.τ).loc Cert.KernelDz.main_arg1))
      ∧ r.2.sem = fun _ => 0)

def quiescent_KernelDzIdeal [hKernelDzIdeal : Cert.KernelDzIdeal.Facts] : Prop :=
  ∀ (m : (ℓ : Loc Cert.KernelDzIdeal.nD Cert.KernelDzIdeal.τ Cert.KernelDzIdeal.sig) → Buf (Elt Ideal) ℓ) (g : Dev Cert.KernelDzIdeal.nD → PrngReg), Pre_KernelDzIdeal m →
    θ_run (Cert.KernelDzIdeal.defs (F := Ideal)) (onTc (τ := Cert.KernelDzIdeal.τ) (Cert.KernelDzIdeal.main (F := Ideal))) ⟨m, fun _ => 0, g⟩ (fun r => (∀ c : Dev Cert.KernelDzIdeal.nD,
      r.2.mem ((c.tc : Thread Cert.KernelDzIdeal.nD Cert.KernelDzIdeal.τ).loc Cert.KernelDzIdeal.main_arg0) = m ((c.tc : Thread Cert.KernelDzIdeal.nD Cert.KernelDzIdeal.τ).loc Cert.KernelDzIdeal.main_arg0)
      ∧ r.2.mem ((c.tc : Thread Cert.KernelDzIdeal.nD Cert.KernelDzIdeal.τ).loc Cert.KernelDzIdeal.main_arg1) = m ((c.tc : Thread Cert.KernelDzIdeal.nD Cert.KernelDzIdeal.τ).loc Cert.KernelDzIdeal.main_arg1))
      ∧ r.2.sem = fun _ => 0)

def quiescent_ReferenceDzIdeal [hReferenceDzIdeal : Cert.ReferenceDzIdeal.Facts] : Prop :=
  ∀ (m : (ℓ : Loc Cert.ReferenceDzIdeal.nD Cert.ReferenceDzIdeal.τ Cert.ReferenceDzIdeal.sig) → Buf (Elt Ideal) ℓ) (g : Dev Cert.ReferenceDzIdeal.nD → PrngReg), Pre_ReferenceDzIdeal m →
    θ_run (Cert.ReferenceDzIdeal.defs (F := Ideal)) (onTc (τ := Cert.ReferenceDzIdeal.τ) (Cert.ReferenceDzIdeal.main (F := Ideal))) ⟨m, fun _ => 0, g⟩ (fun r => (∀ c : Dev Cert.ReferenceDzIdeal.nD,
      r.2.mem ((c.tc : Thread Cert.ReferenceDzIdeal.nD Cert.ReferenceDzIdeal.τ).loc Cert.ReferenceDzIdeal.main_arg0) = m ((c.tc : Thread Cert.ReferenceDzIdeal.nD Cert.ReferenceDzIdeal.τ).loc Cert.ReferenceDzIdeal.main_arg0)
      ∧ r.2.mem ((c.tc : Thread Cert.ReferenceDzIdeal.nD Cert.ReferenceDzIdeal.τ).loc Cert.ReferenceDzIdeal.main_arg1) = m ((c.tc : Thread Cert.ReferenceDzIdeal.nD Cert.ReferenceDzIdeal.τ).loc Cert.ReferenceDzIdeal.main_arg1))
      ∧ r.2.sem = fun _ => 0)

def quiescent_KernelDwIn [hKernelDwIn : Cert.KernelDwIn.Facts] : Prop :=
  ∀ (m : (ℓ : Loc Cert.KernelDwIn.nD Cert.KernelDwIn.τ Cert.KernelDwIn.sig) → Buf (Elt Bits) ℓ) (g : Dev Cert.KernelDwIn.nD → PrngReg), Pre_KernelDwIn m →
    θ_run (Cert.KernelDwIn.defs (F := Bits)) (onTc (τ := Cert.KernelDwIn.τ) (Cert.KernelDwIn.main (F := Bits))) ⟨m, fun _ => 0, g⟩ (fun r => (∀ c : Dev Cert.KernelDwIn.nD,
      r.2.mem ((c.tc : Thread Cert.KernelDwIn.nD Cert.KernelDwIn.τ).loc Cert.KernelDwIn.main_arg0) = m ((c.tc : Thread Cert.KernelDwIn.nD Cert.KernelDwIn.τ).loc Cert.KernelDwIn.main_arg0)
      ∧ r.2.mem ((c.tc : Thread Cert.KernelDwIn.nD Cert.KernelDwIn.τ).loc Cert.KernelDwIn.main_arg1) = m ((c.tc : Thread Cert.KernelDwIn.nD Cert.KernelDwIn.τ).loc Cert.KernelDwIn.main_arg1)
      ∧ r.2.mem ((c.tc : Thread Cert.KernelDwIn.nD Cert.KernelDwIn.τ).loc Cert.KernelDwIn.main_arg2) = m ((c.tc : Thread Cert.KernelDwIn.nD Cert.KernelDwIn.τ).loc Cert.KernelDwIn.main_arg2))
      ∧ r.2.sem = fun _ => 0)

def quiescent_KernelDwInIdeal [hKernelDwInIdeal : Cert.KernelDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg), Pre_KernelDwInIdeal m →
    θ_run (Cert.KernelDwInIdeal.defs (F := Ideal)) (onTc (τ := Cert.KernelDwInIdeal.τ) (Cert.KernelDwInIdeal.main (F := Ideal))) ⟨m, fun _ => 0, g⟩ (fun r => (∀ c : Dev Cert.KernelDwInIdeal.nD,
      r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
      ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1)
      ∧ r.2.mem ((c.tc : Thread Cert.KernelDwInIdeal.nD Cert.KernelDwInIdeal.τ).loc Cert.KernelDwInIdeal.main_arg2) = m ((c.tc : Thread Cert.KernelDwInIdeal.nD Cert.KernelDwInIdeal.τ).loc Cert.KernelDwInIdeal.main_arg2))
      ∧ r.2.sem = fun _ => 0)

def quiescent_ReferenceDwInIdeal [hReferenceDwInIdeal : Cert.ReferenceDwInIdeal.Facts] : Prop :=
  ∀ (m : (ℓ : Loc Cert.ReferenceDwInIdeal.nD Cert.ReferenceDwInIdeal.τ Cert.ReferenceDwInIdeal.sig) → Buf (Elt Ideal) ℓ) (g : Dev Cert.ReferenceDwInIdeal.nD → PrngReg), Pre_ReferenceDwInIdeal m →
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1)
      ∧ r.2.mem ((c.tc : Thread Cert.ReferenceDwInIdeal.nD Cert.ReferenceDwInIdeal.τ).loc Cert.ReferenceDwInIdeal.main_arg2) = m ((c.tc : Thread Cert.ReferenceDwInIdeal.nD Cert.ReferenceDwInIdeal.τ).loc Cert.ReferenceDwInIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelGqa_KernelGqaIdeal : Prop :=
  True

def algebraic_KernelGqaIdeal_ReferenceGqaIdeal_pre_gqa_finite [hKernelGqaIdeal : Cert.KernelGqaIdeal.Facts] [hReferenceGqaIdeal : Cert.ReferenceGqaIdeal.Facts] [hPre_gqa_finite : Cert.Pre_gqa_finite.Facts] : Prop :=
  ∀ (m : (ℓ : Loc Cert.KernelGqaIdeal.nD Cert.KernelGqaIdeal.τ Cert.KernelGqaIdeal.sig) → Buf (Elt Ideal) ℓ) (g : Dev Cert.KernelGqaIdeal.nD → PrngReg)
    (m' : (ℓ : Loc Cert.ReferenceGqaIdeal.nD Cert.ReferenceGqaIdeal.τ Cert.ReferenceGqaIdeal.sig) → Buf (Elt Ideal) ℓ) (g' : Dev Cert.ReferenceGqaIdeal.nD → PrngReg), Pre_KernelGqaIdeal_gqa_finite m →
    (∀ c : Dev Cert.KernelGqaIdeal.nD,
      m' ((c.tc : Thread Cert.ReferenceGqaIdeal.nD Cert.ReferenceGqaIdeal.τ).loc Cert.ReferenceGqaIdeal.main_arg0) = m ((c.tc : Thread Cert.KernelGqaIdeal.nD Cert.KernelGqaIdeal.τ).loc Cert.KernelGqaIdeal.main_arg0)
      ∧ m' ((c.tc : Thread Cert.ReferenceGqaIdeal.nD Cert.ReferenceGqaIdeal.τ).loc Cert.ReferenceGqaIdeal.main_arg1) = m ((c.tc : Thread Cert.KernelGqaIdeal.nD Cert.KernelGqaIdeal.τ).loc Cert.KernelGqaIdeal.main_arg1)
      ∧ m' ((c.tc : Thread Cert.ReferenceGqaIdeal.nD Cert.ReferenceGqaIdeal.τ).loc Cert.ReferenceGqaIdeal.main_arg2) = m ((c.tc : Thread Cert.KernelGqaIdeal.nD Cert.KernelGqaIdeal.τ).loc Cert.KernelGqaIdeal.main_arg2)
      ∧ m' ((c.tc : Thread Cert.ReferenceGqaIdeal.nD Cert.ReferenceGqaIdeal.τ).loc Cert.ReferenceGqaIdeal.main_arg3) = m ((c.tc : Thread Cert.KernelGqaIdeal.nD Cert.KernelGqaIdeal.τ).loc Cert.KernelGqaIdeal.main_arg3)) →
    ∃ (v0 : (c : Dev Cert.KernelGqaIdeal.nD) → Buf (Elt Ideal) ((c.tc : Thread Cert.KernelGqaIdeal.nD Cert.KernelGqaIdeal.τ).loc Cert.KernelGqaIdeal.main_v48_0)) (v1 : (c : Dev Cert.KernelGqaIdeal.nD) → Buf (Elt Ideal) ((c.tc : Thread Cert.KernelGqaIdeal.nD Cert.KernelGqaIdeal.τ).loc Cert.KernelGqaIdeal.main_v48_1)) (v2 : (c : Dev Cert.KernelGqaIdeal.nD) → Buf (Elt Ideal) ((c.tc : Thread Cert.KernelGqaIdeal.nD Cert.KernelGqaIdeal.τ).loc Cert.KernelGqaIdeal.main_v48_2)),
      θ_run (Cert.KernelGqaIdeal.defs (F := Ideal)) (onTc (τ := Cert.KernelGqaIdeal.τ) (Cert.KernelGqaIdeal.main (F := Ideal))) ⟨m, fun _ => 0, g⟩ (fun r => ∀ c : Dev Cert.KernelGqaIdeal.nD,
          r.2.mem ((c.tc : Thread Cert.KernelGqaIdeal.nD Cert.KernelGqaIdeal.τ).loc Cert.KernelGqaIdeal.main_v48_0) = v0 c
          ∧ r.2.mem ((c.tc : Thread Cert.KernelGqaIdeal.nD Cert.KernelGqaIdeal.τ).loc Cert.KernelGqaIdeal.main_v48_1) = v1 c
          ∧ r.2.mem ((c.tc : Thread Cert.KernelGqaIdeal.nD Cert.KernelGqaIdeal.τ).loc Cert.KernelGqaIdeal.main_v48_2) = v2 c
          ∧ r.2.mem ((c.tc : Thread Cert.KernelGqaIdeal.nD Cert.KernelGqaIdeal.τ).loc Cert.KernelGqaIdeal.main_arg0) = m ((c.tc : Thread Cert.KernelGqaIdeal.nD Cert.KernelGqaIdeal.τ).loc Cert.KernelGqaIdeal.main_arg0)
          ∧ r.2.mem ((c.tc : Thread Cert.KernelGqaIdeal.nD Cert.KernelGqaIdeal.τ).loc Cert.KernelGqaIdeal.main_arg1) = m ((c.tc : Thread Cert.KernelGqaIdeal.nD Cert.KernelGqaIdeal.τ).loc Cert.KernelGqaIdeal.main_arg1)
          ∧ r.2.mem ((c.tc : Thread Cert.KernelGqaIdeal.nD Cert.KernelGqaIdeal.τ).loc Cert.KernelGqaIdeal.main_arg2) = m ((c.tc : Thread Cert.KernelGqaIdeal.nD Cert.KernelGqaIdeal.τ).loc Cert.KernelGqaIdeal.main_arg2)
          ∧ r.2.mem ((c.tc : Thread Cert.KernelGqaIdeal.nD Cert.KernelGqaIdeal.τ).loc Cert.KernelGqaIdeal.main_arg3) = m ((c.tc : Thread Cert.KernelGqaIdeal.nD Cert.KernelGqaIdeal.τ).loc Cert.KernelGqaIdeal.main_arg3))
      ∧ θ_run (Cert.ReferenceGqaIdeal.defs (F := Ideal)) (onTc (τ := Cert.ReferenceGqaIdeal.τ) (Cert.ReferenceGqaIdeal.main (F := Ideal))) ⟨m', fun _ => 0, g'⟩ (fun r => ∀ c : Dev Cert.ReferenceGqaIdeal.nD,
          r.2.mem ((c.tc : Thread Cert.ReferenceGqaIdeal.nD Cert.ReferenceGqaIdeal.τ).loc Cert.ReferenceGqaIdeal.main_v67) = v0 c
          ∧ r.2.mem ((c.tc : Thread Cert.ReferenceGqaIdeal.nD Cert.ReferenceGqaIdeal.τ).loc Cert.ReferenceGqaIdeal.main_v75) = v1 c
          ∧ r.2.mem ((c.tc : Thread Cert.ReferenceGqaIdeal.nD Cert.ReferenceGqaIdeal.τ).loc Cert.ReferenceGqaIdeal.main_v76) = v2 c
          ∧ r.2.mem ((c.tc : Thread Cert.ReferenceGqaIdeal.nD Cert.ReferenceGqaIdeal.τ).loc Cert.ReferenceGqaIdeal.main_arg0) = m' ((c.tc : Thread Cert.ReferenceGqaIdeal.nD Cert.ReferenceGqaIdeal.τ).loc Cert.ReferenceGqaIdeal.main_arg0)
          ∧ r.2.mem ((c.tc : Thread Cert.ReferenceGqaIdeal.nD Cert.ReferenceGqaIdeal.τ).loc Cert.ReferenceGqaIdeal.main_arg1) = m' ((c.tc : Thread Cert.ReferenceGqaIdeal.nD Cert.ReferenceGqaIdeal.τ).loc Cert.ReferenceGqaIdeal.main_arg1)
          ∧ r.2.mem ((c.tc : Thread Cert.ReferenceGqaIdeal.nD Cert.ReferenceGqaIdeal.τ).loc Cert.ReferenceGqaIdeal.main_arg2) = m' ((c.tc : Thread Cert.ReferenceGqaIdeal.nD Cert.ReferenceGqaIdeal.τ).loc Cert.ReferenceGqaIdeal.main_arg2)
          ∧ r.2.mem ((c.tc : Thread Cert.ReferenceGqaIdeal.nD Cert.ReferenceGqaIdeal.τ).loc Cert.ReferenceGqaIdeal.main_arg3) = m' ((c.tc : Thread Cert.ReferenceGqaIdeal.nD Cert.ReferenceGqaIdeal.τ).loc Cert.ReferenceGqaIdeal.main_arg3))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)) →
    ∃ (v0 : (c : Dev Cert.KernelDhIdeal.nD) → Buf (Elt Ideal) ((c.tc : Thread Cert.KernelDhIdeal.nD Cert.KernelDhIdeal.τ).loc Cert.KernelDhIdeal.main_v3)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v3) = v0 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v12) = v0 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2))

def preserves_KernelDu_KernelDuIdeal : Prop :=
  True

def algebraic_KernelDuIdeal_ReferenceDuIdeal [hKernelDuIdeal : Cert.KernelDuIdeal.Facts] [hReferenceDuIdeal : Cert.ReferenceDuIdeal.Facts] : Prop :=
  ∀ (m : (ℓ : Loc Cert.KernelDuIdeal.nD Cert.KernelDuIdeal.τ Cert.KernelDuIdeal.sig) → Buf (Elt Ideal) ℓ) (g : Dev Cert.KernelDuIdeal.nD → PrngReg)
    (m' : (ℓ : Loc Cert.ReferenceDuIdeal.nD Cert.ReferenceDuIdeal.τ Cert.ReferenceDuIdeal.sig) → Buf (Elt Ideal) ℓ) (g' : Dev Cert.ReferenceDuIdeal.nD → PrngReg), Pre_KernelDuIdeal m →
    (∀ c : Dev Cert.KernelDuIdeal.nD,
      m' ((c.tc : Thread Cert.ReferenceDuIdeal.nD Cert.ReferenceDuIdeal.τ).loc Cert.ReferenceDuIdeal.main_arg0) = m ((c.tc : Thread Cert.KernelDuIdeal.nD Cert.KernelDuIdeal.τ).loc Cert.KernelDuIdeal.main_arg0)
      ∧ m' ((c.tc : Thread Cert.ReferenceDuIdeal.nD Cert.ReferenceDuIdeal.τ).loc Cert.ReferenceDuIdeal.main_arg1) = m ((c.tc : Thread Cert.KernelDuIdeal.nD Cert.KernelDuIdeal.τ).loc Cert.KernelDuIdeal.main_arg1)) →
    ∃ (v0 : (c : Dev Cert.KernelDuIdeal.nD) → Buf (Elt Ideal) ((c.tc : Thread Cert.KernelDuIdeal.nD Cert.KernelDuIdeal.τ).loc Cert.KernelDuIdeal.main_v2)),
      θ_run (Cert.KernelDuIdeal.defs (F := Ideal)) (onTc (τ := Cert.KernelDuIdeal.τ) (Cert.KernelDuIdeal.main (F := Ideal))) ⟨m, fun _ => 0, g⟩ (fun r => ∀ c : Dev Cert.KernelDuIdeal.nD,
          r.2.mem ((c.tc : Thread Cert.KernelDuIdeal.nD Cert.KernelDuIdeal.τ).loc Cert.KernelDuIdeal.main_v2) = v0 c
          ∧ r.2.mem ((c.tc : Thread Cert.KernelDuIdeal.nD Cert.KernelDuIdeal.τ).loc Cert.KernelDuIdeal.main_arg0) = m ((c.tc : Thread Cert.KernelDuIdeal.nD Cert.KernelDuIdeal.τ).loc Cert.KernelDuIdeal.main_arg0)
          ∧ r.2.mem ((c.tc : Thread Cert.KernelDuIdeal.nD Cert.KernelDuIdeal.τ).loc Cert.KernelDuIdeal.main_arg1) = m ((c.tc : Thread Cert.KernelDuIdeal.nD Cert.KernelDuIdeal.τ).loc Cert.KernelDuIdeal.main_arg1))
      ∧ θ_run (Cert.ReferenceDuIdeal.defs (F := Ideal)) (onTc (τ := Cert.ReferenceDuIdeal.τ) (Cert.ReferenceDuIdeal.main (F := Ideal))) ⟨m', fun _ => 0, g'⟩ (fun r => ∀ c : Dev Cert.ReferenceDuIdeal.nD,
          r.2.mem ((c.tc : Thread Cert.ReferenceDuIdeal.nD Cert.ReferenceDuIdeal.τ).loc Cert.ReferenceDuIdeal.main_v3) = v0 c
          ∧ r.2.mem ((c.tc : Thread Cert.ReferenceDuIdeal.nD Cert.ReferenceDuIdeal.τ).loc Cert.ReferenceDuIdeal.main_arg0) = m' ((c.tc : Thread Cert.ReferenceDuIdeal.nD Cert.ReferenceDuIdeal.τ).loc Cert.ReferenceDuIdeal.main_arg0)
          ∧ r.2.mem ((c.tc : Thread Cert.ReferenceDuIdeal.nD Cert.ReferenceDuIdeal.τ).loc Cert.ReferenceDuIdeal.main_arg1) = m' ((c.tc : Thread Cert.ReferenceDuIdeal.nD Cert.ReferenceDuIdeal.τ).loc Cert.ReferenceDuIdeal.main_arg1))

def preserves_KernelDwDown_KernelDwDownIdeal : Prop :=
  True

def algebraic_KernelDwDownIdeal_ReferenceDwDownIdeal [hKernelDwDownIdeal : Cert.KernelDwDownIdeal.Facts] [hReferenceDwDownIdeal : Cert.ReferenceDwDownIdeal.Facts] : Prop :=
  ∀ (m : (ℓ : Loc Cert.KernelDwDownIdeal.nD Cert.KernelDwDownIdeal.τ Cert.KernelDwDownIdeal.sig) → Buf (Elt Ideal) ℓ) (g : Dev Cert.KernelDwDownIdeal.nD → PrngReg)
    (m' : (ℓ : Loc Cert.ReferenceDwDownIdeal.nD Cert.ReferenceDwDownIdeal.τ Cert.ReferenceDwDownIdeal.sig) → Buf (Elt Ideal) ℓ) (g' : Dev Cert.ReferenceDwDownIdeal.nD → PrngReg), Pre_KernelDwDownIdeal m →
    (∀ c : Dev Cert.KernelDwDownIdeal.nD,
      m' ((c.tc : Thread Cert.ReferenceDwDownIdeal.nD Cert.ReferenceDwDownIdeal.τ).loc Cert.ReferenceDwDownIdeal.main_arg0) = m ((c.tc : Thread Cert.KernelDwDownIdeal.nD Cert.KernelDwDownIdeal.τ).loc Cert.KernelDwDownIdeal.main_arg0)
      ∧ m' ((c.tc : Thread Cert.ReferenceDwDownIdeal.nD Cert.ReferenceDwDownIdeal.τ).loc Cert.ReferenceDwDownIdeal.main_arg1) = m ((c.tc : Thread Cert.KernelDwDownIdeal.nD Cert.KernelDwDownIdeal.τ).loc Cert.KernelDwDownIdeal.main_arg1)
      ∧ m' ((c.tc : Thread Cert.ReferenceDwDownIdeal.nD Cert.ReferenceDwDownIdeal.τ).loc Cert.ReferenceDwDownIdeal.main_arg2) = m ((c.tc : Thread Cert.KernelDwDownIdeal.nD Cert.KernelDwDownIdeal.τ).loc Cert.KernelDwDownIdeal.main_arg2)) →
    ∃ (v0 : (c : Dev Cert.KernelDwDownIdeal.nD) → Buf (Elt Ideal) ((c.tc : Thread Cert.KernelDwDownIdeal.nD Cert.KernelDwDownIdeal.τ).loc Cert.KernelDwDownIdeal.main_v3)),
      θ_run (Cert.KernelDwDownIdeal.defs (F := Ideal)) (onTc (τ := Cert.KernelDwDownIdeal.τ) (Cert.KernelDwDownIdeal.main (F := Ideal))) ⟨m, fun _ => 0, g⟩ (fun r => ∀ c : Dev Cert.KernelDwDownIdeal.nD,
          r.2.mem ((c.tc : Thread Cert.KernelDwDownIdeal.nD Cert.KernelDwDownIdeal.τ).loc Cert.KernelDwDownIdeal.main_v3) = v0 c
          ∧ r.2.mem ((c.tc : Thread Cert.KernelDwDownIdeal.nD Cert.KernelDwDownIdeal.τ).loc Cert.KernelDwDownIdeal.main_arg0) = m ((c.tc : Thread Cert.KernelDwDownIdeal.nD Cert.KernelDwDownIdeal.τ).loc Cert.KernelDwDownIdeal.main_arg0)
          ∧ r.2.mem ((c.tc : Thread Cert.KernelDwDownIdeal.nD Cert.KernelDwDownIdeal.τ).loc Cert.KernelDwDownIdeal.main_arg1) = m ((c.tc : Thread Cert.KernelDwDownIdeal.nD Cert.KernelDwDownIdeal.τ).loc Cert.KernelDwDownIdeal.main_arg1)
          ∧ r.2.mem ((c.tc : Thread Cert.KernelDwDownIdeal.nD Cert.KernelDwDownIdeal.τ).loc Cert.KernelDwDownIdeal.main_arg2) = m ((c.tc : Thread Cert.KernelDwDownIdeal.nD Cert.KernelDwDownIdeal.τ).loc Cert.KernelDwDownIdeal.main_arg2))
      ∧ θ_run (Cert.ReferenceDwDownIdeal.defs (F := Ideal)) (onTc (τ := Cert.ReferenceDwDownIdeal.τ) (Cert.ReferenceDwDownIdeal.main (F := Ideal))) ⟨m', fun _ => 0, g'⟩ (fun r => ∀ c : Dev Cert.ReferenceDwDownIdeal.nD,
          r.2.mem ((c.tc : Thread Cert.ReferenceDwDownIdeal.nD Cert.ReferenceDwDownIdeal.τ).loc Cert.ReferenceDwDownIdeal.main_v7) = v0 c
          ∧ r.2.mem ((c.tc : Thread Cert.ReferenceDwDownIdeal.nD Cert.ReferenceDwDownIdeal.τ).loc Cert.ReferenceDwDownIdeal.main_arg0) = m' ((c.tc : Thread Cert.ReferenceDwDownIdeal.nD Cert.ReferenceDwDownIdeal.τ).loc Cert.ReferenceDwDownIdeal.main_arg0)
          ∧ r.2.mem ((c.tc : Thread Cert.ReferenceDwDownIdeal.nD Cert.ReferenceDwDownIdeal.τ).loc Cert.ReferenceDwDownIdeal.main_arg1) = m' ((c.tc : Thread Cert.ReferenceDwDownIdeal.nD Cert.ReferenceDwDownIdeal.τ).loc Cert.ReferenceDwDownIdeal.main_arg1)
          ∧ r.2.mem ((c.tc : Thread Cert.ReferenceDwDownIdeal.nD Cert.ReferenceDwDownIdeal.τ).loc Cert.ReferenceDwDownIdeal.main_arg2) = m' ((c.tc : Thread Cert.ReferenceDwDownIdeal.nD Cert.ReferenceDwDownIdeal.τ).loc Cert.ReferenceDwDownIdeal.main_arg2))

def preserves_KernelDwUp_KernelDwUpIdeal : Prop :=
  True

def algebraic_KernelDwUpIdeal_ReferenceDwUpIdeal [hKernelDwUpIdeal : Cert.KernelDwUpIdeal.Facts] [hReferenceDwUpIdeal : Cert.ReferenceDwUpIdeal.Facts] : Prop :=
  ∀ (m : (ℓ : Loc Cert.KernelDwUpIdeal.nD Cert.KernelDwUpIdeal.τ Cert.KernelDwUpIdeal.sig) → Buf (Elt Ideal) ℓ) (g : Dev Cert.KernelDwUpIdeal.nD → PrngReg)
    (m' : (ℓ : Loc Cert.ReferenceDwUpIdeal.nD Cert.ReferenceDwUpIdeal.τ Cert.ReferenceDwUpIdeal.sig) → Buf (Elt Ideal) ℓ) (g' : Dev Cert.ReferenceDwUpIdeal.nD → PrngReg), Pre_KernelDwUpIdeal m →
    (∀ c : Dev Cert.KernelDwUpIdeal.nD,
      m' ((c.tc : Thread Cert.ReferenceDwUpIdeal.nD Cert.ReferenceDwUpIdeal.τ).loc Cert.ReferenceDwUpIdeal.main_arg0) = m ((c.tc : Thread Cert.KernelDwUpIdeal.nD Cert.KernelDwUpIdeal.τ).loc Cert.KernelDwUpIdeal.main_arg0)
      ∧ m' ((c.tc : Thread Cert.ReferenceDwUpIdeal.nD Cert.ReferenceDwUpIdeal.τ).loc Cert.ReferenceDwUpIdeal.main_arg1) = m ((c.tc : Thread Cert.KernelDwUpIdeal.nD Cert.KernelDwUpIdeal.τ).loc Cert.KernelDwUpIdeal.main_arg1)
      ∧ m' ((c.tc : Thread Cert.ReferenceDwUpIdeal.nD Cert.ReferenceDwUpIdeal.τ).loc Cert.ReferenceDwUpIdeal.main_arg2) = m ((c.tc : Thread Cert.KernelDwUpIdeal.nD Cert.KernelDwUpIdeal.τ).loc Cert.KernelDwUpIdeal.main_arg2)) →
    ∃ (v0 : (c : Dev Cert.KernelDwUpIdeal.nD) → Buf (Elt Ideal) ((c.tc : Thread Cert.KernelDwUpIdeal.nD Cert.KernelDwUpIdeal.τ).loc Cert.KernelDwUpIdeal.main_v3)),
      θ_run (Cert.KernelDwUpIdeal.defs (F := Ideal)) (onTc (τ := Cert.KernelDwUpIdeal.τ) (Cert.KernelDwUpIdeal.main (F := Ideal))) ⟨m, fun _ => 0, g⟩ (fun r => ∀ c : Dev Cert.KernelDwUpIdeal.nD,
          r.2.mem ((c.tc : Thread Cert.KernelDwUpIdeal.nD Cert.KernelDwUpIdeal.τ).loc Cert.KernelDwUpIdeal.main_v3) = v0 c
          ∧ r.2.mem ((c.tc : Thread Cert.KernelDwUpIdeal.nD Cert.KernelDwUpIdeal.τ).loc Cert.KernelDwUpIdeal.main_arg0) = m ((c.tc : Thread Cert.KernelDwUpIdeal.nD Cert.KernelDwUpIdeal.τ).loc Cert.KernelDwUpIdeal.main_arg0)
          ∧ r.2.mem ((c.tc : Thread Cert.KernelDwUpIdeal.nD Cert.KernelDwUpIdeal.τ).loc Cert.KernelDwUpIdeal.main_arg1) = m ((c.tc : Thread Cert.KernelDwUpIdeal.nD Cert.KernelDwUpIdeal.τ).loc Cert.KernelDwUpIdeal.main_arg1)
          ∧ r.2.mem ((c.tc : Thread Cert.KernelDwUpIdeal.nD Cert.KernelDwUpIdeal.τ).loc Cert.KernelDwUpIdeal.main_arg2) = m ((c.tc : Thread Cert.KernelDwUpIdeal.nD Cert.KernelDwUpIdeal.τ).loc Cert.KernelDwUpIdeal.main_arg2))
      ∧ θ_run (Cert.ReferenceDwUpIdeal.defs (F := Ideal)) (onTc (τ := Cert.ReferenceDwUpIdeal.τ) (Cert.ReferenceDwUpIdeal.main (F := Ideal))) ⟨m', fun _ => 0, g'⟩ (fun r => ∀ c : Dev Cert.ReferenceDwUpIdeal.nD,
          r.2.mem ((c.tc : Thread Cert.ReferenceDwUpIdeal.nD Cert.ReferenceDwUpIdeal.τ).loc Cert.ReferenceDwUpIdeal.main_v7) = v0 c
          ∧ r.2.mem ((c.tc : Thread Cert.ReferenceDwUpIdeal.nD Cert.ReferenceDwUpIdeal.τ).loc Cert.ReferenceDwUpIdeal.main_arg0) = m' ((c.tc : Thread Cert.ReferenceDwUpIdeal.nD Cert.ReferenceDwUpIdeal.τ).loc Cert.ReferenceDwUpIdeal.main_arg0)
          ∧ r.2.mem ((c.tc : Thread Cert.ReferenceDwUpIdeal.nD Cert.ReferenceDwUpIdeal.τ).loc Cert.ReferenceDwUpIdeal.main_arg1) = m' ((c.tc : Thread Cert.ReferenceDwUpIdeal.nD Cert.ReferenceDwUpIdeal.τ).loc Cert.ReferenceDwUpIdeal.main_arg1)
          ∧ r.2.mem ((c.tc : Thread Cert.ReferenceDwUpIdeal.nD Cert.ReferenceDwUpIdeal.τ).loc Cert.ReferenceDwUpIdeal.main_arg2) = m' ((c.tc : Thread Cert.ReferenceDwUpIdeal.nD Cert.ReferenceDwUpIdeal.τ).loc Cert.ReferenceDwUpIdeal.main_arg2))

def preserves_KernelDz_KernelDzIdeal : Prop :=
  True

def algebraic_KernelDzIdeal_ReferenceDzIdeal [hKernelDzIdeal : Cert.KernelDzIdeal.Facts] [hReferenceDzIdeal : Cert.ReferenceDzIdeal.Facts] : Prop :=
  ∀ (m : (ℓ : Loc Cert.KernelDzIdeal.nD Cert.KernelDzIdeal.τ Cert.KernelDzIdeal.sig) → Buf (Elt Ideal) ℓ) (g : Dev Cert.KernelDzIdeal.nD → PrngReg)
    (m' : (ℓ : Loc Cert.ReferenceDzIdeal.nD Cert.ReferenceDzIdeal.τ Cert.ReferenceDzIdeal.sig) → Buf (Elt Ideal) ℓ) (g' : Dev Cert.ReferenceDzIdeal.nD → PrngReg), Pre_KernelDzIdeal m →
    (∀ c : Dev Cert.KernelDzIdeal.nD,
      m' ((c.tc : Thread Cert.ReferenceDzIdeal.nD Cert.ReferenceDzIdeal.τ).loc Cert.ReferenceDzIdeal.main_arg0) = m ((c.tc : Thread Cert.KernelDzIdeal.nD Cert.KernelDzIdeal.τ).loc Cert.KernelDzIdeal.main_arg0)
      ∧ m' ((c.tc : Thread Cert.ReferenceDzIdeal.nD Cert.ReferenceDzIdeal.τ).loc Cert.ReferenceDzIdeal.main_arg1) = m ((c.tc : Thread Cert.KernelDzIdeal.nD Cert.KernelDzIdeal.τ).loc Cert.KernelDzIdeal.main_arg1)) →
    ∃ (v0 : (c : Dev Cert.KernelDzIdeal.nD) → Buf (Elt Ideal) ((c.tc : Thread Cert.KernelDzIdeal.nD Cert.KernelDzIdeal.τ).loc Cert.KernelDzIdeal.main_v2)),
      θ_run (Cert.KernelDzIdeal.defs (F := Ideal)) (onTc (τ := Cert.KernelDzIdeal.τ) (Cert.KernelDzIdeal.main (F := Ideal))) ⟨m, fun _ => 0, g⟩ (fun r => ∀ c : Dev Cert.KernelDzIdeal.nD,
          r.2.mem ((c.tc : Thread Cert.KernelDzIdeal.nD Cert.KernelDzIdeal.τ).loc Cert.KernelDzIdeal.main_v2) = v0 c
          ∧ r.2.mem ((c.tc : Thread Cert.KernelDzIdeal.nD Cert.KernelDzIdeal.τ).loc Cert.KernelDzIdeal.main_arg0) = m ((c.tc : Thread Cert.KernelDzIdeal.nD Cert.KernelDzIdeal.τ).loc Cert.KernelDzIdeal.main_arg0)
          ∧ r.2.mem ((c.tc : Thread Cert.KernelDzIdeal.nD Cert.KernelDzIdeal.τ).loc Cert.KernelDzIdeal.main_arg1) = m ((c.tc : Thread Cert.KernelDzIdeal.nD Cert.KernelDzIdeal.τ).loc Cert.KernelDzIdeal.main_arg1))
      ∧ θ_run (Cert.ReferenceDzIdeal.defs (F := Ideal)) (onTc (τ := Cert.ReferenceDzIdeal.τ) (Cert.ReferenceDzIdeal.main (F := Ideal))) ⟨m', fun _ => 0, g'⟩ (fun r => ∀ c : Dev Cert.ReferenceDzIdeal.nD,
          r.2.mem ((c.tc : Thread Cert.ReferenceDzIdeal.nD Cert.ReferenceDzIdeal.τ).loc Cert.ReferenceDzIdeal.main_v3) = v0 c
          ∧ r.2.mem ((c.tc : Thread Cert.ReferenceDzIdeal.nD Cert.ReferenceDzIdeal.τ).loc Cert.ReferenceDzIdeal.main_arg0) = m' ((c.tc : Thread Cert.ReferenceDzIdeal.nD Cert.ReferenceDzIdeal.τ).loc Cert.ReferenceDzIdeal.main_arg0)
          ∧ r.2.mem ((c.tc : Thread Cert.ReferenceDzIdeal.nD Cert.ReferenceDzIdeal.τ).loc Cert.ReferenceDzIdeal.main_arg1) = m' ((c.tc : Thread Cert.ReferenceDzIdeal.nD Cert.ReferenceDzIdeal.τ).loc Cert.ReferenceDzIdeal.main_arg1))

def preserves_KernelDwIn_KernelDwInIdeal : Prop :=
  True

def algebraic_KernelDwInIdeal_ReferenceDwInIdeal [hKernelDwInIdeal : Cert.KernelDwInIdeal.Facts] [hReferenceDwInIdeal : Cert.ReferenceDwInIdeal.Facts] : Prop :=
  ∀ (m : (ℓ : Loc Cert.KernelDwInIdeal.nD Cert.KernelDwInIdeal.τ Cert.KernelDwInIdeal.sig) → Buf (Elt Ideal) ℓ) (g : Dev Cert.KernelDwInIdeal.nD → PrngReg)
    (m' : (ℓ : Loc Cert.ReferenceDwInIdeal.nD Cert.ReferenceDwInIdeal.τ Cert.ReferenceDwInIdeal.sig) → Buf (Elt Ideal) ℓ) (g' : Dev Cert.ReferenceDwInIdeal.nD → PrngReg), Pre_KernelDwInIdeal m →
    (∀ c : Dev Cert.KernelDwInIdeal.nD,
      m' ((c.tc : Thread Cert.ReferenceDwInIdeal.nD Cert.ReferenceDwInIdeal.τ).loc Cert.ReferenceDwInIdeal.main_arg0) = m ((c.tc : Thread Cert.KernelDwInIdeal.nD Cert.KernelDwInIdeal.τ).loc Cert.KernelDwInIdeal.main_arg0)
      ∧ m' ((c.tc : Thread Cert.ReferenceDwInIdeal.nD Cert.ReferenceDwInIdeal.τ).loc Cert.ReferenceDwInIdeal.main_arg1) = m ((c.tc : Thread Cert.KernelDwInIdeal.nD Cert.KernelDwInIdeal.τ).loc Cert.KernelDwInIdeal.main_arg1)
      ∧ m' ((c.tc : Thread Cert.ReferenceDwInIdeal.nD Cert.ReferenceDwInIdeal.τ).loc Cert.ReferenceDwInIdeal.main_arg2) = m ((c.tc : Thread Cert.KernelDwInIdeal.nD Cert.KernelDwInIdeal.τ).loc Cert.KernelDwInIdeal.main_arg2)) →
    ∃ (v0 : (c : Dev Cert.KernelDwInIdeal.nD) → Buf (Elt Ideal) ((c.tc : Thread Cert.KernelDwInIdeal.nD Cert.KernelDwInIdeal.τ).loc Cert.KernelDwInIdeal.main_v3)),
      θ_run (Cert.KernelDwInIdeal.defs (F := Ideal)) (onTc (τ := Cert.KernelDwInIdeal.τ) (Cert.KernelDwInIdeal.main (F := Ideal))) ⟨m, fun _ => 0, g⟩ (fun r => ∀ c : Dev Cert.KernelDwInIdeal.nD,
          r.2.mem ((c.tc : Thread Cert.KernelDwInIdeal.nD Cert.KernelDwInIdeal.τ).loc Cert.KernelDwInIdeal.main_v3) = v0 c
          ∧ r.2.mem ((c.tc : Thread Cert.KernelDwInIdeal.nD Cert.KernelDwInIdeal.τ).loc Cert.KernelDwInIdeal.main_arg0) = m ((c.tc : Thread Cert.KernelDwInIdeal.nD Cert.KernelDwInIdeal.τ).loc Cert.KernelDwInIdeal.main_arg0)
          ∧ r.2.mem ((c.tc : Thread Cert.KernelDwInIdeal.nD Cert.KernelDwInIdeal.τ).loc Cert.KernelDwInIdeal.main_arg1) = m ((c.tc : Thread Cert.KernelDwInIdeal.nD Cert.KernelDwInIdeal.τ).loc Cert.KernelDwInIdeal.main_arg1)
          ∧ r.2.mem ((c.tc : Thread Cert.KernelDwInIdeal.nD Cert.KernelDwInIdeal.τ).loc Cert.KernelDwInIdeal.main_arg2) = m ((c.tc : Thread Cert.KernelDwInIdeal.nD Cert.KernelDwInIdeal.τ).loc Cert.KernelDwInIdeal.main_arg2))
      ∧ θ_run (Cert.ReferenceDwInIdeal.defs (F := Ideal)) (onTc (τ := Cert.ReferenceDwInIdeal.τ) (Cert.ReferenceDwInIdeal.main (F := Ideal))) ⟨m', fun _ => 0, g'⟩ (fun r => ∀ c : Dev Cert.ReferenceDwInIdeal.nD,
          r.2.mem ((c.tc : Thread Cert.ReferenceDwInIdeal.nD Cert.ReferenceDwInIdeal.τ).loc Cert.ReferenceDwInIdeal.main_v7) = v0 c
          ∧ r.2.mem ((c.tc : Thread Cert.ReferenceDwInIdeal.nD Cert.ReferenceDwInIdeal.τ).loc Cert.ReferenceDwInIdeal.main_arg0) = m' ((c.tc : Thread Cert.ReferenceDwInIdeal.nD Cert.ReferenceDwInIdeal.τ).loc Cert.ReferenceDwInIdeal.main_arg0)
          ∧ r.2.mem ((c.tc : Thread Cert.ReferenceDwInIdeal.nD Cert.ReferenceDwInIdeal.τ).loc Cert.ReferenceDwInIdeal.main_arg1) = m' ((c.tc : Thread Cert.ReferenceDwInIdeal.nD Cert.ReferenceDwInIdeal.τ).loc Cert.ReferenceDwInIdeal.main_arg1)
          ∧ r.2.mem ((c.tc : Thread Cert.ReferenceDwInIdeal.nD Cert.ReferenceDwInIdeal.τ).loc Cert.ReferenceDwInIdeal.main_arg2) = m' ((c.tc : Thread Cert.ReferenceDwInIdeal.nD Cert.ReferenceDwInIdeal.τ).loc Cert.ReferenceDwInIdeal.main_arg2))

def Claim : Prop :=
  ∃ (hKernel : Cert.Kernel.Facts) (hKernelIdeal : Cert.KernelIdeal.Facts) (hReferenceIdeal : Cert.ReferenceIdeal.Facts) (hKernelGqa : Cert.KernelGqa.Facts) (hKernelGqaIdeal : Cert.KernelGqaIdeal.Facts) (hReferenceGqaIdeal : Cert.ReferenceGqaIdeal.Facts) (hKernelDh : Cert.KernelDh.Facts) (hKernelDhIdeal : Cert.KernelDhIdeal.Facts) (hReferenceDhIdeal : Cert.ReferenceDhIdeal.Facts) (hKernelDu : Cert.KernelDu.Facts) (hKernelDuIdeal : Cert.KernelDuIdeal.Facts) (hReferenceDuIdeal : Cert.ReferenceDuIdeal.Facts) (hKernelDwDown : Cert.KernelDwDown.Facts) (hKernelDwDownIdeal : Cert.KernelDwDownIdeal.Facts) (hReferenceDwDownIdeal : Cert.ReferenceDwDownIdeal.Facts) (hKernelDwUp : Cert.KernelDwUp.Facts) (hKernelDwUpIdeal : Cert.KernelDwUpIdeal.Facts) (hReferenceDwUpIdeal : Cert.ReferenceDwUpIdeal.Facts) (hKernelDz : Cert.KernelDz.Facts) (hKernelDzIdeal : Cert.KernelDzIdeal.Facts) (hReferenceDzIdeal : Cert.ReferenceDzIdeal.Facts) (hKernelDwIn : Cert.KernelDwIn.Facts) (hKernelDwInIdeal : Cert.KernelDwInIdeal.Facts) (hReferenceDwInIdeal : Cert.ReferenceDwInIdeal.Facts) (hPre_finite : Cert.Pre_finite.Facts) (hPre_gqa_finite : Cert.Pre_gqa_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelGqa (hKernelGqa := hKernelGqa)
    ∧ quiescent_KernelGqaIdeal (hKernelGqaIdeal := hKernelGqaIdeal)
    ∧ quiescent_KernelGqaIdeal_pre_gqa_finite (hKernelGqaIdeal := hKernelGqaIdeal) (hPre_gqa_finite := hPre_gqa_finite)
    ∧ quiescent_ReferenceGqaIdeal (hReferenceGqaIdeal := hReferenceGqaIdeal)
    ∧ quiescent_ReferenceGqaIdeal_pre_gqa_finite (hReferenceGqaIdeal := hReferenceGqaIdeal) (hPre_gqa_finite := hPre_gqa_finite)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDu (hKernelDu := hKernelDu)
    ∧ quiescent_KernelDuIdeal (hKernelDuIdeal := hKernelDuIdeal)
    ∧ quiescent_ReferenceDuIdeal (hReferenceDuIdeal := hReferenceDuIdeal)
    ∧ quiescent_KernelDwDown (hKernelDwDown := hKernelDwDown)
    ∧ quiescent_KernelDwDownIdeal (hKernelDwDownIdeal := hKernelDwDownIdeal)
    ∧ quiescent_ReferenceDwDownIdeal (hReferenceDwDownIdeal := hReferenceDwDownIdeal)
    ∧ quiescent_KernelDwUp (hKernelDwUp := hKernelDwUp)
    ∧ quiescent_KernelDwUpIdeal (hKernelDwUpIdeal := hKernelDwUpIdeal)
    ∧ quiescent_ReferenceDwUpIdeal (hReferenceDwUpIdeal := hReferenceDwUpIdeal)
    ∧ quiescent_KernelDz (hKernelDz := hKernelDz)
    ∧ quiescent_KernelDzIdeal (hKernelDzIdeal := hKernelDzIdeal)
    ∧ quiescent_ReferenceDzIdeal (hReferenceDzIdeal := hReferenceDzIdeal)
    ∧ quiescent_KernelDwIn (hKernelDwIn := hKernelDwIn)
    ∧ quiescent_KernelDwInIdeal (hKernelDwInIdeal := hKernelDwInIdeal)
    ∧ quiescent_ReferenceDwInIdeal (hReferenceDwInIdeal := hReferenceDwInIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelGqa_KernelGqaIdeal
    ∧ algebraic_KernelGqaIdeal_ReferenceGqaIdeal_pre_gqa_finite (hKernelGqaIdeal := hKernelGqaIdeal) (hReferenceGqaIdeal := hReferenceGqaIdeal) (hPre_gqa_finite := hPre_gqa_finite)
    ∧ preserves_KernelDh_KernelDhIdeal
    ∧ algebraic_KernelDhIdeal_ReferenceDhIdeal (hKernelDhIdeal := hKernelDhIdeal) (hReferenceDhIdeal := hReferenceDhIdeal)
    ∧ preserves_KernelDu_KernelDuIdeal
    ∧ algebraic_KernelDuIdeal_ReferenceDuIdeal (hKernelDuIdeal := hKernelDuIdeal) (hReferenceDuIdeal := hReferenceDuIdeal)
    ∧ preserves_KernelDwDown_KernelDwDownIdeal
    ∧ algebraic_KernelDwDownIdeal_ReferenceDwDownIdeal (hKernelDwDownIdeal := hKernelDwDownIdeal) (hReferenceDwDownIdeal := hReferenceDwDownIdeal)
    ∧ preserves_KernelDwUp_KernelDwUpIdeal
    ∧ algebraic_KernelDwUpIdeal_ReferenceDwUpIdeal (hKernelDwUpIdeal := hKernelDwUpIdeal) (hReferenceDwUpIdeal := hReferenceDwUpIdeal)
    ∧ preserves_KernelDz_KernelDzIdeal
    ∧ algebraic_KernelDzIdeal_ReferenceDzIdeal (hKernelDzIdeal := hKernelDzIdeal) (hReferenceDzIdeal := hReferenceDzIdeal)
    ∧ preserves_KernelDwIn_KernelDwInIdeal
    ∧ algebraic_KernelDwInIdeal_ReferenceDwInIdeal (hKernelDwInIdeal := hKernelDwInIdeal) (hReferenceDwInIdeal := hReferenceDwInIdeal)
-- ==== Pre_finite.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩

class Facts : Prop where
  bcast_S_S8192x8x96 : S_.BroadcastsInDim S8192x8x96 (![] : Fin 0 → Fin S8192x8x96.rank)
  reducesTo_S8192x8x96_S_d0_1_2 : S8192x8x96.ReducesTo [0, 1, 2] S_
  h_S_ : 0 < S_.numel
  bcast_S_S8192x8x64 : S_.BroadcastsInDim S8192x8x64 (![] : Fin 0 → Fin S8192x8x64.rank)
  reducesTo_S8192x8x64_S_d0_1_2 : S8192x8x64.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x8x96 .f32) (main_arg1 : FVec F S8192x8x96 .f32) (main_arg2 : FVec F S8192x8x64 .f32) (main_arg3 : FVec F S8192x512 .f32) : IVec S_ 1 × IVec S_ 1 × IVec S_ 1 × IVec S_ 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_c : IVec S_ 1 := constantI S_ 1 1#1
  let main_v3 : IVec S_ 1 := (fun x v => Host.reduce IntOp.andi x v reducesTo_S8192x8x96_S_d0_1_2 h_S_) main_v2 main_c
  let main_v4 : FVec F S8192x8x96 .f32 := Host.absf main_arg1
  let main_cst_0 : FVec F S_ .f32 := constant S_ .f32 0x7F800000#32
  let main_v5 : FVec F S8192x8x96 .f32 := broadcastInDim S8192x8x96 ![] bcast_S_S8192x8x96 main_cst_0
  let main_v6 : IVec S8192x8x96 1 := cmpf .olt main_v4 main_v5
  let main_c_1 : IVec S_ 1 := constantI S_ 1 1#1
  let main_v7 : IVec S_ 1 := (fun x v => Host.reduce IntOp.andi x v reducesTo_S8192x8x96_S_d0_1_2 h_S_) main_v6 main_c_1
  let main_v8 : FVec F S8192x8x64 .f32 := Host.absf main_arg2
  let main_cst_2 : FVec F S_ .f32 := constant S_ .f32 0x7F800000#32
  let main_v9 : FVec F S8192x8x64 .f32 := broadcastInDim S8192x8x64 ![] bcast_S_S8192x8x64 main_cst_2
  let main_v10 : IVec S8192x8x64 1 := cmpf .olt main_v8 main_v9
  let main_c_3 : IVec S_ 1 := constantI S_ 1 1#1
  let main_v11 : IVec S_ 1 := (fun x v => Host.reduce IntOp.andi x v reducesTo_S8192x8x64_S_d0_1_2 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  (main_v3, main_v7, main_v11, main_v15)
-- ==== Pre_gqa_finite.lean ====
abbrev S8192x8x64 : Shape := ⟨3, ![8192, 8, 64]⟩
abbrev S8192x2x64 : Shape := ⟨3, ![8192, 2, 64]⟩
abbrev S8192x512 : Shape := ⟨2, ![8192, 512]⟩
abbrev S_ : Shape := ⟨0, ![]⟩

class Facts : Prop where
  bcast_S_S8192x8x64 : S_.BroadcastsInDim S8192x8x64 (![] : Fin 0 → Fin S8192x8x64.rank)
  reducesTo_S8192x8x64_S_d0_1_2 : S8192x8x64.ReducesTo [0, 1, 2] S_
  h_S_ : 0 < S_.numel
  bcast_S_S8192x2x64 : S_.BroadcastsInDim S8192x2x64 (![] : Fin 0 → Fin S8192x2x64.rank)
  reducesTo_S8192x2x64_S_d0_1_2 : S8192x2x64.ReducesTo [0, 1, 2] S_
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x8x64 .f32) (main_arg1 : FVec F S8192x2x64 .f32) (main_arg2 : FVec F S8192x2x64 .f32) (main_arg3 : FVec F S8192x512 .f32) : IVec S_ 1 × IVec S_ 1 × IVec S_ 1 × IVec S_ 1 :=
  let main_v0 : FVec F S8192x8x64 .f32 := Host.absf main_arg0
  let main_cst : FVec F S_ .f32 := constant S_ .f32 0x7F800000#32
  let main_v1 : FVec F S8192x8x64 .f32 := broadcastInDim S8192x8x64 ![] bcast_S_S8192x8x64 main_cst
  let main_v2 : IVec S8192x8x64 1 := cmpf .olt main_v0 main_v1
  let main_c : IVec S_ 1 := constantI S_ 1 1#1
  let main_v3 : IVec S_ 1 := (fun x v => Host.reduce IntOp.andi x v reducesTo_S8192x8x64_S_d0_1_2 h_S_) main_v2 main_c
  let main_v4 : FVec F S8192x2x64 .f32 := Host.absf main_arg1
  let main_cst_0 : FVec F S_ .f32 := constant S_ .f32 0x7F800000#32
  let main_v5 : FVec F S8192x2x64 .f32 := broadcastInDim S8192x2x64 ![] bcast_S_S8192x2x64 main_cst_0
  let main_v6 : IVec S8192x2x64 1 := cmpf .olt main_v4 main_v5
  let main_c_1 : IVec S_ 1 := constantI S_ 1 1#1
  let main_v7 : IVec S_ 1 := (fun x v => Host.reduce IntOp.andi x v reducesTo_S8192x2x64_S_d0_1_2 h_S_) main_v6 main_c_1
  let main_v8 : FVec F S8192x2x64 .f32 := Host.absf main_arg2
  let main_cst_2 : FVec F S_ .f32 := constant S_ .f32 0x7F800000#32
  let main_v9 : FVec F S8192x2x64 .f32 := broadcastInDim S8192x2x64 ![] bcast_S_S8192x2x64 main_cst_2
  let main_v10 : IVec S8192x2x64 1 := cmpf .olt main_v8 main_v9
  let main_c_3 : IVec S_ 1 := constantI S_ 1 1#1
  let main_v11 : IVec S_ 1 := (fun x v => Host.reduce IntOp.andi x v reducesTo_S8192x2x64_S_d0_1_2 h_S_) main_v10 main_c_3
  let main_v12 : FVec F S8192x512 .f32 := Host.absf main_arg3
  let main_cst_4 : FVec F S_ .f32 := constant S_ .f32 0x7F800000#32
  let main_v13 : FVec F S8192x512 .f32 := broadcastInDim S8192x512 ![] bcast_S_S8192x512 main_cst_4
  let main_v14 : IVec S8192x512 1 := cmpf .olt main_v12 main_v13
  let main_c_5 : IVec S_ 1 := constantI S_ 1 1#1
  let main_v15 : IVec S_ 1 := (fun x v => Host.reduce IntOp.andi x v reducesTo_S8192x512_S_d0_1 h_S_) main_v14 main_c_5
  (main_v3, main_v7, main_v11, main_v15)
-- ==== Kernel.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x8192x64 : Shape := ⟨3, ![8, 8192, 64]⟩
abbrev S8x8192x128 : Shape := ⟨3, ![8, 8192, 128]⟩
abbrev S8192x8x32 : Shape := ⟨3, ![8192, 8, 32]⟩
abbrev S8192x8x128 : Shape := ⟨3, ![8192, 8, 128]⟩
abbrev S8192x1024 : Shape := ⟨2, ![8192, 1024]⟩
abbrev S1024x8192 : Shape := ⟨2, ![1024, 8192]⟩
abbrev S512x8192 : Shape := ⟨2, ![512, 8192]⟩
abbrev S1024x256 : Shape := ⟨2, ![1024, 256]⟩
abbrev S1024x128 : Shape := ⟨2, ![1024, 128]⟩
abbrev S2x1024x128 : Shape := ⟨3, ![2, 1024, 128]⟩
abbrev S8192x256 : Shape := ⟨2, ![8192, 256]⟩
abbrev S256x1024 : Shape := ⟨2, ![256, 1024]⟩
abbrev S128x1024 : Shape := ⟨2, ![128, 1024]⟩
abbrev S2x1024x1024 : Shape := ⟨3, ![2, 1024, 1024]⟩
abbrev S1024x1024 : Shape := ⟨2, ![1024, 1024]⟩
abbrev S1x1024x1024 : Shape := ⟨3, ![1, 1024, 1024]⟩
abbrev S1x1024x128 : Shape := ⟨3, ![1, 1024, 128]⟩

abbrev nBuf : Space → Nat
  | .hbm => 66
  | .vmem => 24
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S_, .f32⟩
  | .hbm, ⟨12, _⟩ => ⟨S8x8192, .f32⟩
  | .hbm, ⟨13, _⟩ => ⟨S8x8192x1, .f32⟩
  | .hbm, ⟨14, _⟩ => ⟨S8x8192x8192, .f32⟩
  | .hbm, ⟨15, _⟩ => ⟨S8x8192x8192, .f32⟩
  | .hbm, ⟨16, _⟩ => ⟨S8x8192x8192, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S8x8192x8192, .f32⟩
  | .hbm, ⟨21, _⟩ => ⟨S8x8192x8192, .f32⟩
  | .hbm, ⟨22, _⟩ => ⟨S8x8192x64, .f32⟩
  | .hbm, ⟨23, _⟩ => ⟨S8x8192x1, .f32⟩
  | .hbm, ⟨24, _⟩ => ⟨S8x8192x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x8192x1, .f32⟩
  | .hbm, ⟨30, _⟩ => ⟨S8x8192x1, .f32⟩
  | .hbm, ⟨31, _⟩ => ⟨S8x8192x128, .f32⟩
  | .hbm, ⟨32, _⟩ => ⟨S8192x8x64, .f32⟩
  | .hbm, ⟨33, _⟩ => ⟨S8x8192x64, .f32⟩
  | .hbm, ⟨34, _⟩ => ⟨S8x8192x64, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192x8x96, .f32⟩
  | .hbm, ⟨49, _⟩ => ⟨S8192x8x96, .f32⟩
  | .hbm, ⟨50, _⟩ => ⟨S_, .f32⟩
  | .hbm, ⟨51, _⟩ => ⟨S8192x8x32, .f32⟩
  | .hbm, ⟨52, _⟩ => ⟨S8192x8x128, .f32⟩
  | .hbm, ⟨53, _⟩ => ⟨S8192x1024, .f32⟩
  | .hbm, ⟨54, _⟩ => ⟨S8192x1024, .bf16⟩
  | .hbm, ⟨55, _⟩ => ⟨S_, .f32⟩
  | .hbm, ⟨56, _⟩ => ⟨S8192x8x32, .f32⟩
  | .hbm, ⟨57, _⟩ => ⟨S8192x8x128, .f32⟩
  | .hbm, ⟨58, _⟩ => ⟨S8192x1024, .f32⟩
  | .hbm, ⟨59, _⟩ => ⟨S8192x1024, .bf16⟩
  | .hbm, ⟨60, _⟩ => ⟨S8192x512, .f32⟩
  | .hbm, ⟨61, _⟩ => ⟨S8192x512, .bf16⟩
  | .hbm, ⟨62, _⟩ => ⟨S8192x512, .bf16⟩
  | .hbm, ⟨63, _⟩ => ⟨S8192x1024, .f32⟩
  | .hbm, ⟨64, _⟩ => ⟨S1024x8192, .bf16⟩
  | .hbm, ⟨65, _⟩ => ⟨S512x8192, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S2x1024x128, .f32⟩
  | .local _ .vmem, ⟨9, _⟩ => ⟨S2x1024x128, .f32⟩
  | .local _ .vmem, ⟨10, _⟩ => ⟨S2x1024x128, .f32⟩
  | .local _ .vmem, ⟨11, _⟩ => ⟨S2x1024x128, .f32⟩
  | .local _ .vmem, ⟨12, _⟩ => ⟨S8192x256, .f32⟩
  | .local _ .vmem, ⟨13, _⟩ => ⟨S8192x256, .f32⟩
  | .local _ .vmem, ⟨14, _⟩ => ⟨S256x1024, .bf16⟩
  | .local _ .vmem, ⟨15, _⟩ => ⟨S256x1024, .bf16⟩
  | .local _ .vmem, ⟨16, _⟩ => ⟨S128x1024, .bf16⟩
  | .local _ .vmem, ⟨17, _⟩ => ⟨S128x1024, .bf16⟩
  | .local _ .vmem, ⟨18, _⟩ => ⟨S256x1024, .f32⟩
  | .local _ .vmem, ⟨19, _⟩ => ⟨S128x1024, .f32⟩
  | .local _ .vmem, ⟨20, _⟩ => ⟨S2x1024x1024, .f32⟩
  | .local _ .vmem, ⟨21, _⟩ => ⟨S2x1024x1024, .f32⟩
  | .local _ .vmem, ⟨22, _⟩ => ⟨S2x1024x1024, .bf16⟩
  | .local _ .vmem, ⟨23, _⟩ => ⟨S2x1024x1024, .bf16⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_11 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46_0 : Ref sig .tc := ⟨.hbm, 63, rfl⟩
abbrev main_v46_1 : Ref sig .tc := ⟨.hbm, 64, rfl⟩
abbrev main_v46_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v341 : BitVec 32 := Scalar.muli arg2 c1024_i32
  v341
def k0_cond2 (i : grid0.Coords) : BitVec 1 :=
  let arg1 : BitVec 32 := BitVec.ofNat 32 (i 1).val
  let c0_i32_262 : BitVec 32 := 0#32
  let v343 : BitVec 1 := Scalar.cmpi .eq arg1 c0_i32_262
  let v344 : BitVec 32 := Scalar.extui v343
  let c0_i32_263 : BitVec 32 := 0#32
  let v345 : BitVec 1 := Scalar.cmpi .ne v344 c0_i32_263
  v345

def k0_off1 (i : grid0.Coords) : Fin 2 → Nat :=
  let arg2 : BitVec 32 := BitVec.ofNat 32 (i 2).val
  let c1024_i32 : BitVec 32 := 1024#32
  let v341 : BitVec 32 := Scalar.muli arg2 c1024_i32
  let v342 : BitVec 32 := v341
  let v358 : Index := Scalar.indexCast v342
  let c0_271 : Index := 0#32
  ![v358.toNat, 0]
def k0_cond3 (i : grid0.Coords) : BitVec 1 :=
  let arg1 : BitVec 32 := BitVec.ofNat 32 (i 1).val
  let c0_i32_264 : BitVec 32 := 0#32
  let v346 : BitVec 1 := Scalar.cmpi .sgt arg1 c0_i32_264
  let v347 : BitVec 32 := Scalar.extui v346
  let c0_i32_265 : BitVec 32 := 0#32
  let v348 : BitVec 1 := Scalar.cmpi .ne v347 c0_i32_265
  v348

def k0_off2 (i : grid0.Coords) : Fin 2 → Nat :=
  let arg2 : BitVec 32 := BitVec.ofNat 32 (i 2).val
  let c1024_i32 : BitVec 32 := 1024#32
  let v341 : BitVec 32 := Scalar.muli arg2 c1024_i32
  let v342 : BitVec 32 := v341
  let v358 : Index := Scalar.indexCast v342
  let c0_271 : Index := 0#32
  ![v358.toNat, 0]
def k0_cond4 (i : grid0.Coords) : BitVec 1 :=
  let arg1 : BitVec 32 := BitVec.ofNat 32 (i 1).val
  let c0_i32_266 : BitVec 32 := 0#32
  let v349 : BitVec 1 := Scalar.cmpi .eq arg1 c0_i32_266
  let v350 : BitVec 32 := Scalar.extui v349
  let c0_i32_267 : BitVec 32 := 0#32
  let v351 : BitVec 1 := Scalar.cmpi .ne v350 c0_i32_267
  v351

def k0_off3 (i : grid0.Coords) : Fin 2 → Nat :=
  let arg2 : BitVec 32 := BitVec.ofNat 32 (i 2).val
  let c1024_i32 : BitVec 32 := 1024#32
  let v341 : BitVec 32 := Scalar.muli arg2 c1024_i32
  let v342 : BitVec 32 := v341
  let v358 : Index := Scalar.indexCast v342
  let c128_271 : Index := 128#32
  ![v358.toNat, 128]
def k0_cond5 (i : grid0.Coords) : BitVec 1 :=
  let arg1 : BitVec 32 := BitVec.ofNat 32 (i 1).val
  let c0_i32_268 : BitVec 32 := 0#32
  let v352 : BitVec 1 := Scalar.cmpi .sgt arg1 c0_i32_268
  let v353 : BitVec 32 := Scalar.extui v352
  let c0_i32_269 : BitVec 32 := 0#32
  let v354 : BitVec 1 := Scalar.cmpi .ne v353 c0_i32_269
  v354

def k0_off4 (i : grid0.Coords) : Fin 2 → Nat :=
  let arg2 : BitVec 32 := BitVec.ofNat 32 (i 2).val
  let c1024_i32 : BitVec 32 := 1024#32
  let v341 : BitVec 32 := Scalar.muli arg2 c1024_i32
  let v342 : BitVec 32 := v341
  let v358 : Index := Scalar.indexCast v342
  let c128_271 : Index := 128#32
  ![v358.toNat, 128]
def k0_cond6 (i : grid0.Coords) : BitVec 1 :=
  let arg2 : BitVec 32 := BitVec.ofNat 32 (i 2).val
  let c7_i32 : BitVec 32 := 7#32
  let v355 : BitVec 1 := Scalar.cmpi .eq arg2 c7_i32
  let v356 : BitVec 32 := Scalar.extui v355
  let c0_i32_270 : BitVec 32 := 0#32
  let v357 : BitVec 1 := Scalar.cmpi .ne v356 c0_i32_270
  v357

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8192x1024 : Shape := ⟨2, ![8192, 1024]⟩
abbrev S1024x8192 : Shape := ⟨2, ![1024, 8192]⟩
abbrev S512x8192 : Shape := ⟨2, ![512, 8192]⟩

abbrev nBuf : Space → Nat
  | .hbm => 96
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x8192, .f32⟩
  | .hbm, ⟨5, _⟩ => ⟨S_, .f32⟩
  | .hbm, ⟨6, _⟩ => ⟨S_, .f32⟩
  | .hbm, ⟨7, _⟩ => ⟨S8x8192x8192, .f32⟩
  | .hbm, ⟨8, _⟩ => ⟨S8x8192x8192, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S8x8192x8192, .f32⟩
  | .hbm, ⟨13, _⟩ => ⟨S8x8192x8192, .i1⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S_, .f32⟩
  | .hbm, ⟨18, _⟩ => ⟨S8x8192, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .i1⟩
  | .hbm, ⟨23, _⟩ => ⟨S_, .f32⟩
  | .hbm, ⟨24, _⟩ => ⟨S8x8192, .f32⟩
  | .hbm, ⟨25, _⟩ => ⟨S8x8192, .i1⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S8x64x8192, .f32⟩
  | .hbm, ⟨48, _⟩ => ⟨S8192x8x64, .f32⟩
  | .hbm, ⟨49, _⟩ => ⟨S8192x512, .f32⟩
  | .hbm, ⟨50, _⟩ => ⟨S8192x8x64, .f32⟩
  | .hbm, ⟨51, _⟩ => ⟨S8x64x8192, .f32⟩
  | .hbm, ⟨52, _⟩ => ⟨S8x8192x8192, .f32⟩
  | .hbm, ⟨53, _⟩ => ⟨S8x64x8192, .f32⟩
  | .hbm, ⟨54, _⟩ => ⟨S8192x8x64, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S8x8192, .f32⟩
  | .hbm, ⟨66, _⟩ => ⟨S8x8192x8192, .f32⟩
  | .hbm, ⟨67, _⟩ => ⟨S8x8192x8192, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S8x8192x96, .f32⟩
  | .hbm, ⟨72, _⟩ => ⟨S8192x8x96, .f32⟩
  | .hbm, ⟨73, _⟩ => ⟨S8x8192x96, .f32⟩
  | .hbm, ⟨74, _⟩ => ⟨S8192x8x96, .f32⟩
  | .hbm, ⟨75, _⟩ => ⟨S_, .f32⟩
  | .hbm, ⟨76, _⟩ => ⟨S_, .f32⟩
  | .hbm, ⟨77, _⟩ => ⟨S8192x8x96, .f32⟩
  | .hbm, ⟨78, _⟩ => ⟨S8192x8x96, .f32⟩
  | .hbm, ⟨79, _⟩ => ⟨S_, .i32⟩
  | .hbm, ⟨80, _⟩ => ⟨S_, .f32⟩
  | .hbm, ⟨81, _⟩ => ⟨S8192x8x128, .f32⟩
  | .hbm, ⟨82, _⟩ => ⟨S8192x1024, .f32⟩
  | .hbm, ⟨83, _⟩ => ⟨S_, .f32⟩
  | .hbm, ⟨84, _⟩ => ⟨S_, .f32⟩
  | .hbm, ⟨85, _⟩ => ⟨S8192x8x96, .f32⟩
  | .hbm, ⟨86, _⟩ => ⟨S8192x8x96, .f32⟩
  | .hbm, ⟨87, _⟩ => ⟨S_, .i32⟩
  | .hbm, ⟨88, _⟩ => ⟨S_, .f32⟩
  | .hbm, ⟨89, _⟩ => ⟨S8192x8x128, .f32⟩
  | .hbm, ⟨90, _⟩ => ⟨S8192x1024, .f32⟩
  | .hbm, ⟨91, _⟩ => ⟨S1024x8192, .f32⟩
  | .hbm, ⟨92, _⟩ => ⟨S1024x8192, .bf16⟩
  | .hbm, ⟨93, _⟩ => ⟨S8192x512, .f32⟩
  | .hbm, ⟨94, _⟩ => ⟨S512x8192, .f32⟩
  | .hbm, ⟨95, _⟩ => ⟨S512x8192, .bf16⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c : Ref sig .tc := ⟨.hbm, 79, rfl⟩
abbrev main_call0_v0 : Ref sig .tc := ⟨.hbm, 80, rfl⟩
abbrev main_v61 : Ref sig .tc := ⟨.hbm, 81, rfl⟩
abbrev main_v62 : Ref sig .tc := ⟨.hbm, 82, rfl⟩
abbrev main_cst_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_14 : Ref sig .tc := ⟨.hbm, 87, rfl⟩
abbrev main_call1_v0 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩

abbrev nD : Nat := 1
abbrev τ : Topo := Topo.v7x

variable {F : FTy → Type} [FloatOps F]
-- ==== KernelGqa.lean ====
abbrev S8192x8x64 : Shape := ⟨3, ![8192, 8, 64]⟩
abbrev S8192x2x64 : Shape := ⟨3, ![8192, 2, 64]⟩
abbrev S8192x512 : Shape := ⟨2, ![8192, 512]⟩
abbrev S8192x1x2x64 : Shape := ⟨4, ![8192, 1, 2, 64]⟩
abbrev S8192x4x2x64 : Shape := ⟨4, ![8192, 4, 2, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x8192x64 : Shape := ⟨3, ![8, 8192, 64]⟩
abbrev S8x8192x128 : Shape := ⟨3, ![8, 8192, 128]⟩
abbrev S8192x128 : Shape := ⟨2, ![8192, 128]⟩
abbrev S4x128x8192 : Shape := ⟨3, ![4, 128, 8192]⟩
abbrev S1024x128 : Shape := ⟨2, ![1024, 128]⟩
abbrev S2x1024x128 : Shape := ⟨3, ![2, 1024, 128]⟩
abbrev S1x128x1024 : Shape := ⟨3, ![1, 128, 1024]⟩
abbrev S128x1024 : Shape := ⟨2, ![128, 1024]⟩
abbrev S2x1024x1024 : Shape := ⟨3, ![2, 1024, 1024]⟩
abbrev S1024x1024 : Shape := ⟨2, ![1024, 1024]⟩
abbrev S1x1024x1024 : Shape := ⟨3, ![1, 1024, 1024]⟩
abbrev S1x1024x128 : Shape := ⟨3, ![1, 1024, 128]⟩

abbrev nBuf : Space → Nat
  | .hbm => 66
  | .vmem => 24
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x512, .f32⟩
  | .hbm, ⟨4, _⟩ => ⟨S8192x1x2x64, .f32⟩
  | .hbm, ⟨5, _⟩ => ⟨S8192x4x2x64, .f32⟩
  | .hbm, ⟨6, _⟩ => ⟨S8192x8x64, .f32⟩
  | .hbm, ⟨7, _⟩ => ⟨S8x8192x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8192x1x2x64, .f32⟩
  | .hbm, ⟨26, _⟩ => ⟨S8192x4x2x64, .f32⟩
  | .hbm, ⟨27, _⟩ => ⟨S8192x8x64, .f32⟩
  | .hbm, ⟨28, _⟩ => ⟨S8x8192x64, .f32⟩
  | .hbm, ⟨29, _⟩ => ⟨S8x8192x1, .f32⟩
  | .hbm, ⟨30, _⟩ => ⟨S8x8192x1, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x8192x1, .f32⟩
  | .hbm, ⟨36, _⟩ => ⟨S8x8192x1, .f32⟩
  | .hbm, ⟨37, _⟩ => ⟨S8x8192x128, .f32⟩
  | .hbm, ⟨38, _⟩ => ⟨S8192x8x64, .f32⟩
  | .hbm, ⟨39, _⟩ => ⟨S8x8192x64, .f32⟩
  | .hbm, ⟨40, _⟩ => ⟨S8x8192x64, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192x8x64, .f32⟩
  | .hbm, ⟨55, _⟩ => ⟨S8192x8x64, .f32⟩
  | .hbm, ⟨56, _⟩ => ⟨S8192x512, .f32⟩
  | .hbm, ⟨57, _⟩ => ⟨S8192x512, .bf16⟩
  | .hbm, ⟨58, _⟩ => ⟨S8192x128, .f32⟩
  | .hbm, ⟨59, _⟩ => ⟨S8192x128, .bf16⟩
  | .hbm, ⟨60, _⟩ => ⟨S8192x128, .f32⟩
  | .hbm, ⟨61, _⟩ => ⟨S8192x128, .bf16⟩
  | .hbm, ⟨62, _⟩ => ⟨S8192x512, .bf16⟩
  | .hbm, ⟨63, _⟩ => ⟨S8192x512, .f32⟩
  | .hbm, ⟨64, _⟩ => ⟨S4x128x8192, .bf16⟩
  | .hbm, ⟨65, _⟩ => ⟨S4x128x8192, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S2x1024x128, .f32⟩
  | .local _ .vmem, ⟨9, _⟩ => ⟨S2x1024x128, .f32⟩
  | .local _ .vmem, ⟨10, _⟩ => ⟨S2x1024x128, .f32⟩
  | .local _ .vmem, ⟨11, _⟩ => ⟨S2x1024x128, .f32⟩
  | .local _ .vmem, ⟨12, _⟩ => ⟨S8192x128, .f32⟩
  | .local _ .vmem, ⟨13, _⟩ => ⟨S8192x128, .f32⟩
  | .local _ .vmem, ⟨14, _⟩ => ⟨S1x128x1024, .bf16⟩
  | .local _ .vmem, ⟨15, _⟩ => ⟨S1x128x1024, .bf16⟩
  | .local _ .vmem, ⟨16, _⟩ => ⟨S1x128x1024, .bf16⟩
  | .local _ .vmem, ⟨17, _⟩ => ⟨S1x128x1024, .bf16⟩
  | .local _ .vmem, ⟨18, _⟩ => ⟨S128x1024, .f32⟩
  | .local _ .vmem, ⟨19, _⟩ => ⟨S128x1024, .f32⟩
  | .local _ .vmem, ⟨20, _⟩ => ⟨S2x1024x1024, .f32⟩
  | .local _ .vmem, ⟨21, _⟩ => ⟨S2x1024x1024, .f32⟩
  | .local _ .vmem, ⟨22, _⟩ => ⟨S2x1024x1024, .bf16⟩
  | .local _ .vmem, ⟨23, _⟩ => ⟨S2x1024x1024, .bf16⟩
  | _, _ => ⟨S8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48_0 : Ref sig .tc := ⟨.hbm, 63, rfl⟩
abbrev main_v48_1 : Ref sig .tc := ⟨.hbm, 64, rfl⟩
abbrev main_v48_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v348 : BitVec 32 := Scalar.muli arg2 c1024_i32
  v348
def k0_cond2 (i : grid0.Coords) : BitVec 1 :=
  let arg1 : BitVec 32 := BitVec.ofNat 32 (i 1).val
  let c0_i32_267 : BitVec 32 := 0#32
  let v351 : BitVec 1 := Scalar.cmpi .eq arg1 c0_i32_267
  let v352 : BitVec 32 := Scalar.extui v351
  let c0_i32_268 : BitVec 32 := 0#32
  let v353 : BitVec 1 := Scalar.cmpi .ne v352 c0_i32_268
  v353

def k0_off1 (i : grid0.Coords) : Fin 2 → Nat :=
  let arg2 : BitVec 32 := BitVec.ofNat 32 (i 2).val
  let c1024_i32 : BitVec 32 := 1024#32
  let v348 : BitVec 32 := Scalar.muli arg2 c1024_i32
  let v349 : BitVec 32 := v348
  let v360 : Index := Scalar.indexCast v349
  let c0_272 : Index := 0#32
  ![v360.toNat, 0]
def k0_cond3 (i : grid0.Coords) : BitVec 1 :=
  let arg1 : BitVec 32 := BitVec.ofNat 32 (i 1).val
  let c0_i32_269 : BitVec 32 := 0#32
  let v354 : BitVec 1 := Scalar.cmpi .sgt arg1 c0_i32_269
  let v355 : BitVec 32 := Scalar.extui v354
  let c0_i32_270 : BitVec 32 := 0#32
  let v356 : BitVec 1 := Scalar.cmpi .ne v355 c0_i32_270
  v356

def k0_off2 (i : grid0.Coords) : Fin 2 → Nat :=
  let arg2 : BitVec 32 := BitVec.ofNat 32 (i 2).val
  let c1024_i32 : BitVec 32 := 1024#32
  let v348 : BitVec 32 := Scalar.muli arg2 c1024_i32
  let v349 : BitVec 32 := v348
  let v360 : Index := Scalar.indexCast v349
  let c0_272 : Index := 0#32
  ![v360.toNat, 0]
def k0_cond4 (i : grid0.Coords) : BitVec 1 :=
  let arg2 : BitVec 32 := BitVec.ofNat 32 (i 2).val
  let c7_i32 : BitVec 32 := 7#32
  let v357 : BitVec 1 := Scalar.cmpi .eq arg2 c7_i32
  let v358 : BitVec 32 := Scalar.extui v357
  let c0_i32_271 : BitVec 32 := 0#32
  let v359 : BitVec 1 := Scalar.cmpi .ne v358 c0_i32_271
  v359

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S2x1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceGqaIdeal.lean ====
abbrev S8192x8x64 : Shape := ⟨3, ![8192, 8, 64]⟩
abbrev S8192x2x64 : Shape := ⟨3, ![8192, 2, 64]⟩
abbrev S8192x512 : Shape := ⟨2, ![8192, 512]⟩
abbrev S8192x1x2x64 : Shape := ⟨4, ![8192, 1, 2, 64]⟩
abbrev S8192x4x2x64 : Shape := ⟨4, ![8192, 4, 2, 64]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x64 : Shape := ⟨3, ![8, 8192, 64]⟩
abbrev S8192x4x128 : Shape := ⟨3, ![8192, 4, 128]⟩
abbrev S4x128x8192 : Shape := ⟨3, ![4, 128, 8192]⟩

abbrev nBuf : Space → Nat
  | .hbm => 96
  | .vmem => 0
  | .smem => 0
  | _ => 0

abbrev bufTy : (tb : Table) → Fin (tcTables nBuf tb) → BufTy
  | .hbm, ⟨0, _⟩ => ⟨S8192x8x64, .f32⟩
  | .hbm, ⟨1, _⟩ => ⟨S8192x2x64, .f32⟩
  | .hbm, ⟨2, _⟩ => ⟨S8192x2x64, .f32⟩
  | .hbm, ⟨3, _⟩ => ⟨S8192x512, .f32⟩
  | .hbm, ⟨4, _⟩ => ⟨S8192x1x2x64, .f32⟩
  | .hbm, ⟨5, _⟩ => ⟨S8192x4x2x64, .f32⟩
  | .hbm, ⟨6, _⟩ => ⟨S8192x8x64, .f32⟩
  | .hbm, ⟨7, _⟩ => ⟨S8192x1x2x64, .f32⟩
  | .hbm, ⟨8, _⟩ => ⟨S8192x4x2x64, .f32⟩
  | .hbm, ⟨9, _⟩ => ⟨S8192x8x64, .f32⟩
  | .hbm, ⟨10, _⟩ => ⟨S8x8192x8192, .f32⟩
  | .hbm, ⟨11, _⟩ => ⟨S_, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .i1⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S_, .f32⟩
  | .hbm, ⟨24, _⟩ => ⟨S8x8192, .f32⟩
  | .hbm, ⟨25, _⟩ => ⟨S8x8192, .f32⟩
  | .hbm, ⟨26, _⟩ => ⟨S_, .f32⟩
  | .hbm, ⟨27, _⟩ => ⟨S8x8192, .f32⟩
  | .hbm, ⟨28, _⟩ => ⟨S8x8192, .i1⟩
  | .hbm, ⟨29, _⟩ => ⟨S_, .f32⟩
  | .hbm, ⟨30, _⟩ => ⟨S8x8192, .f32⟩
  | .hbm, ⟨31, _⟩ => ⟨S8x8192, .i1⟩
  | .hbm, ⟨32, _⟩ => ⟨S_, .f32⟩
  | .hbm, ⟨33, _⟩ => ⟨S8x8192, .f32⟩
  | .hbm, ⟨34, _⟩ => ⟨S_, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .f32⟩
  | .hbm, ⟨39, _⟩ => ⟨S8x8192, .f32⟩
  | .hbm, ⟨40, _⟩ => ⟨S8x8192x1, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S_, .f32⟩
  | .hbm, ⟨45, _⟩ => ⟨S8x8192, .f32⟩
  | .hbm, ⟨46, _⟩ => ⟨S8x8192x1, .f32⟩
  | .hbm, ⟨47, _⟩ => ⟨S8x8192x8192, .f32⟩
  | .hbm, ⟨48, _⟩ => ⟨S8x8192x8192, .f32⟩
  | .hbm, ⟨49, _⟩ => ⟨S8x8192x1, .f32⟩
  | .hbm, ⟨50, _⟩ => ⟨S_, .f32⟩
  | .hbm, ⟨51, _⟩ => ⟨S8x8192x1, .f32⟩
  | .hbm, ⟨52, _⟩ => ⟨S8x8192x1, .f32⟩
  | .hbm, ⟨53, _⟩ => ⟨S8x64x8192, .f32⟩
  | .hbm, ⟨54, _⟩ => ⟨S8192x8x64, .f32⟩
  | .hbm, ⟨55, _⟩ => ⟨S8192x512, .f32⟩
  | .hbm, ⟨56, _⟩ => ⟨S8192x8x64, .f32⟩
  | .hbm, ⟨57, _⟩ => ⟨S8x64x8192, .f32⟩
  | .hbm, ⟨58, _⟩ => ⟨S8x8192x8192, .f32⟩
  | .hbm, ⟨59, _⟩ => ⟨S8x64x8192, .f32⟩
  | .hbm, ⟨60, _⟩ => ⟨S8192x8x64, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S8x8192, .f32⟩
  | .hbm, ⟨66, _⟩ => ⟨S8x8192x1, .f32⟩
  | .hbm, ⟨67, _⟩ => ⟨S8x8192x1, .f32⟩
  | .hbm, ⟨68, _⟩ => ⟨S8x8192x8192, .f32⟩
  | .hbm, ⟨69, _⟩ => ⟨S8x8192x8192, .f32⟩
  | .hbm, ⟨70, _⟩ => ⟨S_, .f32⟩
  | .hbm, ⟨71, _⟩ => ⟨S8x8192, .f32⟩
  | .hbm, ⟨72, _⟩ => ⟨S8x8192x8192, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S8x8192x64, .f32⟩
  | .hbm, ⟨78, _⟩ => ⟨S8192x8x64, .f32⟩
  | .hbm, ⟨79, _⟩ => ⟨S8x8192x64, .f32⟩
  | .hbm, ⟨80, _⟩ => ⟨S8192x8x64, .f32⟩
  | .hbm, ⟨81, _⟩ => ⟨S_, .f32⟩
  | .hbm, ⟨82, _⟩ => ⟨S_, .f32⟩
  | .hbm, ⟨83, _⟩ => ⟨S8192x8x64, .f32⟩
  | .hbm, ⟨84, _⟩ => ⟨S8192x8x64, .f32⟩
  | .hbm, ⟨85, _⟩ => ⟨S8192x512, .f32⟩
  | .hbm, ⟨86, _⟩ => ⟨S_, .f32⟩
  | .hbm, ⟨87, _⟩ => ⟨S_, .f32⟩
  | .hbm, ⟨88, _⟩ => ⟨S8192x8x64, .f32⟩
  | .hbm, ⟨89, _⟩ => ⟨S8192x8x64, .f32⟩
  | .hbm, ⟨90, _⟩ => ⟨S8192x4x128, .f32⟩
  | .hbm, ⟨91, _⟩ => ⟨S4x128x8192, .f32⟩
  | .hbm, ⟨92, _⟩ => ⟨S8192x4x128, .f32⟩
  | .hbm, ⟨93, _⟩ => ⟨S4x128x8192, .f32⟩
  | .hbm, ⟨94, _⟩ => ⟨S4x128x8192, .bf16⟩
  | .hbm, ⟨95, _⟩ => ⟨S4x128x8192, .bf16⟩
  | _, _ => ⟨S8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_13 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== KernelDh.lean ====
abbrev S8192x1024 : Shape := ⟨2, ![8192, 1024]⟩
abbrev S4096x1024 : Shape := ⟨2, ![4096, 1024]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S8192x1024, .bf16⟩
  | .hbm, ⟨4, _⟩ => ⟨S4096x1024, .bf16⟩
  | .hbm, ⟨5, _⟩ => ⟨S8192x4096, .bf16⟩
  | .hbm, ⟨6, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDhIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== KernelDu.lean ====
abbrev S8192x4096 : Shape := ⟨2, ![8192, 4096]⟩
abbrev S1024x4096 : Shape := ⟨2, ![1024, 4096]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S8192x4096, .bf16⟩
  | .hbm, ⟨3, _⟩ => ⟨S1024x4096, .bf16⟩
  | .hbm, ⟨4, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDuIdeal.lean ====
abbrev S8192x4096 : Shape := ⟨2, ![8192, 4096]⟩
abbrev S1024x4096 : Shape := ⟨2, ![1024, 4096]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S_, .f32⟩
  | .hbm, ⟨3, _⟩ => ⟨S8192x1024, .f32⟩
  | .hbm, ⟨4, _⟩ => ⟨S8192x4096, .f32⟩
  | .hbm, ⟨5, _⟩ => ⟨S8192x1024, .f32⟩
  | .hbm, ⟨6, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwDown.lean ====
abbrev S8192x4096 : Shape := ⟨2, ![8192, 4096]⟩
abbrev S8192x1024 : Shape := ⟨2, ![8192, 1024]⟩
abbrev S4x4096x1024 : Shape := ⟨3, ![4, 4096, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4x4096x1024, .f32⟩
  | .hbm, ⟨3, _⟩ => ⟨S8192x4096, .bf16⟩
  | .hbm, ⟨4, _⟩ => ⟨S8192x1024, .bf16⟩
  | .hbm, ⟨5, _⟩ => ⟨S4x4096x1024, .bf16⟩
  | .hbm, ⟨6, _⟩ => ⟨S4x4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwDownIdeal.lean ====
abbrev S8192x4096 : Shape := ⟨2, ![8192, 4096]⟩
abbrev S8192x1024 : Shape := ⟨2, ![8192, 1024]⟩
abbrev S4x4096x1024 : Shape := ⟨3, ![4, 4096, 1024]⟩
abbrev S_ : Shape := ⟨0, ![]⟩
abbrev S4096x1024 : Shape := ⟨2, ![4096, 1024]⟩
abbrev S1024x4096 : Shape := ⟨2, ![1024, 4096]⟩
abbrev S3x4096x1024 : Shape := ⟨3, ![3, 4096, 1024]⟩
abbrev S1x4096x1024 : Shape := ⟨3, ![1, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4x4096x1024, .f32⟩
  | .hbm, ⟨3, _⟩ => ⟨S_, .f32⟩
  | .hbm, ⟨4, _⟩ => ⟨S4096x1024, .f32⟩
  | .hbm, ⟨5, _⟩ => ⟨S8192x1024, .f32⟩
  | .hbm, ⟨6, _⟩ => ⟨S1024x4096, .f32⟩
  | .hbm, ⟨7, _⟩ => ⟨S4096x1024, .f32⟩
  | .hbm, ⟨8, _⟩ => ⟨S3x4096x1024, .f32⟩
  | .hbm, ⟨9, _⟩ => ⟨S1x4096x1024, .f32⟩
  | .hbm, ⟨10, _⟩ => ⟨S4x4096x1024, .f32⟩
  | .hbm, ⟨11, _⟩ => ⟨S4x4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelDwUp.lean ====
abbrev S8192x1024 : Shape := ⟨2, ![8192, 1024]⟩
abbrev S8192x4096 : Shape := ⟨2, ![8192, 4096]⟩
abbrev S4x1024x4096 : Shape := ⟨3, ![4, 1024, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4x1024x4096, .f32⟩
  | .hbm, ⟨3, _⟩ => ⟨S8192x1024, .bf16⟩
  | .hbm, ⟨4, _⟩ => ⟨S8192x4096, .bf16⟩
  | .hbm, ⟨5, _⟩ => ⟨S4x1024x4096, .bf16⟩
  | .hbm, ⟨6, _⟩ => ⟨S4x1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwUpIdeal.lean ====
abbrev S8192x1024 : Shape := ⟨2, ![8192, 1024]⟩
abbrev S8192x4096 : Shape := ⟨2, ![8192, 4096]⟩
abbrev S4x1024x4096 : Shape := ⟨3, ![4, 1024, 4096]⟩
abbrev S_ : Shape := ⟨0, ![]⟩
abbrev S1024x4096 : Shape := ⟨2, ![1024, 4096]⟩
abbrev S4096x1024 : Shape := ⟨2, ![4096, 1024]⟩
abbrev S3x1024x4096 : Shape := ⟨3, ![3, 1024, 4096]⟩
abbrev S1x1024x4096 : Shape := ⟨3, ![1, 1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4x1024x4096, .f32⟩
  | .hbm, ⟨3, _⟩ => ⟨S_, .f32⟩
  | .hbm, ⟨4, _⟩ => ⟨S1024x4096, .f32⟩
  | .hbm, ⟨5, _⟩ => ⟨S8192x4096, .f32⟩
  | .hbm, ⟨6, _⟩ => ⟨S4096x1024, .f32⟩
  | .hbm, ⟨7, _⟩ => ⟨S1024x4096, .f32⟩
  | .hbm, ⟨8, _⟩ => ⟨S3x1024x4096, .f32⟩
  | .hbm, ⟨9, _⟩ => ⟨S1x1024x4096, .f32⟩
  | .hbm, ⟨10, _⟩ => ⟨S4x1024x4096, .f32⟩
  | .hbm, ⟨11, _⟩ => ⟨S4x1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelDz.lean ====
abbrev S8192x3584 : Shape := ⟨2, ![8192, 3584]⟩
abbrev S1024x3584 : Shape := ⟨2, ![1024, 3584]⟩
abbrev S8192x1024 : Shape := ⟨2, ![8192, 1024]⟩
abbrev S1024x1792 : Shape := ⟨2, ![1024, 1792]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x3584, .f32⟩
  | .hbm, ⟨1, _⟩ => ⟨S1024x3584, .f32⟩
  | .hbm, ⟨2, _⟩ => ⟨S8192x3584, .bf16⟩
  | .hbm, ⟨3, _⟩ => ⟨S1024x3584, .bf16⟩
  | .hbm, ⟨4, _⟩ => ⟨S8192x1024, .bf16⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDzIdeal.lean ====
abbrev S8192x3584 : Shape := ⟨2, ![8192, 3584]⟩
abbrev S1024x3584 : Shape := ⟨2, ![1024, 3584]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S1024x3584, .f32⟩
  | .hbm, ⟨2, _⟩ => ⟨S_, .f32⟩
  | .hbm, ⟨3, _⟩ => ⟨S8192x1024, .f32⟩
  | .hbm, ⟨4, _⟩ => ⟨S8192x3584, .f32⟩
  | .hbm, ⟨5, _⟩ => ⟨S8192x1024, .f32⟩
  | .hbm, ⟨6, _⟩ => ⟨S8192x1024, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDwIn.lean ====
abbrev S8192x1024 : Shape := ⟨2, ![8192, 1024]⟩
abbrev S8192x3584 : Shape := ⟨2, ![8192, 3584]⟩
abbrev S4x1024x3584 : Shape := ⟨3, ![4, 1024, 3584]⟩
abbrev S2048x1024 : Shape := ⟨2, ![2048, 1024]⟩
abbrev S2048x896 : Shape := ⟨2, ![2048, 896]⟩
abbrev S1x1024x896 : Shape := ⟨3, ![1, 1024, 896]⟩
abbrev S1024x896 : Shape := ⟨2, ![1024, 896]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3584, .f32⟩
  | .hbm, ⟨2, _⟩ => ⟨S4x1024x3584, .f32⟩
  | .hbm, ⟨3, _⟩ => ⟨S8192x1024, .bf16⟩
  | .hbm, ⟨4, _⟩ => ⟨S8192x3584, .bf16⟩
  | .hbm, ⟨5, _⟩ => ⟨S4x1024x3584, .bf16⟩
  | .hbm, ⟨6, _⟩ => ⟨S4x1024x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x896, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDwInIdeal.lean ====
abbrev S8192x1024 : Shape := ⟨2, ![8192, 1024]⟩
abbrev S8192x3584 : Shape := ⟨2, ![8192, 3584]⟩
abbrev S4x1024x3584 : Shape := ⟨3, ![4, 1024, 3584]⟩
abbrev S_ : Shape := ⟨0, ![]⟩
abbrev S1024x3584 : Shape := ⟨2, ![1024, 3584]⟩
abbrev S3584x1024 : Shape := ⟨2, ![3584, 1024]⟩
abbrev S3x1024x3584 : Shape := ⟨3, ![3, 1024, 3584]⟩
abbrev S1x1024x3584 : Shape := ⟨3, ![1, 1024, 3584]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3584, .f32⟩
  | .hbm, ⟨2, _⟩ => ⟨S4x1024x3584, .f32⟩
  | .hbm, ⟨3, _⟩ => ⟨S_, .f32⟩
  | .hbm, ⟨4, _⟩ => ⟨S1024x3584, .f32⟩
  | .hbm, ⟨5, _⟩ => ⟨S8192x3584, .f32⟩
  | .hbm, ⟨6, _⟩ => ⟨S3584x1024, .f32⟩
  | .hbm, ⟨7, _⟩ => ⟨S1024x3584, .f32⟩
  | .hbm, ⟨8, _⟩ => ⟨S3x1024x3584, .f32⟩
  | .hbm, ⟨9, _⟩ => ⟨S1x1024x3584, .f32⟩
  | .hbm, ⟨10, _⟩ => ⟨S4x1024x3584, .f32⟩
  | .hbm, ⟨11, _⟩ => ⟨S4x1024x3584, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Keeps.lean ====
module

public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] {nD : ℕ} {τ : Topo} {sig : RefSig} {Λ₀ : Labels} (defs₀ : Defs nD τ sig (Elt F) Λ₀)

local notation "𝕄" => MT nD τ sig Unit (Elt F) ℕ (UR sig nD τ) ℕ

variable (c : Dev nD)

/-! ## Programs that give back what they hold

The frame asks nothing of the values, so the body need only be known to give back the buffers it is lent: its inputs at the
values they had, everything it writes at some value. `Keeps H p` says that of a program `p` and the buffers `H`. -/

/-- The program gives back what it holds, whatever it returns. -/
@[irreducible] def Keeps (H : sProp 𝕄) {α : Type} (p : Prog (TpuEff nD τ sig (Elt F) Λ₀ .tc) α) : Prop :=
  ∀ (E : Set ℕ) (K : α → sProp 𝕄), iprop(H ∗ (∀ r, H -∗ K r)) ⊢ wp frame (wpE defs₀ Variants.none (c : Thread nD τ) none) E p K

/-- A buffer can be read out of what is held. -/
def Reads (H : sProp 𝕄) {s : Shape} {e : EltTy} (m : Memref sig .tc .vmem s e) : Prop :=
  H ⊢ iprop(∃ d, owns (c : Thread nD τ) m fullShare d ∗ (owns (c : Thread nD τ) m fullShare d -∗ H))

/-- A buffer can be written: what is held does not fix its contents. -/
def Writes (H : sProp 𝕄) {s : Shape} {e : EltTy} (m : Memref sig .tc .vmem s e) : Prop :=
  H ⊢ iprop(∃ d, owns (c : Thread nD τ) m fullShare d ∗ (∀ d', owns (c : Thread nD τ) m fullShare d' -∗ H))

variable {defs₀} {c}
variable {H H' : sProp (MT nD τ sig Unit (Elt F) ℕ (UR sig nD τ) ℕ)} {s : Shape} {e : EltTy} {m : Memref sig .tc .vmem s e} {α β : Type}

theorem Writes.reads (h : Writes c H m) : Reads c H m := h.trans (by
  iintro ⟨%d, Hd, Hk⟩
  iexists d
  isplitl [Hd]; · iexact Hd
  iintro Hd
  iapply Hk $$ Hd)

theorem reads_self {x : s.Idx → Elt F e} : Reads c (owns (c : Thread nD τ) m fullShare x) m := by
  unfold Reads
  iintro Hd
  iexists x
  isplitl [Hd]; · iexact Hd
  iintro Hd
  iexact Hd

theorem writes_self : Writes (F := F) c iprop(∃ d, owns (c : Thread nD τ) m fullShare d) m := by
  unfold Writes
  iintro ⟨%x, Hd⟩
  iexists x
  isplitl [Hd]; · iexact Hd
  iintro %d Hd
  iexists d
  iexact Hd

theorem Reads.left (h : Reads c H m) : Reads c iprop(H ∗ H') m := by
  refine (sep_mono h .rfl).trans ?_
  iintro ⟨⟨%x, Hd, Hk⟩, Hr⟩
  iexists x
  isplitl [Hd]; · iexact Hd
  iintro Hd
  isplitl [Hd Hk]; · iapply Hk $$ Hd
  iexact Hr

theorem Reads.right (h : Reads c H' m) : Reads c iprop(H ∗ H') m := by
  refine (sep_mono .rfl h).trans ?_
  iintro ⟨Hr, ⟨%x, Hd, Hk⟩⟩
  iexists x
  isplitl [Hd]; · iexact Hd
  iintro Hd
  isplitl [Hr]; · iexact Hr
  iapply Hk $$ Hd

theorem Writes.left (h : Writes c H m) : Writes c iprop(H ∗ H') m := by
  refine (sep_mono h .rfl).trans ?_
  iintro ⟨⟨%x, Hd, Hk⟩, Hr⟩
  iexists x
  isplitl [Hd]; · iexact Hd
  iintro %d Hd
  isplitl [Hd Hk]; · iapply Hk $$ %d Hd
  iexact Hr

theorem Writes.right (h : Writes c H' m) : Writes c iprop(H ∗ H') m := by
  refine (sep_mono .rfl h).trans ?_
  iintro ⟨Hr, ⟨%x, Hd, Hk⟩⟩
  iexists x
  isplitl [Hd]; · iexact Hd
  iintro %d Hd
  isplitl [Hr]; · iexact Hr
  iapply Hk $$ %d Hd

theorem Keeps.pure (a : α) : Keeps defs₀ c H (Pure.pure a : Prog (TpuEff nD τ sig (Elt F) Λ₀ .tc) α) := by
  unfold Keeps; intro E K
  rw [wp_pure]
  iintro ⟨Hh, Hk⟩
  imodintro
  iapply Hk $$ %a Hh

theorem Keeps.bind {p : Prog (TpuEff nD τ sig (Elt F) Λ₀ .tc) α} {k : α → Prog (TpuEff nD τ sig (Elt F) Λ₀ .tc) β}
    (hp : Keeps defs₀ c H p) (hk : ∀ a, Keeps defs₀ c H (k a)) : Keeps defs₀ c H (p >>= k) := by
  unfold Keeps; intro E K
  rw [wp_bind]
  unfold Keeps at hp
  refine (sep_mono .rfl ?_).trans (hp E _)
  iintro Hk %r Hh
  have hk := hk r
  unfold Keeps at hk
  iapply (hk E K)
  isplitl [Hh]; · iexact Hh
  iexact Hk

theorem Keeps.dite {P : Prop} [Decidable P] {p : P → Prog (TpuEff nD τ sig (Elt F) Λ₀ .tc) α} {q : ¬ P → Prog (TpuEff nD τ sig (Elt F) Λ₀ .tc) α}
    (hp : ∀ h, Keeps defs₀ c H (p h)) (hq : ∀ h, Keeps defs₀ c H (q h)) : Keeps defs₀ c H (if h : P then p h else q h) := by
  by_cases h : P
  · rw [dif_pos h]; exact hp h
  · rw [dif_neg h]; exact hq h

theorem Keeps.load {r : Rect s} {hl : m.view.LoadsAt r.toLoadRect} (h : Reads c H m) :
    Keeps defs₀ c H (Prog.lift (.load m r.toLoadRect hl) : Prog (TpuEff nD τ sig (Elt F) Λ₀ .tc) _) := by
  unfold Keeps; intro E K
  refine (sep_mono h .rfl).trans ?_
  unfold owns
  iintro ⟨⟨%d, ⟨%f, %hf, Hd⟩, Hh⟩, Hk⟩
  iapply (wp_load_rect Variants.none (c : Thread nD τ) none E (View.set_slice_subset m.view r)) $$ Hd
  iintro Hd
  rw [wp_ret]
  imodintro
  iapply Hk
  iapply Hh
  iexists f
  isplitr; · ipureintro; exact hf
  iexact Hd

theorem Keeps.store {r : Rect s} {w : r.shape.Idx → Elt F e} {hx : (m.access r).Stores Finset.univ} {hm} (h : Writes c H m) :
    Keeps defs₀ c H (Prog.lift (.store m r w Finset.univ hx hm) : Prog (TpuEff nD τ sig (Elt F) Λ₀ .tc) _) := by
  unfold Keeps; intro E K
  refine (sep_mono h .rfl).trans ?_
  unfold owns
  iintro ⟨⟨%d, ⟨%f, %hf, Hd⟩, Hh⟩, Hk⟩
  iapply (wp_store Variants.none (c : Thread nD τ) none E (View.set_slice_subset m.view r)) $$ Hd
  iintro Hd
  rw [wp_ret]
  imodintro
  iapply Hk
  iapply Hh
  iexists _
  isplitr; swap
  · iexact Hd
  · ipureintro; rfl

end Cert.Held

end
-- ==== Proof.BodyKeeps.lean ====
module

public import proofs.«01_k».proof.Proof.Gen.KernelIdeal.Frame
public import proofs.«01_k».proof.Proof.Gen.KernelIdeal.Skeleton
public import proofs.«01_k».proof.Proof.Keeps
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.MlaBwd.Any

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Held

variable {F : FTy → Type} [FloatOps F]

local notation "𝕄" => MT nD τ sig Unit (Elt F) ℕ (UR sig nD τ) ℕ

variable (c : Dev nD)

/-! ## The body gives back what it holds -/

variable (arg3 : Memref sig .tc .vmem S1024x256 .bf16) (arg4 : Memref sig .tc .vmem S1024x256 .bf16) (arg5 : Memref sig .tc .vmem S1024x128 .bf16) (arg6 : Memref sig .tc .vmem S1024x128 .bf16) (arg7 : Memref sig .tc .vmem S2x1024x128 .f32) (arg8 : Memref sig .tc .vmem S2x1024x128 .f32) (arg9 : Memref sig .tc .vmem S8192x256 .f32) (arg10 : Memref sig .tc .vmem S256x1024 .bf16) (arg11 : Memref sig .tc .vmem S128x1024 .bf16) (arg12 : Memref sig .tc .vmem S256x1024 .f32) (arg13 : Memref sig .tc .vmem S128x1024 .f32) (arg14 : Memref sig .tc .vmem S2x1024x1024 .f32) (arg15 : Memref sig .tc .vmem S2x1024x1024 .f32) (arg16 : Memref sig .tc .vmem S2x1024x1024 .bf16) (arg17 : Memref sig .tc .vmem S2x1024x1024 .bf16)
variable (x0 : Vec F S1024x256 .bf16) (x1 : Vec F S1024x256 .bf16) (x2 : Vec F S1024x128 .bf16) (x3 : Vec F S1024x128 .bf16) (x4 : Vec F S2x1024x128 .f32) (x5 : Vec F S2x1024x128 .f32)

/-- What the body holds: its six inputs at their values, its three results and six scratch buffers at anything. -/
def Held : sProp (MT nD τ sig Unit (Elt F) ℕ (UR sig nD τ) ℕ) :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))

variable (i : grid0.Coords) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole)

set_option maxHeartbeats 4000000 in
theorem body_keeps : Keeps (defs₀ (F := F)) c (Held c arg3 arg4 arg5 arg6 arg7 arg8 arg9 arg10 arg11 arg12 arg13 arg14 arg15 arg16 arg17 x0 x1 x2 x3 x4 x5) (cc0_mla_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) := by
  rw [cc0_mla_bwd_eq_skeleton]
  unfold cc0_mla_bwd_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  unfold Held
  repeat' first
    | with_reducible exact reads_self
    | with_reducible exact writes_self
    | with_reducible exact writes_self.reads
    | with_reducible exact reads_self.left
    | with_reducible exact writes_self.left
    | with_reducible exact writes_self.left.reads
    | apply Keeps.pure
    | apply Keeps.load
    | apply Keeps.store
    | apply Keeps.dite
    | apply Keeps.bind
    | with_reducible apply Reads.right
    | with_reducible apply Writes.right
    | intro _
    | split

end Cert.MlaBwd.Any

end
-- ==== Proof.AnyRun.lean ====
module

public import proofs.«01_k».proof.Proof.BodyKeeps

@[expose] public section

set_option maxRecDepth 16384

noncomputable section

namespace Cert.MlaBwd.Any

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Held

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run over any float values -/

abbrev sc0 : Memref sig .tc .vmem S256x1024 .f32 := Memref.whole cc0_scratch0
abbrev sc1 : Memref sig .tc .vmem S128x1024 .f32 := Memref.whole cc0_scratch1
abbrev sc2 : Memref sig .tc .vmem S2x1024x1024 .f32 := Memref.whole cc0_scratch2
abbrev sc3 : Memref sig .tc .vmem S2x1024x1024 .f32 := Memref.whole cc0_scratch3
abbrev sc4 : Memref sig .tc .vmem S2x1024x1024 .bf16 := Memref.whole cc0_scratch4
abbrev sc5 : Memref sig .tc .vmem S2x1024x1024 .bf16 := Memref.whole cc0_scratch5

theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The results are the windows whose values are not followed. -/
def marked : Fin 9 → Bool := fun w => w.val == 6 || w.val == 7 || w.val == 8

/-- The proof data: each input's block in place, the scratch buffers at anything. -/
def datA (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem datA_A (c : Dev nD) (w : Fin cfg0.W) : (datA m 0 c).A w = V m c (Pipeline.arrRef spec0 w) := by
  dsimp only [datA]

theorem after0 (c : Dev nD) (t : Fin cfg0.N) : (datA m 0 c).after 0 t = iblk m c 0 t := by dsimp only [datA]
theorem after1 (c : Dev nD) (t : Fin cfg0.N) : (datA m 0 c).after 1 t = iblk m c 1 t := by dsimp only [datA]
theorem after2 (c : Dev nD) (t : Fin cfg0.N) : (datA m 0 c).after 2 t = iblk m c 2 t := by dsimp only [datA]
theorem after3 (c : Dev nD) (t : Fin cfg0.N) : (datA m 0 c).after 3 t = iblk m c 3 t := by dsimp only [datA]
theorem after4 (c : Dev nD) (t : Fin cfg0.N) : (datA m 0 c).after 4 t = iblk m c 4 t := by dsimp only [datA]
theorem after5 (c : Dev nD) (t : Fin cfg0.N) : (datA m 0 c).after 5 t = iblk m c 5 t := by dsimp only [datA]
theorem before0 (c : Dev nD) (t : Fin cfg0.N) (d) : (datA m 0 c).before 0 t d = iblk m c 0 t := before0_0_of m (datA m 0 c) (datA_A m c 0) (after0 m c) t d
theorem before1 (c : Dev nD) (t : Fin cfg0.N) (d) : (datA m 0 c).before 1 t d = iblk m c 1 t := before0_1_of m (datA m 0 c) (datA_A m c 1) (after1 m c) t d
theorem before2 (c : Dev nD) (t : Fin cfg0.N) (d) : (datA m 0 c).before 2 t d = iblk m c 2 t := before0_2_of m (datA m 0 c) (datA_A m c 2) (after2 m c) t d
theorem before3 (c : Dev nD) (t : Fin cfg0.N) (d) : (datA m 0 c).before 3 t d = iblk m c 3 t := before0_3_of m (datA m 0 c) (datA_A m c 3) (after3 m c) t d
theorem before4 (c : Dev nD) (t : Fin cfg0.N) (d) : (datA m 0 c).before 4 t d = iblk m c 4 t := before0_4_of m (datA m 0 c) (datA_A m c 4) (after4 m c) t d
theorem before5 (c : Dev nD) (t : Fin cfg0.N) (d) : (datA m 0 c).before 5 t d = iblk m c 5 t := before0_5_of m (datA m 0 c) (datA_A m c 5) (after5 m c) t d

/-- Nothing is claimed of what the results' windows hold. -/
abbrev rdA (c : Dev nD) : Pipeline.RDat τ (Elt F) Unit ℕ (UR sig nD τ) ℕ cfg0 c := (datA m 0 c).toRRel marked fun _ _ _ => True

/-- The body at any point, over the windows one by one. -/
theorem sound_body (c : Dev nD) (t : Fin cfg0.N) :
    iprop((datA m 0 c).Φ t.castSucc ∗ (datA m 0 c).owesAt () t.castSucc
    ∗ (∃ d, owns (c : Thread nD τ) (st0_0 t) fullShare ((datA m 0 c).before 0 t d))
    ∗ (∃ d, owns (c : Thread nD τ) (st0_1 t) fullShare ((datA m 0 c).before 1 t d))
    ∗ (∃ d, owns (c : Thread nD τ) (st0_2 t) fullShare ((datA m 0 c).before 2 t d))
    ∗ (∃ d, owns (c : Thread nD τ) (st0_3 t) fullShare ((datA m 0 c).before 3 t d))
    ∗ (∃ d, owns (c : Thread nD τ) (st0_4 t) fullShare ((datA m 0 c).before 4 t d))
    ∗ (∃ d, owns (c : Thread nD τ) (st0_5 t) fullShare ((datA m 0 c).before 5 t d))
    ∗ (∃ Y, ⌜(rdA m c).Finds 6 t Y⌝ ∗ owns (c : Thread nD τ) (st0_6 t) fullShare Y)
    ∗ (∃ Y, ⌜(rdA m c).Finds 7 t Y⌝ ∗ owns (c : Thread nD τ) (st0_7 t) fullShare Y)
    ∗ (∃ Y, ⌜(rdA m c).Finds 8 t Y⌝ ∗ owns (c : Thread nD τ) (st0_8 t) fullShare Y))
      ⊢ wp frame (wpE (defs₀ (F := F)) Variants.none c none) Set.univ (bodyAt0 (F := F) t) (fun _ => iprop((datA m 0 c).Φ t.succ ∗ (datA m 0 c).owesAt () t.succ
    ∗ owns (c : Thread nD τ) (st0_0 t) fullShare ((datA m 0 c).after 0 t)
    ∗ owns (c : Thread nD τ) (st0_1 t) fullShare ((datA m 0 c).after 1 t)
    ∗ owns (c : Thread nD τ) (st0_2 t) fullShare ((datA m 0 c).after 2 t)
    ∗ owns (c : Thread nD τ) (st0_3 t) fullShare ((datA m 0 c).after 3 t)
    ∗ owns (c : Thread nD τ) (st0_4 t) fullShare ((datA m 0 c).after 4 t)
    ∗ owns (c : Thread nD τ) (st0_5 t) fullShare ((datA m 0 c).after 5 t)
    ∗ (∃ X, ⌜True⌝ ∗ owns (c : Thread nD τ) (st0_6 t) fullShare X)
    ∗ (∃ X, ⌜True⌝ ∗ owns (c : Thread nD τ) (st0_7 t) fullShare X)
    ∗ (∃ X, ⌜True⌝ ∗ owns (c : Thread nD τ) (st0_8 t) fullShare X))) := by
  unfold bodyAt0
  simp only [before0, before1, before2, before3, before4, before5, after0, after1, after2, after3, after4, after5]
  rw [show (datA m 0 c).owesAt () t.succ = (datA m 0 c).owesAt () t.castSucc from rfl]
  rw [show (datA m 0 c).Φ t.succ = Pipeline.ΦA spec0 c from rfl, show (datA m 0 c).Φ t.castSucc = Pipeline.ΦA spec0 c from rfl, PhiA_eq]
  have hb := body_keeps (F := F) c _ _ _ _ _ _ _ _ _ sc0 sc1 sc2 sc3 sc4 sc5 (iblk m c 0 t) (iblk m c 1 t) (iblk m c 2 t) (iblk m c 3 t) (iblk m c 4 t) (iblk m c 5 t) (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (Memref.isWhole_whole _) (Memref.isWhole_whole _) (Memref.isWhole_whole _) (Memref.isWhole_whole _) (Memref.isWhole_whole _) (Memref.isWhole_whole _)
  unfold Keeps Held at hb
  iintro ⟨⟨⟨H12, H13, H14, H15, H16, H17⟩, Hg⟩, Ho, ⟨%d0, H3⟩, ⟨%d1, H4⟩, ⟨%d2, H5⟩, ⟨%d3, H6⟩, ⟨%d4, H7⟩, ⟨%d5, H8⟩, ⟨%y9, -, H9⟩, ⟨%y10, -, H10⟩, ⟨%y11, -, H11⟩⟩
  iapply (hb Set.univ _)
  isplitl [H3 H4 H5 H6 H7 H8 H9 H10 H11 H12 H13 H14 H15 H16 H17]
  · isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [H13]; · iexact H13
    isplitl [H14]; · iexact H14
    isplitl [H15]; · iexact H15
    isplitl [H16]; · iexact H16
    iexact H17
  iintro %r ⟨H3, H4, H5, H6, H7, H8, ⟨%d9, H9⟩, ⟨%d10, H10⟩, ⟨%d11, H11⟩, H12, H13, H14, H15, H16, H17⟩
  isplitl [H12 H13 H14 H15 H16 H17 Hg]
  · isplitr [Hg]; swap; · iexact Hg
    isplitl [H12]; · iexact H12
    isplitl [H13]; · iexact H13
    isplitl [H14]; · iexact H14
    isplitl [H15]; · iexact H15
    isplitl [H16]; · iexact H16
    iexact H17
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap
    · iexact H9
    · ipureintro; trivial
  isplitl [H10]
  · iexists _; isplitr; swap
    · iexact H10
    · ipureintro; trivial
  iexists _; isplitr; swap
  · iexact H11
  · ipureintro; trivial

theorem row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : Pipeline.BodyObligationRel (datA m 0 c) (defs₀ (F := F)) Variants.none () Set.univ marked fun _ _ _ => True := fun t => by
  rw [bigSep_W0, bigSep_W0, row]
  exact triple_restated (sound_body m c t) rfl .rfl fun _ => .rfl

set_option backward.isDefEq.respectTransparency.types false in
/-- The launch: every run ends, with the arrays no window writes as they were and every semaphore counter at zero. -/
theorem run_main : θ_run defs (onTc (τ := τ) (main (F := F))) (s₀ m ρ)
    (fun r => Pipeline.RDat.FramePost (cfgs 0) (rdA m) (V m) r ∧ r.2.sem = fun _ => 0) :=
  Pipeline.RDat.θ_run_frame_track (Q' := _) cfgs (0 : Fin 1) launch0 defs₀ Variants.none (rdA m) m ρ main
    (hbody := fun c => (body_obligation m c).toRRel) (hshare := fun c => (datA m 0 c).share_full fun _ => rfl)
    (howed := fun _ _ => rfl) (V := V m) (hmain := hmain m Variants.none) (hA := datA_A m) (hin := fun _ => Idealize.SL.BI.Entails.refl _) (hout := fun _ => Idealize.SL.BI.Entails.refl _)
    (hQ' := fun _ h => h)

/-- Every run ends with the arguments as they were and every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.MlaBwd.Any

end
-- ==== Proof.Same.lean ====
module

public import proofs.«01_k».proof.Defs
public import proofs.«01_k».proof.Proof.Gen.Kernel
public import proofs.«01_k».proof.Proof.AnyRun

@[expose] public section

set_option maxRecDepth 16384

noncomputable section

namespace Cert.MlaBwd

open Idealize.ShloMosaic Idealize.SL.Sem

attribute [local instance] Cert.Kernel.Gen.facts Cert.KernelIdeal.Gen.facts

/-! ## The two programs of the kernel have the same text

The kernel printed for machine words and the kernel printed for the extended reals differ in their names alone, so the run over
any float values is a run of the first. -/

set_option maxHeartbeats 8000000

theorem body_same : Cert.Kernel.cc0_mla_bwd (F := Bits) = Cert.KernelIdeal.cc0_mla_bwd (F := Bits) := rfl

theorem bodies_same : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) (funext fun l => funext fun a => ?_)
  match l, a with
  | 0, (t, s) => rfl
  | ⟨_ + 1, h⟩, _ => exact absurd h (Nat.not_lt.2 (Nat.le_add_left _ _))

theorem defs_same : Cert.Kernel.defs (F := Bits) = Cert.KernelIdeal.defs (F := Bits) :=
  congrArg (Pipeline.defs (Cert.KernelIdeal.pcfgs (F := Bits))) bodies_same

theorem part_same : Cert.Kernel.main_part0 (F := Bits) = Cert.KernelIdeal.main_part0 (F := Bits) := rfl

theorem main_same : Cert.Kernel.main (F := Bits) = Cert.KernelIdeal.main (F := Bits) :=
  funext fun d => congrArg (fun p => p >>= fun _ => Cert.KernelIdeal.main_part1 (F := Bits) d) (congrFun part_same d)

/-- The kernel, read over machine words, runs, leaves its arguments unchanged and its semaphores at zero. -/
theorem frame_kernel : Cert.quiescent_Kernel (hKernel := Cert.Kernel.Gen.facts) := by
  intro m g _
  rw [defs_same, main_same]
  exact Any.run_frame (F := Bits) m g

end Cert.MlaBwd

end
-- ==== Proof.Vals.lean ====
module

public import proofs.«01_k».proof.Proof.Gen.KernelIdeal.Skeleton
public import Idealize.ShloMosaic.Lib.Pointwise
public import Idealize.ShloMosaic.PureOps.Ideal

@[expose] public section

noncomputable section

namespace Cert.MlaBwd

open Cert.KernelIdeal Cert.KernelIdeal.Gen Idealize.ShloMosaic

/-- Column `128 i + d` of a block that holds two heads of 128 columns each. -/
abbrev lane (i : Fin 2) (d : Fin 128) : Fin 256 := ⟨128 * i.val + d.val, by omega⟩

/-- The lane, of the 128 a row statistic is repeated over, that column `k` of a block reads. -/
abbrev wrap (k : Fin 1024) : Fin 128 := ⟨k.val % 128, Nat.mod_lt _ (by decide)⟩

/-- The scores of one tile: head `i`, query row `r`, key `k`. -/
def Sv (x0 x1 : Vec Ideal S1024x256 .bf16) : Vec Ideal S2x1024x1024 .f32 := fun j =>
  ∑ d : Fin 128, x0 (ix2 (j 1) (lane (j 0) d)) * x1 (ix2 (j 2) (lane (j 0) d))

/-- The block of the output's cotangent with the columns of the other head of the pair set to zero. -/
def doM (x3 : Vec Ideal S1024x128 .bf16) (i : Fin 2) : Vec Ideal S1024x128 .bf16 := fun j =>
  if (j 1).val / 64 = i.val then x3 j else 0

/-- The cotangent of the probabilities of one tile. -/
def DPv (x2 x3 : Vec Ideal S1024x128 .bf16) : Vec Ideal S2x1024x1024 .f32 := fun j =>
  ∑ d : Fin 128, doM x3 (j 0) (ix2 (j 1) d) * x2 (ix2 (j 2) d)

/-- The probabilities of one tile. -/
def Pv (x0 x1 : Vec Ideal S1024x256 .bf16) (x4 : Vec Ideal S2x1024x128 .f32) : Vec Ideal S2x1024x1024 .bf16 := fun j =>
  Ideal.exp2 (Sv x0 x1 j - x4 (ix3 (j 0) (j 1) (wrap (j 2))))

/-- The cotangent of the scores of one tile. -/
def DSv (x0 x1 : Vec Ideal S1024x256 .bf16) (x2 x3 : Vec Ideal S1024x128 .bf16) (x4 x5 : Vec Ideal S2x1024x128 .f32) :
    Vec Ideal S2x1024x1024 .bf16 := fun j =>
  Pv x0 x1 x4 j * (DPv x2 x3 j - x5 (ix3 (j 0) (j 1) (wrap (j 2))))

/-- The first head's scores, as the body stores them. -/
theorem pay15_apply (x0 x1 : Vec Ideal S1024x256 .bf16) (a : Fin 1) (r k : Fin 1024) :
    k0_pay15 (F := Ideal) x0 x1 (ix3 a r k) = Sv x0 x1 (ix3 0 r k) := by
  pointwise [k0_pay15, k0_pay12, k0_pay13, k0_pay7, k0_pay8, Sv]
  refine Finset.sum_congr rfl fun d _ => ?_
  congr 3 <;> exact Fin.ext (by simp)

/-- The second head's scores. -/
theorem pay20_apply (x0 x1 : Vec Ideal S1024x256 .bf16) (a : Fin 1) (r k : Fin 1024) :
    k0_pay20 (F := Ideal) (k0_pay17 x0) (k0_pay18 x1) (constant S1024x1024 .f32 0x00000000#32) (ix3 a r k) = Sv x0 x1 (ix3 1 r k) := by
  pointwise [k0_pay20, k0_pay17, k0_pay18, k0_pay7, k0_pay8, Sv]
  refine Finset.sum_congr rfl fun d _ => ?_
  congr 3 <;> exact Fin.ext (by simp [lane])

/-- Whether a column lies in the first head's half, as the word the body compares. -/
theorem lo_word (d : Fin 128) : IntOp.cmpi CmpIPredicate.slt (BitVec.ofNat 32 d.val) 64#32 = if d.val / 64 = 0 then 1#1 else 0#1 := by
  revert d; decide

/-- The cotangent's block masked to the first head's columns. -/
theorem pay14_apply (x3 : Vec Ideal S1024x128 .bf16) (r : Fin 1024) (d : Fin 128) :
    k0_pay14 (F := Ideal) x3 (ix2 r d) = doM x3 0 (ix2 r d) := by
  pointwise [k0_pay14, k0_pay11, k0_pay10]
  rw [lo_word]
  change _ = if d.val / 64 = 0 then x3 (ix2 r d) else 0
  by_cases h : d.val / 64 = 0
  · rw [if_pos h, if_pos h]; rfl
  · rw [if_neg h, if_neg h]; rfl

/-- The cotangent's block masked to the second head's columns. -/
theorem pay19_apply (x3 : Vec Ideal S1024x128 .bf16) (r : Fin 1024) (d : Fin 128) :
    k0_pay19 (F := Ideal) x3 (ix2 r d) = doM x3 1 (ix2 r d) := by
  pointwise [k0_pay19, k0_pay11, k0_pay10]
  rw [lo_word]
  change _ = if d.val / 64 = 1 then x3 (ix2 r d) else 0
  have hd : d.val < 128 := d.isLt
  by_cases h : d.val / 64 = 0
  · rw [if_pos h, if_neg (by omega)]; rfl
  · rw [if_neg h, if_pos (by omega)]; rfl

/-- The first head's cotangent of the probabilities, as the body stores it. -/
theorem pay16_apply (x2 x3 : Vec Ideal S1024x128 .bf16) (a : Fin 1) (r k : Fin 1024) :
    k0_pay16 (F := Ideal) x2 x3 (ix3 a r k) = DPv x2 x3 (ix3 0 r k) := by
  pointwise [k0_pay16, k0_pay9, DPv]
  exact Finset.sum_congr rfl fun d _ => by rw [pay14_apply]

/-- The second head's. -/
theorem pay21_apply (x2 x3 : Vec Ideal S1024x128 .bf16) (a : Fin 1) (r k : Fin 1024) :
    k0_pay21 (F := Ideal) (k0_pay9 x2) (k0_pay19 x3) (ix3 a r k) = DPv x2 x3 (ix3 1 r k) := by
  pointwise [k0_pay21, k0_pay9, DPv]
  exact Finset.sum_congr rfl fun d _ => by rw [pay19_apply]

/-- One chunk of 128 columns of the probabilities, from the chunk of the scores and the row statistic. -/
theorem pay28_apply (v40 : Vec Ideal S1024x128 .f32) (v59 : Vec Ideal S1x1024x128 .f32) (a : Fin 1) (r : Fin 1024) (l : Fin 128) :
    k0_pay28 (F := Ideal) v40 v59 (ix3 a r l) = Ideal.exp2 (v59 (ix3 0 r l) - v40 (ix2 r l)) := by
  pointwise [k0_pay28, k0_pay27]
  rfl

/-- One chunk of 128 columns of the cotangent of the scores. -/
theorem pay29_apply (v40 v42 : Vec Ideal S1024x128 .f32) (v59 v67 : Vec Ideal S1x1024x128 .f32) (a : Fin 1) (r : Fin 1024) (l : Fin 128) :
    k0_pay29 (F := Ideal) v40 v42 v59 v67 (ix3 a r l)
      = Ideal.exp2 (v59 (ix3 0 r l) - v40 (ix2 r l)) * (v67 (ix3 0 r l) - v42 (ix2 r l)) := by
  pointwise [k0_pay29, k0_pay27]
  rfl

/-- The first head's product of the masked cotangent with the probabilities, added to what the accumulator holds. -/
theorem pay78_apply (w : Vec Ideal S1024x128 .bf16) (y : Vec Ideal S128x1024 .f32) (p : Vec Ideal S1x1024x1024 .bf16)
    (d : Fin 128) (k : Fin 1024) :
    k0_pay78 (F := Ideal) w y p (ix2 d k) = y (ix2 d k) + ∑ r : Fin 1024, w (ix2 r d) * p (ix3 0 r k) := by
  pointwise [k0_pay78]

/-- The product of one head's query columns with the cotangent of the scores, added to what the accumulator holds. -/
theorem pay80_apply (w : Vec Ideal S1024x128 .bf16) (y : Vec Ideal S128x1024 .f32) (p : Vec Ideal S1x1024x1024 .bf16)
    (d : Fin 128) (k : Fin 1024) :
    k0_pay80 (F := Ideal) w (k0_pay79 p) (constant S128x1024 .f32 0x00000000#32) y (ix2 d k)
      = y (ix2 d k) + ∑ r : Fin 1024, w (ix2 r d) * p (ix3 0 r k) := by
  pointwise [k0_pay80, k0_pay79]

/-- The product of the cotangent of the scores with one head's key columns. -/
theorem pay81_apply (w : Vec Ideal S1024x128 .bf16) (p : Vec Ideal S1x1024x1024 .bf16) (r : Fin 1024) (d : Fin 128) :
    k0_pay81 (F := Ideal) w p (ix2 r d) = ∑ k : Fin 1024, p (ix3 0 r k) * w (ix2 k d) := by
  pointwise [k0_pay81]

/-- The first head's columns of a block of two heads. -/
theorem pay12_apply (x0 : Vec Ideal S1024x256 .bf16) (r : Fin 1024) (d : Fin 128) :
    k0_pay12 (F := Ideal) x0 (ix2 r d) = x0 (ix2 r (lane 0 d)) := by
  pointwise [k0_pay12, k0_pay7]
  congr 2; exact Fin.ext (by simp)

/-- The second head's columns of a block of two heads. -/
theorem pay17_apply (x0 : Vec Ideal S1024x256 .bf16) (r : Fin 1024) (d : Fin 128) :
    k0_pay17 (F := Ideal) x0 (ix2 r d) = x0 (ix2 r (lane 1 d)) := by
  pointwise [k0_pay17, k0_pay7]
  congr 2

end Cert.MlaBwd

end
-- ==== Proof.Steps.lean ====
module

public import proofs.«01_k».proof.Proof.Vals
public import proofs.«01_k».proof.Proof.Gen.KernelIdeal.Frame

@[expose] public section

noncomputable section

namespace Cert.MlaBwd

open Cert.KernelIdeal Cert.KernelIdeal.Gen Idealize.ShloMosaic Idealize.ShloMosaic.TcCoe

/-- The entries of the two heads' tiles that lie in the first `N` columns, counted through the first head's and then the
    second's, are those of `P`. -/
def Upto {e : EltTy} (P : Vec Ideal S2x1024x1024 e) (N : ℕ) (Y : Vec Ideal S2x1024x1024 e) : Prop :=
  ∀ j : S2x1024x1024.Idx, 1024 * (j 0).val + (j 2).val < N → Y j = P j

theorem Upto.zero {e : EltTy} (P Y : Vec Ideal S2x1024x1024 e) : Upto P 0 Y := fun _ h => absurd h (Nat.not_lt_zero _)

theorem Upto.eq {e : EltTy} {P Y : Vec Ideal S2x1024x1024 e} (h : Upto P 2048 Y) : Y = P := by
  funext j
  have h0 : (j 0).val < 2 := (j 0).isLt
  have h2 : (j 2).val < 1024 := (j 2).isLt
  exact h j (by omega)

variable {sig : RefSig} {κ : Kind} {sp : Space} {e : EltTy}

/-- Storing `n` further columns of one head, from column `cc`, extends the columns that are there. -/
theorem Upto.step {v : View sig κ sp S2x1024x1024 e} {f : v.ty.Contents (Elt Ideal)} {L : List (View.Piece (Elt Ideal) S2x1024x1024 e)}
    {P : Vec Ideal S2x1024x1024 e} {N : ℕ} (h : Upto P N (v.read (Elt Ideal) (v.writes (Elt Ideal) f L)))
    (i : Fin 2) (cc n : ℕ) (hcc : cc + n ≤ 1024) (hN : N = 1024 * i.val + cc)
    (R : Rect S2x1024x1024) (w : R.shape.Idx → Elt Ideal e)
    (hm : ∀ j : S2x1024x1024.Idx, j ∈ R.set ↔ (j 0).val = i.val ∧ cc ≤ (j 2).val ∧ (j 2).val < cc + n)
    (hw : ∀ x, w x = P (R.emb x)) :
    Upto P (N + n) (v.read (Elt Ideal) (v.writes (Elt Ideal) f (⟨R, w⟩ :: L))) := by
  intro j hj
  have h0 : (j 0).val < 2 := (j 0).isLt
  have h2 : (j 2).val < 1024 := (j 2).isLt
  by_cases hjm : j ∈ R.set
  · obtain ⟨x, rfl⟩ := R.exists_idx_of_mem hjm
    exact (View.read_writes_cons_emb v f R w L x).trans (hw x)
  · rw [View.writes_cons, View.read_slice_write_of_not_mem R _ _ _ (by rwa [Rect.map_emb_univ])]
    refine h j ?_
    rw [hm] at hjm
    omega

/-- The same for a store of 128 columns. -/
theorem Upto.chunk {v : View sig κ sp S2x1024x1024 e} {f : v.ty.Contents (Elt Ideal)} {L : List (View.Piece (Elt Ideal) S2x1024x1024 e)}
    {P : Vec Ideal S2x1024x1024 e} (i : Fin 2) (cc : ℕ) (hcc : cc + 128 ≤ 1024)
    (h : Upto P (1024 * i.val + cc) (v.read (Elt Ideal) (v.writes (Elt Ideal) f L)))
    (inb : ∀ a, (![i.val, 0, cc] : Fin 3 → ℕ) a + S1x1024x128.size a ≤ S2x1024x1024.size a)
    (w : S1x1024x128.Idx → Elt Ideal e)
    (hw : ∀ (r : Fin 1024) (l : Fin 128), w (ix3 0 r l) = P (ix3 i r ⟨cc + l.val, by omega⟩)) :
    Upto P (1024 * i.val + cc + 128)
      (v.read (Elt Ideal) (v.writes (Elt Ideal) f (⟨Rect.unit (s := S2x1024x1024) ![i.val, 0, cc] S1x1024x128.size inb, w⟩ :: L))) := by
  refine h.step i cc 128 hcc rfl (Rect.unit (s := S2x1024x1024) ![i.val, 0, cc] S1x1024x128.size inb) w (fun j => ?_) (fun x => ?_)
  · rw [Rect.mem_set_unit]
    have h1 : (j 1).val < 1024 := (j 1).isLt
    constructor
    · intro hj
      have a0 := hj 0; have a2 := hj 2
      simp [S1x1024x128] at a0 a2
      omega
    · rintro ⟨a0, a1, a2⟩ a
      fin_cases a <;> simp [S1x1024x128] <;> omega
  · have he : ∀ (a : Fin 1024) (b : Fin 128), (Rect.unit (s := S2x1024x1024) ![i.val, 0, cc] S1x1024x128.size inb).emb (ix3 0 a b) = ix3 i a ⟨cc + b.val, by omega⟩ := by
      intro a b; funext q; refine Fin.ext ?_
      fin_cases q
      · show i.val + 1 * 0 = i.val; omega
      · show 0 + 1 * a.val = a.val; omega
      · show cc + 1 * b.val = cc + b.val; omega
    obtain ⟨a, b, rfl⟩ : ∃ (a : Fin 1024) (b : Fin 128), x = ix3 (n0 := 1) 0 a b := ⟨x 1, x 2, by
      funext q; fin_cases q
      · exact Fin.ext (by have : (x 0).val < 1 := (x 0).isLt; show (x 0).val = 0; omega)
      · rfl
      · rfl⟩
    rw [he]; exact hw a b

/-- The same for a store of one head's whole tile. -/
theorem Upto.tile {v : View sig κ sp S2x1024x1024 e} {f : v.ty.Contents (Elt Ideal)} {L : List (View.Piece (Elt Ideal) S2x1024x1024 e)}
    {P : Vec Ideal S2x1024x1024 e} (i : Fin 2) (h : Upto P (1024 * i.val) (v.read (Elt Ideal) (v.writes (Elt Ideal) f L)))
    (inb : ∀ a, (![i.val, 0, 0] : Fin 3 → ℕ) a + S1x1024x1024.size a ≤ S2x1024x1024.size a)
    (w : S1x1024x1024.Idx → Elt Ideal e)
    (hw : ∀ (r k : Fin 1024), w (ix3 0 r k) = P (ix3 i r k)) :
    Upto P (1024 * i.val + 1024)
      (v.read (Elt Ideal) (v.writes (Elt Ideal) f (⟨Rect.unit (s := S2x1024x1024) ![i.val, 0, 0] S1x1024x1024.size inb, w⟩ :: L))) := by
  refine h.step i 0 1024 (by omega) rfl (Rect.unit (s := S2x1024x1024) ![i.val, 0, 0] S1x1024x1024.size inb) w (fun j => ?_) (fun x => ?_)
  · rw [Rect.mem_set_unit]
    have h1 : (j 1).val < 1024 := (j 1).isLt
    have h2 : (j 2).val < 1024 := (j 2).isLt
    constructor
    · intro hj
      have a0 := hj 0
      simp [S1x1024x1024] at a0
      omega
    · rintro ⟨a0, a1, a2⟩ a
      fin_cases a <;> simp [S1x1024x1024] <;> omega
  · have he : ∀ (a : Fin 1024) (b : Fin 1024), (Rect.unit (s := S2x1024x1024) ![i.val, 0, 0] S1x1024x1024.size inb).emb (ix3 0 a b) = ix3 i a b := by
      intro a b; funext q; refine Fin.ext ?_
      fin_cases q
      · show i.val + 1 * 0 = i.val; omega
      · show 0 + 1 * a.val = a.val; omega
      · show 0 + 1 * b.val = b.val; omega
    obtain ⟨a, b, rfl⟩ : ∃ (a : Fin 1024) (b : Fin 1024), x = ix3 (n0 := 1) 0 a b := ⟨x 1, x 2, by
      funext q; fin_cases q
      · exact Fin.ext (by have : (x 0).val < 1 := (x 0).isLt; show (x 0).val = 0; omega)
      · rfl
      · rfl⟩
    rw [he]; exact hw a b

/-- A load of 128 columns of one head. -/
theorem ld_chunk (X : Vec Ideal S2x1024x1024 e) (i : Fin 2) (cc : ℕ) (hcc : cc + 128 ≤ 1024)
    (inb : ∀ a, (![i.val, 0, cc] : Fin 3 → ℕ) a + S1x1024x128.size a ≤ S2x1024x1024.size a) (r : Fin 1024) (l : Fin 128) :
    View.ld (Val := Elt Ideal) X (Rect.unit (s := S2x1024x1024) ![i.val, 0, cc] S1x1024x128.size inb) (ix3 0 r l) = X (ix3 i r ⟨cc + l.val, by omega⟩) := by
  refine congrArg X (funext fun a => Fin.ext ?_)
  fin_cases a
  · show i.val + 1 * 0 = i.val; omega
  · show 0 + 1 * r.val = r.val; omega
  · show cc + 1 * l.val = cc + l.val; omega

/-- A load of one head's whole tile. -/
theorem ld_tile (X : Vec Ideal S2x1024x1024 e) (i : Fin 2)
    (inb : ∀ a, (![i.val, 0, 0] : Fin 3 → ℕ) a + S1x1024x1024.size a ≤ S2x1024x1024.size a) (r k : Fin 1024) :
    View.ld (Val := Elt Ideal) X (Rect.unit (s := S2x1024x1024) ![i.val, 0, 0] S1x1024x1024.size inb) (ix3 0 r k) = X (ix3 i r k) := by
  refine congrArg X (funext fun a => Fin.ext ?_)
  fin_cases a
  · show i.val + 1 * 0 = i.val; omega
  · show 0 + 1 * r.val = r.val; omega
  · show 0 + 1 * k.val = k.val; omega

/-- A load of one head's row statistic. -/
theorem ld_stat (X : Vec Ideal S2x1024x128 e) (i : Fin 2)
    (inb : ∀ a, (![i.val, 0, 0] : Fin 3 → ℕ) a + S1x1024x128.size a ≤ S2x1024x128.size a) (r : Fin 1024) (l : Fin 128) :
    View.ld (Val := Elt Ideal) X (Rect.unit (s := S2x1024x128) ![i.val, 0, 0] S1x1024x128.size inb) (ix3 0 r l) = X (ix3 i r l) := by
  refine congrArg X (funext fun a => Fin.ext ?_)
  fin_cases a
  · show i.val + 1 * 0 = i.val; omega
  · show 0 + 1 * r.val = r.val; omega
  · show 0 + 1 * l.val = l.val; omega

/-! ## Words, whole buffers and rows -/

section Whole
variable {sig : RefSig} {κ : Kind} {sp : Space} {e : EltTy} {S : Shape}

/-- A buffer whose last write was a whole one reads what that write stored. -/
theorem read_write_whole (v : View sig κ sp S e) (f : v.ty.Contents (Elt Ideal)) {off : Fin S.rank → ℕ} (h : off = fun _ => 0)
    (inb : ∀ a, off a + S.size a ≤ S.size a) (w : S.Idx → Elt Ideal e) (L : List (View.Piece (Elt Ideal) S e)) :
    v.read (Elt Ideal) (v.writes (Elt Ideal) f ((⟨Rect.unit off S.size inb, w⟩ : View.Piece (Elt Ideal) S e) :: L)) = w := by
  subst h; funext y
  have e := View.read_writes_cons_emb v f (Rect.whole S) w L y
  rw [Rect.emb_whole_apply] at e
  exact e
end Whole

theorem off2 : (![0, 0] : Fin 2 → ℕ) = fun _ => 0 := by funext a; fin_cases a <;> rfl

/-- A tile loaded from what the body stored. -/
theorem tile_val {P Y : Vec Ideal S2x1024x1024 .bf16} {M : ℕ} (h : Upto P M Y) (i : Fin 2) (hM : 1024 * i.val + 1024 ≤ M)
    (inb : ∀ a, (![i.val, 0, 0] : Fin 3 → ℕ) a + S1x1024x1024.size a ≤ S2x1024x1024.size a) (r k : Fin 1024) :
    View.ld (Val := Elt Ideal) Y (Rect.unit (s := S2x1024x1024) ![i.val, 0, 0] S1x1024x1024.size inb) (ix3 0 r k) = P (ix3 i r k) := by
  rw [ld_tile]; refine h _ ?_
  show 1024 * i.val + k.val < M
  omega

theorem word_eq0 : ∀ b : Fin 8, (Scalar.cmpi .ne (Scalar.extui (Scalar.cmpi .eq (BitVec.ofNat 32 b.val) 0#32)) 0#32 = 1#1) ↔ b.val = 0 := by decide
theorem word_pos : ∀ b : Fin 8, (Scalar.cmpi .ne (Scalar.extui (Scalar.cmpi .sgt (BitVec.ofNat 32 b.val) 0#32)) 0#32 = 1#1) ↔ b.val ≠ 0 := by decide
theorem word_eq7 : ∀ b : Fin 8, (Scalar.cmpi .ne (Scalar.extui (Scalar.cmpi .eq (BitVec.ofNat 32 b.val) 7#32)) 0#32 = 1#1) ↔ b.val = 7 := by decide
theorem word_off : ∀ b : Fin 8, (Scalar.indexCast (Scalar.muli (BitVec.ofNat 32 b.val) 1024#32)).toNat = 1024 * b.val := by decide

theorem row_lt (qb : Fin 8) (r : Fin 1024) : 1024 * qb.val + r.val < 8192 := by omega

/-- What a row statistic's block holds for head `i`, without its unit axis. -/
def Stat (x4 : Vec Ideal S2x1024x128 .f32) (i : Fin 2) (v : FVec Ideal S1024x128 .f32) : Prop :=
  ∀ (r : Fin 1024) (l : Fin 128), v (ix2 r l) = x4 (ix3 i r l)

section Payloads

variable {x0 x1 : Vec Ideal S1024x256 .bf16} {x2 x3 : Vec Ideal S1024x128 .bf16} {x4 x5 : Vec Ideal S2x1024x128 .f32}

/-- The chunk of the probabilities the body computes from a chunk of the scores. -/
theorem p_val (i : Fin 2) (cc : ℕ) (hcc : cc + 128 ≤ 1024) (hd : cc % 128 = 0) {v59 : Vec Ideal S1x1024x128 .f32}
    (hs : ∀ (r : Fin 1024) (l : Fin 128), v59 (ix3 0 r l) = Sv x0 x1 (ix3 i r ⟨cc + l.val, by omega⟩))
    {v40 : FVec Ideal S1024x128 .f32} (h40 : Stat x4 i v40) (r : Fin 1024) (l : Fin 128) :
    k0_pay28 (F := Ideal) v40 v59 (ix3 0 r l) = Pv x0 x1 x4 (ix3 i r ⟨cc + l.val, by omega⟩) := by
  rw [pay28_apply, h40, hs]
  show _ = Ideal.exp2 (_ - x4 (ix3 i r (wrap ⟨cc + l.val, by omega⟩)))
  have : wrap ⟨cc + l.val, by omega⟩ = l := Fin.ext (by show (cc + l.val) % 128 = l.val; omega)
  rw [this]

/-- The chunk of the cotangent of the scores. -/
theorem ds_val (i : Fin 2) (cc : ℕ) (hcc : cc + 128 ≤ 1024) (hd : cc % 128 = 0) {v59 v67 : Vec Ideal S1x1024x128 .f32}
    (hs : ∀ (r : Fin 1024) (l : Fin 128), v59 (ix3 0 r l) = Sv x0 x1 (ix3 i r ⟨cc + l.val, by omega⟩))
    (hd' : ∀ (r : Fin 1024) (l : Fin 128), v67 (ix3 0 r l) = DPv x2 x3 (ix3 i r ⟨cc + l.val, by omega⟩))
    {v40 v42 : FVec Ideal S1024x128 .f32} (h40 : Stat x4 i v40) (h42 : Stat x5 i v42) (r : Fin 1024) (l : Fin 128) :
    k0_pay29 (F := Ideal) v40 v42 v59 v67 (ix3 0 r l) = DSv x0 x1 x2 x3 x4 x5 (ix3 i r ⟨cc + l.val, by omega⟩) := by
  rw [pay29_apply, h40, h42, hs, hd']
  show _ = Ideal.exp2 (_ - x4 (ix3 i r (wrap ⟨cc + l.val, by omega⟩))) * (_ - x5 (ix3 i r (wrap ⟨cc + l.val, by omega⟩)))
  have : wrap ⟨cc + l.val, by omega⟩ = l := Fin.ext (by show (cc + l.val) % 128 = l.val; omega)
  rw [this]

variable {M14 : Memref sig κ sp S2x1024x1024 .f32} {M15 : Memref sig κ sp S2x1024x1024 .f32}
  {f14 : M14.view.ty.Contents (Elt Ideal)} {f15 : M15.view.ty.Contents (Elt Ideal)}

/-- The chunk of the probabilities the body computes from the stored scores. -/
theorem p_chunk (i : Fin 2) (cc : ℕ) (hcc : cc + 128 ≤ 1024) (hd : cc % 128 = 0)
    (h14 : M14.view.read (Elt Ideal) f14 = Sv x0 x1)
    (inb : ∀ a, (![i.val, 0, cc] : Fin 3 → ℕ) a + S1x1024x128.size a ≤ S2x1024x1024.size a)
    {v40 : FVec Ideal S1024x128 .f32} (h40 : Stat x4 i v40) (r : Fin 1024) (l : Fin 128) :
    k0_pay28 (F := Ideal) v40 (M14.view.readAt (Elt Ideal) (Rect.unit (s := S2x1024x1024) ![i.val, 0, cc] S1x1024x128.size inb).toLoadRect f14) (ix3 0 r l)
      = Pv x0 x1 x4 (ix3 i r ⟨cc + l.val, by omega⟩) := by
  refine p_val i cc hcc hd (fun r l => ?_) h40 r l
  rw [View.readAt_eq_ld, h14, ld_chunk _ i cc hcc]

/-- The chunk of the cotangent of the scores, from the stored scores and cotangents of the probabilities. -/
theorem ds_chunk (i : Fin 2) (cc : ℕ) (hcc : cc + 128 ≤ 1024) (hd : cc % 128 = 0)
    (h14 : M14.view.read (Elt Ideal) f14 = Sv x0 x1) (h15 : M15.view.read (Elt Ideal) f15 = DPv x2 x3)
    (inb : ∀ a, (![i.val, 0, cc] : Fin 3 → ℕ) a + S1x1024x128.size a ≤ S2x1024x1024.size a)
    {v40 v42 : FVec Ideal S1024x128 .f32} (h40 : Stat x4 i v40) (h42 : Stat x5 i v42) (r : Fin 1024) (l : Fin 128) :
    k0_pay29 (F := Ideal) v40 v42 (M14.view.readAt (Elt Ideal) (Rect.unit (s := S2x1024x1024) ![i.val, 0, cc] S1x1024x128.size inb).toLoadRect f14)
        (M15.view.readAt (Elt Ideal) (Rect.unit (s := S2x1024x1024) ![i.val, 0, cc] S1x1024x128.size inb).toLoadRect f15) (ix3 0 r l)
      = DSv x0 x1 x2 x3 x4 x5 (ix3 i r ⟨cc + l.val, by omega⟩) := by
  refine ds_val i cc hcc hd (fun r l => ?_) (fun r l => ?_) h40 h42 r l
  · rw [View.readAt_eq_ld, h14, ld_chunk _ i cc hcc]
  · rw [View.readAt_eq_ld, h15, ld_chunk _ i cc hcc]

end Payloads

end Cert.MlaBwd

end
-- ==== Proof.Parts.lean ====
module

public import proofs.«01_k».proof.Proof.Steps

@[expose] public section

set_option maxRecDepth 16384

noncomputable section

namespace Cert.MlaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
variable {arg3 : Memref sig .tc .vmem S1024x256 .bf16} (harg3 : arg3.IsWhole) {arg4 : Memref sig .tc .vmem S1024x256 .bf16} (harg4 : arg4.IsWhole) {arg5 : Memref sig .tc .vmem S1024x128 .bf16} (harg5 : arg5.IsWhole) {arg6 : Memref sig .tc .vmem S1024x128 .bf16} (harg6 : arg6.IsWhole) {arg7 : Memref sig .tc .vmem S2x1024x128 .f32} (harg7 : arg7.IsWhole) {arg8 : Memref sig .tc .vmem S2x1024x128 .f32} (harg8 : arg8.IsWhole) {arg9 : Memref sig .tc .vmem S8192x256 .f32} (harg9 : arg9.IsWhole) {arg10 : Memref sig .tc .vmem S256x1024 .bf16} (harg10 : arg10.IsWhole) {arg11 : Memref sig .tc .vmem S128x1024 .bf16} (harg11 : arg11.IsWhole) {arg12 : Memref sig .tc .vmem S256x1024 .f32} (harg12 : arg12.IsWhole) {arg13 : Memref sig .tc .vmem S128x1024 .f32} (harg13 : arg13.IsWhole) {arg14 : Memref sig .tc .vmem S2x1024x1024 .f32} (harg14 : arg14.IsWhole) {arg15 : Memref sig .tc .vmem S2x1024x1024 .f32} (harg15 : arg15.IsWhole) {arg16 : Memref sig .tc .vmem S2x1024x1024 .bf16} (harg16 : arg16.IsWhole) {arg17 : Memref sig .tc .vmem S2x1024x1024 .bf16} (harg17 : arg17.IsWhole)
variable (x0 x1 : Vec Ideal S1024x256 .bf16) (x2 x3 : Vec Ideal S1024x128 .bf16) (x4 x5 : Vec Ideal S2x1024x128 .f32)

/-- The two heads' tiles while the body goes through their columns: the scores and the cotangents of the probabilities are there,
    and so are the first `N` columns of the probabilities and the first `M` of the cotangents of the scores. -/
def Mid (arg14 arg15 : Memref sig .tc .vmem S2x1024x1024 .f32) (arg16 arg17 : Memref sig .tc .vmem S2x1024x1024 .bf16) (N M : ℕ) : sProp 𝕄 :=
  iprop(owns (c : Thread nD τ) arg14 fullShare (Sv x0 x1) ∗ owns (c : Thread nD τ) arg15 fullShare (DPv x2 x3)
    ∗ (∃ Y, ⌜Upto (Pv x0 x1 x4) N Y⌝ ∗ owns (c : Thread nD τ) arg16 fullShare Y)
    ∗ (∃ Y, ⌜Upto (DSv x0 x1 x2 x3 x4 x5) M Y⌝ ∗ owns (c : Thread nD τ) arg17 fullShare Y))

/-- A chunk of 128 columns of the cotangent of the scores, from column `cc` of head `i`, computed and not yet stored. -/
def Chunk (i : Fin 2) (cc : ℕ) (v : FVec Ideal S1024x128 .bf16) : Prop :=
  ∀ (r : Fin 1024) (l : Fin 128) (h : cc + l.val < 1024), v (ix2 r l) = DSv x0 x1 x2 x3 x4 x5 (ix3 i r ⟨cc + l.val, h⟩)

/-- A chunk that is stored gains a unit axis. -/
theorem pay53_apply (v : FVec Ideal S1024x128 .bf16) (a : Fin 1) (r : Fin 1024) (l : Fin 128) : k0_pay53 (F := Ideal) v (ix3 a r l) = v (ix2 r l) := by
  pointwise [k0_pay53]

/-- Part 3 of the body: the columns up to 384 of the probabilities and 384 of the cotangents of the scores. -/
theorem part3_run (v40 v42 : FVec Ideal S1024x128 .f32) (h40 : Stat x4 0 v40) (h42 : Stat x5 0 v42)
    (E : Set ℕ) (K : PUnit → sProp 𝕄) :
    iprop(Mid c x0 x1 x2 x3 x4 x5 arg14 arg15 arg16 arg17 128 128 ∗ (Mid c x0 x1 x2 x3 x4 x5 arg14 arg15 arg16 arg17 384 384 -∗ K ⟨⟩))
      ⊢ wp frame (wpE (defs₀ (F := Ideal)) Variants.none c none) E (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 v40 v42) K := by
  simp only [k0_part3_eq_skeleton]; unfold k0_part3_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  iapply Hk
  isplitl [H14]
  · iexists _; isplitr; · ipureintro; exact hf14
    iexact H14
  isplitl [H15]
  · iexists _; isplitr; · ipureintro; exact hf15
    iexact H15
  isplitl [H16]
  · iexists _; isplitr; swap
    · iexists _; isplitr; swap
      · iexact H16
      · ipureintro; rfl
    · ipureintro
      exact Upto.chunk 0 256 (by decide) (Upto.chunk 0 128 (by decide) (hY16) _ _ (p_chunk 0 128 (by decide) (by decide) hf14 _ h40)) _ _ (p_chunk 0 256 (by decide) (by decide) hf14 _ h40)
  · iexists _; isplitr; swap
    · iexists _; isplitr; swap
      · iexact H17
      · ipureintro; rfl
    · ipureintro
      exact Upto.chunk 0 256 (by decide) (Upto.chunk 0 128 (by decide) (hY17) _ _ (ds_chunk 0 128 (by decide) (by decide) hf14 hf15 _ h40 h42)) _ _ (ds_chunk 0 256 (by decide) (by decide) hf14 hf15 _ h40 h42)

/-- Part 4 of the body: the columns up to 640 of the probabilities and 640 of the cotangents of the scores. -/
theorem part4_run (v40 v42 : FVec Ideal S1024x128 .f32) (h40 : Stat x4 0 v40) (h42 : Stat x5 0 v42)
    (E : Set ℕ) (K : PUnit → sProp 𝕄) :
    iprop(Mid c x0 x1 x2 x3 x4 x5 arg14 arg15 arg16 arg17 384 384 ∗ (Mid c x0 x1 x2 x3 x4 x5 arg14 arg15 arg16 arg17 640 640 -∗ K ⟨⟩))
      ⊢ wp frame (wpE (defs₀ (F := Ideal)) Variants.none c none) E (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 v40 v42) K := by
  simp only [k0_part4_eq_skeleton]; unfold k0_part4_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  iapply Hk
  isplitl [H14]
  · iexists _; isplitr; · ipureintro; exact hf14
    iexact H14
  isplitl [H15]
  · iexists _; isplitr; · ipureintro; exact hf15
    iexact H15
  isplitl [H16]
  · iexists _; isplitr; swap
    · iexists _; isplitr; swap
      · iexact H16
      · ipureintro; rfl
    · ipureintro
      exact Upto.chunk 0 512 (by decide) (Upto.chunk 0 384 (by decide) (hY16) _ _ (p_chunk 0 384 (by decide) (by decide) hf14 _ h40)) _ _ (p_chunk 0 512 (by decide) (by decide) hf14 _ h40)
  · iexists _; isplitr; swap
    · iexists _; isplitr; swap
      · iexact H17
      · ipureintro; rfl
    · ipureintro
      exact Upto.chunk 0 512 (by decide) (Upto.chunk 0 384 (by decide) (hY17) _ _ (ds_chunk 0 384 (by decide) (by decide) hf14 hf15 _ h40 h42)) _ _ (ds_chunk 0 512 (by decide) (by decide) hf14 hf15 _ h40 h42)

/-- Part 5 of the body: the columns up to 896 of the probabilities and 896 of the cotangents of the scores. -/
theorem part5_run (v40 v42 : FVec Ideal S1024x128 .f32) (h40 : Stat x4 0 v40) (h42 : Stat x5 0 v42)
    (E : Set ℕ) (K : PUnit → sProp 𝕄) :
    iprop(Mid c x0 x1 x2 x3 x4 x5 arg14 arg15 arg16 arg17 640 640 ∗ (Mid c x0 x1 x2 x3 x4 x5 arg14 arg15 arg16 arg17 896 896 -∗ K ⟨⟩))
      ⊢ wp frame (wpE (defs₀ (F := Ideal)) Variants.none c none) E (k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 v40 v42) K := by
  simp only [k0_part5_eq_skeleton]; unfold k0_part5_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  iapply Hk
  isplitl [H14]
  · iexists _; isplitr; · ipureintro; exact hf14
    iexact H14
  isplitl [H15]
  · iexists _; isplitr; · ipureintro; exact hf15
    iexact H15
  isplitl [H16]
  · iexists _; isplitr; swap
    · iexists _; isplitr; swap
      · iexact H16
      · ipureintro; rfl
    · ipureintro
      exact Upto.chunk 0 768 (by decide) (Upto.chunk 0 640 (by decide) (hY16) _ _ (p_chunk 0 640 (by decide) (by decide) hf14 _ h40)) _ _ (p_chunk 0 768 (by decide) (by decide) hf14 _ h40)
  · iexists _; isplitr; swap
    · iexists _; isplitr; swap
      · iexact H17
      · ipureintro; rfl
    · ipureintro
      exact Upto.chunk 0 768 (by decide) (Upto.chunk 0 640 (by decide) (hY17) _ _ (ds_chunk 0 640 (by decide) (by decide) hf14 hf15 _ h40 h42)) _ _ (ds_chunk 0 768 (by decide) (by decide) hf14 hf15 _ h40 h42)

/-- Part 7 of the body: the columns up to 1408 of the probabilities and 1280 of the cotangents of the scores. -/
theorem part7_run (v40 v42 : FVec Ideal S1024x128 .f32) (h40 : Stat x4 1 v40) (h42 : Stat x5 1 v42) (v : FVec Ideal S1024x128 .bf16) (hv : Chunk x0 x1 x2 x3 x4 x5 1 0 v)
    (E : Set ℕ) (K : FVec Ideal S1024x128 .bf16 → sProp 𝕄) :
    iprop(Mid c x0 x1 x2 x3 x4 x5 arg14 arg15 arg16 arg17 1152 1024 ∗ (∀ w, iprop(⌜Chunk x0 x1 x2 x3 x4 x5 1 256 w⌝ ∗ Mid c x0 x1 x2 x3 x4 x5 arg14 arg15 arg16 arg17 1408 1280) -∗ K w))
      ⊢ wp frame (wpE (defs₀ (F := Ideal)) Variants.none c none) E (k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 v40 v42 v) K := by
  simp only [k0_part7_eq_skeleton]; unfold k0_part7_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  iapply Hk
  isplitr
  · ipureintro; intro r l h
    exact (pay53_apply _ 0 r l).symm.trans (ds_chunk 1 256 (by decide) (by decide) hf14 hf15 _ h40 h42 r l)
  isplitl [H14]
  · iexists _; isplitr; · ipureintro; exact hf14
    iexact H14
  isplitl [H15]
  · iexists _; isplitr; · ipureintro; exact hf15
    iexact H15
  isplitl [H16]
  · iexists _; isplitr; swap
    · iexists _; isplitr; swap
      · iexact H16
      · ipureintro; rfl
    · ipureintro
      exact Upto.chunk 1 256 (by decide) (Upto.chunk 1 128 (by decide) (hY16) _ _ (p_chunk 1 128 (by decide) (by decide) hf14 _ h40)) _ _ (p_chunk 1 256 (by decide) (by decide) hf14 _ h40)
  · iexists _; isplitr; swap
    · iexists _; isplitr; swap
      · iexact H17
      · ipureintro; rfl
    · ipureintro
      exact Upto.chunk 1 128 (by decide) (Upto.chunk 1 0 (by decide) (hY17) _ _ (fun r l => (pay53_apply _ 0 r l).trans (hv r l _))) _ _ (ds_chunk 1 128 (by decide) (by decide) hf14 hf15 _ h40 h42)

/-- Part 8 of the body: the columns up to 1664 of the probabilities and 1536 of the cotangents of the scores. -/
theorem part8_run (v40 v42 : FVec Ideal S1024x128 .f32) (h40 : Stat x4 1 v40) (h42 : Stat x5 1 v42) (v : FVec Ideal S1024x128 .bf16) (hv : Chunk x0 x1 x2 x3 x4 x5 1 256 v)
    (E : Set ℕ) (K : FVec Ideal S1024x128 .bf16 → sProp 𝕄) :
    iprop(Mid c x0 x1 x2 x3 x4 x5 arg14 arg15 arg16 arg17 1408 1280 ∗ (∀ w, iprop(⌜Chunk x0 x1 x2 x3 x4 x5 1 512 w⌝ ∗ Mid c x0 x1 x2 x3 x4 x5 arg14 arg15 arg16 arg17 1664 1536) -∗ K w))
      ⊢ wp frame (wpE (defs₀ (F := Ideal)) Variants.none c none) E (k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 v40 v42 v) K := by
  simp only [k0_part8_eq_skeleton]; unfold k0_part8_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  iapply Hk
  isplitr
  · ipureintro; intro r l h
    exact (pay53_apply _ 0 r l).symm.trans (ds_chunk 1 512 (by decide) (by decide) hf14 hf15 _ h40 h42 r l)
  isplitl [H14]
  · iexists _; isplitr; · ipureintro; exact hf14
    iexact H14
  isplitl [H15]
  · iexists _; isplitr; · ipureintro; exact hf15
    iexact H15
  isplitl [H16]
  · iexists _; isplitr; swap
    · iexists _; isplitr; swap
      · iexact H16
      · ipureintro; rfl
    · ipureintro
      exact Upto.chunk 1 512 (by decide) (Upto.chunk 1 384 (by decide) (hY16) _ _ (p_chunk 1 384 (by decide) (by decide) hf14 _ h40)) _ _ (p_chunk 1 512 (by decide) (by decide) hf14 _ h40)
  · iexists _; isplitr; swap
    · iexists _; isplitr; swap
      · iexact H17
      · ipureintro; rfl
    · ipureintro
      exact Upto.chunk 1 384 (by decide) (Upto.chunk 1 256 (by decide) (hY17) _ _ (fun r l => (pay53_apply _ 0 r l).trans (hv r l _))) _ _ (ds_chunk 1 384 (by decide) (by decide) hf14 hf15 _ h40 h42)

/-- Part 9 of the body: the columns up to 1920 of the probabilities and 1792 of the cotangents of the scores. -/
theorem part9_run (v40 v42 : FVec Ideal S1024x128 .f32) (h40 : Stat x4 1 v40) (h42 : Stat x5 1 v42) (v : FVec Ideal S1024x128 .bf16) (hv : Chunk x0 x1 x2 x3 x4 x5 1 512 v)
    (E : Set ℕ) (K : FVec Ideal S1024x128 .bf16 → sProp 𝕄) :
    iprop(Mid c x0 x1 x2 x3 x4 x5 arg14 arg15 arg16 arg17 1664 1536 ∗ (∀ w, iprop(⌜Chunk x0 x1 x2 x3 x4 x5 1 768 w⌝ ∗ Mid c x0 x1 x2 x3 x4 x5 arg14 arg15 arg16 arg17 1920 1792) -∗ K w))
      ⊢ wp frame (wpE (defs₀ (F := Ideal)) Variants.none c none) E (k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 v40 v42 v) K := by
  simp only [k0_part9_eq_skeleton]; unfold k0_part9_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  iapply Hk
  isplitr
  · ipureintro; intro r l h
    exact (pay53_apply _ 0 r l).symm.trans (ds_chunk 1 768 (by decide) (by decide) hf14 hf15 _ h40 h42 r l)
  isplitl [H14]
  · iexists _; isplitr; · ipureintro; exact hf14
    iexact H14
  isplitl [H15]
  · iexists _; isplitr; · ipureintro; exact hf15
    iexact H15
  isplitl [H16]
  · iexists _; isplitr; swap
    · iexists _; isplitr; swap
      · iexact H16
      · ipureintro; rfl
    · ipureintro
      exact Upto.chunk 1 768 (by decide) (Upto.chunk 1 640 (by decide) (hY16) _ _ (p_chunk 1 640 (by decide) (by decide) hf14 _ h40)) _ _ (p_chunk 1 768 (by decide) (by decide) hf14 _ h40)
  · iexists _; isplitr; swap
    · iexists _; isplitr; swap
      · iexact H17
      · ipureintro; rfl
    · ipureintro
      exact Upto.chunk 1 640 (by decide) (Upto.chunk 1 512 (by decide) (hY17) _ _ (fun r l => (pay53_apply _ 0 r l).trans (hv r l _))) _ _ (ds_chunk 1 640 (by decide) (by decide) hf14 hf15 _ h40 h42)

end Cert.MlaBwd

end
-- ==== Proof.Parts1.lean ====
module

public import proofs.«01_k».proof.Proof.Parts

@[expose] public section

set_option maxRecDepth 16384

noncomputable section

namespace Cert.MlaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
variable {arg3 : Memref sig .tc .vmem S1024x256 .bf16} (harg3 : arg3.IsWhole) {arg4 : Memref sig .tc .vmem S1024x256 .bf16} (harg4 : arg4.IsWhole) {arg5 : Memref sig .tc .vmem S1024x128 .bf16} (harg5 : arg5.IsWhole) {arg6 : Memref sig .tc .vmem S1024x128 .bf16} (harg6 : arg6.IsWhole) {arg7 : Memref sig .tc .vmem S2x1024x128 .f32} (harg7 : arg7.IsWhole) {arg8 : Memref sig .tc .vmem S2x1024x128 .f32} (harg8 : arg8.IsWhole) {arg9 : Memref sig .tc .vmem S8192x256 .f32} (harg9 : arg9.IsWhole) {arg10 : Memref sig .tc .vmem S256x1024 .bf16} (harg10 : arg10.IsWhole) {arg11 : Memref sig .tc .vmem S128x1024 .bf16} (harg11 : arg11.IsWhole) {arg12 : Memref sig .tc .vmem S256x1024 .f32} (harg12 : arg12.IsWhole) {arg13 : Memref sig .tc .vmem S128x1024 .f32} (harg13 : arg13.IsWhole) {arg14 : Memref sig .tc .vmem S2x1024x1024 .f32} (harg14 : arg14.IsWhole) {arg15 : Memref sig .tc .vmem S2x1024x1024 .f32} (harg15 : arg15.IsWhole) {arg16 : Memref sig .tc .vmem S2x1024x1024 .bf16} (harg16 : arg16.IsWhole) {arg17 : Memref sig .tc .vmem S2x1024x1024 .bf16} (harg17 : arg17.IsWhole)
variable (x0 x1 : Vec Ideal S1024x256 .bf16) (x2 x3 : Vec Ideal S1024x128 .bf16) (x4 x5 : Vec Ideal S2x1024x128 .f32)

/-- A row statistic's block without its unit axis. -/
theorem pay22_apply (v : Vec Ideal S1x1024x128 .f32) (r : Fin 1024) (l : Fin 128) : k0_pay22 (F := Ideal) v (ix2 r l) = v (ix3 0 r l) := by
  pointwise [k0_pay22]

theorem pay23_apply (v : Vec Ideal S1x1024x128 .f32) (r : Fin 1024) (l : Fin 128) : k0_pay23 (F := Ideal) v (ix2 r l) = v (ix3 0 r l) := by
  pointwise [k0_pay23]

/-- Part 1 of the body at the first block of query rows: the accumulators are zeroed. It stores the first head's scores and cotangent of the probabilities. -/
theorem part1_zero (hc : (Scalar.cmpi .ne (Scalar.extui (Scalar.cmpi .eq (BitVec.ofNat 32 (i 2).val) 0#32)) 0#32 = 1#1)) (y12 : Vec Ideal S256x1024 .f32) (y13 : Vec Ideal S128x1024 .f32)
    (E : Set ℕ) (K : (Σ' (arg1 : BitVec 32) (arg2 : BitVec 32) (v8 : FVec Ideal S1024x128 .bf16) (v14 : FVec Ideal S1024x128 .bf16) (v15 : FVec Ideal S1024x128 .bf16) (v17 : FVec Ideal S1024x128 .bf16) (v26 : FVec Ideal S1024x128 .bf16) (v27 : FVec Ideal S1024x128 .bf16) (v30 : FVec Ideal S1024x128 .bf16), FVec Ideal S1024x1024 .f32) → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg12 fullShare y12 ∗ owns (c : Thread nD τ) arg13 fullShare y13 ∗ (∃ d, owns (c : Thread nD τ) arg14 fullShare d) ∗ (∃ d, owns (c : Thread nD τ) arg15 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg12 fullShare (k0_pay5 (F := Ideal)) ∗ owns (c : Thread nD τ) arg13 fullShare (k0_pay6 (F := Ideal))
          ∗ (∃ d, ⌜Upto (Sv x0 x1) 1024 d⌝ ∗ owns (c : Thread nD τ) arg14 fullShare d) ∗ (∃ d, ⌜Upto (DPv x2 x3) 1024 d⌝ ∗ owns (c : Thread nD τ) arg15 fullShare d))
        -∗ K ⟨BitVec.ofNat 32 (i 1).val, BitVec.ofNat 32 (i 2).val, k0_pay9 x2, k0_pay12 x0, k0_pay13 x1, k0_pay14 x3, k0_pay17 x0, k0_pay18 x1, k0_pay19 x3, constant S1024x1024 .f32 0x00000000#32⟩))
      ⊢ wp frame (wpE (defs₀ (F := Ideal)) Variants.none c none) E (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f12, %hf12, H12⟩, ⟨%f13, %hf13, H13⟩, ⟨%d14, %f14, -, H14⟩, ⟨%d15, %f15, -, H15⟩, Hk⟩
  sl_exec (disch := sl_exact hc)
  sl_step
  have e3 : arg3.view.readAt (Elt Ideal) (Rect.unit (s := S1024x256) ![0, 0] S1024x256.size inb_S1024x256_S1024x256_0_0).toLoadRect f3 = x0 := by
    rw [View.readAt_eq_ld, hf3]; exact View.ld_unit_zero off2 _ _
  have e4 : arg4.view.readAt (Elt Ideal) (Rect.unit (s := S1024x256) ![0, 0] S1024x256.size inb_S1024x256_S1024x256_0_0).toLoadRect f4 = x1 := by
    rw [View.readAt_eq_ld, hf4]; exact View.ld_unit_zero off2 _ _
  have e5 : arg5.view.readAt (Elt Ideal) (Rect.unit (s := S1024x128) ![0, 0] S1024x128.size inb_S1024x128_S1024x128_0_0).toLoadRect f5 = x2 := by
    rw [View.readAt_eq_ld, hf5]; exact View.ld_unit_zero off2 _ _
  have e6 : arg6.view.readAt (Elt Ideal) (Rect.unit (s := S1024x128) ![0, 0] S1024x128.size inb_S1024x128_S1024x128_0_0).toLoadRect f6 = x3 := by
    rw [View.readAt_eq_ld, hf6]; exact View.ld_unit_zero off2 _ _
  rw [e3, e4, e5, e6]
  sl_unfold_words
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H12]
  · iexists _; isplitr; swap
    · iexact H12
    · ipureintro; exact read_write_whole _ _ off2 _ _ _
  isplitl [H13]
  · iexists _; isplitr; swap
    · iexact H13
    · ipureintro; exact read_write_whole _ _ off2 _ _ _
  isplitl [H14]
  · iexists _; isplitr; swap
    · iexists _; isplitr; swap
      · iexact H14
      · ipureintro; rfl
    · ipureintro
      exact Upto.tile 0 (Upto.zero _ _) _ _ (fun r k => pay15_apply x0 x1 0 r k)
  · iexists _; isplitr; swap
    · iexists _; isplitr; swap
      · iexact H15
      · ipureintro; rfl
    · ipureintro
      exact Upto.tile 0 (Upto.zero _ _) _ _ (fun r k => pay16_apply x2 x3 0 r k)

/-- Part 1 of the body at a later block of query rows: the accumulators are kept. It stores the first head's scores and cotangent of the probabilities. -/
theorem part1_keep (hc : ¬(Scalar.cmpi .ne (Scalar.extui (Scalar.cmpi .eq (BitVec.ofNat 32 (i 2).val) 0#32)) 0#32 = 1#1)) (y12 : Vec Ideal S256x1024 .f32) (y13 : Vec Ideal S128x1024 .f32)
    (E : Set ℕ) (K : (Σ' (arg1 : BitVec 32) (arg2 : BitVec 32) (v8 : FVec Ideal S1024x128 .bf16) (v14 : FVec Ideal S1024x128 .bf16) (v15 : FVec Ideal S1024x128 .bf16) (v17 : FVec Ideal S1024x128 .bf16) (v26 : FVec Ideal S1024x128 .bf16) (v27 : FVec Ideal S1024x128 .bf16) (v30 : FVec Ideal S1024x128 .bf16), FVec Ideal S1024x1024 .f32) → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg12 fullShare y12 ∗ owns (c : Thread nD τ) arg13 fullShare y13 ∗ (∃ d, owns (c : Thread nD τ) arg14 fullShare d) ∗ (∃ d, owns (c : Thread nD τ) arg15 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg12 fullShare y12 ∗ owns (c : Thread nD τ) arg13 fullShare y13
          ∗ (∃ d, ⌜Upto (Sv x0 x1) 1024 d⌝ ∗ owns (c : Thread nD τ) arg14 fullShare d) ∗ (∃ d, ⌜Upto (DPv x2 x3) 1024 d⌝ ∗ owns (c : Thread nD τ) arg15 fullShare d))
        -∗ K ⟨BitVec.ofNat 32 (i 1).val, BitVec.ofNat 32 (i 2).val, k0_pay9 x2, k0_pay12 x0, k0_pay13 x1, k0_pay14 x3, k0_pay17 x0, k0_pay18 x1, k0_pay19 x3, constant S1024x1024 .f32 0x00000000#32⟩))
      ⊢ wp frame (wpE (defs₀ (F := Ideal)) Variants.none c none) E (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part1_eq_skeleton]; unfold k0_part1_skel
  unfold owns
  iintro ⟨⟨%f3, %hf3, H3⟩, ⟨%f4, %hf4, H4⟩, ⟨%f5, %hf5, H5⟩, ⟨%f6, %hf6, H6⟩, ⟨%f12, %hf12, H12⟩, ⟨%f13, %hf13, H13⟩, ⟨%d14, %f14, -, H14⟩, ⟨%d15, %f15, -, H15⟩, Hk⟩
  sl_exec (disch := sl_exact hc)
  sl_step
  have e3 : arg3.view.readAt (Elt Ideal) (Rect.unit (s := S1024x256) ![0, 0] S1024x256.size inb_S1024x256_S1024x256_0_0).toLoadRect f3 = x0 := by
    rw [View.readAt_eq_ld, hf3]; exact View.ld_unit_zero off2 _ _
  have e4 : arg4.view.readAt (Elt Ideal) (Rect.unit (s := S1024x256) ![0, 0] S1024x256.size inb_S1024x256_S1024x256_0_0).toLoadRect f4 = x1 := by
    rw [View.readAt_eq_ld, hf4]; exact View.ld_unit_zero off2 _ _
  have e5 : arg5.view.readAt (Elt Ideal) (Rect.unit (s := S1024x128) ![0, 0] S1024x128.size inb_S1024x128_S1024x128_0_0).toLoadRect f5 = x2 := by
    rw [View.readAt_eq_ld, hf5]; exact View.ld_unit_zero off2 _ _
  have e6 : arg6.view.readAt (Elt Ideal) (Rect.unit (s := S1024x128) ![0, 0] S1024x128.size inb_S1024x128_S1024x128_0_0).toLoadRect f6 = x3 := by
    rw [View.readAt_eq_ld, hf6]; exact View.ld_unit_zero off2 _ _
  rw [e3, e4, e5, e6]
  sl_unfold_words
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H12]
  · iexists _; isplitr; swap
    · iexact H12
    · ipureintro; exact hf12
  isplitl [H13]
  · iexists _; isplitr; swap
    · iexact H13
    · ipureintro; exact hf13
  isplitl [H14]
  · iexists _; isplitr; swap
    · iexists _; isplitr; swap
      · iexact H14
      · ipureintro; rfl
    · ipureintro
      exact Upto.tile 0 (Upto.zero _ _) _ _ (fun r k => pay15_apply x0 x1 0 r k)
  · iexists _; isplitr; swap
    · iexists _; isplitr; swap
      · iexact H15
      · ipureintro; rfl
    · ipureintro
      exact Upto.tile 0 (Upto.zero _ _) _ _ (fun r k => pay16_apply x2 x3 0 r k)

/-- Part 2 of the body: the second head's scores and cotangent of the probabilities, the first head's row statistics, and its first 128 columns. -/
theorem part2_run (E : Set ℕ) (K : (Σ' (v40 : FVec Ideal S1024x128 .f32), FVec Ideal S1024x128 .f32) → sProp 𝕄) :
    iprop(owns (c : Thread nD τ) arg7 fullShare x4 ∗ owns (c : Thread nD τ) arg8 fullShare x5 ∗ (∃ d, ⌜Upto (Sv x0 x1) 1024 d⌝ ∗ owns (c : Thread nD τ) arg14 fullShare d) ∗ (∃ d, ⌜Upto (DPv x2 x3) 1024 d⌝ ∗ owns (c : Thread nD τ) arg15 fullShare d)
        ∗ (∃ d, owns (c : Thread nD τ) arg16 fullShare d) ∗ (∃ d, owns (c : Thread nD τ) arg17 fullShare d)
      ∗ (∀ v40, ∀ v42, iprop(⌜Stat x4 0 v40 ∧ Stat x5 0 v42⌝ ∗ owns (c : Thread nD τ) arg7 fullShare x4 ∗ owns (c : Thread nD τ) arg8 fullShare x5 ∗ Mid c x0 x1 x2 x3 x4 x5 arg14 arg15 arg16 arg17 128 128) -∗ K ⟨v40, v42⟩))
      ⊢ wp frame (wpE (defs₀ (F := Ideal)) Variants.none c none) E (k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay9 x2) (k0_pay17 x0) (k0_pay18 x1) (k0_pay19 x3) (constant S1024x1024 .f32 0x00000000#32)) K := by
  simp only [k0_part2_eq_skeleton]; unfold k0_part2_skel
  unfold Mid owns
  iintro ⟨⟨%f7, %hf7, H7⟩, ⟨%f8, %hf8, H8⟩, ⟨%Y14, %hY14, ⟨%f14, %hf14, H14⟩⟩, ⟨%Y15, %hY15, ⟨%f15, %hf15, H15⟩⟩, ⟨%d16, %f16, -, H16⟩, ⟨%d17, %f17, -, H17⟩, Hk⟩
  subst hf14 hf15
  sl_exec
  sl_step
  sl_unfold_words
  have h14 : arg14.view.read (Elt Ideal) (arg14.view.writes (Elt Ideal) f14 [⟨Rect.unit (s := S2x1024x1024) ![1, 0, 0] S1x1024x1024.size inb_S2x1024x1024_S1x1024x1024_1_0_0,
      k0_pay20 (k0_pay17 x0) (k0_pay18 x1) (constant S1024x1024 .f32 0x00000000#32)⟩]) = Sv x0 x1 :=
    Upto.eq (Upto.tile 1 hY14 _ _ (fun r k => pay20_apply x0 x1 0 r k))
  have h15 : arg15.view.read (Elt Ideal) (arg15.view.writes (Elt Ideal) f15 [⟨Rect.unit (s := S2x1024x1024) ![1, 0, 0] S1x1024x1024.size inb_S2x1024x1024_S1x1024x1024_1_0_0,
      k0_pay21 (k0_pay9 x2) (k0_pay19 x3)⟩]) = DPv x2 x3 :=
    Upto.eq (Upto.tile 1 hY15 _ _ (fun r k => pay21_apply x2 x3 0 r k))
  have h40 : Stat x4 0 (k0_pay22 (arg7.view.readAt (Elt Ideal) (Rect.unit (s := S2x1024x128) ![0, 0, 0] S1x1024x128.size inb_S2x1024x128_S1x1024x128_0_0_0).toLoadRect f7)) := by
    intro r l; rw [pay22_apply, View.readAt_eq_ld, hf7]; exact ld_stat x4 0 _ r l
  have h42 : Stat x5 0 (k0_pay23 (arg8.view.readAt (Elt Ideal) (Rect.unit (s := S2x1024x128) ![0, 0, 0] S1x1024x128.size inb_S2x1024x128_S1x1024x128_0_0_0).toLoadRect f8)) := by
    intro r l; rw [pay23_apply, View.readAt_eq_ld, hf8]; exact ld_stat x5 0 _ r l
  have hs : ∀ (r : Fin 1024) (l : Fin 128), arg14.view.readAt (Elt Ideal) (Rect.unit (s := S2x1024x1024) ![0, 0, 0] S1x1024x128.size inb_S2x1024x1024_S1x1024x128_0_0_0).toLoadRect f14 (ix3 0 r l)
      = Sv x0 x1 (ix3 0 r ⟨0 + l.val, by omega⟩) := by
    intro r l; rw [View.readAt_eq_ld]; refine (ld_chunk _ 0 0 (by decide) _ r l).trans (hY14 _ ?_)
    show 1024 * 0 + (0 + l.val) < 1024; omega
  have hp : ∀ (r : Fin 1024) (l : Fin 128), arg15.view.readAt (Elt Ideal) (Rect.unit (s := S2x1024x1024) ![0, 0, 0] S1x1024x128.size inb_S2x1024x1024_S1x1024x128_0_0_0).toLoadRect f15 (ix3 0 r l)
      = DPv x2 x3 (ix3 0 r ⟨0 + l.val, by omega⟩) := by
    intro r l; rw [View.readAt_eq_ld]; refine (ld_chunk _ 0 0 (by decide) _ r l).trans (hY15 _ ?_)
    show 1024 * 0 + (0 + l.val) < 1024; omega
  iapply Hk
  isplitr
  · ipureintro; exact ⟨h40, h42⟩
  isplitl [H7]
  · iexists _; isplitr; · ipureintro; exact hf7
    iexact H7
  isplitl [H8]
  · iexists _; isplitr; · ipureintro; exact hf8
    iexact H8
  isplitl [H14]
  · iexists _; isplitr; · ipureintro; exact h14
    iexact H14
  isplitl [H15]
  · iexists _; isplitr; · ipureintro; exact h15
    iexact H15
  isplitl [H16]
  · iexists _; isplitr; swap
    · iexists _; isplitr; swap
      · iexact H16
      · ipureintro; rfl
    · ipureintro
      exact Upto.chunk 0 0 (by decide) (Upto.zero _ _) _ _ (p_val 0 0 (by decide) (by decide) hs h40)
  · iexists _; isplitr; swap
    · iexists _; isplitr; swap
      · iexact H17
      · ipureintro; rfl
    · ipureintro
      exact Upto.chunk 0 0 (by decide) (Upto.zero _ _) _ _ (ds_val 0 0 (by decide) (by decide) hs hp h40 h42)

/-- Part 6 of the body: the first head's last 128 columns, the second head's row statistics and its first 128 columns. -/
theorem part6_run (v40 v42 : FVec Ideal S1024x128 .f32) (h40 : Stat x4 0 v40) (h42 : Stat x5 0 v42)
    (E : Set ℕ) (K : (Σ' (v172 : FVec Ideal S1024x128 .f32) (v174 : FVec Ideal S1024x128 .f32), FVec Ideal S1024x128 .bf16) → sProp 𝕄) :
    iprop(owns (c : Thread nD τ) arg7 fullShare x4 ∗ owns (c : Thread nD τ) arg8 fullShare x5 ∗ Mid c x0 x1 x2 x3 x4 x5 arg14 arg15 arg16 arg17 896 896
      ∗ (∀ v172, ∀ v174, ∀ w, iprop(⌜Stat x4 1 v172 ∧ Stat x5 1 v174 ∧ Chunk x0 x1 x2 x3 x4 x5 1 0 w⌝ ∗ owns (c : Thread nD τ) arg7 fullShare x4 ∗ owns (c : Thread nD τ) arg8 fullShare x5 ∗ Mid c x0 x1 x2 x3 x4 x5 arg14 arg15 arg16 arg17 1152 1024) -∗ K ⟨v172, v174, w⟩))
      ⊢ wp frame (wpE (defs₀ (F := Ideal)) Variants.none c none) E (k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 v40 v42) K := by
  simp only [k0_part6_eq_skeleton]; unfold k0_part6_skel
  unfold Mid owns
  iintro ⟨⟨%f7, %hf7, H7⟩, ⟨%f8, %hf8, H8⟩, ⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  sl_unfold_words
  have h172 : Stat x4 1 (k0_pay48 (arg7.view.readAt (Elt Ideal) (Rect.unit (s := S2x1024x128) ![1, 0, 0] S1x1024x128.size inb_S2x1024x128_S1x1024x128_1_0_0).toLoadRect f7)) := by
    intro r l; refine (pay22_apply _ r l).trans ?_; rw [View.readAt_eq_ld, hf7]; exact ld_stat x4 1 _ r l
  have h174 : Stat x5 1 (k0_pay49 (arg8.view.readAt (Elt Ideal) (Rect.unit (s := S2x1024x128) ![1, 0, 0] S1x1024x128.size inb_S2x1024x128_S1x1024x128_1_0_0).toLoadRect f8)) := by
    intro r l; refine (pay23_apply _ r l).trans ?_; rw [View.readAt_eq_ld, hf8]; exact ld_stat x5 1 _ r l
  iapply Hk
  isplitr
  · ipureintro
    exact ⟨h172, h174, fun r l h => (pay53_apply _ 0 r l).symm.trans (ds_chunk 1 0 (by decide) (by decide) hf14 hf15 _ h172 h174 r l)⟩
  isplitl [H7]
  · iexists _; isplitr; · ipureintro; exact hf7
    iexact H7
  isplitl [H8]
  · iexists _; isplitr; · ipureintro; exact hf8
    iexact H8
  isplitl [H14]
  · iexists _; isplitr; · ipureintro; exact hf14
    iexact H14
  isplitl [H15]
  · iexists _; isplitr; · ipureintro; exact hf15
    iexact H15
  isplitl [H16]
  · iexists _; isplitr; swap
    · iexists _; isplitr; swap
      · iexact H16
      · ipureintro; rfl
    · ipureintro
      exact Upto.chunk 1 0 (by decide) (Upto.chunk 0 896 (by decide) (hY16) _ _ (p_chunk 0 896 (by decide) (by decide) hf14 _ h40)) _ _ (p_chunk 1 0 (by decide) (by decide) hf14 _ h172)
  · iexists _; isplitr; swap
    · iexists _; isplitr; swap
      · iexact H17
      · ipureintro; rfl
    · ipureintro
      exact Upto.chunk 0 896 (by decide) (hY17) _ _ (ds_chunk 0 896 (by decide) (by decide) hf14 hf15 _ h40 h42)

end Cert.MlaBwd

end
-- ==== Proof.Parts10.lean ====
module

public import proofs.«01_k».proof.Proof.Parts1

@[expose] public section

set_option maxRecDepth 16384

noncomputable section

namespace Cert.MlaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
variable {arg3 : Memref sig .tc .vmem S1024x256 .bf16} (harg3 : arg3.IsWhole) {arg4 : Memref sig .tc .vmem S1024x256 .bf16} (harg4 : arg4.IsWhole) {arg5 : Memref sig .tc .vmem S1024x128 .bf16} (harg5 : arg5.IsWhole) {arg6 : Memref sig .tc .vmem S1024x128 .bf16} (harg6 : arg6.IsWhole) {arg7 : Memref sig .tc .vmem S2x1024x128 .f32} (harg7 : arg7.IsWhole) {arg8 : Memref sig .tc .vmem S2x1024x128 .f32} (harg8 : arg8.IsWhole) {arg9 : Memref sig .tc .vmem S8192x256 .f32} (harg9 : arg9.IsWhole) {arg10 : Memref sig .tc .vmem S256x1024 .bf16} (harg10 : arg10.IsWhole) {arg11 : Memref sig .tc .vmem S128x1024 .bf16} (harg11 : arg11.IsWhole) {arg12 : Memref sig .tc .vmem S256x1024 .f32} (harg12 : arg12.IsWhole) {arg13 : Memref sig .tc .vmem S128x1024 .f32} (harg13 : arg13.IsWhole) {arg14 : Memref sig .tc .vmem S2x1024x1024 .f32} (harg14 : arg14.IsWhole) {arg15 : Memref sig .tc .vmem S2x1024x1024 .f32} (harg15 : arg15.IsWhole) {arg16 : Memref sig .tc .vmem S2x1024x1024 .bf16} (harg16 : arg16.IsWhole) {arg17 : Memref sig .tc .vmem S2x1024x1024 .bf16} (harg17 : arg17.IsWhole)
variable (x0 x1 : Vec Ideal S1024x256 .bf16) (x2 x3 : Vec Ideal S1024x128 .bf16) (x4 x5 : Vec Ideal S2x1024x128 .f32)

/-- One head's contribution of a tile to the accumulated cotangent of the values. -/
def accV (i : Fin 2) (y : Vec Ideal S128x1024 .f32) : Vec Ideal S128x1024 .f32 := fun j =>
  y j + ∑ r : Fin 1024, doM x3 i (ix2 r (j 0)) * Pv x0 x1 x4 (ix3 i r (j 1))

/-- The tile's contribution to the accumulated cotangent of the keys, the rows those of the two heads' columns. -/
def accK (y : Vec Ideal S256x1024 .f32) : Vec Ideal S256x1024 .f32 := fun j =>
  y j + ∑ r : Fin 1024, x0 (ix2 r (j 0)) * DSv x0 x1 x2 x3 x4 x5 (ix3 ⟨(j 0).val / 128, by have : (j 0).val < 256 := (j 0).isLt; omega⟩ r (j 1))

/-- One head's columns of the tile's contribution to the cotangent of the queries. -/
def tileQ (i : Fin 2) (r : Fin 1024) (d : Fin 128) : Ideal .f32 :=
  ∑ k : Fin 1024, DSv x0 x1 x2 x3 x4 x5 (ix3 i r k) * x1 (ix2 k (lane i d))

/-- The first head's columns of a block of two heads' keys, and the second's. -/
theorem pay13_apply (x : Vec Ideal S1024x256 .bf16) (r : Fin 1024) (d : Fin 128) : k0_pay13 (F := Ideal) x (ix2 r d) = x (ix2 r (lane 0 d)) :=
  pay12_apply x r d

theorem pay18_apply (x : Vec Ideal S1024x256 .bf16) (r : Fin 1024) (d : Fin 128) : k0_pay18 (F := Ideal) x (ix2 r d) = x (ix2 r (lane 1 d)) :=
  pay17_apply x r d

/-- The second head's products are the first head's, of its own columns. -/
theorem pay82_apply (w : Vec Ideal S1024x128 .bf16) (y : Vec Ideal S128x1024 .f32) (p : Vec Ideal S1x1024x1024 .bf16) (d : Fin 128) (k : Fin 1024) :
    k0_pay82 (F := Ideal) w y p (ix2 d k) = y (ix2 d k) + ∑ r : Fin 1024, w (ix2 r d) * p (ix3 0 r k) := by
  pointwise [k0_pay82]

theorem pay83_apply (w : Vec Ideal S1024x128 .bf16) (p : Vec Ideal S1x1024x1024 .bf16) (y : Vec Ideal S128x1024 .f32) (d : Fin 128) (k : Fin 1024) :
    k0_pay83 (F := Ideal) w p y (ix2 d k) = y (ix2 d k) + ∑ r : Fin 1024, w (ix2 r d) * p (ix3 0 r k) := by
  pointwise [k0_pay83]

theorem pay84_apply (w : Vec Ideal S1024x128 .bf16) (p : Vec Ideal S1x1024x1024 .bf16) (r : Fin 1024) (d : Fin 128) :
    k0_pay84 (F := Ideal) w p (ix2 r d) = ∑ k : Fin 1024, p (ix3 0 r k) * w (ix2 k d) := by
  pointwise [k0_pay84]

/-- A load of one head's rows of the keys' accumulator. -/
theorem ld_half (y : Vec Ideal S256x1024 .f32) (i : Fin 2)
    (inb : ∀ a, (![128 * i.val, 0] : Fin 2 → ℕ) a + S128x1024.size a ≤ S256x1024.size a) (d : Fin 128) (k : Fin 1024) :
    View.ld (Val := Elt Ideal) y (Rect.unit (s := S256x1024) ![128 * i.val, 0] S128x1024.size inb) (ix2 d k) = y (ix2 (lane i d) k) := by
  refine congrArg y (funext fun a => Fin.ext ?_)
  fin_cases a
  · show 128 * i.val + 1 * d.val = 128 * i.val + d.val; omega
  · show 0 + 1 * k.val = k.val; omega

/-- The accumulator of the keys' cotangent after its two halves are written. -/
theorem accK_of_halves {κ : Kind} {sp : Space} (v : View sig κ sp S256x1024 .f32) (f : v.ty.Contents (Elt Ideal)) (y : Vec Ideal S256x1024 .f32)
    (w1 w0 : Vec Ideal S128x1024 .f32)
    (inb1 : ∀ a, (![128, 0] : Fin 2 → ℕ) a + S128x1024.size a ≤ S256x1024.size a)
    (inb0 : ∀ a, (![0, 0] : Fin 2 → ℕ) a + S128x1024.size a ≤ S256x1024.size a)
    (h0 : ∀ (d : Fin 128) (k : Fin 1024), w0 (ix2 d k) = y (ix2 (lane 0 d) k) + ∑ r : Fin 1024, x0 (ix2 r (lane 0 d)) * DSv x0 x1 x2 x3 x4 x5 (ix3 0 r k))
    (h1 : ∀ (d : Fin 128) (k : Fin 1024), w1 (ix2 d k) = y (ix2 (lane 1 d) k) + ∑ r : Fin 1024, x0 (ix2 r (lane 1 d)) * DSv x0 x1 x2 x3 x4 x5 (ix3 1 r k)) :
    v.read (Elt Ideal) (v.writes (Elt Ideal) f [⟨Rect.unit (s := S256x1024) ![128, 0] S128x1024.size inb1, w1⟩,
      ⟨Rect.unit (s := S256x1024) ![0, 0] S128x1024.size inb0, w0⟩]) = accK x0 x1 x2 x3 x4 x5 y := by
  have e1 : ∀ (d : Fin 128) (k : Fin 1024), (Rect.unit (s := S256x1024) ![128, 0] S128x1024.size inb1).emb (ix2 d k) = ix2 (lane 1 d) k := by
    intro d k; funext a; refine Fin.ext ?_
    fin_cases a
    · show 128 + 1 * d.val = 128 * 1 + d.val; omega
    · show 0 + 1 * k.val = k.val; omega
  have e0 : ∀ (d : Fin 128) (k : Fin 1024), (Rect.unit (s := S256x1024) ![0, 0] S128x1024.size inb0).emb (ix2 d k) = ix2 (lane 0 d) k := by
    intro d k; funext a; refine Fin.ext ?_
    fin_cases a
    · show 0 + 1 * d.val = 128 * 0 + d.val; omega
    · show 0 + 1 * k.val = k.val; omega
  funext j
  obtain ⟨q, k, rfl⟩ : ∃ (q : Fin 256) (k : Fin 1024), j = ix2 q k := ⟨j 0, j 1, eq_ix2 j⟩
  by_cases hq : q.val < 128
  · obtain ⟨d, rfl⟩ : ∃ d : Fin 128, q = lane 0 d := ⟨⟨q.val, hq⟩, Fin.ext (by show q.val = 128 * 0 + q.val; omega)⟩
    rw [View.writes_cons, View.read_slice_write_of_not_mem _ _ _ _ (by
      rw [Rect.map_emb_univ, Rect.mem_set_unit]
      intro h; have := (h 0).1
      change 128 ≤ 128 * 0 + d.val at this
      omega), ← e0 d k, View.read_writes_cons_emb, e0, h0]
    show _ = _ + ∑ r : Fin 1024, x0 (ix2 r (lane 0 d)) * DSv x0 x1 x2 x3 x4 x5 (ix3 ⟨(128 * 0 + d.val) / 128, _⟩ r k)
    have : (⟨(128 * 0 + d.val) / 128, by omega⟩ : Fin 2) = 0 := Fin.ext (by show (128 * 0 + d.val) / 128 = 0; omega)
    rw [this]
  · obtain ⟨d, rfl⟩ : ∃ d : Fin 128, q = lane 1 d := ⟨⟨q.val - 128, by omega⟩, Fin.ext (by show q.val = 128 * 1 + (q.val - 128); omega)⟩
    rw [← e1 d k, View.read_writes_cons_emb, e1, h1]
    show _ = _ + ∑ r : Fin 1024, x0 (ix2 r (lane 1 d)) * DSv x0 x1 x2 x3 x4 x5 (ix3 ⟨(128 * 1 + d.val) / 128, _⟩ r k)
    have : (⟨(128 * 1 + d.val) / 128, by omega⟩ : Fin 2) = 1 := Fin.ext (by show (128 * 1 + d.val) / 128 = 1; omega)
    rw [this]

/-- Part 10 of the body: the last columns, and the first head's contribution to the cotangent of the values. -/
theorem part10_run (v172 v174 : FVec Ideal S1024x128 .f32) (h40 : Stat x4 1 v172) (h42 : Stat x5 1 v174)
    (v : FVec Ideal S1024x128 .bf16) (hv : Chunk x0 x1 x2 x3 x4 x5 1 768 v) (y13 : Vec Ideal S128x1024 .f32)
    (E : Set ℕ) (K : (Σ' (v312 : FVec Ideal S1024x1024 .bf16), FVec Ideal S128x1024 .f32) → sProp 𝕄) :
    iprop(Mid c x0 x1 x2 x3 x4 x5 arg14 arg15 arg16 arg17 1920 1792 ∗ owns (c : Thread nD τ) arg13 fullShare y13
      ∗ (∀ p, iprop(⌜∀ r k : Fin 1024, p (ix3 0 r k) = DSv x0 x1 x2 x3 x4 x5 (ix3 0 r k)⌝ ∗ Mid c x0 x1 x2 x3 x4 x5 arg14 arg15 arg16 arg17 2048 2048 ∗ owns (c : Thread nD τ) arg13 fullShare (accV x0 x1 x3 x4 0 y13)) -∗ K ⟨k0_pay79 p, constant S128x1024 .f32 0x00000000#32⟩))
      ⊢ wp frame (wpE (defs₀ (F := Ideal)) Variants.none c none) E (k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay14 x3) v172 v174 v) K := by
  simp only [k0_part10_eq_skeleton]; unfold k0_part10_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, ⟨%f13, %hf13, H13⟩, Hk⟩
  subst hf16 hf17
  sl_exec
  sl_step
  sl_unfold_words
  have hp : ∀ r k : Fin 1024, arg17.view.readAt (Elt Ideal) (Rect.unit (s := S2x1024x1024) ![0, 0, 0] S1x1024x1024.size inb_S2x1024x1024_S1x1024x1024_0_0_0).toLoadRect f17 (ix3 0 r k)
      = DSv x0 x1 x2 x3 x4 x5 (ix3 0 r k) := by
    intro r k; rw [View.readAt_eq_ld]; exact tile_val hY17 0 (by decide) _ r k
  have hv13 : arg13.view.read (Elt Ideal) (arg13.view.writes (Elt Ideal) f13 [⟨Rect.unit (s := S128x1024) ![0, 0] S128x1024.size inb_S128x1024_S128x1024_0_0,
      k0_pay78 (k0_pay14 x3) (arg13.view.readAt (Elt Ideal) (Rect.unit (s := S128x1024) ![0, 0] S128x1024.size inb_S128x1024_S128x1024_0_0).toLoadRect f13)
        (arg16.view.readAt (Elt Ideal) (Rect.unit (s := S2x1024x1024) ![0, 0, 0] S1x1024x1024.size inb_S2x1024x1024_S1x1024x1024_0_0_0).toLoadRect f16)⟩]) = accV x0 x1 x3 x4 0 y13 := by
    rw [read_write_whole _ _ off2]
    funext j
    obtain ⟨d, k, rfl⟩ : ∃ (d : Fin 128) (k : Fin 1024), j = ix2 d k := ⟨j 0, j 1, eq_ix2 j⟩
    rw [pay78_apply, View.readAt_eq_ld, hf13, View.ld_unit_zero off2, View.readAt_eq_ld]
    show _ = y13 (ix2 d k) + ∑ r : Fin 1024, doM x3 0 (ix2 r d) * Pv x0 x1 x4 (ix3 0 r k)
    congr 1; refine Finset.sum_congr rfl fun r _ => ?_
    rw [pay14_apply]; exact congrArg (doM x3 0 (ix2 r d) * ·) (tile_val hY16 0 (by decide) _ r k)
  iapply Hk
  isplitr
  · ipureintro; exact hp
  isplitr [H13]
  · isplitl [H14]
    · iexists _; isplitr; · ipureintro; exact hf14
      iexact H14
    isplitl [H15]
    · iexists _; isplitr; · ipureintro; exact hf15
      iexact H15
    isplitl [H16]
    · iexists _; isplitr; swap
      · iexists _; isplitr; swap
        · iexact H16
        · ipureintro; rfl
      · ipureintro
        exact Upto.chunk 1 896 (by decide) (hY16) _ _ (p_chunk 1 896 (by decide) (by decide) hf14 _ h40)
    · iexists _; isplitr; swap
      · iexists _; isplitr; swap
        · iexact H17
        · ipureintro; rfl
      · ipureintro
        exact Upto.chunk 1 896 (by decide) (Upto.chunk 1 768 (by decide) (hY17) _ _ (fun r l => (pay53_apply _ 0 r l).trans (hv r l _))) _ _ (ds_chunk 1 896 (by decide) (by decide) hf14 hf15 _ h40 h42)
  · iexists _; isplitr; swap
    · iexact H13
    · ipureintro; exact hv13

/-- Part 11 of the body: the other three products of the tile. -/
theorem part11_run (p : Vec Ideal S1x1024x1024 .bf16) (hp : ∀ r k : Fin 1024, p (ix3 0 r k) = DSv x0 x1 x2 x3 x4 x5 (ix3 0 r k))
    (y12 : Vec Ideal S256x1024 .f32) (y13 : Vec Ideal S128x1024 .f32)
    (E : Set ℕ) (K : (Σ' (v321 : FVec Ideal S1024x128 .f32) (v340 : FVec Ideal S1024x128 .f32), BitVec 32) → sProp 𝕄) :
    iprop(Mid c x0 x1 x2 x3 x4 x5 arg14 arg15 arg16 arg17 2048 2048 ∗ owns (c : Thread nD τ) arg12 fullShare y12 ∗ owns (c : Thread nD τ) arg13 fullShare y13
      ∗ (∀ v321, ∀ v340, ∀ w, iprop(⌜(∀ r d, v321 (ix2 r d) = tileQ x0 x1 x2 x3 x4 x5 0 r d) ∧ (∀ r d, v340 (ix2 r d) = tileQ x0 x1 x2 x3 x4 x5 1 r d)⌝ ∗ Mid c x0 x1 x2 x3 x4 x5 arg14 arg15 arg16 arg17 2048 2048
          ∗ owns (c : Thread nD τ) arg12 fullShare (accK x0 x1 x2 x3 x4 x5 y12) ∗ owns (c : Thread nD τ) arg13 fullShare (accV x0 x1 x3 x4 1 y13)) -∗ K ⟨v321, v340, w⟩))
      ⊢ wp frame (wpE (defs₀ (F := Ideal)) Variants.none c none) E (k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay12 x0) (k0_pay13 x1) (k0_pay17 x0) (k0_pay18 x1) (k0_pay19 x3) (k0_pay79 p) (constant S128x1024 .f32 0x00000000#32)) K := by
  simp only [k0_part11_eq_skeleton]; unfold k0_part11_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, ⟨%f12, %hf12, H12⟩, ⟨%f13, %hf13, H13⟩, Hk⟩
  subst hf16 hf17
  sl_exec
  sl_step
  sl_unfold_words
  have h17 : ∀ (i : Fin 2) (inb : ∀ a, (![i.val, 0, 0] : Fin 3 → ℕ) a + S1x1024x1024.size a ≤ S2x1024x1024.size a) (r k : Fin 1024),
      arg17.view.readAt (Elt Ideal) (Rect.unit (s := S2x1024x1024) ![i.val, 0, 0] S1x1024x1024.size inb).toLoadRect f17 (ix3 0 r k)
      = DSv x0 x1 x2 x3 x4 x5 (ix3 i r k) := by
    intro i inb r k; rw [View.readAt_eq_ld]; exact tile_val hY17 i (by omega) _ r k
  have hv12 : arg12.view.read (Elt Ideal) (arg12.view.writes (Elt Ideal) f12 [⟨Rect.unit (s := S256x1024) ![128, 0] S128x1024.size inb_S256x1024_S128x1024_128_0,
          k0_pay83 (k0_pay17 x0)
            (arg17.view.readAt (Elt Ideal) (Rect.unit (s := S2x1024x1024) ![1, 0, 0] S1x1024x1024.size inb_S2x1024x1024_S1x1024x1024_1_0_0).toLoadRect f17)
            (arg12.view.readAt (Elt Ideal) (Rect.unit (s := S256x1024) ![128, 0] S128x1024.size inb_S256x1024_S128x1024_128_0).toLoadRect f12)⟩,
        ⟨Rect.unit (s := S256x1024) ![0, 0] S128x1024.size inb_S256x1024_S128x1024_0_0,
          k0_pay80 (k0_pay12 x0) (k0_pay79 p) (constant S128x1024 .f32 0x00000000#32)
            (arg12.view.readAt (Elt Ideal) (Rect.unit (s := S256x1024) ![0, 0] S128x1024.size inb_S256x1024_S128x1024_0_0).toLoadRect f12)⟩])
      = accK x0 x1 x2 x3 x4 x5 y12 := by
    refine accK_of_halves x0 x1 x2 x3 x4 x5 _ _ y12 _ _ _ _ (fun d k => ?_) (fun d k => ?_)
    · rw [pay80_apply, View.readAt_eq_ld, hf12]
      refine congrArg₂ (· + ·) (ld_half y12 0 _ d k) (Finset.sum_congr rfl fun r _ => ?_)
      rw [pay12_apply, hp]
    · rw [pay83_apply, View.readAt_eq_ld, hf12]
      refine congrArg₂ (· + ·) (ld_half y12 1 _ d k) (Finset.sum_congr rfl fun r _ => ?_)
      rw [pay17_apply]; exact congrArg (x0 (ix2 r (lane 1 d)) * ·) (h17 1 _ r k)
  have hv13 : arg13.view.read (Elt Ideal) (arg13.view.writes (Elt Ideal) f13 [⟨Rect.unit (s := S128x1024) ![0, 0] S128x1024.size inb_S128x1024_S128x1024_0_0,
      k0_pay82 (k0_pay19 x3) (arg13.view.readAt (Elt Ideal) (Rect.unit (s := S128x1024) ![0, 0] S128x1024.size inb_S128x1024_S128x1024_0_0).toLoadRect f13)
        (arg16.view.readAt (Elt Ideal) (Rect.unit (s := S2x1024x1024) ![1, 0, 0] S1x1024x1024.size inb_S2x1024x1024_S1x1024x1024_1_0_0).toLoadRect f16)⟩]) = accV x0 x1 x3 x4 1 y13 := by
    rw [read_write_whole _ _ off2]
    funext j
    obtain ⟨d, k, rfl⟩ : ∃ (d : Fin 128) (k : Fin 1024), j = ix2 d k := ⟨j 0, j 1, eq_ix2 j⟩
    rw [pay82_apply, View.readAt_eq_ld, hf13, View.ld_unit_zero off2, View.readAt_eq_ld]
    show _ = y13 (ix2 d k) + ∑ r : Fin 1024, doM x3 1 (ix2 r d) * Pv x0 x1 x4 (ix3 1 r k)
    congr 1; refine Finset.sum_congr rfl fun r _ => ?_
    rw [pay19_apply]; congr 1; exact tile_val hY16 1 (by decide) _ r k
  iapply Hk
  isplitr
  · ipureintro
    refine ⟨fun r d => ?_, fun r d => ?_⟩
    · rw [pay81_apply]
      refine Finset.sum_congr rfl fun k _ => ?_
      rw [pay13_apply]; exact congrArg (· * x1 (ix2 k (lane 0 d))) (h17 0 _ r k)
    · rw [pay84_apply]
      refine Finset.sum_congr rfl fun k _ => ?_
      rw [pay18_apply]; exact congrArg (· * x1 (ix2 k (lane 1 d))) (h17 1 _ r k)
  isplitr [H12 H13]
  · isplitl [H14]
    · iexists _; isplitr; · ipureintro; exact hf14
      iexact H14
    isplitl [H15]
    · iexists _; isplitr; · ipureintro; exact hf15
      iexact H15
    isplitl [H16]
    · iexists _; isplitr; swap
      · iexists _; isplitr; swap
        · iexact H16
        · ipureintro; rfl
      · ipureintro; exact hY16
    · iexists _; isplitr; swap
      · iexists _; isplitr; swap
        · iexact H17
        · ipureintro; rfl
      · ipureintro; exact hY17
  isplitl [H12]
  · iexists _; isplitr; swap
    · iexact H12
    · ipureintro; exact hv12
  · iexists _; isplitr; swap
    · iexact H13
    · ipureintro; exact hv13

end Cert.MlaBwd

end
-- ==== Proof.BodyVals.lean ====
module

public import proofs.«01_k».proof.Proof.Parts10

@[expose] public section

set_option maxRecDepth 16384

noncomputable section

namespace Cert.MlaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
variable {arg3 : Memref sig .tc .vmem S1024x256 .bf16} (harg3 : arg3.IsWhole) {arg4 : Memref sig .tc .vmem S1024x256 .bf16} (harg4 : arg4.IsWhole) {arg5 : Memref sig .tc .vmem S1024x128 .bf16} (harg5 : arg5.IsWhole) {arg6 : Memref sig .tc .vmem S1024x128 .bf16} (harg6 : arg6.IsWhole) {arg7 : Memref sig .tc .vmem S2x1024x128 .f32} (harg7 : arg7.IsWhole) {arg8 : Memref sig .tc .vmem S2x1024x128 .f32} (harg8 : arg8.IsWhole) {arg9 : Memref sig .tc .vmem S8192x256 .f32} (harg9 : arg9.IsWhole) {arg10 : Memref sig .tc .vmem S256x1024 .bf16} (harg10 : arg10.IsWhole) {arg11 : Memref sig .tc .vmem S128x1024 .bf16} (harg11 : arg11.IsWhole) {arg12 : Memref sig .tc .vmem S256x1024 .f32} (harg12 : arg12.IsWhole) {arg13 : Memref sig .tc .vmem S128x1024 .f32} (harg13 : arg13.IsWhole) {arg14 : Memref sig .tc .vmem S2x1024x1024 .f32} (harg14 : arg14.IsWhole) {arg15 : Memref sig .tc .vmem S2x1024x1024 .f32} (harg15 : arg15.IsWhole) {arg16 : Memref sig .tc .vmem S2x1024x1024 .bf16} (harg16 : arg16.IsWhole) {arg17 : Memref sig .tc .vmem S2x1024x1024 .bf16} (harg17 : arg17.IsWhole)
variable (x0 x1 : Vec Ideal S1024x256 .bf16) (x2 x3 : Vec Ideal S1024x128 .bf16) (x4 x5 : Vec Ideal S2x1024x128 .f32)

/-- What an accumulator holds when a tile is begun: zeros at the first block of query rows, what it held at a later one. -/
def start {S : Shape} (i : grid0.Coords) (y : Vec Ideal S .f32) : Vec Ideal S .f32 := if (i 2).val = 0 then fun _ => 0 else y

/-- The accumulator of the keys' cotangent after the tile at a point. -/
def next12 (y : Vec Ideal S256x1024 .f32) : Vec Ideal S256x1024 .f32 := accK x0 x1 x2 x3 x4 x5 (start i y)

/-- The accumulator of the values' cotangent after the tile at a point. -/
def next13 (y : Vec Ideal S128x1024 .f32) : Vec Ideal S128x1024 .f32 := accV x0 x1 x3 x4 1 (accV x0 x1 x3 x4 0 (start i y))

/-- The cotangent of the queries of a pair of heads after the tile at a point: the rows of the point's block of queries are
    the tile's contribution, added to what is there unless the block of keys is the first. -/
def next9 (y : Vec Ideal S8192x256 .f32) : Vec Ideal S8192x256 .f32 := fun j =>
  if (j 0).val / 1024 = (i 2).val then
    (if (i 1).val = 0 then 0 else y j)
      + tileQ x0 x1 x2 x3 x4 x5 ⟨(j 1).val / 128, by have : (j 1).val < 256 := (j 1).isLt; omega⟩ ⟨(j 0).val % 1024, Nat.mod_lt _ (by decide)⟩
          ⟨(j 1).val % 128, Nat.mod_lt _ (by decide)⟩
  else y j

theorem cond2_iff : k0_cond2 i = 1#1 ↔ (i 1).val = 0 := word_eq0 (i 1)
theorem cond3_iff : k0_cond3 i = 1#1 ↔ (i 1).val ≠ 0 := word_pos (i 1)
theorem cond4_iff : k0_cond4 i = 1#1 ↔ (i 1).val = 0 := word_eq0 (i 1)
theorem cond5_iff : k0_cond5 i = 1#1 ↔ (i 1).val ≠ 0 := word_pos (i 1)
theorem cond6_iff : k0_cond6 i = 1#1 ↔ (i 2).val = 7 := word_eq7 (i 2)
theorem off1_eq : k0_off1 i = ![1024 * (i 2).val, 0] := congrArg (![·, 0]) (word_off (i 2))
theorem off2_eq : k0_off2 i = ![1024 * (i 2).val, 0] := congrArg (![·, 0]) (word_off (i 2))
theorem off3_eq : k0_off3 i = ![1024 * (i 2).val, 128] := congrArg (![·, 128]) (word_off (i 2))
theorem off4_eq : k0_off4 i = ![1024 * (i 2).val, 128] := congrArg (![·, 128]) (word_off (i 2))

theorem pay5_eq : k0_pay5 (F := Ideal) = fun _ => 0 := by
  funext j; obtain ⟨a, b, rfl⟩ : ∃ (a : Fin 256) (b : Fin 1024), j = ix2 a b := ⟨j 0, j 1, eq_ix2 j⟩
  pointwise [k0_pay5]

theorem pay6_eq : k0_pay6 (F := Ideal) = fun _ => 0 := by
  funext j; obtain ⟨a, b, rfl⟩ : ∃ (a : Fin 128) (b : Fin 1024), j = ix2 a b := ⟨j 0, j 1, eq_ix2 j⟩
  pointwise [k0_pay6]

theorem pay1_apply (v w : Vec Ideal S1024x128 .f32) (r : Fin 1024) (d : Fin 128) : k0_pay1 (F := Ideal) v w (ix2 r d) = w (ix2 r d) + v (ix2 r d) := by
  pointwise [k0_pay1]

theorem pay2_apply (v w : Vec Ideal S1024x128 .f32) (r : Fin 1024) (d : Fin 128) : k0_pay2 (F := Ideal) v w (ix2 r d) = w (ix2 r d) + v (ix2 r d) := by
  pointwise [k0_pay2]

theorem pay3_eq (v : Vec Ideal S256x1024 .f32) : k0_pay3 (F := Ideal) v = v := rfl
theorem pay4_eq (v : Vec Ideal S128x1024 .f32) : k0_pay4 (F := Ideal) v = v := rfl

/-- Part 1 of the body at any point. -/
theorem part1_run (y12 : Vec Ideal S256x1024 .f32) (y13 : Vec Ideal S128x1024 .f32)
    (E : Set ℕ) (K : (Σ' (arg1 : BitVec 32) (arg2 : BitVec 32) (v8 : FVec Ideal S1024x128 .bf16) (v14 : FVec Ideal S1024x128 .bf16) (v15 : FVec Ideal S1024x128 .bf16) (v17 : FVec Ideal S1024x128 .bf16) (v26 : FVec Ideal S1024x128 .bf16) (v27 : FVec Ideal S1024x128 .bf16) (v30 : FVec Ideal S1024x128 .bf16), FVec Ideal S1024x1024 .f32) → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg12 fullShare y12 ∗ owns (c : Thread nD τ) arg13 fullShare y13 ∗ (∃ d, owns (c : Thread nD τ) arg14 fullShare d) ∗ (∃ d, owns (c : Thread nD τ) arg15 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg12 fullShare (start i y12) ∗ owns (c : Thread nD τ) arg13 fullShare (start i y13)
          ∗ (∃ d, ⌜Upto (Sv x0 x1) 1024 d⌝ ∗ owns (c : Thread nD τ) arg14 fullShare d) ∗ (∃ d, ⌜Upto (DPv x2 x3) 1024 d⌝ ∗ owns (c : Thread nD τ) arg15 fullShare d))
        -∗ K ⟨BitVec.ofNat 32 (i 1).val, BitVec.ofNat 32 (i 2).val, k0_pay9 x2, k0_pay12 x0, k0_pay13 x1, k0_pay14 x3, k0_pay17 x0, k0_pay18 x1, k0_pay19 x3, constant S1024x1024 .f32 0x00000000#32⟩))
      ⊢ wp frame (wpE (defs₀ (F := Ideal)) Variants.none c none) E (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  by_cases h : (i 2).val = 0
  · rw [show start i y12 = k0_pay5 (F := Ideal) from (if_pos h).trans pay5_eq.symm, show start i y13 = k0_pay6 (F := Ideal) from (if_pos h).trans pay6_eq.symm]
    exact part1_zero c i harg3 harg4 harg5 harg6 harg7 harg8 harg9 harg10 harg11 harg12 harg13 harg14 harg15 harg16 harg17 x0 x1 x2 x3 ((word_eq0 (i 2)).mpr h) y12 y13 E K
  · rw [show start i y12 = y12 from if_neg h, show start i y13 = y13 from if_neg h]
    exact part1_keep c i harg3 harg4 harg5 harg6 harg7 harg8 harg9 harg10 harg11 harg12 harg13 harg14 harg15 harg16 harg17 x0 x1 x2 x3 (fun hh => h ((word_eq0 (i 2)).mp hh)) y12 y13 E K

section Rows
variable {κ : Kind} {sp : Space} (v : View sig κ sp S8192x256 .f32) (f : v.ty.Contents (Elt Ideal)) (qb : Fin 8)

theorem rows_emb {off : Fin 2 → ℕ} {h : Fin 2} (ho : off = ![1024 * qb.val, 128 * h.val])
    (inb : ∀ a, off a + S1024x128.size a ≤ S8192x256.size a) (r : Fin 1024) (d : Fin 128) :
    (Rect.unit (s := S8192x256) off S1024x128.size inb).emb (ix2 r d) = ix2 ⟨1024 * qb.val + r.val, row_lt qb r⟩ (lane h d) := by
  subst ho; funext a; refine Fin.ext ?_
  fin_cases a
  · show 1024 * qb.val + 1 * r.val = _; simp
  · show 128 * h.val + 1 * d.val = 128 * h.val + d.val; omega

theorem rows_mem {off : Fin 2 → ℕ} {h : Fin 2} (ho : off = ![1024 * qb.val, 128 * h.val])
    (inb : ∀ a, off a + S1024x128.size a ≤ S8192x256.size a) (j : S8192x256.Idx) (hj : j ∈ (Rect.unit (s := S8192x256) off S1024x128.size inb).set) :
    (j 0).val / 1024 = qb.val ∧ (j 1).val / 128 = h.val := by
  subst ho; rw [Rect.mem_set_unit] at hj
  have h0 := hj 0; have h1 := hj 1
  change 1024 * qb.val ≤ (j 0).val ∧ (j 0).val < 1024 * qb.val + 1024 at h0
  change 128 * h.val ≤ (j 1).val ∧ (j 1).val < 128 * h.val + 128 at h1
  omega

/-- Two heads' columns of one block of rows, written one after the other. -/
theorem rows_two {o0 o1 : Fin 2 → ℕ} (h0 : o0 = ![1024 * qb.val, 0]) (h1 : o1 = ![1024 * qb.val, 128])
    (inb0 : ∀ a, o0 a + S1024x128.size a ≤ S8192x256.size a) (inb1 : ∀ a, o1 a + S1024x128.size a ≤ S8192x256.size a)
    (w0 w1 : Vec Ideal S1024x128 .f32) (G : Vec Ideal S8192x256 .f32)
    (g0 : ∀ (r : Fin 1024) (d : Fin 128), w0 (ix2 r d) = G (ix2 ⟨1024 * qb.val + r.val, row_lt qb r⟩ (lane 0 d)))
    (g1 : ∀ (r : Fin 1024) (d : Fin 128), w1 (ix2 r d) = G (ix2 ⟨1024 * qb.val + r.val, row_lt qb r⟩ (lane 1 d)))
    (g : ∀ j, (j 0).val / 1024 ≠ qb.val → v.read (Elt Ideal) f j = G j) :
    v.read (Elt Ideal) (v.writes (Elt Ideal) f [⟨Rect.unit (s := S8192x256) o1 S1024x128.size inb1, w1⟩,
      ⟨Rect.unit (s := S8192x256) o0 S1024x128.size inb0, w0⟩]) = G := by
  have e0 := rows_emb qb (h := 0) h0 inb0
  have e1 := rows_emb qb (h := 1) h1 inb1
  have m0 := rows_mem qb (h := 0) h0 inb0
  have m1 := rows_mem qb (h := 1) h1 inb1
  funext j
  obtain ⟨p, q, rfl⟩ : ∃ (p : Fin 8192) (q : Fin 256), j = ix2 p q := ⟨j 0, j 1, eq_ix2 j⟩
  by_cases hp : p.val / 1024 = qb.val
  · have hex : ∃ r : Fin 1024, p.val = 1024 * qb.val + r.val := ⟨⟨p.val % 1024, Nat.mod_lt _ (by decide)⟩, by show p.val = 1024 * qb.val + p.val % 1024; omega⟩
    obtain ⟨r, hr⟩ := hex
    obtain rfl : p = ⟨1024 * qb.val + r.val, row_lt qb r⟩ := Fin.ext hr
    by_cases hq : q.val < 128
    · have hex : ∃ d : Fin 128, q = lane 0 d := ⟨⟨q.val, hq⟩, Fin.ext (by show q.val = 128 * 0 + q.val; omega)⟩
      obtain ⟨d, rfl⟩ := hex
      rw [View.writes_cons, View.read_slice_write_of_not_mem _ _ _ _ (by
        rw [Rect.map_emb_univ]
        intro h; have := (m1 _ h).2
        change (128 * 0 + d.val) / 128 = 1 at this
        omega), ← e0 r d, View.read_writes_cons_emb, e0, g0]
    · have hex : ∃ d : Fin 128, q = lane 1 d := ⟨⟨q.val - 128, by omega⟩, Fin.ext (by show q.val = 128 * 1 + (q.val - 128); omega)⟩
      obtain ⟨d, rfl⟩ := hex
      rw [← e1 r d, View.read_writes_cons_emb, e1, g1]
  · rw [View.writes_cons, View.read_slice_write_of_not_mem _ _ _ _ (by
        rw [Rect.map_emb_univ]; exact fun h => hp (m1 _ h).1),
      View.writes_cons, View.read_slice_write_of_not_mem _ _ _ _ (by
        rw [Rect.map_emb_univ]; exact fun h => hp (m0 _ h).1)]
    exact g _ hp

/-- One head's columns of one block of rows, loaded. -/
theorem rows_ld {off : Fin 2 → ℕ} {h : Fin 2} (ho : off = ![1024 * qb.val, 128 * h.val])
    (inb : ∀ a, off a + S1024x128.size a ≤ S8192x256.size a) (r : Fin 1024) (d : Fin 128) :
    v.readAt (Elt Ideal) (Rect.unit (s := S8192x256) off S1024x128.size inb).toLoadRect f (ix2 r d)
      = v.read (Elt Ideal) f (ix2 ⟨1024 * qb.val + r.val, row_lt qb r⟩ (lane h d)) :=
  congrArg (v.read (Elt Ideal) f) (rows_emb qb ho inb r d)

/-- The second head's columns, loaded after the first head's were written. -/
theorem rows_ld_after {o0 o1 : Fin 2 → ℕ} (h0 : o0 = ![1024 * qb.val, 0]) (h1 : o1 = ![1024 * qb.val, 128])
    (inb0 : ∀ a, o0 a + S1024x128.size a ≤ S8192x256.size a) (inb1 : ∀ a, o1 a + S1024x128.size a ≤ S8192x256.size a)
    (w0 : Vec Ideal S1024x128 .f32) (r : Fin 1024) (d : Fin 128) :
    v.readAt (Elt Ideal) (Rect.unit (s := S8192x256) o1 S1024x128.size inb1).toLoadRect
        (v.writes (Elt Ideal) f [⟨Rect.unit (s := S8192x256) o0 S1024x128.size inb0, w0⟩]) (ix2 r d)
      = v.read (Elt Ideal) f (ix2 ⟨1024 * qb.val + r.val, row_lt qb r⟩ (lane 1 d)) := by
  rw [rows_ld v _ qb (h := 1) h1 inb1, View.writes_cons, View.read_slice_write_of_not_mem _ _ _ _ (by
    rw [Rect.map_emb_univ]
    intro h; have := (rows_mem qb (h := 0) h0 inb0 _ h).2
    change (128 * 1 + d.val) / 128 = 0 at this
    omega)]
  rfl
end Rows

theorem next9_in (y : Vec Ideal S8192x256 .f32) (h : Fin 2) (r : Fin 1024) (d : Fin 128) :
    next9 i x0 x1 x2 x3 x4 x5 y (ix2 ⟨1024 * (i 2).val + r.val, row_lt (i 2) r⟩ (lane h d))
      = (if (i 1).val = 0 then 0 else y (ix2 ⟨1024 * (i 2).val + r.val, row_lt (i 2) r⟩ (lane h d))) + tileQ x0 x1 x2 x3 x4 x5 h r d := by
  have hc : (1024 * (i 2).val + r.val) / 1024 = (i 2).val := by omega
  unfold next9
  refine (if_pos hc).trans ?_
  have e1 : (⟨(128 * h.val + d.val) / 128, by omega⟩ : Fin 2) = h := Fin.ext (by show (128 * h.val + d.val) / 128 = h.val; omega)
  have e2 : (⟨(1024 * (i 2).val + r.val) % 1024, Nat.mod_lt _ (by decide)⟩ : Fin 1024) = r := Fin.ext (by show (1024 * (i 2).val + r.val) % 1024 = r.val; omega)
  have e3 : (⟨(128 * h.val + d.val) % 128, Nat.mod_lt _ (by decide)⟩ : Fin 128) = d := Fin.ext (by show (128 * h.val + d.val) % 128 = d.val; omega)
  exact congrArg (_ + ·) (congr (congrArg₂ (tileQ x0 x1 x2 x3 x4 x5) e1 e2) e3)

theorem next9_out (y : Vec Ideal S8192x256 .f32) (j : S8192x256.Idx) (hj : (j 0).val / 1024 ≠ (i 2).val) :
    next9 i x0 x1 x2 x3 x4 x5 y j = y j := if_neg hj

end Cert.MlaBwd

end
-- ==== Proof.Body.lean ====
module

public import proofs.«01_k».proof.Proof.BodyVals

@[expose] public section

set_option maxRecDepth 16384

noncomputable section

namespace Cert.MlaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
variable {arg3 : Memref sig .tc .vmem S1024x256 .bf16} (harg3 : arg3.IsWhole) {arg4 : Memref sig .tc .vmem S1024x256 .bf16} (harg4 : arg4.IsWhole) {arg5 : Memref sig .tc .vmem S1024x128 .bf16} (harg5 : arg5.IsWhole) {arg6 : Memref sig .tc .vmem S1024x128 .bf16} (harg6 : arg6.IsWhole) {arg7 : Memref sig .tc .vmem S2x1024x128 .f32} (harg7 : arg7.IsWhole) {arg8 : Memref sig .tc .vmem S2x1024x128 .f32} (harg8 : arg8.IsWhole) {arg9 : Memref sig .tc .vmem S8192x256 .f32} (harg9 : arg9.IsWhole) {arg10 : Memref sig .tc .vmem S256x1024 .bf16} (harg10 : arg10.IsWhole) {arg11 : Memref sig .tc .vmem S128x1024 .bf16} (harg11 : arg11.IsWhole) {arg12 : Memref sig .tc .vmem S256x1024 .f32} (harg12 : arg12.IsWhole) {arg13 : Memref sig .tc .vmem S128x1024 .f32} (harg13 : arg13.IsWhole) {arg14 : Memref sig .tc .vmem S2x1024x1024 .f32} (harg14 : arg14.IsWhole) {arg15 : Memref sig .tc .vmem S2x1024x1024 .f32} (harg15 : arg15.IsWhole) {arg16 : Memref sig .tc .vmem S2x1024x1024 .bf16} (harg16 : arg16.IsWhole) {arg17 : Memref sig .tc .vmem S2x1024x1024 .bf16} (harg17 : arg17.IsWhole)
variable (x0 x1 : Vec Ideal S1024x256 .bf16) (x2 x3 : Vec Ideal S1024x128 .bf16) (x4 x5 : Vec Ideal S2x1024x128 .f32)

set_option maxHeartbeats 8000000 in
/-- The kernel body at a grid point: from any contents of the outputs and of the scratch buffers, the windows of inputs at
    `x0` to `x5`, it adds the point's tile to the three accumulations, and at the last block of query rows writes the two
    key-side accumulators out. -/
theorem body_run (y9 : Vec Ideal S8192x256 .f32) (y10 : Vec Ideal S256x1024 .bf16) (y11 : Vec Ideal S128x1024 .bf16)
    (y12 : Vec Ideal S256x1024 .f32) (y13 : Vec Ideal S128x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
        ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (next9 i x0 x1 x2 x3 x4 x5 y9)
          ∗ owns (c : Thread nD τ) arg10 fullShare (if (i 2).val = 7 then next12 i x0 x1 x2 x3 x4 x5 y12 else y10) ∗ owns (c : Thread nD τ) arg11 fullShare (if (i 2).val = 7 then next13 i x0 x1 x3 x4 y13 else y11)
          ∗ owns (c : Thread nD τ) arg12 fullShare (next12 i x0 x1 x2 x3 x4 x5 y12) ∗ owns (c : Thread nD τ) arg13 fullShare (next13 i x0 x1 x3 x4 y13)
          ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))
        -∗ K ⟨⟩))
      ⊢ wp frame (wpE (defs₀ (F := Ideal)) Variants.none c none) E (cc0_mla_bwd (F := Ideal) i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_mla_bwd_eq_skeleton]; unfold cc0_mla_bwd_skel
  iintro ⟨H3, H4, H5, H6, H7, H8, H9, H10, H11, H12, H13, H14, H15, H16, H17, Hk⟩
  rw [wp_bind]
  iapply (part1_run c i harg3 harg4 harg5 harg6 harg7 harg8 harg9 harg10 harg11 harg12 harg13 harg14 harg15 harg16 harg17 x0 x1 x2 x3 y12 y13)
  isplitl [H3]; · iexact H3
  isplitl [H4]; · iexact H4
  isplitl [H5]; · iexact H5
  isplitl [H6]; · iexact H6
  isplitl [H12]; · iexact H12
  isplitl [H13]; · iexact H13
  isplitl [H14]; · iexact H14
  isplitl [H15]; · iexact H15
  iintro ⟨H3, H4, H5, H6, H12, H13, H14, H15⟩
  (try dsimp only)
  rw [wp_bind]
  iapply (part2_run c i harg3 harg4 harg5 harg6 harg7 harg8 harg9 harg10 harg11 harg12 harg13 harg14 harg15 harg16 harg17 x0 x1 x2 x3 x4 x5)
  isplitl [H7]; · iexact H7
  isplitl [H8]; · iexact H8
  isplitl [H14]; · iexact H14
  isplitl [H15]; · iexact H15
  isplitl [H16]; · iexact H16
  isplitl [H17]; · iexact H17
  iintro %v40 %v42 ⟨%hs, H7, H8, HM⟩
  (try dsimp only)
  rw [wp_bind]
  iapply (part3_run c i harg3 harg4 harg5 harg6 harg7 harg8 harg9 harg10 harg11 harg12 harg13 harg14 harg15 harg16 harg17 x0 x1 x2 x3 x4 x5 v40 v42 hs.1 hs.2)
  isplitl [HM]; · iexact HM
  iintro HM
  (try dsimp only)
  rw [wp_bind]
  iapply (part4_run c i harg3 harg4 harg5 harg6 harg7 harg8 harg9 harg10 harg11 harg12 harg13 harg14 harg15 harg16 harg17 x0 x1 x2 x3 x4 x5 v40 v42 hs.1 hs.2)
  isplitl [HM]; · iexact HM
  iintro HM
  (try dsimp only)
  rw [wp_bind]
  iapply (part5_run c i harg3 harg4 harg5 harg6 harg7 harg8 harg9 harg10 harg11 harg12 harg13 harg14 harg15 harg16 harg17 x0 x1 x2 x3 x4 x5 v40 v42 hs.1 hs.2)
  isplitl [HM]; · iexact HM
  iintro HM
  (try dsimp only)
  rw [wp_bind]
  iapply (part6_run c i harg3 harg4 harg5 harg6 harg7 harg8 harg9 harg10 harg11 harg12 harg13 harg14 harg15 harg16 harg17 x0 x1 x2 x3 x4 x5 v40 v42 hs.1 hs.2)
  isplitl [H7]; · iexact H7
  isplitl [H8]; · iexact H8
  isplitl [HM]; · iexact HM
  iintro %v172 %v174 %w6 ⟨%ht, H7, H8, HM⟩
  (try dsimp only)
  rw [wp_bind]
  iapply (part7_run c i harg3 harg4 harg5 harg6 harg7 harg8 harg9 harg10 harg11 harg12 harg13 harg14 harg15 harg16 harg17 x0 x1 x2 x3 x4 x5 v172 v174 ht.1 ht.2.1 w6 ht.2.2)
  isplitl [HM]; · iexact HM
  iintro %w7 ⟨%h7, HM⟩
  (try dsimp only)
  rw [wp_bind]
  iapply (part8_run c i harg3 harg4 harg5 harg6 harg7 harg8 harg9 harg10 harg11 harg12 harg13 harg14 harg15 harg16 harg17 x0 x1 x2 x3 x4 x5 v172 v174 ht.1 ht.2.1 w7 h7)
  isplitl [HM]; · iexact HM
  iintro %w8 ⟨%h8, HM⟩
  (try dsimp only)
  rw [wp_bind]
  iapply (part9_run c i harg3 harg4 harg5 harg6 harg7 harg8 harg9 harg10 harg11 harg12 harg13 harg14 harg15 harg16 harg17 x0 x1 x2 x3 x4 x5 v172 v174 ht.1 ht.2.1 w8 h8)
  isplitl [HM]; · iexact HM
  iintro %w9 ⟨%h9, HM⟩
  (try dsimp only)
  rw [wp_bind]
  iapply (part10_run c i harg3 harg4 harg5 harg6 harg7 harg8 harg9 harg10 harg11 harg12 harg13 harg14 harg15 harg16 harg17 x0 x1 x2 x3 x4 x5 v172 v174 ht.1 ht.2.1 w9 h9 (start i y13))
  isplitl [HM]; · iexact HM
  isplitl [H13]; · iexact H13
  iintro %p ⟨%hp, HM, H13⟩
  (try dsimp only)
  rw [wp_bind]
  iapply (part11_run c i harg3 harg4 harg5 harg6 harg7 harg8 harg9 harg10 harg11 harg12 harg13 harg14 harg15 harg16 harg17 x0 x1 x2 x3 x4 x5 p hp (start i y12) (accV x0 x1 x3 x4 0 (start i y13)))
  isplitl [HM]; · iexact HM
  isplitl [H12]; · iexact H12
  isplitl [H13]; · iexact H13
  iintro %v321 %v340 %w11 ⟨%hq, HM, H12, H13⟩
  (try dsimp only)
  rw [show accV x0 x1 x3 x4 1 (accV x0 x1 x3 x4 0 (start i y13)) = next13 i x0 x1 x3 x4 y13 from rfl, show accK x0 x1 x2 x3 x4 x5 (start i y12) = next12 i x0 x1 x2 x3 x4 x5 y12 from rfl]
  unfold Mid
  icases HM with ⟨H14, H15, ⟨%Y16, -, H16⟩, ⟨%Y17, -, H17⟩⟩
  by_cases hk : (i 1).val = 0
  · by_cases h7 : (i 2).val = 7
    · simp only [dif_pos ((cond2_iff i).mpr hk), dif_neg (fun h => (cond3_iff i).mp h hk), dif_pos ((cond4_iff i).mpr hk), dif_neg (fun h => (cond5_iff i).mp h hk), dif_pos ((cond6_iff i).mpr h7), if_pos h7]
      unfold owns
      icases H9 with ⟨%f9, %hf9, H9⟩
      icases H10 with ⟨%f10, %hf10, H10⟩
      icases H11 with ⟨%f11, %hf11, H11⟩
      icases H12 with ⟨%f12, %hf12, H12⟩
      icases H13 with ⟨%f13, %hf13, H13⟩
      sl_exec
      sl_step
      sl_unfold_words
      have hv9 : arg9.view.read (Elt Ideal) (arg9.view.writes (Elt Ideal) f9 [⟨Rect.unit (s := S8192x256) (k0_off3 i) S1024x128.size (k0_off3_inb i ((cond4_iff i).mpr hk)), v340⟩,
          ⟨Rect.unit (s := S8192x256) (k0_off1 i) S1024x128.size (k0_off1_inb i ((cond2_iff i).mpr hk)), v321⟩]) = next9 i x0 x1 x2 x3 x4 x5 y9 := by
        refine rows_two arg9.view f9 (i 2) (off1_eq i) (off3_eq i) _ _ _ _ _ (fun r d => ?_) (fun r d => ?_) (fun j hj => ?_)
        · rw [next9_in, if_pos hk, zero_add]; exact hq.1 r d
        · rw [next9_in, if_pos hk, zero_add]; exact hq.2 r d
        · rw [next9_out i x0 x1 x2 x3 x4 x5 y9 j hj, hf9]
      have hv10 : arg10.view.read (Elt Ideal) (arg10.view.writes (Elt Ideal) f10 [⟨Rect.unit (s := S256x1024) ![0, 0] S256x1024.size inb_S256x1024_S256x1024_0_0,
          k0_pay3 (arg12.view.readAt (Elt Ideal) (Rect.unit (s := S256x1024) ![0, 0] S256x1024.size inb_S256x1024_S256x1024_0_0).toLoadRect f12)⟩]) = next12 i x0 x1 x2 x3 x4 x5 y12 := by
        rw [read_write_whole _ _ off2, pay3_eq, View.readAt_eq_ld, hf12, View.ld_unit_zero off2]
      have hv11 : arg11.view.read (Elt Ideal) (arg11.view.writes (Elt Ideal) f11 [⟨Rect.unit (s := S128x1024) ![0, 0] S128x1024.size inb_S128x1024_S128x1024_0_0,
          k0_pay4 (arg13.view.readAt (Elt Ideal) (Rect.unit (s := S128x1024) ![0, 0] S128x1024.size inb_S128x1024_S128x1024_0_0).toLoadRect f13)⟩]) = next13 i x0 x1 x3 x4 y13 := by
        rw [read_write_whole _ _ off2, pay4_eq, View.readAt_eq_ld, hf13, View.ld_unit_zero off2]
      iapply Hk
      isplitl [H3]; · iexact H3
      isplitl [H4]; · iexact H4
      isplitl [H5]; · iexact H5
      isplitl [H6]; · iexact H6
      isplitl [H7]; · iexact H7
      isplitl [H8]; · iexact H8
      isplitl [H9]
      · iexists _; isplitr; swap
        · iexact H9
        · ipureintro; exact hv9
      isplitl [H10]
      · iexists _; isplitr; swap
        · iexact H10
        · ipureintro; exact hv10
      isplitl [H11]
      · iexists _; isplitr; swap
        · iexact H11
        · ipureintro; exact hv11
      isplitl [H12]
      · iexists _; isplitr; swap
        · iexact H12
        · ipureintro; exact hf12
      isplitl [H13]
      · iexists _; isplitr; swap
        · iexact H13
        · ipureintro; exact hf13
      isplitl [H14]; · iexists _; iexact H14
      isplitl [H15]; · iexists _; iexact H15
      isplitl [H16]; · iexists _; iexact H16
      iexists _; iexact H17
    · simp only [dif_pos ((cond2_iff i).mpr hk), dif_neg (fun h => (cond3_iff i).mp h hk), dif_pos ((cond4_iff i).mpr hk), dif_neg (fun h => (cond5_iff i).mp h hk), dif_neg (fun h => h7 ((cond6_iff i).mp h)), if_neg h7]
      unfold owns
      icases H9 with ⟨%f9, %hf9, H9⟩
      icases H10 with ⟨%f10, %hf10, H10⟩
      icases H11 with ⟨%f11, %hf11, H11⟩
      icases H12 with ⟨%f12, %hf12, H12⟩
      icases H13 with ⟨%f13, %hf13, H13⟩
      sl_exec
      sl_step
      sl_unfold_words
      have hv9 : arg9.view.read (Elt Ideal) (arg9.view.writes (Elt Ideal) f9 [⟨Rect.unit (s := S8192x256) (k0_off3 i) S1024x128.size (k0_off3_inb i ((cond4_iff i).mpr hk)), v340⟩,
          ⟨Rect.unit (s := S8192x256) (k0_off1 i) S1024x128.size (k0_off1_inb i ((cond2_iff i).mpr hk)), v321⟩]) = next9 i x0 x1 x2 x3 x4 x5 y9 := by
        refine rows_two arg9.view f9 (i 2) (off1_eq i) (off3_eq i) _ _ _ _ _ (fun r d => ?_) (fun r d => ?_) (fun j hj => ?_)
        · rw [next9_in, if_pos hk, zero_add]; exact hq.1 r d
        · rw [next9_in, if_pos hk, zero_add]; exact hq.2 r d
        · rw [next9_out i x0 x1 x2 x3 x4 x5 y9 j hj, hf9]
      iapply Hk
      isplitl [H3]; · iexact H3
      isplitl [H4]; · iexact H4
      isplitl [H5]; · iexact H5
      isplitl [H6]; · iexact H6
      isplitl [H7]; · iexact H7
      isplitl [H8]; · iexact H8
      isplitl [H9]
      · iexists _; isplitr; swap
        · iexact H9
        · ipureintro; exact hv9
      isplitl [H10]
      · iexists _; isplitr; swap
        · iexact H10
        · ipureintro; exact hf10
      isplitl [H11]
      · iexists _; isplitr; swap
        · iexact H11
        · ipureintro; exact hf11
      isplitl [H12]
      · iexists _; isplitr; swap
        · iexact H12
        · ipureintro; exact hf12
      isplitl [H13]
      · iexists _; isplitr; swap
        · iexact H13
        · ipureintro; exact hf13
      isplitl [H14]; · iexists _; iexact H14
      isplitl [H15]; · iexists _; iexact H15
      isplitl [H16]; · iexists _; iexact H16
      iexists _; iexact H17
  · by_cases h7 : (i 2).val = 7
    · simp only [dif_neg (fun h => hk ((cond2_iff i).mp h)), dif_pos ((cond3_iff i).mpr hk), dif_neg (fun h => hk ((cond4_iff i).mp h)), dif_pos ((cond5_iff i).mpr hk), dif_pos ((cond6_iff i).mpr h7), if_pos h7]
      unfold owns
      icases H9 with ⟨%f9, %hf9, H9⟩
      icases H10 with ⟨%f10, %hf10, H10⟩
      icases H11 with ⟨%f11, %hf11, H11⟩
      icases H12 with ⟨%f12, %hf12, H12⟩
      icases H13 with ⟨%f13, %hf13, H13⟩
      sl_exec
      sl_step
      sl_unfold_words
      have hv9 : arg9.view.read (Elt Ideal) (arg9.view.writes (Elt Ideal) f9 [⟨Rect.unit (s := S8192x256) (k0_off4 i) S1024x128.size (k0_off4_inb i ((cond5_iff i).mpr hk)), (k0_pay2 v340 (arg9.view.readAt (Elt Ideal) (Rect.unit (s := S8192x256) (k0_off4 i) S1024x128.size (k0_off4_inb i ((cond5_iff i).mpr hk))).toLoadRect f9))⟩,
          ⟨Rect.unit (s := S8192x256) (k0_off2 i) S1024x128.size (k0_off2_inb i ((cond3_iff i).mpr hk)), (k0_pay1 v321 (arg9.view.readAt (Elt Ideal) (Rect.unit (s := S8192x256) (k0_off2 i) S1024x128.size (k0_off2_inb i ((cond3_iff i).mpr hk))).toLoadRect f9))⟩]) = next9 i x0 x1 x2 x3 x4 x5 y9 := by
        refine rows_two arg9.view f9 (i 2) (off2_eq i) (off4_eq i) _ _ _ _ _ (fun r d => ?_) (fun r d => ?_) (fun j hj => ?_)
        · rw [next9_in, if_neg hk, pay1_apply, rows_ld arg9.view f9 (i 2) (h := 0) (off2_eq i), hf9, hq.1 r d]
        · rw [next9_in, if_neg hk, pay2_apply, rows_ld arg9.view f9 (i 2) (h := 1) (off4_eq i), hf9, hq.2 r d]
        · rw [next9_out i x0 x1 x2 x3 x4 x5 y9 j hj, hf9]
      have hv10 : arg10.view.read (Elt Ideal) (arg10.view.writes (Elt Ideal) f10 [⟨Rect.unit (s := S256x1024) ![0, 0] S256x1024.size inb_S256x1024_S256x1024_0_0,
          k0_pay3 (arg12.view.readAt (Elt Ideal) (Rect.unit (s := S256x1024) ![0, 0] S256x1024.size inb_S256x1024_S256x1024_0_0).toLoadRect f12)⟩]) = next12 i x0 x1 x2 x3 x4 x5 y12 := by
        rw [read_write_whole _ _ off2, pay3_eq, View.readAt_eq_ld, hf12, View.ld_unit_zero off2]
      have hv11 : arg11.view.read (Elt Ideal) (arg11.view.writes (Elt Ideal) f11 [⟨Rect.unit (s := S128x1024) ![0, 0] S128x1024.size inb_S128x1024_S128x1024_0_0,
          k0_pay4 (arg13.view.readAt (Elt Ideal) (Rect.unit (s := S128x1024) ![0, 0] S128x1024.size inb_S128x1024_S128x1024_0_0).toLoadRect f13)⟩]) = next13 i x0 x1 x3 x4 y13 := by
        rw [read_write_whole _ _ off2, pay4_eq, View.readAt_eq_ld, hf13, View.ld_unit_zero off2]
      iapply Hk
      isplitl [H3]; · iexact H3
      isplitl [H4]; · iexact H4
      isplitl [H5]; · iexact H5
      isplitl [H6]; · iexact H6
      isplitl [H7]; · iexact H7
      isplitl [H8]; · iexact H8
      isplitl [H9]
      · iexists _; isplitr; swap
        · iexact H9
        · ipureintro; exact hv9
      isplitl [H10]
      · iexists _; isplitr; swap
        · iexact H10
        · ipureintro; exact hv10
      isplitl [H11]
      · iexists _; isplitr; swap
        · iexact H11
        · ipureintro; exact hv11
      isplitl [H12]
      · iexists _; isplitr; swap
        · iexact H12
        · ipureintro; exact hf12
      isplitl [H13]
      · iexists _; isplitr; swap
        · iexact H13
        · ipureintro; exact hf13
      isplitl [H14]; · iexists _; iexact H14
      isplitl [H15]; · iexists _; iexact H15
      isplitl [H16]; · iexists _; iexact H16
      iexists _; iexact H17
    · simp only [dif_neg (fun h => hk ((cond2_iff i).mp h)), dif_pos ((cond3_iff i).mpr hk), dif_neg (fun h => hk ((cond4_iff i).mp h)), dif_pos ((cond5_iff i).mpr hk), dif_neg (fun h => h7 ((cond6_iff i).mp h)), if_neg h7]
      unfold owns
      icases H9 with ⟨%f9, %hf9, H9⟩
      icases H10 with ⟨%f10, %hf10, H10⟩
      icases H11 with ⟨%f11, %hf11, H11⟩
      icases H12 with ⟨%f12, %hf12, H12⟩
      icases H13 with ⟨%f13, %hf13, H13⟩
      sl_exec
      sl_step
      sl_unfold_words
      have hv9 : arg9.view.read (Elt Ideal) (arg9.view.writes (Elt Ideal) f9 [⟨Rect.unit (s := S8192x256) (k0_off4 i) S1024x128.size (k0_off4_inb i ((cond5_iff i).mpr hk)), (k0_pay2 v340 (arg9.view.readAt (Elt Ideal) (Rect.unit (s := S8192x256) (k0_off4 i) S1024x128.size (k0_off4_inb i ((cond5_iff i).mpr hk))).toLoadRect f9))⟩,
          ⟨Rect.unit (s := S8192x256) (k0_off2 i) S1024x128.size (k0_off2_inb i ((cond3_iff i).mpr hk)), (k0_pay1 v321 (arg9.view.readAt (Elt Ideal) (Rect.unit (s := S8192x256) (k0_off2 i) S1024x128.size (k0_off2_inb i ((cond3_iff i).mpr hk))).toLoadRect f9))⟩]) = next9 i x0 x1 x2 x3 x4 x5 y9 := by
        refine rows_two arg9.view f9 (i 2) (off2_eq i) (off4_eq i) _ _ _ _ _ (fun r d => ?_) (fun r d => ?_) (fun j hj => ?_)
        · rw [next9_in, if_neg hk, pay1_apply, rows_ld arg9.view f9 (i 2) (h := 0) (off2_eq i), hf9, hq.1 r d]
        · rw [next9_in, if_neg hk, pay2_apply, rows_ld arg9.view f9 (i 2) (h := 1) (off4_eq i), hf9, hq.2 r d]
        · rw [next9_out i x0 x1 x2 x3 x4 x5 y9 j hj, hf9]
      iapply Hk
      isplitl [H3]; · iexact H3
      isplitl [H4]; · iexact H4
      isplitl [H5]; · iexact H5
      isplitl [H6]; · iexact H6
      isplitl [H7]; · iexact H7
      isplitl [H8]; · iexact H8
      isplitl [H9]
      · iexists _; isplitr; swap
        · iexact H9
        · ipureintro; exact hv9
      isplitl [H10]
      · iexists _; isplitr; swap
        · iexact H10
        · ipureintro; exact hf10
      isplitl [H11]
      · iexists _; isplitr; swap
        · iexact H11
        · ipureintro; exact hf11
      isplitl [H12]
      · iexists _; isplitr; swap
        · iexact H12
        · ipureintro; exact hf12
      isplitl [H13]
      · iexists _; isplitr; swap
        · iexact H13
        · ipureintro; exact hf13
      isplitl [H14]; · iexists _; iexact H14
      isplitl [H15]; · iexists _; iexact H15
      isplitl [H16]; · iexists _; iexact H16
      iexists _; iexact H17
end Cert.MlaBwd

end
-- ==== Proof.Obl.lean ====
module

public import proofs.«01_k».proof.Proof.Body
public import proofs.«01_k».proof.Proof.Gen.KernelIdeal.Frame
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.MlaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The block of input 0 at a point. -/
abbrev X0 (c : Dev nD) (t : Fin cfg0.N) : Vec Ideal S1024x256 .bf16 := iblk m c 0 t
/-- The block of input 1 at a point. -/
abbrev X1 (c : Dev nD) (t : Fin cfg0.N) : Vec Ideal S1024x256 .bf16 := iblk m c 1 t
/-- The block of input 2 at a point. -/
abbrev X2 (c : Dev nD) (t : Fin cfg0.N) : Vec Ideal S1024x128 .bf16 := iblk m c 2 t
/-- The block of input 3 at a point. -/
abbrev X3 (c : Dev nD) (t : Fin cfg0.N) : Vec Ideal S1024x128 .bf16 := iblk m c 3 t
/-- The block of input 4 at a point. -/
abbrev X4 (c : Dev nD) (t : Fin cfg0.N) : Vec Ideal S2x1024x128 .f32 := iblk m c 4 t
/-- The block of input 5 at a point. -/
abbrev X5 (c : Dev nD) (t : Fin cfg0.N) : Vec Ideal S2x1024x128 .f32 := iblk m c 5 t

/-- What the tile at the `n`-th point adds to the cotangent of the keys. -/
def cK (c : Dev nD) (n : ℕ) (j : S256x1024.Idx) : Ideal .f32 :=
  if h : n < cfg0.N then ∑ r : Fin 1024, X0 m c ⟨n, h⟩ (ix2 r (j 0)) * DSv (X0 m c ⟨n, h⟩) (X1 m c ⟨n, h⟩) (X2 m c ⟨n, h⟩) (X3 m c ⟨n, h⟩) (X4 m c ⟨n, h⟩) (X5 m c ⟨n, h⟩) (ix3 ⟨(j 0).val / 128, by have : (j 0).val < 256 := (j 0).isLt; omega⟩ r (j 1)) else 0

/-- What the tile at the `n`-th point adds to the cotangent of the values. -/
def cV (c : Dev nD) (n : ℕ) (j : S128x1024.Idx) : Ideal .f32 :=
  if h : n < cfg0.N then (∑ r : Fin 1024, doM (X3 m c ⟨n, h⟩) 0 (ix2 r (j 0)) * Pv (X0 m c ⟨n, h⟩) (X1 m c ⟨n, h⟩) (X4 m c ⟨n, h⟩) (ix3 0 r (j 1)))
    + ∑ r : Fin 1024, doM (X3 m c ⟨n, h⟩) 1 (ix2 r (j 0)) * Pv (X0 m c ⟨n, h⟩) (X1 m c ⟨n, h⟩) (X4 m c ⟨n, h⟩) (ix3 1 r (j 1)) else 0

/-- What the tile at the `n`-th point adds to the cotangent of its block of the queries. -/
def cQ (c : Dev nD) (n : ℕ) (j : S8192x256.Idx) : Ideal .f32 :=
  if h : n < cfg0.N then tileQ (X0 m c ⟨n, h⟩) (X1 m c ⟨n, h⟩) (X2 m c ⟨n, h⟩) (X3 m c ⟨n, h⟩) (X4 m c ⟨n, h⟩) (X5 m c ⟨n, h⟩) ⟨(j 1).val / 128, by have : (j 1).val < 256 := (j 1).isLt; omega⟩ ⟨(j 0).val % 1024, Nat.mod_lt _ (by decide)⟩
    ⟨(j 1).val % 128, Nat.mod_lt _ (by decide)⟩ else 0

/-- The keys' accumulator after the `n`-th point: the tiles of its block of keys so far. -/
def sumK (c : Dev nD) (n : ℕ) (j : S256x1024.Idx) : Ideal .f32 := ∑ b ∈ Finset.range (n % 8 + 1), cK m c (n / 8 * 8 + b) j

/-- The values' accumulator after the `n`-th point. -/
def sumV (c : Dev nD) (n : ℕ) (j : S128x1024.Idx) : Ideal .f32 := ∑ b ∈ Finset.range (n % 8 + 1), cV m c (n / 8 * 8 + b) j

/-- What the queries' window holds after the `n`-th point: in a row of a block already reached in this round, the tiles of the
    rounds so far; in a later block's row, those of the rounds before, if there was one. -/
def RQ (c : Dev nD) (n : ℕ) (X : Vec Ideal S8192x256 .f32) : Prop :=
  ∀ j : S8192x256.Idx,
    ((j 0).val / 1024 ≤ n % 8 → X j = ∑ b ∈ Finset.range (n / 8 % 8 + 1), cQ m c (n / 64 * 64 + 8 * b + (j 0).val / 1024) j)
    ∧ (n % 8 < (j 0).val / 1024 → n / 8 % 8 ≠ 0 → X j = ∑ b ∈ Finset.range (n / 8 % 8), cQ m c (n / 64 * 64 + 8 * b + (j 0).val / 1024) j)

section Coords
variable (t : Fin cfg0.N)
theorem lt256 : t.val < 256 := lt_of_lt_of_eq t.isLt (show cfg0.N = 256 from N_0)
theorem co0 : (grid0.coords t 0).val = t.val / 64 := by
  have e : (grid0.coords t 0).val = t.val / 64 % 4 := Pipeline.Grid.coords_val t 0 (by decide) rfl
  have := lt256 t; omega
theorem co1 : (grid0.coords t 1).val = t.val / 8 % 8 := Pipeline.Grid.coords_val t 1 (by decide) rfl
theorem co2 : (grid0.coords t 2).val = t.val % 8 := by
  have e : (grid0.coords t 2).val = t.val / 1 % 8 := Pipeline.Grid.coords_val t 2 (by decide) rfl
  rw [e, Nat.div_one]
end Coords

theorem next12_eq (c : Dev nD) (t : Fin cfg0.N) (y : Vec Ideal S256x1024 .f32) (hy : t.val % 8 ≠ 0 → y = sumK m c (t.val - 1)) :
    next12 (grid0.coords t) (X0 m c t) (X1 m c t) (X2 m c t) (X3 m c t) (X4 m c t) (X5 m c t) y = sumK m c t.val := by
  funext j
  show start (grid0.coords t) y j + _ = _
  have hc : ∀ b, t.val / 8 * 8 + t.val % 8 = b → b = t.val := fun b h => by omega
  unfold sumK
  rw [Finset.sum_range_succ, show t.val / 8 * 8 + t.val % 8 = t.val by omega]
  have hl : cK m c t.val j = _ := dif_pos t.isLt
  rw [hl]
  congr 1
  unfold start
  rw [co2]
  by_cases h : t.val % 8 = 0
  · rw [if_pos h, h]; rfl
  · rw [if_neg h, hy h]; unfold sumK
    rw [show (t.val - 1) % 8 + 1 = t.val % 8 by omega, show (t.val - 1) / 8 = t.val / 8 by omega]

theorem next13_eq (c : Dev nD) (t : Fin cfg0.N) (y : Vec Ideal S128x1024 .f32) (hy : t.val % 8 ≠ 0 → y = sumV m c (t.val - 1)) :
    next13 (grid0.coords t) (X0 m c t) (X1 m c t) (X3 m c t) (X4 m c t) y = sumV m c t.val := by
  funext j
  show (start (grid0.coords t) y j + _) + _ = _
  unfold sumV
  rw [Finset.sum_range_succ, show t.val / 8 * 8 + t.val % 8 = t.val by omega]
  have hl : cV m c t.val j = _ := dif_pos t.isLt
  rw [hl, add_assoc]
  congr 1
  unfold start
  rw [co2]
  by_cases h : t.val % 8 = 0
  · rw [if_pos h, h]; rfl
  · rw [if_neg h, hy h]; unfold sumV
    rw [show (t.val - 1) % 8 + 1 = t.val % 8 by omega, show (t.val - 1) / 8 = t.val / 8 by omega]

theorem next9_eq (c : Dev nD) (t : Fin cfg0.N) (y : Vec Ideal S8192x256 .f32) (hy : t.val % 64 ≠ 0 → RQ m c (t.val - 1) y) :
    RQ m c t.val (next9 (grid0.coords t) (X0 m c t) (X1 m c t) (X2 m c t) (X3 m c t) (X4 m c t) (X5 m c t) y) := by
  intro j
  have hj : (j 0).val < 8192 := (j 0).isLt
  have ht := lt256 t
  unfold next9
  rw [co1, co2]
  refine ⟨fun hle => ?_, fun hlt hk => ?_⟩
  · by_cases he : (j 0).val / 1024 = t.val % 8
    · rw [if_pos he, Finset.sum_range_succ, show t.val / 64 * 64 + 8 * (t.val / 8 % 8) + (j 0).val / 1024 = t.val by omega]
      have hl : cQ m c t.val j = _ := dif_pos t.isLt
      rw [hl]
      congr 1
      by_cases hk : t.val / 8 % 8 = 0
      · rw [if_pos hk, hk]; rfl
      · rw [if_neg hk]
        have h0 := hy (by omega) j
        by_cases hq : t.val % 8 = 0
        · have := h0.1 (by omega)
          rw [this, show (t.val - 1) / 8 % 8 + 1 = t.val / 8 % 8 by omega, show (t.val - 1) / 64 = t.val / 64 by omega]
        · have := h0.2 (by omega) (by omega)
          rw [this, show (t.val - 1) / 8 % 8 = t.val / 8 % 8 by omega, show (t.val - 1) / 64 = t.val / 64 by omega]
    · rw [if_neg he]
      have h0 := (hy (by omega) j).1 (by omega)
      rw [h0, show (t.val - 1) / 8 % 8 = t.val / 8 % 8 by omega, show (t.val - 1) / 64 = t.val / 64 by omega]
  · rw [if_neg (by omega)]
    have h0 := hy (by omega) j
    by_cases hq : t.val % 8 = 0
    · have := h0.1 (by omega)
      rw [this, show (t.val - 1) / 8 % 8 + 1 = t.val / 8 % 8 by omega, show (t.val - 1) / 64 = t.val / 64 by omega]
    · have := h0.2 (by omega) (by omega)
      rw [this, show (t.val - 1) / 8 % 8 = t.val / 8 % 8 by omega, show (t.val - 1) / 64 = t.val / 64 by omega]

/-! ## The pipeline's proof data -/

abbrev sc0 : Memref sig .tc .vmem S256x1024 .f32 := Memref.whole cc0_scratch0
abbrev sc1 : Memref sig .tc .vmem S128x1024 .f32 := Memref.whole cc0_scratch1
abbrev sc2 : Memref sig .tc .vmem S2x1024x1024 .f32 := Memref.whole cc0_scratch2
abbrev sc3 : Memref sig .tc .vmem S2x1024x1024 .f32 := Memref.whole cc0_scratch3
abbrev sc4 : Memref sig .tc .vmem S2x1024x1024 .bf16 := Memref.whole cc0_scratch4
abbrev sc5 : Memref sig .tc .vmem S2x1024x1024 .bf16 := Memref.whole cc0_scratch5

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- What the region holds between points: after a point the two accumulators at their running sums, the other scratch buffers
    at anything; before the first point all at anything. -/
def PhiV (c : Dev nD) : ℕ → sProp 𝕄
  | 0 => Pipeline.ΦA spec0 c
  | n + 1 => iprop(iprop(owns (c : Thread nD τ) sc0 fullShare (sumK m c n) ∗ owns (c : Thread nD τ) sc1 fullShare (sumV m c n) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r))

/-- The results are the windows of which a property is kept instead of a value. -/
def marked : Fin 9 → Bool := fun w => w.val == 6 || w.val == 7 || w.val == 8

/-- What is known of the results' windows after a point. -/
def Rl (c : Dev nD) : (w : Fin cfg0.W) → Fin cfg0.N → ((cfg0.win w).block.Idx → Elt Ideal (cfg0.win w).elt) → Prop
  | ⟨6, _⟩, t, X => RQ m c t.val X
  | ⟨7, _⟩, t, X => t.val % 8 = 7 → (X : Vec Ideal S256x1024 .bf16) = sumK m c t.val
  | ⟨8, _⟩, t, X => t.val % 8 = 7 → (X : Vec Ideal S128x1024 .bf16) = sumV m c t.val
  | _, _, _ => True

/-- The proof data: each input's block in place, the invariant `PhiV`. -/
def datV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiV m c t.val
  q _ := fullShare
  owed _ := 0

theorem datV_A (c : Dev nD) (w : Fin cfg0.W) : (datV m 0 c).A w = V m c (Pipeline.arrRef spec0 w) := by
  dsimp only [datV]

theorem after0 (c : Dev nD) (t : Fin cfg0.N) : (datV m 0 c).after 0 t = iblk m c 0 t := by dsimp only [datV]
theorem after1 (c : Dev nD) (t : Fin cfg0.N) : (datV m 0 c).after 1 t = iblk m c 1 t := by dsimp only [datV]
theorem after2 (c : Dev nD) (t : Fin cfg0.N) : (datV m 0 c).after 2 t = iblk m c 2 t := by dsimp only [datV]
theorem after3 (c : Dev nD) (t : Fin cfg0.N) : (datV m 0 c).after 3 t = iblk m c 3 t := by dsimp only [datV]
theorem after4 (c : Dev nD) (t : Fin cfg0.N) : (datV m 0 c).after 4 t = iblk m c 4 t := by dsimp only [datV]
theorem after5 (c : Dev nD) (t : Fin cfg0.N) : (datV m 0 c).after 5 t = iblk m c 5 t := by dsimp only [datV]
theorem before0 (c : Dev nD) (t : Fin cfg0.N) (d) : (datV m 0 c).before 0 t d = iblk m c 0 t := before0_0_of m (datV m 0 c) (datV_A m c 0) (after0 m c) t d
theorem before1 (c : Dev nD) (t : Fin cfg0.N) (d) : (datV m 0 c).before 1 t d = iblk m c 1 t := before0_1_of m (datV m 0 c) (datV_A m c 1) (after1 m c) t d
theorem before2 (c : Dev nD) (t : Fin cfg0.N) (d) : (datV m 0 c).before 2 t d = iblk m c 2 t := before0_2_of m (datV m 0 c) (datV_A m c 2) (after2 m c) t d
theorem before3 (c : Dev nD) (t : Fin cfg0.N) (d) : (datV m 0 c).before 3 t d = iblk m c 3 t := before0_3_of m (datV m 0 c) (datV_A m c 3) (after3 m c) t d
theorem before4 (c : Dev nD) (t : Fin cfg0.N) (d) : (datV m 0 c).before 4 t d = iblk m c 4 t := before0_4_of m (datV m 0 c) (datV_A m c 4) (after4 m c) t d
theorem before5 (c : Dev nD) (t : Fin cfg0.N) (d) : (datV m 0 c).before 5 t d = iblk m c 5 t := before0_5_of m (datV m 0 c) (datV_A m c 5) (after5 m c) t d

abbrev rdV (c : Dev nD) : Pipeline.RDat τ (Elt Ideal) Unit ℕ (UR sig nD τ) ℕ cfg0 c := (datV m 0 c).toRRel marked (Rl m c)

theorem finds6 (c : Dev nD) (t : Fin cfg0.N) (Y) (h : (rdV m c).Finds 6 t Y) : t.val % 64 ≠ 0 → RQ m c (t.val - 1) Y := by
  intro ht
  rw [Pipeline.RDat.finds_of_pos (rdV m c) (w := 6) (t := t) rfl (by omega)] at h
  rcases h with h | h
  · exfalso; have := (flush0_6 _).mp h; dsimp only at this; omega
  · exact Dat.toRRel_leaves (datV m 0 c) (fgt := marked) (Rl := Rl m c) (w := 6) rfl h

/-- The body at any point, over the windows one by one. -/
theorem sound_body (c : Dev nD) (t : Fin cfg0.N) :
    iprop((datV m 0 c).Φ t.castSucc ∗ (datV m 0 c).owesAt () t.castSucc
    ∗ (∃ d, owns (c : Thread nD τ) (st0_0 t) fullShare ((datV m 0 c).before 0 t d))
    ∗ (∃ d, owns (c : Thread nD τ) (st0_1 t) fullShare ((datV m 0 c).before 1 t d))
    ∗ (∃ d, owns (c : Thread nD τ) (st0_2 t) fullShare ((datV m 0 c).before 2 t d))
    ∗ (∃ d, owns (c : Thread nD τ) (st0_3 t) fullShare ((datV m 0 c).before 3 t d))
    ∗ (∃ d, owns (c : Thread nD τ) (st0_4 t) fullShare ((datV m 0 c).before 4 t d))
    ∗ (∃ d, owns (c : Thread nD τ) (st0_5 t) fullShare ((datV m 0 c).before 5 t d))
    ∗ (∃ Y, ⌜(rdV m c).Finds 6 t Y⌝ ∗ owns (c : Thread nD τ) (st0_6 t) fullShare Y)
    ∗ (∃ Y, ⌜(rdV m c).Finds 7 t Y⌝ ∗ owns (c : Thread nD τ) (st0_7 t) fullShare Y)
    ∗ (∃ Y, ⌜(rdV m c).Finds 8 t Y⌝ ∗ owns (c : Thread nD τ) (st0_8 t) fullShare Y))
      ⊢ wp frame (wpE (defs₀ (F := Ideal)) Variants.none c none) Set.univ (bodyAt0 (F := Ideal) t) (fun _ => iprop((datV m 0 c).Φ t.succ ∗ (datV m 0 c).owesAt () t.succ
    ∗ owns (c : Thread nD τ) (st0_0 t) fullShare ((datV m 0 c).after 0 t)
    ∗ owns (c : Thread nD τ) (st0_1 t) fullShare ((datV m 0 c).after 1 t)
    ∗ owns (c : Thread nD τ) (st0_2 t) fullShare ((datV m 0 c).after 2 t)
    ∗ owns (c : Thread nD τ) (st0_3 t) fullShare ((datV m 0 c).after 3 t)
    ∗ owns (c : Thread nD τ) (st0_4 t) fullShare ((datV m 0 c).after 4 t)
    ∗ owns (c : Thread nD τ) (st0_5 t) fullShare ((datV m 0 c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X))) := by
  unfold bodyAt0
  simp only [before0, before1, before2, before3, before4, before5, after0, after1, after2, after3, after4, after5]
  rw [show (datV m 0 c).owesAt () t.succ = (datV m 0 c).owesAt () t.castSucc from rfl]
  rw [show (datV m 0 c).Φ t.succ = PhiV m c (t.val + 1) from rfl, show (datV m 0 c).Φ t.castSucc = PhiV m c t.val from rfl]
  have hpre : PhiV m c t.val ⊢ iprop(iprop((∃ y12, ∃ y13, ⌜t.val % 8 ≠ 0 → y12 = sumK m c (t.val - 1) ∧ y13 = sumV m c (t.val - 1)⌝ ∗ owns (c : Thread nD τ) sc0 fullShare y12 ∗ owns (c : Thread nD τ) sc1 fullShare y13) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
    by_cases hz : t.val = 0
    · rw [hz]
      show Pipeline.ΦA spec0 c ⊢ _
      rw [PhiA_eq]
      iintro ⟨⟨⟨%y12, H0⟩, ⟨%y13, H1⟩, H2, H3, H4, H5⟩, Hg⟩
      isplitr [Hg]; swap; · iexact Hg
      isplitl [H0 H1]
      · iexists y12; iexists y13; isplitr
        · ipureintro; intro h; exact absurd rfl h
        isplitl [H0]; · iexact H0
        iexact H1
      isplitl [H2]; · iexact H2
      isplitl [H3]; · iexact H3
      isplitl [H4]; · iexact H4
      iexact H5
    · obtain ⟨n, hn⟩ : ∃ n, t.val = n + 1 := ⟨t.val - 1, by omega⟩
      rw [hn, Nat.add_sub_cancel]
      show iprop(_ ∗ _) ⊢ _
      iintro ⟨⟨H0, H1, H2, H3, H4, H5⟩, Hg⟩
      isplitr [Hg]; swap; · iexact Hg
      isplitl [H0 H1]
      · iexists _; iexists _; isplitr; swap
        · isplitl [H0]; · iexact H0
          iexact H1
        · ipureintro; intro _; exact ⟨rfl, rfl⟩
      isplitl [H2]; · iexact H2
      isplitl [H3]; · iexact H3
      isplitl [H4]; · iexact H4
      iexact H5
  refine (sep_mono hpre .rfl).trans ?_
  iintro ⟨⟨⟨⟨%y12, %y13, %hy, H12, H13⟩, H14, H15, H16, H17⟩, Hg⟩, Ho, ⟨%d0, H3⟩, ⟨%d1, H4⟩, ⟨%d2, H5⟩, ⟨%d3, H6⟩, ⟨%d4, H7⟩, ⟨%d5, H8⟩, ⟨%y9, %hy9, H9⟩, ⟨%y10, -, H10⟩, ⟨%y11, -, H11⟩⟩
  iapply (body_run c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (Memref.isWhole_whole _) (Memref.isWhole_whole _) (Memref.isWhole_whole _) (Memref.isWhole_whole _) (Memref.isWhole_whole _) (Memref.isWhole_whole _) (X0 m c t) (X1 m c t) (X2 m c t) (X3 m c t) (X4 m c t) (X5 m c t) y9 y10 y11 y12 y13 Set.univ _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H3, H4, H5, H6, H7, H8, H9, H10, H11, H12, H13, H14, H15, H16, H17⟩
  rw [show PhiV m c (t.val + 1) = iprop(iprop(owns (c : Thread nD τ) sc0 fullShare (sumK m c t.val) ∗ owns (c : Thread nD τ) sc1 fullShare (sumV m c t.val) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) from rfl,
    next12_eq m c t y12 (fun h => (hy h).1), next13_eq m c t y13 (fun h => (hy h).2)]
  isplitl [H12 H13 H14 H15 H16 H17 Hg]
  · isplitr [Hg]; swap; · iexact Hg
    isplitl [H12]; · iexact H12
    isplitl [H13]; · iexact H13
    isplitl [H14]; · iexact H14
    isplitl [H15]; · iexact H15
    isplitl [H16]; · iexact H16
    iexact H17
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap
    · iexact H9
    · ipureintro; exact next9_eq m c t y9 (finds6 m c t y9 hy9)
  isplitl [H10]
  · iexists _; isplitr; swap
    · iexact H10
    · ipureintro
      intro h; exact if_pos ((co2 t).trans h)
  iexists _; isplitr; swap
  · iexact H11
  · ipureintro
    intro h; exact if_pos ((co2 t).trans h)

theorem row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : Pipeline.BodyObligationRel (datV m 0 c) (defs₀ (F := Ideal)) Variants.none () Set.univ marked (Rl m c) := fun t => by
  rw [bigSep_W0, bigSep_W0, row]
  exact triple_restated (sound_body m c t) rfl .rfl fun _ => .rfl

theorem hin (c : Dev nD) : Pipeline.ΦA spec0 c ⊢ (datV m 0 c).Φ 0 := Idealize.SL.BI.Entails.refl _

theorem hout (c : Dev nD) : (datV m 0 c).Φ (Fin.last cfg0.N) ⊢ Pipeline.ΦA spec0 c := by
  rw [show (datV m 0 c).Φ (Fin.last cfg0.N) = PhiV m c cfg0.N from rfl, show cfg0.N = 255 + 1 from N_0, PhiA_eq]
  show iprop(_ ∗ _) ⊢ _
  iintro ⟨⟨H0, H1, H2, H3, H4, H5⟩, Hg⟩
  isplitr [Hg]; swap; · iexact Hg
  isplitl [H0]; · iexists _; iexact H0
  isplitl [H1]; · iexists _; iexact H1
  isplitl [H2]; · iexact H2
  isplitl [H3]; · iexact H3
  isplitl [H4]; · iexact H4
  iexact H5

set_option backward.isDefEq.respectTransparency.types false in
/-- The launch: every run ends, with each window's array as the data allow and every semaphore counter at zero. -/
theorem run_main : θ_run defs (onTc (τ := τ) (main (F := Ideal))) (s₀ m ρ)
    (fun r => Pipeline.RDat.FramePost (cfgs 0) (rdV m) (V m) r ∧ r.2.sem = fun _ => 0) :=
  Pipeline.RDat.θ_run_frame_track (Q' := _) cfgs (0 : Fin 1) launch0 defs₀ Variants.none (rdV m) m ρ main
    (hbody := fun c => (body_obligation m c).toRRel) (hshare := fun c => (datV m 0 c).share_full fun _ => rfl)
    (howed := fun _ _ => rfl) (V := V m) (hmain := hmain m Variants.none) (hA := datV_A m) (hin := hin m) (hout := hout m)
    (hQ' := fun _ h => h)

end Cert.MlaBwd

end
-- ==== Proof.Results.lean ====
module

public import proofs.«01_k».proof.Proof.Obl
public import Idealize.ShloMosaic.Lib.Pipeline.ValueKit

@[expose] public section

set_option maxRecDepth 16384

noncomputable section

namespace Cert.MlaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The queries' cotangent as the kernel computes it: in a row of the `i`-th block of rows and a column of the `p`-th pair of
    heads, the sum of the tiles of the eight blocks of keys. -/
def GQ (c : Dev nD) : S8192x1024.Idx → Ideal .f32 := fun j =>
  ∑ b ∈ Finset.range 8, cQ m c ((j 1).val / 256 * 64 + 8 * b + (j 0).val / 1024) (ix2 ⟨(j 0).val, (j 0).isLt⟩ ⟨(j 1).val % 256, Nat.mod_lt _ (by decide)⟩)

/-- The keys' cotangent, transposed. -/
def GK (c : Dev nD) : S1024x8192.Idx → Ideal .bf16 := fun j =>
  ∑ b ∈ Finset.range 8, cK m c ((j 0).val / 256 * 64 + 8 * ((j 1).val / 1024) + b) (ix2 ⟨(j 0).val % 256, Nat.mod_lt _ (by decide)⟩ ⟨(j 1).val % 1024, Nat.mod_lt _ (by decide)⟩)

/-- The values' cotangent, transposed. -/
def GV (c : Dev nD) : S512x8192.Idx → Ideal .bf16 := fun j =>
  ∑ b ∈ Finset.range 8, cV m c ((j 0).val / 128 * 64 + 8 * ((j 1).val / 1024) + b) (ix2 ⟨(j 0).val % 128, Nat.mod_lt _ (by decide)⟩ ⟨(j 1).val % 1024, Nat.mod_lt _ (by decide)⟩)

theorem e6 : ∀ t : Fin cfg0.N, win0_6.index t = ![0, t.val / 64] := (by decide +kernel : ∀ t : Fin grid0.N, _)
theorem e7 : ∀ t : Fin cfg0.N, win0_7.index t = ![t.val / 64, t.val / 8 % 8] := (by decide +kernel : ∀ t : Fin grid0.N, _)
theorem e8 : ∀ t : Fin cfg0.N, win0_8.index t = ![t.val / 64, t.val / 8 % 8] := (by decide +kernel : ∀ t : Fin grid0.N, _)
section
variable (c : Dev nD) (after : (w' : Fin cfg0.W) → Fin cfg0.N → (cfg0.win w').block.Idx → Elt Ideal (cfg0.win w').elt)

theorem arrQ (h : ∀ t : Fin cfg0.N, t.val % 64 = 63 → RQ m c t.val (after 6 t)) : ((rdV m c).withAfter after).arrAt 6 cfg0.N = GQ m c := by
  refine Dat.arrAt_eq_of_covers (cfg := cfg0) (c := c) ((rdV m c).withAfter after) 6 (GQ m c) (by decide +kernel) fun t hf y => ?_
  have hm := (flush0_6 t).mp hf
  have hr := h t hm
  have hy0 : (y 0).val < 8192 := (y 0).isLt
  have hy1 : (y 1).val < 256 := (y 1).isLt
  blk_simp
  have h0 : ((win0_6.blk t).view.emb y 0 : ℕ) = (y 0).val := by blk_simp [e6]
  have h1 : ((win0_6.blk t).view.emb y 1 : ℕ) = t.val / 64 * 256 + (y 1).val := by blk_simp [e6]
  refine ((hr y).1 (by omega)).trans ?_
  show _ = ∑ b ∈ Finset.range 8, _
  rw [show t.val / 8 % 8 + 1 = 8 by omega]
  refine Finset.sum_congr rfl fun b _ => ?_
  refine congrArg₂ (cQ m c) ?_ ?_
  · rw [h0, h1]; omega
  · funext a; fin_cases a
    · exact Fin.ext h0.symm
    · refine Fin.ext ?_
      show (y 1).val = _ % 256
      rw [h1]; omega

theorem sumK_full (n : ℕ) (hn : n % 8 = 7) (y : S256x1024.Idx) (j : S1024x8192.Idx) (h0 : (j 0).val = n / 64 * 256 + (y 0).val) (h1 : (j 1).val = n / 8 % 8 * 1024 + (y 1).val) :
    sumK m c n y = GK m c j := by
  have hy0 : (y 0).val < 256 := (y 0).isLt
  have hy1 : (y 1).val < 1024 := (y 1).isLt
  unfold sumK GK
  rw [show n % 8 + 1 = 8 by omega]
  refine Finset.sum_congr rfl fun b _ => ?_
  refine congrArg₂ (cK m c) ?_ ?_
  · rw [h0, h1]; omega
  · funext a; fin_cases a
    · refine Fin.ext ?_
      show (y 0).val = (j 0).val % 256
      rw [h0]; omega
    · refine Fin.ext ?_
      show (y 1).val = (j 1).val % 1024
      rw [h1]; omega

theorem arrK (h : ∀ t : Fin cfg0.N, t.val % 8 = 7 → (after 7 t : Vec Ideal S256x1024 .bf16) = sumK m c t.val) : ((rdV m c).withAfter after).arrAt 7 cfg0.N = GK m c := by
  refine Dat.arrAt_eq_of_covers (cfg := cfg0) (c := c) ((rdV m c).withAfter after) 7 (GK m c) (by decide +kernel) fun t hf y => ?_
  have hm := (flush0_7 t).mp hf
  have hr := h t hm
  have hy0 : (y 0).val < 256 := (y 0).isLt
  have hy1 : (y 1).val < 1024 := (y 1).isLt
  blk_simp
  have h0 : ((win0_7.blk t).view.emb y 0 : ℕ) = t.val / 64 * 256 + (y 0).val := by blk_simp [e7]
  have h1 : ((win0_7.blk t).view.emb y 1 : ℕ) = t.val / 8 % 8 * 1024 + (y 1).val := by blk_simp [e7]
  exact (congrFun hr y).trans (sumK_full m c t.val hm y _ h0 h1)

theorem sumV_full (n : ℕ) (hn : n % 8 = 7) (y : S128x1024.Idx) (j : S512x8192.Idx) (h0 : (j 0).val = n / 64 * 128 + (y 0).val) (h1 : (j 1).val = n / 8 % 8 * 1024 + (y 1).val) :
    sumV m c n y = GV m c j := by
  have hy0 : (y 0).val < 128 := (y 0).isLt
  have hy1 : (y 1).val < 1024 := (y 1).isLt
  unfold sumV GV
  rw [show n % 8 + 1 = 8 by omega]
  refine Finset.sum_congr rfl fun b _ => ?_
  refine congrArg₂ (cV m c) ?_ ?_
  · rw [h0, h1]; omega
  · funext a; fin_cases a
    · refine Fin.ext ?_
      show (y 0).val = (j 0).val % 128
      rw [h0]; omega
    · refine Fin.ext ?_
      show (y 1).val = (j 1).val % 1024
      rw [h1]; omega

theorem arrV (h : ∀ t : Fin cfg0.N, t.val % 8 = 7 → (after 8 t : Vec Ideal S128x1024 .bf16) = sumV m c t.val) : ((rdV m c).withAfter after).arrAt 8 cfg0.N = GV m c := by
  refine Dat.arrAt_eq_of_covers (cfg := cfg0) (c := c) ((rdV m c).withAfter after) 8 (GV m c) (by decide +kernel) fun t hf y => ?_
  have hm := (flush0_8 t).mp hf
  have hr := h t hm
  have hy0 : (y 0).val < 128 := (y 0).isLt
  have hy1 : (y 1).val < 1024 := (y 1).isLt
  blk_simp
  have h0 : ((win0_8.blk t).view.emb y 0 : ℕ) = t.val / 64 * 128 + (y 0).val := by blk_simp [e8]
  have h1 : ((win0_8.blk t).view.emb y 1 : ℕ) = t.val / 8 % 8 * 1024 + (y 1).val := by blk_simp [e8]
  exact (congrFun hr y).trans (sumV_full m c t.val hm y _ h0 h1)

end

/-- The run's post: the three results, the arguments as launched, the counters at zero. -/
theorem run_results : θ_run defs (onTc (τ := τ) (main (F := Ideal))) ⟨m, fun _ => 0, ρ⟩ (fun r => (∀ c : Dev nD,
      r.2.mem ((c.tc : Thread nD τ).loc main_v46_0) = GQ m c
      ∧ r.2.mem ((c.tc : Thread nD τ).loc main_v46_1) = GK m c
      ∧ r.2.mem ((c.tc : Thread nD τ).loc main_v46_2) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run_main m ρ)
  have h2 := (h.1 c).2
  obtain ⟨after, hL, hA⟩ := Pipeline.RDat.FramePost.exists_exact (rdat := rdV m) h.1 c
  have f6 : ∀ t : Fin cfg0.N, t.val % 64 = 63 → RQ m c t.val (after 6 t) := fun t ht =>
    Dat.toRRel_leaves (datV m 0 c) (fgt := marked) (Rl := Rl m c) (w := 6) rfl (hL 6 t ((flush0_6 t).mpr ht))
  have f7 : ∀ t : Fin cfg0.N, t.val % 8 = 7 → (after 7 t : Vec Ideal S256x1024 .bf16) = sumK m c t.val := fun t ht =>
    Dat.toRRel_leaves (datV m 0 c) (fgt := marked) (Rl := Rl m c) (w := 7) rfl (hL 7 t ((flush0_7 t).mpr ht)) ht
  have f8 : ∀ t : Fin cfg0.N, t.val % 8 = 7 → (after 8 t : Vec Ideal S128x1024 .bf16) = sumV m c t.val := fun t ht =>
    Dat.toRRel_leaves (datV m 0 c) (fgt := marked) (Rl := Rl m c) (w := 8) rfl (hL 8 t ((flush0_8 t).mpr ht)) ht
  refine ⟨(hA 6).trans (arrQ m c after f6), (hA 7).trans (arrK m c after f7), (hA 8).trans (arrV m c after f8), ?_, ?_, ?_, ?_⟩
  · exact (h2 main_arg0 (Pipeline.mem_restRefs_of main_arg0 (by decide) (by decide))).trans (V_main_arg0 m c)
  · exact (h2 main_arg1 (Pipeline.mem_restRefs_of main_arg1 (by decide) (by decide))).trans (V_main_arg1 m c)
  · exact (h2 main_arg2 (Pipeline.mem_restRefs_of main_arg2 (by decide) (by decide))).trans (V_main_arg2 m c)
  · exact (h2 main_arg3 (Pipeline.mem_restRefs_of main_arg3 (by decide) (by decide))).trans (V_main_arg3 m c)

end Cert.MlaBwd

end
-- ==== Proof.Host.lean ====
module

public import proofs.«01_k».proof.Proof.Vals
public import proofs.«01_k».proof.Proof.Gen.KernelIdeal.Frame
public import Idealize.ShloMosaic.Lib.StableHlo.ReadAt

@[expose] public section

noncomputable section

namespace Cert.MlaBwd

open Cert.KernelIdeal Cert.KernelIdeal.Gen Idealize.ShloMosaic Idealize.ShloMosaic.TcCoe

/-- `1 / √96`. -/
def cScale : FVec Ideal S_ .f32 := Host.divf (constant S_ .f32 0x3F800000#32) (Host.sqrt (constant S_ .f32 0x42C00000#32))

/-- `1 / ln 2`. -/
def cLog2e : FVec Ideal S_ .f32 := Host.divf (constant S_ .f32 0x3F800000#32) (Host.log (constant S_ .f32 0x40000000#32))

/-- The logits of each head. -/
def hS (x0 x1 : FVec Ideal S8192x8x96 .f32) : FVec Ideal S8x8192x8192 .f32 :=
  mulf (Host.dotGeneral dot_S8192x8x96_S8192x8x96_S8x8192x8192_2_2_0_0_1_1 none x0 x1)
    (broadcastInDim S8x8192x8192 ![] bcast_S_S8x8192x8192 cScale)

/-- The row maxima of the logits. -/
def hM (s : FVec Ideal S8x8192x8192 .f32) : FVec Ideal S8x8192 .f32 :=
  Host.reduce FloatOps.maximumf s (constant S_ .f32 0xFF800000#32) reducesTo_S8x8192x8192_S8x8192_d2 h_S_

/-- The row maxima with a trailing axis. -/
def hM1 (s : FVec Ideal S8x8192x8192 .f32) : FVec Ideal S8x8192x1 .f32 :=
  broadcastInDim S8x8192x1 ![0, 1] bcast_S8x8192_S8x8192x1_0_1 (hM s)

/-- The exponentials of the logits less their row maximum. -/
def hE (s : FVec Ideal S8x8192x8192 .f32) : FVec Ideal S8x8192x8192 .f32 :=
  Host.exp (subf s (broadcastInDim S8x8192x8192 ![0, 1, 2] bcast_S8x8192x1_S8x8192x8192_0_1_2 (hM1 s)))

/-- The row sums of the exponentials, with a trailing axis. -/
def hL (s : FVec Ideal S8x8192x8192 .f32) : FVec Ideal S8x8192x1 .f32 :=
  broadcastInDim S8x8192x1 ![0, 1] bcast_S8x8192_S8x8192x1_0_1
    (Host.reduceAdd (hE s) (constant S_ .f32 0x00000000#32) reducesTo_S8x8192x8192_S8x8192_d2 h_S_)

/-- The probabilities. -/
def hP (s : FVec Ideal S8x8192x8192 .f32) : FVec Ideal S8x8192x8192 .f32 :=
  Host.divf (hE s) (broadcastInDim S8x8192x8192 ![0, 1, 2] bcast_S8x8192x1_S8x8192x8192_0_1_2 (hL s))

/-- The attention's output. -/
def hO (s : FVec Ideal S8x8192x8192 .f32) (x2 : FVec Ideal S8192x8x64 .f32) : FVec Ideal S8x8192x64 .f32 :=
  Host.dotGeneral dot_S8x8192x8192_S8192x8x64_S8x8192x64_2_0_1_2_0_1 none (hP s) x2

/-- The logarithm to base two of each row's sum of exponentials, repeated over the lanes. -/
def hLse (s : FVec Ideal S8x8192x8192 .f32) : FVec Ideal S8x8192x128 .f32 :=
  broadcastInDim S8x8192x128 ![0, 1, 2] bcast_S8x8192x1_S8x8192x128_0_1_2
    (mulf (addf (hM1 s) (Host.log (hL s))) (broadcastInDim S8x8192x1 ![] bcast_S_S8x8192x1 cLog2e))

/-- The cotangent by heads. -/
def hG (x3 : FVec Ideal S8192x512 .f32) : FVec Ideal S8x8192x64 .f32 :=
  transpose S8x8192x64 [1, 0, 2] (shapeCast S8192x8x64 x3 shapeCasts_S8192x512_S8192x8x64) transposes_S8192x8x64_S8x8192x64_1_0_2

/-- Each row's sum of cotangent times output, repeated over the lanes. -/
def hDelta (s : FVec Ideal S8x8192x8192 .f32) (x2 : FVec Ideal S8192x8x64 .f32) (x3 : FVec Ideal S8192x512 .f32) : FVec Ideal S8x8192x128 .f32 :=
  broadcastInDim S8x8192x128 ![0, 1, 2] bcast_S8x8192x1_S8x8192x128_0_1_2
    (broadcastInDim S8x8192x1 ![0, 1] bcast_S8x8192_S8x8192x1_0_1
      (Host.reduceAdd (mulf (hG x3) (hO s x2)) (constant S_ .f32 0x00000000#32) reducesTo_S8x8192x64_S8x8192_d2 h_S_))

/-- Each head's 96 columns followed by 32 zeros. -/
def hPad (y : FVec Ideal S8192x8x96 .f32) : FVec Ideal S8192x1024 .bf16 :=
  truncf (F := Ideal) .bf16 (shapeCast S8192x1024 (concatenate S8192x8x128 2 [⟨S8192x8x96, y⟩, ⟨S8192x8x32, broadcastInDim S8192x8x32 ![] bcast_S_S8192x8x32 (constant (F := Ideal) S_ .f32 0x00000000#32)⟩]
    concatenates_S8192x8x96_S8192x8x32_S8192x8x128_d2) shapeCasts_S8192x8x128_S8192x1024) bitsLt_bf16_f32

/-- The queries scaled by `1 / √96 / ln 2`. -/
def hQs (x0 : FVec Ideal S8192x8x96 .f32) : FVec Ideal S8192x8x96 .f32 :=
  mulf x0 (broadcastInDim S8192x8x96 ![] bcast_S_S8192x8x96 (mulf cScale cLog2e))

/-- The values with the heads in one row. -/
def hVv (x2 : FVec Ideal S8192x8x64 .f32) : FVec Ideal S8192x512 .bf16 :=
  truncf (F := Ideal) .bf16 (shapeCast S8192x512 x2 shapeCasts_S8192x8x64_S8192x512) bitsLt_bf16_f32

/-- The cotangent as the kernel takes it. -/
def hDo (x3 : FVec Ideal S8192x512 .f32) : FVec Ideal S8192x512 .bf16 := truncf (F := Ideal) .bf16 x3 bitsLt_bf16_f32

variable (m : (ℓ : Loc nD τ sig) → Buf (Elt Ideal) ℓ) (c : Dev nD)

set_option maxRecDepth 100000 in
set_option maxHeartbeats 4000000 in
/-- The queries that the kernel's window 0 reads. -/
theorem V_v38 : V (F := Ideal) m c main_v38 = hPad (hQs (m ((c : Thread nD τ).loc main_arg0))) := by
  unfold V
  simp only [hostOps0]
  after_reads_simp
  rfl

set_option maxRecDepth 100000 in
set_option maxHeartbeats 4000000 in
/-- The keys that the kernel's window 1 reads. -/
theorem V_v42 : V (F := Ideal) m c main_v42 = hPad (m ((c : Thread nD τ).loc main_arg1)) := by
  unfold V
  simp only [hostOps0]
  after_reads_simp
  rfl

set_option maxRecDepth 100000 in
set_option maxHeartbeats 4000000 in
/-- The values that the kernel's window 2 reads. -/
theorem V_v44 : V (F := Ideal) m c main_v44 = hVv (m ((c : Thread nD τ).loc main_arg2)) := by
  unfold V
  simp only [hostOps0]
  after_reads_simp
  rfl

set_option maxRecDepth 100000 in
set_option maxHeartbeats 4000000 in
/-- The cotangent that the kernel's window 3 reads. -/
theorem V_v45 : V (F := Ideal) m c main_v45 = hDo (m ((c : Thread nD τ).loc main_arg3)) := by
  unfold V
  simp only [hostOps0]
  after_reads_simp
  rfl

set_option maxRecDepth 100000 in
set_option maxHeartbeats 4000000 in
/-- The row logarithms that the kernel's window 4 reads. -/
theorem V_v21 : V (F := Ideal) m c main_v21 = hLse (hS (m ((c : Thread nD τ).loc main_arg0)) (m ((c : Thread nD τ).loc main_arg1))) := by
  unfold V
  simp only [hostOps0]
  after_reads_simp
  rfl

set_option maxRecDepth 100000 in
set_option maxHeartbeats 4000000 in
/-- The row sums of cotangent times output that the kernel's window 5 reads. -/
theorem V_v27 : V (F := Ideal) m c main_v27 = hDelta (hS (m ((c : Thread nD τ).loc main_arg0)) (m ((c : Thread nD τ).loc main_arg1))) (m ((c : Thread nD τ).loc main_arg2)) (m ((c : Thread nD τ).loc main_arg3)) := by
  unfold V
  simp only [hostOps0]
  after_reads_simp
  rfl

end Cert.MlaBwd

end
-- ==== Proof.Reals.lean ====
module

public import Idealize.ShloMosaic.PureOps.Ideal
public import Idealize.ShloMosaic.Lib.IdealHost
public import Mathlib.Analysis.SpecialFunctions.Pow.Real
public import Mathlib.Analysis.SpecialFunctions.Log.Basic

@[expose] public section

noncomputable section

/-! The attention of eight heads over 8192 positions on real numbers, and the values of the extended-real operations at
    real numbers. -/

namespace Cert.MlaBwd

open Idealize.ShloMosaic

/-- A finite sum of real numbers, as extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Division of real numbers by a number other than zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The largest of finitely many real numbers, as a fold from minus infinity. -/
theorem fold_max_coe {n : ℕ} (f : Fin (n + 1) → ℝ) :
    Finset.univ.fold max (⊥ : EReal) (fun i => ((f i : ℝ) : EReal)) = ((Finset.univ.sup' ⟨0, Finset.mem_univ _⟩ f : ℝ) : EReal) := by
  apply le_antisymm
  · rw [Finset.fold_max_le]
    exact ⟨bot_le, fun i hi => by exact_mod_cast Finset.le_sup' f hi⟩
  · obtain ⟨i, hi, e⟩ := Finset.exists_mem_eq_sup' (s := Finset.univ) ⟨0, Finset.mem_univ _⟩ f
    rw [e]
    exact (Finset.le_fold_max _).mpr (Or.inr ⟨i, hi, le_rfl⟩)

theorem bits96 : Ideal.ofBits .f32 0x42C00000#32 = ((96 : ℝ) : EReal) := by
  simp [Ideal.ofBits, Ideal.ieee]; rw [← EReal.coe_mul]; norm_num

theorem bits2 : Ideal.ofBits .f32 0x40000000#32 = ((2 : ℝ) : EReal) := by
  simp [Ideal.ofBits, Ideal.ieee]; rw [← EReal.coe_mul]; norm_num

theorem bitsBot : Ideal.ofBits .f32 0xFF800000#32 = (⊥ : EReal) := by
  simp [Ideal.ofBits, Ideal.ieee]

theorem bitsTop : Ideal.ofBits .f32 0x7F800000#32 = (⊤ : EReal) := by
  simp [Ideal.ofBits, Ideal.ieee]

theorem sqrt96 : Ideal.sqrt ((96 : ℝ) : EReal) = ((Real.sqrt 96 : ℝ) : EReal) := by
  rw [Ideal.sqrt_coe, if_neg (by norm_num)]

theorem log_pos_coe (x : ℝ) (hx : 0 < x) : Ideal.log (x : EReal) = ((Real.log x : ℝ) : EReal) := by
  rw [Ideal.log_coe, if_neg (not_le.mpr hx)]

theorem sqrt96_ne : Real.sqrt 96 ≠ 0 := (Real.sqrt_pos.mpr (by norm_num)).ne'

theorem log2_ne : Real.log 2 ≠ 0 := (Real.log_pos (by norm_num)).ne'

section
variable (s : Fin 8 → Fin 8192 → Fin 8192 → ℝ) (v g : Fin 8192 → Fin 8 → Fin 64 → ℝ)

/-- Each row's largest logit. -/
def mR (h : Fin 8) (r : Fin 8192) : ℝ := Finset.univ.sup' ⟨0, Finset.mem_univ _⟩ (s h r)

/-- The exponentials. -/
def eR (h : Fin 8) (r κ : Fin 8192) : ℝ := Real.exp (s h r κ - mR s h r)

/-- Each row's sum of exponentials. -/
def lR (h : Fin 8) (r : Fin 8192) : ℝ := ∑ κ, eR s h r κ

/-- The probabilities. -/
def pR (h : Fin 8) (r κ : Fin 8192) : ℝ := eR s h r κ / lR s h r

/-- The cotangent of the probabilities. -/
def dpR (h : Fin 8) (r κ : Fin 8192) : ℝ := ∑ d, g r h d * v κ h d

/-- Each row's mean of the probabilities' cotangent. -/
def dR (h : Fin 8) (r : Fin 8192) : ℝ := ∑ κ, pR s h r κ * dpR v g h r κ

/-- The cotangent of the logits. -/
def dsR (h : Fin 8) (r κ : Fin 8192) : ℝ := pR s h r κ * (dpR v g h r κ - dR s v g h r)

/-- The values' gradient. -/
def dvR (κ : Fin 8192) (h : Fin 8) (d : Fin 64) : ℝ := ∑ r, g r h d * pR s h r κ

theorem lR_pos (h : Fin 8) (r : Fin 8192) : 0 < lR s h r :=
  Finset.sum_pos (fun _ _ => Real.exp_pos _) ⟨0, Finset.mem_univ _⟩

/-- The probability as a power of two of the scaled logit less the row's logarithm to base two. -/
theorem rpow_pR (h : Fin 8) (r κ : Fin 8192) :
    Real.rpow 2 (s h r κ / Real.log 2 - (mR s h r + Real.log (lR s h r)) / Real.log 2) = pR s h r κ := by
  have h2 : (0 : ℝ) < 2 := by norm_num
  have hl := lR_pos s h r
  change (2 : ℝ) ^ (_ : ℝ) = _
  rw [Real.rpow_def_of_pos h2, ← sub_div, mul_div_cancel₀ _ log2_ne, pR, eR, ← sub_sub, Real.exp_sub, Real.exp_log hl]

/-- The row's sum of cotangent times output is its mean of the probabilities' cotangent. -/
theorem delta_dR (h : Fin 8) (r : Fin 8192) :
    (∑ d, g r h d * ∑ κ, pR s h r κ * v κ h d) = dR s v g h r := by
  simp only [dR, dpR, Finset.mul_sum]
  rw [Finset.sum_comm]
  exact Finset.sum_congr rfl fun κ _ => Finset.sum_congr rfl fun d _ => by ring

/-- The cotangent of the logits as the softmax's transpose writes it. -/
theorem dsR_eq (h : Fin 8) (r κ : Fin 8192) :
    (dpR v g h r κ / lR s h r + -(∑ κ', dpR v g h r κ' * (1 / (lR s h r * lR s h r)) * eR s h r κ')) * eR s h r κ
      = dsR s v g h r κ := by
  have hl := (lR_pos s h r).ne'
  have e : (∑ κ', dpR v g h r κ' * (1 / (lR s h r * lR s h r)) * eR s h r κ') = dR s v g h r / lR s h r := by
    rw [dR, Finset.sum_div]
    refine Finset.sum_congr rfl fun κ' _ => ?_
    rw [pR]; field_simp
  rw [e, dsR, pR]; field_simp; ring

end

section
variable (q k : Fin 8192 → Fin 8 → Fin 96 → ℝ) (v g : Fin 8192 → Fin 8 → Fin 64 → ℝ)

/-- The logits. -/
def sR (h : Fin 8) (r κ : Fin 8192) : ℝ := (∑ d, q r h d * k κ h d) / Real.sqrt 96

/-- The queries' gradient without the logits' scale. -/
def dqR (r : Fin 8192) (h : Fin 8) (d : Fin 96) : ℝ := ∑ κ, dsR (sR q k) v g h r κ * k κ h d

/-- The keys' gradient over the natural logarithm of two. -/
def dkR (κ : Fin 8192) (h : Fin 8) (d : Fin 96) : ℝ := (∑ r, dsR (sR q k) v g h r κ * q r h d) / Real.sqrt 96 / Real.log 2

end

/-- A head's 96 columns followed by 32 zeros. -/
def padR (y : Fin 8192 → Fin 8 → Fin 96 → ℝ) (r : Fin 8192) (h : Fin 8) (d : Fin 128) : ℝ :=
  if hd : d.val < 96 then y r h ⟨d.val, hd⟩ else 0

/-- A sum over 128 columns of which the last 32 are zero. -/
theorem sum_pad (f : Fin 128 → ℝ) (hf : ∀ d : Fin 128, 96 ≤ d.val → f d = 0) :
    ∑ d, f d = ∑ d : Fin 96, f ⟨d.val, by omega⟩ := by
  have := Fin.sum_univ_add (a := 96) (b := 32) (f := f)
  rw [show (∑ d, f d) = ∑ d : Fin (96 + 32), f d from rfl, this]
  have z : (∑ i : Fin 32, f (Fin.natAdd 96 i)) = 0 := Finset.sum_eq_zero fun i _ => hf _ (by simp)
  rw [z, add_zero]; rfl

/-- A sum over the 128 columns of two heads that counts one head only. -/
theorem sum_half (i : Fin 2) (f : Fin 128 → ℝ) (hf : ∀ d : Fin 128, d.val / 64 ≠ i.val → f d = 0) :
    ∑ d, f d = ∑ d : Fin 64, f ⟨64 * i.val + d.val, by omega⟩ := by
  have := Fin.sum_univ_add (a := 64) (b := 64) (f := f)
  rw [show (∑ d, f d) = ∑ d : Fin (64 + 64), f d from rfl, this]
  have hi : i.val = 0 ∨ i.val = 1 := by omega
  rcases hi with hi | hi
  · have z : (∑ j : Fin 64, f (Fin.natAdd 64 j)) = 0 := Finset.sum_eq_zero fun j _ => hf _ (by simp; omega)
    rw [z, add_zero]
    exact Finset.sum_congr rfl fun d _ => congrArg f (Fin.ext (by simp [hi]))
  · have z : (∑ j : Fin 64, f (Fin.castAdd 64 j)) = 0 := Finset.sum_eq_zero fun j _ => hf _ (by simp; omega)
    rw [z, zero_add]
    exact Finset.sum_congr rfl fun d _ => congrArg f (Fin.ext (by simp [hi]; omega))

/-- A sum over 8192 positions by eight blocks of 1024. -/
theorem sum_blocks (f : Fin 8192 → ℝ) :
    (∑ x, f x) = ∑ b ∈ Finset.range 8, ∑ r : Fin 1024, if hb : b < 8 then f ⟨1024 * b + r.val, by omega⟩ else 0 := by
  rw [← Equiv.sum_comp (finProdFinEquiv : Fin 8 × Fin 1024 ≃ Fin (8 * 1024)) f, Fintype.sum_prod_type, Finset.sum_range]
  refine Finset.sum_congr rfl fun b _ => Finset.sum_congr rfl fun r _ => ?_
  rw [dif_pos b.isLt]
  exact congrArg f (Fin.ext (by simp [finProdFinEquiv]; omega))

end Cert.MlaBwd

end
-- ==== Proof.HostVals.lean ====
module

public import proofs.«01_k».proof.Proof.Host
public import proofs.«01_k».proof.Proof.Reals

@[expose] public section

noncomputable section

namespace Cert.MlaBwd

open Cert.KernelIdeal Cert.KernelIdeal.Gen Idealize.ShloMosaic

variable (q k : Fin 8192 → Fin 8 → Fin 96 → ℝ) (v g : Fin 8192 → Fin 8 → Fin 64 → ℝ)

/-- Real queries or keys as an array. -/
def up (y : Fin 8192 → Fin 8 → Fin 96 → ℝ) : FVec Ideal S8192x8x96 .f32 := fun i => ((y (i 0) (i 1) (i 2) : ℝ) : EReal)

/-- Real values as an array. -/
def upV (y : Fin 8192 → Fin 8 → Fin 64 → ℝ) : FVec Ideal S8192x8x64 .f32 := fun i => ((y (i 0) (i 1) (i 2) : ℝ) : EReal)

/-- A real cotangent as an array, the heads in one row. -/
def upG (y : Fin 8192 → Fin 8 → Fin 64 → ℝ) : FVec Ideal S8192x512 .f32 := fun i =>
  ((y (i 0) ⟨(i 1).val / 64, by have h : (i 1).val < 512 := (i 1).isLt; omega⟩ ⟨(i 1).val % 64, Nat.mod_lt _ (by decide)⟩ : ℝ) : EReal)

theorem up_apply (y : Fin 8192 → Fin 8 → Fin 96 → ℝ) (r : Fin 8192) (h : Fin 8) (d : Fin 96) : up y (ix3 r h d) = ((y r h d : ℝ) : EReal) := rfl
theorem upV_apply (y : Fin 8192 → Fin 8 → Fin 64 → ℝ) (r : Fin 8192) (h : Fin 8) (d : Fin 64) : upV y (ix3 r h d) = ((y r h d : ℝ) : EReal) := rfl
theorem upG_apply (y : Fin 8192 → Fin 8 → Fin 64 → ℝ) (r : Fin 8192) (l : Fin 512) :
    upG y (ix2 r l) = ((y r ⟨l.val / 64, by omega⟩ ⟨l.val % 64, Nat.mod_lt _ (by decide)⟩ : ℝ) : EReal) := rfl

theorem cScale_apply (i : S_.Idx) : cScale i = ((1 / Real.sqrt 96 : ℝ) : EReal) := by
  pointwise [cScale]
  rw [bits96, sqrt96, ← EReal.coe_one, div_coe _ _ sqrt96_ne]

theorem cLog2e_apply (i : S_.Idx) : cLog2e i = ((1 / Real.log 2 : ℝ) : EReal) := by
  pointwise [cLog2e]
  rw [bits2, log_pos_coe _ (by norm_num), ← EReal.coe_one, div_coe _ _ log2_ne]

/-- A product of one array by heads with another, the positions summed over. -/
theorem dotO (y : FVec Ideal S8x8192x8192 .f32) (x : FVec Ideal S8192x8x64 .f32) (h : Fin 8) (r : Fin 8192) (d : Fin 64) :
    Host.dotGeneral dot_S8x8192x8192_S8192x8x64_S8x8192x64_2_0_1_2_0_1 none y x (ix3 h r d) = ∑ κ, y (ix3 h r κ) * x (ix3 κ h d) := by
  pointwise

/-- A sum over the last axis of a cotangent times an output, repeated over the lanes. -/
theorem sumD (x y : FVec Ideal S8x8192x64 .f32) (h : Fin 8) (r : Fin 8192) (z : Fin 128) :
    broadcastInDim S8x8192x128 ![0, 1, 2] bcast_S8x8192x1_S8x8192x128_0_1_2
      (broadcastInDim S8x8192x1 ![0, 1] bcast_S8x8192_S8x8192x1_0_1
        (Host.reduceAdd (mulf x y) (constant S_ .f32 0x00000000#32) reducesTo_S8x8192x64_S8x8192_d2 h_S_)) (ix3 h r z)
      = ∑ d, x (ix3 h r d) * y (ix3 h r d) := by
  pointwise

/-- A product of an array by heads with its quotient's divisor along the row. -/
theorem divRow (x : FVec Ideal S8x8192x8192 .f32) (y : FVec Ideal S8x8192x1 .f32) (h : Fin 8) (r κ : Fin 8192) :
    Host.divf x (broadcastInDim S8x8192x8192 ![0, 1, 2] bcast_S8x8192x1_S8x8192x8192_0_1_2 y) (ix3 h r κ)
      = Ideal.div (x (ix3 h r κ)) (y (ix3 h r 0)) := by
  pointwise

/-- A row sum, with a trailing axis. -/
theorem sumRow (x : FVec Ideal S8x8192x8192 .f32) (h : Fin 8) (r : Fin 8192) (z : Fin 1) :
    broadcastInDim S8x8192x1 ![0, 1] bcast_S8x8192_S8x8192x1_0_1
      (Host.reduceAdd x (constant S_ .f32 0x00000000#32) reducesTo_S8x8192x8192_S8x8192_d2 h_S_) (ix3 h r z) = ∑ κ, x (ix3 h r κ) := by
  pointwise

/-- The row's maximum plus the logarithm of its sum, scaled, and repeated over the lanes. -/
theorem lseRow (x y : FVec Ideal S8x8192x1 .f32) (s : FVec Ideal S_ .f32) (w : EReal) (hw : ∀ i, s i = w) (h : Fin 8) (r : Fin 8192) (z : Fin 128) :
    broadcastInDim S8x8192x128 ![0, 1, 2] bcast_S8x8192x1_S8x8192x128_0_1_2
      (mulf (addf x (Host.log y)) (broadcastInDim S8x8192x1 ![] bcast_S_S8x8192x1 s)) (ix3 h r z)
      = (x (ix3 h r 0) + Ideal.log (y (ix3 h r 0))) * w := by
  pointwise
  rw [hw]

theorem hS_apply (h : Fin 8) (r κ : Fin 8192) : hS (up q) (up k) (ix3 h r κ) = ((sR q k h r κ : ℝ) : EReal) := by
  pointwise [hS]
  rw [cScale_apply]
  simp only [up_apply, ← EReal.coe_mul, coe_sum]
  rw [sR, mul_one_div]

theorem hG_apply (h : Fin 8) (r : Fin 8192) (d : Fin 64) : hG (upG g) (ix3 h r d) = ((g r h d : ℝ) : EReal) := by
  pointwise [hG]
  rw [upG_apply]
  have e1 : (h.val * 64 + d.val) / 64 = h.val := by omega
  have e2 : (h.val * 64 + d.val) % 64 = d.val := by omega
  exact congrArg _ (congrArg₂ (g r) (Fin.ext e1) (Fin.ext e2))

/-! What follows of an array `y` of logits with the real values `s`. -/

section
variable {y : FVec Ideal S8x8192x8192 .f32} {s : Fin 8 → Fin 8192 → Fin 8192 → ℝ} (hs : ∀ h r κ, y (ix3 h r κ) = ((s h r κ : ℝ) : EReal))
include hs

theorem hM_apply (h : Fin 8) (r : Fin 8192) : hM y (ix2 h r) = ((mR s h r : ℝ) : EReal) := by
  pointwise [hM]
  rw [bitsBot]
  simp only [hs]
  exact fold_max_coe (n := 8191) _

theorem hM1_apply (h : Fin 8) (r : Fin 8192) (z : Fin 1) : hM1 y (ix3 h r z) = ((mR s h r : ℝ) : EReal) := by
  pointwise [hM1]
  exact hM_apply hs h r

theorem hE_apply (h : Fin 8) (r κ : Fin 8192) : hE y (ix3 h r κ) = ((eR s h r κ : ℝ) : EReal) := by
  pointwise [hE]
  rw [hM1_apply hs, hs, ← EReal.coe_sub, Ideal.exp_coe, eR]

theorem hL_apply (h : Fin 8) (r : Fin 8192) (z : Fin 1) : hL y (ix3 h r z) = ((lR s h r : ℝ) : EReal) := by
  refine (sumRow (hE y) h r z).trans ?_
  simp only [hE_apply hs, coe_sum]
  rw [lR]

theorem hP_apply (h : Fin 8) (r κ : Fin 8192) : hP y (ix3 h r κ) = ((pR s h r κ : ℝ) : EReal) := by
  refine (divRow (hE y) (hL y) h r κ).trans ?_
  rw [hE_apply hs, hL_apply hs, div_coe _ _ (lR_pos s h r).ne', pR]

theorem hO_apply (h : Fin 8) (r : Fin 8192) (d : Fin 64) :
    hO y (upV v) (ix3 h r d) = ((∑ κ, pR s h r κ * v κ h d : ℝ) : EReal) := by
  refine (dotO (hP y) (upV v) h r d).trans ?_
  simp only [hP_apply hs, upV_apply, ← EReal.coe_mul, coe_sum]

theorem hLse_apply (h : Fin 8) (r : Fin 8192) (z : Fin 128) :
    hLse y (ix3 h r z) = (((mR s h r + Real.log (lR s h r)) / Real.log 2 : ℝ) : EReal) := by
  refine (lseRow (hM1 y) (hL y) cLog2e _ cLog2e_apply h r z).trans ?_
  rw [hM1_apply hs, hL_apply hs, log_pos_coe _ (lR_pos s h r), ← EReal.coe_add, ← EReal.coe_mul, mul_one_div]

theorem hDelta_apply (h : Fin 8) (r : Fin 8192) (z : Fin 128) :
    hDelta y (upV v) (upG g) (ix3 h r z) = ((dR s v g h r : ℝ) : EReal) := by
  refine (sumD (hG (upG g)) (hO y (upV v)) h r z).trans ?_
  simp only [hG_apply, hO_apply v hs, ← EReal.coe_mul, coe_sum]
  rw [delta_dR]

end

theorem hQs_apply (r : Fin 8192) (h : Fin 8) (d : Fin 96) :
    hQs (up q) (ix3 r h d) = ((q r h d / Real.sqrt 96 / Real.log 2 : ℝ) : EReal) := by
  pointwise [hQs]
  rw [up_apply, cScale_apply, cLog2e_apply, ← EReal.coe_mul, ← EReal.coe_mul]
  congr 1; ring

theorem hQs_up : hQs (up q) = up (fun r h d => q r h d / Real.sqrt 96 / Real.log 2) := by
  funext j
  rw [eq_ix3 j]
  exact hQs_apply q (j 0) (j 1) (j 2)

theorem hPad_apply (y : Fin 8192 → Fin 8 → Fin 96 → ℝ) (r : Fin 8192) (l : Fin 1024) :
    hPad (up y) (ix2 r l) = ((padR y r ⟨l.val / 128, by omega⟩ ⟨l.val % 128, Nat.mod_lt _ (by decide)⟩ : ℝ) : EReal) := by
  pointwise [hPad]
  by_cases hd : l.val % 128 < 96
  · rw [dif_pos hd, padR, dif_pos hd]; rfl
  · rw [dif_neg hd, padR, dif_neg hd]; rfl

theorem hVv_apply (r : Fin 8192) (l : Fin 512) :
    hVv (upV v) (ix2 r l) = ((v r ⟨l.val / 64, by omega⟩ ⟨l.val % 64, Nat.mod_lt _ (by decide)⟩ : ℝ) : EReal) := by
  pointwise [hVv]
  rfl

theorem hDo_apply (r : Fin 8192) (l : Fin 512) :
    hDo (upG g) (ix2 r l) = ((g r ⟨l.val / 64, by omega⟩ ⟨l.val % 64, Nat.mod_lt _ (by decide)⟩ : ℝ) : EReal) := rfl

end Cert.MlaBwd

end
-- ==== Proof.RefVals.lean ====
module

public import proofs.«01_k».proof.Proof.HostVals
public import proofs.«01_k».proof.Proof.Gen.ReferenceIdeal.Read

@[expose] public section

noncomputable section

namespace Cert.MlaBwd

open Cert.ReferenceIdeal Cert.ReferenceIdeal.Gen Cert.ReferenceIdeal.Read Idealize.ShloMosaic

variable (q k : Fin 8192 → Fin 8 → Fin 96 → ℝ) (v g : Fin 8192 → Fin 8 → Fin 64 → ℝ)

/-- The reference's logits. -/
theorem rv3 (i : S8x8192x8192.Idx) : val_main_v3 (F := Ideal) (up q) (up k) i = ((sR q k (i 0) (i 1) (i 2) : ℝ) : EReal) := by
  rw [val_main_v3_apply, val_main_v0_apply, val_main_v2_apply, val_main_v1_apply, val_main_cst_apply]
  change Ideal.div (∑ d : Fin 96, ((q (i 1) (i 0) d : ℝ) : EReal) * ((k (i 2) (i 0) d : ℝ) : EReal)) (Ideal.sqrt (Ideal.ofBits .f32 0x42C00000#32)) = _
  rw [bits96, sqrt96]
  simp only [← EReal.coe_mul, coe_sum]
  exact div_coe _ _ sqrt96_ne

/-- A row's maximum. -/
theorem maxRow (x : FVec Ideal S8x8192x8192 .f32) (h : Fin 8) (r : Fin 8192) :
    Host.reduce FloatOps.maximumf x (constant S_ .f32 0xFF800000#32) reducesTo_S8x8192x8192_S8x8192_d2 h_S_ (ix2 h r)
      = Finset.univ.fold max (Ideal.ofBits .f32 0xFF800000#32) fun κ => x (ix3 h r κ) := by
  pointwise

/-- Their row maxima. -/
theorem rv4 (i : S8x8192.Idx) : val_main_v4 (F := Ideal) (up q) (up k) i = ((mR (sR q k) (i 0) (i 1) : ℝ) : EReal) := by
  have e : ∀ (h : Fin 8) (r : Fin 8192), val_main_v4 (F := Ideal) (up q) (up k) (ix2 h r) = ((mR (sR q k) h r : ℝ) : EReal) := by
    intro h r
    unfold val_main_v4 val_main_cst_0
    rw [maxRow, bitsBot]
    simp only [rv3]
    exact fold_max_coe (n := 8191) _
  have hi := e (i 0) (i 1)
  rwa [← eq_ix2 i] at hi

theorem rv11 (i : S8x8192.Idx) : val_main_v11 (F := Ideal) (up q) (up k) i = ((mR (sR q k) (i 0) (i 1) : ℝ) : EReal) := by
  rw [val_main_v11_apply, val_main_v10_apply, val_main_cst_2_apply, rv4]
  change max (Ideal.ofBits .f32 0xFF800000#32) _ = _
  rw [bitsBot]; exact max_bot_left _

/-- The exponentials. -/
theorem rv24 (i : S8x8192x8192.Idx) : val_main_v24 (F := Ideal) (up q) (up k) i = ((eR (sR q k) (i 0) (i 1) (i 2) : ℝ) : EReal) := by
  rw [val_main_v24_apply, val_main_v23_apply, val_main_v22_apply, val_main_v21_apply, rv11, rv3]
  change Ideal.exp (((sR q k (i 0) (i 1) (i 2) : ℝ) : EReal) - ((mR (sR q k) (i 0) (i 1) : ℝ) : EReal)) = _
  rw [← EReal.coe_sub, Ideal.exp_coe]; rfl

/-- Their row sums. -/
theorem rv26 (i : S8x8192x1.Idx) : val_main_v26 (F := Ideal) (up q) (up k) i = ((lR (sR q k) (i 0) (i 1) : ℝ) : EReal) := by
  rw [val_main_v26_apply, val_main_v25_apply, val_main_cst_8_apply]
  simp only [rv24]
  change Ideal.ofBits .f32 0x00000000#32 + ∑ κ : Fin 8192, ((eR (sR q k) (i 0) (i 1) κ : ℝ) : EReal) = _
  rw [Ideal.ofBits_zero_f32, zero_add, coe_sum]; rfl

/-- The probabilities. -/
theorem rv28 (i : S8x8192x8192.Idx) : val_main_v28 (F := Ideal) (up q) (up k) i = ((pR (sR q k) (i 0) (i 1) (i 2) : ℝ) : EReal) := by
  rw [val_main_v28_apply, val_main_v27_apply, rv26, rv24]
  change Ideal.div ((eR (sR q k) (i 0) (i 1) (i 2) : ℝ) : EReal) ((lR (sR q k) (i 0) (i 1) : ℝ) : EReal) = _
  exact div_coe _ _ (lR_pos (sR q k) _ _).ne'

theorem rv31 (i : S8x8192x1.Idx) :
    val_main_v31 (F := Ideal) (up q) (up k) i = ((1 / (lR (sR q k) (i 0) (i 1) * lR (sR q k) (i 0) (i 1)) : ℝ) : EReal) := by
  rw [val_main_v31_apply, val_main_v30_apply, val_main_cst_9_apply, val_main_v29_apply, rv26]
  change Ideal.div (Ideal.ofBits .f32 0x3F800000#32) (((lR (sR q k) (i 0) (i 1) : ℝ) : EReal) * ((lR (sR q k) (i 0) (i 1) : ℝ) : EReal)) = _
  have hl := (lR_pos (sR q k) (i 0) (i 1)).ne'
  rw [Ideal.ofBits_one_f32, ← EReal.coe_one, ← EReal.coe_mul, div_coe _ _ (mul_ne_zero hl hl)]

/-- The cotangent by heads. -/
theorem rv35 (i : S8192x8x64.Idx) : val_main_v35 (F := Ideal) (upG g) i = ((g (i 0) (i 1) (i 2) : ℝ) : EReal) := by
  rw [val_main_v35_apply]
  have h1 : (i 1).val < 8 := (i 1).isLt
  have h2 : (i 2).val < 64 := (i 2).isLt
  have e0 : (((i 0).val * 8 + (i 1).val) * 64 + (i 2).val) / 512 = (i 0).val := by omega
  have e1 : (((i 0).val * 8 + (i 1).val) * 64 + (i 2).val) % 512 / 64 = (i 1).val := by omega
  have e2 : (((i 0).val * 8 + (i 1).val) * 64 + (i 2).val) % 512 % 64 = (i 2).val := by omega
  unfold upG
  refine congrArg _ ?_
  have f : ∀ (a a' : Fin 8192) (b b' : Fin 8) (c c' : Fin 64), a.val = a'.val → b.val = b'.val → c.val = c'.val → g a b c = g a' b' c' := by
    intro a a' b b' c c' ha hb hc
    rw [Fin.ext ha, Fin.ext hb, Fin.ext hc]
  exact f _ _ _ _ _ _ e0 e1 e2

theorem rv36 (i : S8x64x8192.Idx) : val_main_v36 (F := Ideal) (upG g) i = ((g (i 2) (i 0) (i 1) : ℝ) : EReal) := by
  rw [val_main_v36_apply, rv35]; rfl

/-- The cotangent of the probabilities. -/
theorem rv37 (i : S8x8192x8192.Idx) : val_main_v37 (F := Ideal) (upV v) (upG g) i = ((dpR v g (i 0) (i 1) (i 2) : ℝ) : EReal) := by
  rw [val_main_v37_apply]
  simp only [rv36]
  change ∑ d : Fin 64, ((g (i 1) (i 0) d : ℝ) : EReal) * ((v (i 2) (i 0) d : ℝ) : EReal) = _
  simp only [← EReal.coe_mul, coe_sum]
  rfl

/-- The values' gradient. -/
theorem rv39 (i : S8192x8x64.Idx) : val_main_v39 (F := Ideal) (up q) (up k) (upG g) i = ((dvR (sR q k) g (i 0) (i 1) (i 2) : ℝ) : EReal) := by
  rw [val_main_v39_apply, val_main_v38_apply]
  simp only [rv36, rv28]
  change ∑ r : Fin 8192, ((g r (i 1) (i 2) : ℝ) : EReal) * ((pR (sR q k) (i 1) r (i 0) : ℝ) : EReal) = _
  simp only [← EReal.coe_mul, coe_sum]
  rfl

theorem rv42 (i : S8x8192x8192.Idx) : val_main_v42 (F := Ideal) (up q) (up k) (upV v) (upG g) i
    = ((dpR v g (i 0) (i 1) (i 2) * (1 / (lR (sR q k) (i 0) (i 1) * lR (sR q k) (i 0) (i 1))) * eR (sR q k) (i 0) (i 1) (i 2) : ℝ) : EReal) := by
  rw [val_main_v42_apply, val_main_v41_apply, val_main_v40_apply, rv37, rv31, rv24]
  change ((dpR v g (i 0) (i 1) (i 2) : ℝ) : EReal) * ((1 / (lR (sR q k) (i 0) (i 1) * lR (sR q k) (i 0) (i 1)) : ℝ) : EReal) * ((eR (sR q k) (i 0) (i 1) (i 2) : ℝ) : EReal) = _
  rw [← EReal.coe_mul, ← EReal.coe_mul]

theorem rv43 (i : S8x8192.Idx) : val_main_v43 (F := Ideal) (up q) (up k) (upV v) (upG g) i
    = ((∑ κ, dpR v g (i 0) (i 1) κ * (1 / (lR (sR q k) (i 0) (i 1) * lR (sR q k) (i 0) (i 1))) * eR (sR q k) (i 0) (i 1) κ : ℝ) : EReal) := by
  rw [val_main_v43_apply, val_main_cst_10_apply]
  simp only [rv42]
  change Ideal.ofBits .f32 0x00000000#32 + ∑ κ : Fin 8192, ((dpR v g (i 0) (i 1) κ * (1 / (lR (sR q k) (i 0) (i 1) * lR (sR q k) (i 0) (i 1))) * eR (sR q k) (i 0) (i 1) κ : ℝ) : EReal) = _
  rw [Ideal.ofBits_zero_f32, zero_add, coe_sum]

theorem rv45 (i : S8x8192x1.Idx) : val_main_v45 (F := Ideal) (up q) (up k) (upV v) (upG g) i
    = ((-(∑ κ, dpR v g (i 0) (i 1) κ * (1 / (lR (sR q k) (i 0) (i 1) * lR (sR q k) (i 0) (i 1))) * eR (sR q k) (i 0) (i 1) κ) : ℝ) : EReal) := by
  rw [val_main_v45_apply, val_main_v44_apply, rv43]
  have h2 : (i 2).val < 1 := (i 2).isLt
  have e0 : idx_main_v44 i 0 = i 0 := Fin.ext (by
    have h1 : (i 1).val < 8192 := (i 1).isLt
    change (((i 0).val * 8192 + (i 1).val) * 1 + (i 2).val) / 8192 = (i 0).val
    omega)
  have e1 : idx_main_v44 i 1 = i 1 := Fin.ext (by
    have h1 : (i 1).val < 8192 := (i 1).isLt
    change (((i 0).val * 8192 + (i 1).val) * 1 + (i 2).val) % 8192 = (i 1).val
    omega)
  rw [e0, e1]
  change -((_ : ℝ) : EReal) = _
  rw [← EReal.coe_neg]

theorem rv49 (i : S8x8192x8192.Idx) : val_main_v49 (F := Ideal) (up q) (up k) (upV v) (upG g) i
    = ((-(∑ κ, dpR v g (i 0) (i 1) κ * (1 / (lR (sR q k) (i 0) (i 1) * lR (sR q k) (i 0) (i 1))) * eR (sR q k) (i 0) (i 1) κ) : ℝ) : EReal) := by
  rw [val_main_v49_apply, val_main_v48_apply, val_main_cst_11_apply]
  simp only [rv45]
  rw [Fin.sum_univ_one]
  change Ideal.ofBits .f32 0x00000000#32 + _ = _
  rw [Ideal.ofBits_zero_f32, zero_add]; rfl

/-- A quotient plus a number, times a number. -/
theorem div_add_mul (a l s e : ℝ) (hl : l ≠ 0) :
    (Ideal.div (a : EReal) (l : EReal) + (s : EReal)) * (e : EReal) = (((a / l + s) * e : ℝ) : EReal) := by
  rw [div_coe _ _ hl, ← EReal.coe_add, ← EReal.coe_mul]

/-- The cotangent of the logits. -/
theorem rv51 (i : S8x8192x8192.Idx) : val_main_v51 (F := Ideal) (up q) (up k) (upV v) (upG g) i
    = ((dsR (sR q k) v g (i 0) (i 1) (i 2) : ℝ) : EReal) := by
  rw [val_main_v51_apply, val_main_v50_apply, val_main_v47_apply, val_main_v46_apply, rv49, rv37, rv26, rv24]
  change (Ideal.div ((dpR v g (i 0) (i 1) (i 2) : ℝ) : EReal) ((lR (sR q k) (i 0) (i 1) : ℝ) : EReal) + ((_ : ℝ) : EReal)) * ((eR (sR q k) (i 0) (i 1) (i 2) : ℝ) : EReal) = _
  exact (div_add_mul _ _ _ _ (lR_pos (sR q k) _ _).ne').trans (congrArg _ (dsR_eq (sR q k) v g _ _ _))

theorem rv53 (i : S8x8192x8192.Idx) : val_main_v53 (F := Ideal) (up q) (up k) (upV v) (upG g) i
    = ((dsR (sR q k) v g (i 0) (i 1) (i 2) / Real.sqrt 96 : ℝ) : EReal) := by
  rw [val_main_v53_apply, val_main_v52_apply, val_main_v1_apply, val_main_cst_apply, rv51]
  change Ideal.div _ (Ideal.sqrt (Ideal.ofBits .f32 0x42C00000#32)) = _
  rw [bits96, sqrt96, div_coe _ _ sqrt96_ne]

/-- The logits' scale taken out of the keys' gradient. -/
theorem dk_scale (κ : Fin 8192) (h : Fin 8) (d : Fin 96) :
    (∑ r, dsR (sR q k) v g h r κ / Real.sqrt 96 * q r h d) / Real.log 2 = dkR q k v g κ h d := by
  rw [dkR, Finset.sum_div Finset.univ _ (Real.sqrt 96)]
  exact congrArg (· / Real.log 2) (Finset.sum_congr rfl fun r _ => by ring)

/-- The logits' scale taken out of the queries' gradient. -/
theorem dq_scale (r : Fin 8192) (h : Fin 8) (d : Fin 96) :
    (∑ κ, dsR (sR q k) v g h r κ / Real.sqrt 96 * k κ h d) * Real.sqrt 96 = dqR q k v g r h d := by
  have h9 := sqrt96_ne
  rw [dqR, Finset.sum_mul]
  exact Finset.sum_congr rfl fun κ _ => by field_simp

/-- The keys' gradient over the natural logarithm of two. -/
theorem rv65 (i : S8192x8x96.Idx) : val_main_v65 (F := Ideal) (up q) (up k) (upV v) (upG g) i
    = ((dkR q k v g (i 0) (i 1) (i 2) : ℝ) : EReal) := by
  rw [val_main_v65_apply, val_main_v64_apply, val_main_v63_apply, val_main_cst_13_apply, val_main_v55_apply, val_main_v54_apply]
  simp only [rv53]
  change Ideal.div (∑ r : Fin 8192, ((dsR (sR q k) v g (i 1) r (i 0) / Real.sqrt 96 : ℝ) : EReal) * ((q r (i 1) (i 2) : ℝ) : EReal)) (Ideal.log (Ideal.ofBits .f32 0x40000000#32)) = _
  rw [bits2, log_pos_coe _ (by norm_num)]
  simp only [← EReal.coe_mul, coe_sum]
  exact (div_coe _ _ log2_ne).trans (congrArg _ (dk_scale q k v g _ _ _))

/-- The queries' gradient without the logits' scale. -/
theorem rv60 (i : S8192x8x96.Idx) : val_main_v60 (F := Ideal) (up q) (up k) (upV v) (upG g) i
    = ((dqR q k v g (i 0) (i 1) (i 2) : ℝ) : EReal) := by
  rw [val_main_v60_apply, val_main_v59_apply, val_main_v58_apply, val_main_cst_12_apply, val_main_v57_apply, val_main_v56_apply]
  simp only [rv53]
  change (∑ κ : Fin 8192, ((dsR (sR q k) v g (i 1) (i 0) κ / Real.sqrt 96 : ℝ) : EReal) * ((k κ (i 1) (i 2) : ℝ) : EReal)) * (Ideal.sqrt (Ideal.ofBits .f32 0x42C00000#32)) = _
  rw [bits96, sqrt96]
  simp only [← EReal.coe_mul, coe_sum]
  exact congrArg (fun x : ℝ => (x : EReal)) (dq_scale q k v g _ _ _)

/-- Thirty-two columns of zeros after each head's 96, and the heads in one row. -/
theorem padRow (x : FVec Ideal S8192x8x96 .f32) (r : Fin 8192) (l : Fin 1024) :
    shapeCast S8192x1024 (pad S8192x8x128 ![0, 0, 0] ![0, 0, 32] ![0, 0, 0] x (sitofp .f32 (constantI S_ 32 0#32))
      pads_S8192x8x96_S8192x8x128_000_000_0320 h_S_) shapeCasts_S8192x8x128_S8192x1024 (ix2 r l)
      = if hd : l.val % 128 < 96 then x (ix3 r ⟨l.val / 128, by omega⟩ ⟨l.val % 128, hd⟩) else 0 := by
  pointwise
  have z : (FloatOps.sitofp (F := Ideal) FTy.f32 (0#32) : EReal) = 0 := by
    change ((((0#32 : BitVec 32).toInt : ℝ)) : EReal) = 0
    simp
  have h8 : l.val / 128 < 8 := by omega
  by_cases hd : l.val % 128 < 96
  · rw [dif_pos ⟨h8, hd⟩, dif_pos hd]
  · rw [dif_neg (fun h => hd h.2), dif_neg hd]; exact z

theorem padRow_coe (x : FVec Ideal S8192x8x96 .f32) (y : Fin 8192 → Fin 8 → Fin 96 → ℝ) (hx : ∀ i, x i = ((y (i 0) (i 1) (i 2) : ℝ) : EReal))
    (r : Fin 8192) (l : Fin 1024) :
    shapeCast S8192x1024 (pad S8192x8x128 ![0, 0, 0] ![0, 0, 32] ![0, 0, 0] x (sitofp .f32 (constantI S_ 32 0#32))
      pads_S8192x8x96_S8192x8x128_000_000_0320 h_S_) shapeCasts_S8192x8x128_S8192x1024 (ix2 r l)
      = ((padR y r ⟨l.val / 128, by omega⟩ ⟨l.val % 128, Nat.mod_lt _ (by decide)⟩ : ℝ) : EReal) := by
  rw [padRow]
  by_cases hd : l.val % 128 < 96
  · rw [dif_pos hd, padR, dif_pos hd, hx]; rfl
  · rw [dif_neg hd, padR, dif_neg hd]; rfl

/-- The first result. -/
theorem rv62 (r : Fin 8192) (l : Fin 1024) : val_main_v62 (F := Ideal) (up q) (up k) (upV v) (upG g) (ix2 r l)
    = ((padR (dqR q k v g) r ⟨l.val / 128, by omega⟩ ⟨l.val % 128, Nat.mod_lt _ (by decide)⟩ : ℝ) : EReal) :=
  padRow_coe _ _ (rv60 q k v g) r l

/-- The second result. -/
theorem rv69 (l : Fin 1024) (κ : Fin 8192) : val_main_v69 (F := Ideal) (up q) (up k) (upV v) (upG g) (ix2 l κ)
    = ((padR (dkR q k v g) κ ⟨l.val / 128, by omega⟩ ⟨l.val % 128, Nat.mod_lt _ (by decide)⟩ : ℝ) : EReal) := by
  rw [val_main_v69_apply, val_main_v68_apply, show idx_main_v68 (ix2 l κ) = ix2 κ l from (eq_ix2 _)]
  exact padRow_coe _ _ (rv65 q k v g) κ l

/-- The third result. -/
theorem rv72 (l : Fin 512) (κ : Fin 8192) : val_main_v72 (F := Ideal) (up q) (up k) (upG g) (ix2 l κ)
    = ((dvR (sR q k) g κ ⟨l.val / 64, by omega⟩ ⟨l.val % 64, Nat.mod_lt _ (by decide)⟩ : ℝ) : EReal) := by
  rw [val_main_v72_apply, val_main_v71_apply, val_main_v70_apply, rv39]
  have f : ∀ (a a' : Fin 8192) (b b' : Fin 8) (c c' : Fin 64), a.val = a'.val → b.val = b'.val → c.val = c'.val →
      ((dvR (sR q k) g a b c : ℝ) : EReal) = ((dvR (sR q k) g a' b' c' : ℝ) : EReal) := by
    intro a a' b b' c c' ha hb hc
    rw [Fin.ext ha, Fin.ext hb, Fin.ext hc]
  have hl := l.isLt
  refine f _ _ _ _ _ _ ?_ ?_ ?_
  · change (κ.val * 512 + l.val) / 512 = κ.val; omega
  · change (κ.val * 512 + l.val) / 64 % 8 = l.val / 64; omega
  · change (κ.val * 512 + l.val) % 64 = l.val % 64; omega

end Cert.MlaBwd

end
-- ==== Proof.Blocks.lean ====
module

public import proofs.«01_k».proof.Proof.Results
public import Idealize.ShloMosaic.Lib.Pipeline.ValueKit

@[expose] public section

set_option maxRecDepth 16384

noncomputable section

namespace Cert.MlaBwd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem e0 : ∀ t : Fin cfg0.N, win0_0.index t = ![t.val % 8, t.val / 64] := (by decide +kernel : ∀ t : Fin grid0.N, _)
theorem e1 : ∀ t : Fin cfg0.N, win0_1.index t = ![t.val / 8 % 8, t.val / 64] := (by decide +kernel : ∀ t : Fin grid0.N, _)
theorem e2 : ∀ t : Fin cfg0.N, win0_2.index t = ![t.val / 8 % 8, t.val / 64] := (by decide +kernel : ∀ t : Fin grid0.N, _)
theorem e3 : ∀ t : Fin cfg0.N, win0_3.index t = ![t.val % 8, t.val / 64] := (by decide +kernel : ∀ t : Fin grid0.N, _)
theorem e4 : ∀ t : Fin cfg0.N, win0_4.index t = ![t.val / 64, t.val % 8, 0] := (by decide +kernel : ∀ t : Fin grid0.N, _)
theorem e5 : ∀ t : Fin cfg0.N, win0_5.index t = ![t.val / 64, t.val % 8, 0] := (by decide +kernel : ∀ t : Fin grid0.N, _)

/-- Block 0 at a point is the part of its array at the point's coordinates. -/
theorem blk0 (t : Fin cfg0.N) (A : Vec Ideal S8192x1024 .bf16) (r : Fin 1024) (l : Fin 256) :
    ((cfg0.win 0).blk t).view.read (Elt Ideal) A (ix2 r l) = A (ix2 ⟨1024 * (t.val % 8) + r.val, by have := lt256 t; omega⟩ ⟨256 * (t.val / 64) + l.val, by have := lt256 t; omega⟩) := by
  refine congrArg A (funext fun a => Fin.ext ?_)
  have h0 : (((cfg0.win 0).blk t).view.emb (ix2 r l) 0 : ℕ) = 1024 * (t.val % 8) + r.val := by
    blk_simp [e0]; show _ + r.val = _; omega
  have h1 : (((cfg0.win 0).blk t).view.emb (ix2 r l) 1 : ℕ) = 256 * (t.val / 64) + l.val := by
    blk_simp [e0]; show _ + l.val = _; omega
  fin_cases a
  · exact h0
  · exact h1

/-- Block 1 at a point is the part of its array at the point's coordinates. -/
theorem blk1 (t : Fin cfg0.N) (A : Vec Ideal S8192x1024 .bf16) (r : Fin 1024) (l : Fin 256) :
    ((cfg0.win 1).blk t).view.read (Elt Ideal) A (ix2 r l) = A (ix2 ⟨1024 * (t.val / 8 % 8) + r.val, by have := lt256 t; omega⟩ ⟨256 * (t.val / 64) + l.val, by have := lt256 t; omega⟩) := by
  refine congrArg A (funext fun a => Fin.ext ?_)
  have h0 : (((cfg0.win 1).blk t).view.emb (ix2 r l) 0 : ℕ) = 1024 * (t.val / 8 % 8) + r.val := by
    blk_simp [e1]; show _ + r.val = _; omega
  have h1 : (((cfg0.win 1).blk t).view.emb (ix2 r l) 1 : ℕ) = 256 * (t.val / 64) + l.val := by
    blk_simp [e1]; show _ + l.val = _; omega
  fin_cases a
  · exact h0
  · exact h1

/-- Block 2 at a point is the part of its array at the point's coordinates. -/
theorem blk2 (t : Fin cfg0.N) (A : Vec Ideal S8192x512 .bf16) (r : Fin 1024) (l : Fin 128) :
    ((cfg0.win 2).blk t).view.read (Elt Ideal) A (ix2 r l) = A (ix2 ⟨1024 * (t.val / 8 % 8) + r.val, by have := lt256 t; omega⟩ ⟨128 * (t.val / 64) + l.val, by have := lt256 t; omega⟩) := by
  refine congrArg A (funext fun a => Fin.ext ?_)
  have h0 : (((cfg0.win 2).blk t).view.emb (ix2 r l) 0 : ℕ) = 1024 * (t.val / 8 % 8) + r.val := by
    blk_simp [e2]; show _ + r.val = _; omega
  have h1 : (((cfg0.win 2).blk t).view.emb (ix2 r l) 1 : ℕ) = 128 * (t.val / 64) + l.val := by
    blk_simp [e2]; show _ + l.val = _; omega
  fin_cases a
  · exact h0
  · exact h1

/-- Block 3 at a point is the part of its array at the point's coordinates. -/
theorem blk3 (t : Fin cfg0.N) (A : Vec Ideal S8192x512 .bf16) (r : Fin 1024) (l : Fin 128) :
    ((cfg0.win 3).blk t).view.read (Elt Ideal) A (ix2 r l) = A (ix2 ⟨1024 * (t.val % 8) + r.val, by have := lt256 t; omega⟩ ⟨128 * (t.val / 64) + l.val, by have := lt256 t; omega⟩) := by
  refine congrArg A (funext fun a => Fin.ext ?_)
  have h0 : (((cfg0.win 3).blk t).view.emb (ix2 r l) 0 : ℕ) = 1024 * (t.val % 8) + r.val := by
    blk_simp [e3]; show _ + r.val = _; omega
  have h1 : (((cfg0.win 3).blk t).view.emb (ix2 r l) 1 : ℕ) = 128 * (t.val / 64) + l.val := by
    blk_simp [e3]; show _ + l.val = _; omega
  fin_cases a
  · exact h0
  · exact h1

/-- Block 4 at a point is the part of its array at the point's coordinates. -/
theorem blk4 (t : Fin cfg0.N) (A : Vec Ideal S8x8192x128 .f32) (i : Fin 2) (r : Fin 1024) (l : Fin 128) :
    ((cfg0.win 4).blk t).view.read (Elt Ideal) A (ix3 i r l) = A (ix3 ⟨2 * (t.val / 64) + i.val, by have := lt256 t; omega⟩ ⟨1024 * (t.val % 8) + r.val, by have := lt256 t; omega⟩ l) := by
  refine congrArg A (funext fun a => Fin.ext ?_)
  have h0 : (((cfg0.win 4).blk t).view.emb (ix3 i r l) 0 : ℕ) = 2 * (t.val / 64) + i.val := by
    blk_simp [e4]; show _ + i.val = _; omega
  have h1 : (((cfg0.win 4).blk t).view.emb (ix3 i r l) 1 : ℕ) = 1024 * (t.val % 8) + r.val := by
    blk_simp [e4]; show _ + r.val = _; omega
  have h2 : (((cfg0.win 4).blk t).view.emb (ix3 i r l) 2 : ℕ) = l.val := by
    blk_simp [e4]
  fin_cases a
  · exact h0
  · exact h1
  · exact h2

/-- Block 5 at a point is the part of its array at the point's coordinates. -/
theorem blk5 (t : Fin cfg0.N) (A : Vec Ideal S8x8192x128 .f32) (i : Fin 2) (r : Fin 1024) (l : Fin 128) :
    ((cfg0.win 5).blk t).view.read (Elt Ideal) A (ix3 i r l) = A (ix3 ⟨2 * (t.val / 64) + i.val, by have := lt256 t; omega⟩ ⟨1024 * (t.val % 8) + r.val, by have := lt256 t; omega⟩ l) := by
  refine congrArg A (funext fun a => Fin.ext ?_)
  have h0 : (((cfg0.win 5).blk t).view.emb (ix3 i r l) 0 : ℕ) = 2 * (t.val / 64) + i.val := by
    blk_simp [e5]; show _ + i.val = _; omega
  have h1 : (((cfg0.win 5).blk t).view.emb (ix3 i r l) 1 : ℕ) = 1024 * (t.val % 8) + r.val := by
    blk_simp [e5]; show _ + r.val = _; omega
  have h2 : (((cfg0.win 5).blk t).view.emb (ix3 i r l) 2 : ℕ) = l.val := by
    blk_simp [e5]
  fin_cases a
  · exact h0
  · exact h1
  · exact h2

end Cert.MlaBwd

end
-- ==== Proof.Halves.lean ====
module

public import proofs.«01_k».proof.Proof.Vals
public import proofs.«01_k».proof.Proof.Reals

@[expose] public section

noncomputable section

/-! Products of blocks of 128 columns that hold two heads of 64 columns, one head's columns taken by setting the others to zero. -/

namespace Cert.MlaBwd

open Cert.KernelIdeal Cert.KernelIdeal.Gen Idealize.ShloMosaic

/-- The head, of a block's two, that a column of 128 belongs to. -/
abbrev half (d : Fin 128) : Fin 2 := ⟨d.val / 64, by omega⟩

/-- A column's place in its head. -/
abbrev inner (d : Fin 128) : Fin 64 := ⟨d.val % 64, Nat.mod_lt _ (by decide)⟩

variable {x z : Vec Ideal S1024x128 .bf16} {a b : Fin 1024 → Fin 2 → Fin 64 → ℝ}
variable (hx : ∀ r d, x (ix2 r d) = ((a r (half d) (inner d) : ℝ) : EReal))
include hx

/-- A block masked to one head. -/
theorem doM_real (i : Fin 2) (r : Fin 1024) (d : Fin 128) :
    doM x i (ix2 r d) = ((if d.val / 64 = i.val then a r (half d) (inner d) else 0 : ℝ) : EReal) := by
  change (if d.val / 64 = i.val then x (ix2 r d) else 0) = _
  by_cases h : d.val / 64 = i.val
  · rw [if_pos h, if_pos h, hx]
  · rw [if_neg h, if_neg h]; rfl

/-- A masked block against another block is the product of one head's columns. -/
theorem DPv_real (hz : ∀ r d, z (ix2 r d) = ((b r (half d) (inner d) : ℝ) : EReal)) (i : Fin 2) (r κ : Fin 1024) :
    DPv z x (ix3 i r κ) = ((∑ d, a r i d * b κ i d : ℝ) : EReal) := by
  change ∑ d : Fin 128, doM x i (ix2 r d) * z (ix2 κ d) = _
  simp only [doM_real hx, hz, ← EReal.coe_mul, coe_sum]
  refine congrArg (fun x : ℝ => (x : EReal)) ?_
  rw [sum_half i _ fun d hd => by rw [if_neg hd, zero_mul]]
  refine Finset.sum_congr rfl fun d _ => ?_
  have e : (64 * i.val + d.val) / 64 = i.val := by omega
  have e1 : half (⟨64 * i.val + d.val, by omega⟩ : Fin 128) = i := Fin.ext e
  have e2 : inner (⟨64 * i.val + d.val, by omega⟩ : Fin 128) = d := Fin.ext (by change (64 * i.val + d.val) % 64 = d.val; omega)
  rw [if_pos e, e1, e2]

/-- The two heads' masked blocks against the two heads' tiles: each column meets its own head's tile. -/
theorem halves {P : Vec Ideal S2x1024x1024 .bf16} {p : Fin 2 → Fin 1024 → Fin 1024 → ℝ} (hP : ∀ i r κ, P (ix3 i r κ) = ((p i r κ : ℝ) : EReal))
    (d : Fin 128) (κ : Fin 1024) :
    (∑ r : Fin 1024, doM x 0 (ix2 r d) * P (ix3 0 r κ)) + ∑ r : Fin 1024, doM x 1 (ix2 r d) * P (ix3 1 r κ)
      = ((∑ r, a r (half d) (inner d) * p (half d) r κ : ℝ) : EReal) := by
  simp only [doM_real hx, hP, ← EReal.coe_mul, coe_sum, ← EReal.coe_add]
  refine congrArg (fun x : ℝ => (x : EReal)) ?_
  rw [← Finset.sum_add_distrib]
  refine Finset.sum_congr rfl fun r _ => ?_
  have hd : d.val / 64 = 0 ∨ d.val / 64 = 1 := by omega
  rcases hd with hd | hd
  · have e : half d = 0 := Fin.ext hd
    rw [e]; simp [hd]
  · have e : half d = 1 := Fin.ext hd
    rw [e]; simp [hd]

end Cert.MlaBwd

end
-- ==== Proof.Tile.lean ====
module

public import proofs.«01_k».proof.Proof.Parts10
public import proofs.«01_k».proof.Proof.Halves

@[expose] public section

noncomputable section

/-! One tile of the kernel at real arguments: what each grid point computes, of query rows `Q`, keys `K` and heads `H`. -/

namespace Cert.MlaBwd

open Cert.KernelIdeal Cert.KernelIdeal.Gen Idealize.ShloMosaic

variable (q k : Fin 8192 → Fin 8 → Fin 96 → ℝ) (v g : Fin 8192 → Fin 8 → Fin 64 → ℝ)

/-- The queries scaled as the kernel takes them. -/
def qs (r : Fin 8192) (h : Fin 8) (d : Fin 96) : ℝ := q r h d / Real.sqrt 96 / Real.log 2

variable (Q K : Fin 1024 → Fin 8192) (H : Fin 2 → Fin 8)

variable (x0 x1 : Vec Ideal S1024x256 .bf16) (x2 x3 : Vec Ideal S1024x128 .bf16) (x4 x5 : Vec Ideal S2x1024x128 .f32)

/-- The blocks at a grid point hold the arguments' rows `Q` and `K` of the heads `H`, and the rows' statistics. -/
structure Blocks : Prop where
  h0 : ∀ r i d, x0 (ix2 r (lane i d)) = ((padR (qs q) (Q r) (H i) d : ℝ) : EReal)
  h1 : ∀ r i d, x1 (ix2 r (lane i d)) = ((padR k (K r) (H i) d : ℝ) : EReal)
  h2 : ∀ r d, x2 (ix2 r d) = ((v (K r) (H (half d)) (inner d) : ℝ) : EReal)
  h3 : ∀ r d, x3 (ix2 r d) = ((g (Q r) (H (half d)) (inner d) : ℝ) : EReal)
  h4 : ∀ i r z, x4 (ix3 i r z) = (((mR (sR q k) (H i) (Q r) + Real.log (lR (sR q k) (H i) (Q r))) / Real.log 2 : ℝ) : EReal)
  h5 : ∀ i r z, x5 (ix3 i r z) = ((dR (sR q k) v g (H i) (Q r) : ℝ) : EReal)

variable {q k v g Q K H x0 x1 x2 x3 x4 x5} (B : Blocks q k v g Q K H x0 x1 x2 x3 x4 x5)
include B

/-- The scores are the logits over the natural logarithm of two. -/
theorem Sv_val (i : Fin 2) (r κ : Fin 1024) : Sv x0 x1 (ix3 i r κ) = ((sR q k (H i) (Q r) (K κ) / Real.log 2 : ℝ) : EReal) := by
  change ∑ d : Fin 128, x0 (ix2 r (lane i d)) * x1 (ix2 κ (lane i d)) = _
  simp only [B.h0, B.h1, ← EReal.coe_mul, coe_sum]
  refine congrArg (fun x : ℝ => (x : EReal)) ?_
  rw [sum_pad _ fun d hd => by rw [padR, dif_neg (by omega), zero_mul], sR, Finset.sum_div, Finset.sum_div]
  refine Finset.sum_congr rfl fun d _ => ?_
  rw [padR, padR, dif_pos d.isLt, dif_pos d.isLt, qs]
  ring

/-- The probabilities. -/
theorem Pv_val (i : Fin 2) (r κ : Fin 1024) : Pv x0 x1 x4 (ix3 i r κ) = ((pR (sR q k) (H i) (Q r) (K κ) : ℝ) : EReal) := by
  change Ideal.exp2 (Sv x0 x1 (ix3 i r κ) - x4 (ix3 i r (wrap κ))) = _
  rw [Sv_val B, B.h4, ← EReal.coe_sub, Ideal.exp2_coe, rpow_pR]

/-- The cotangent of the probabilities. -/
theorem DPv_val (i : Fin 2) (r κ : Fin 1024) : DPv x2 x3 (ix3 i r κ) = ((dpR v g (H i) (Q r) (K κ) : ℝ) : EReal) :=
  DPv_real (a := fun r i d => g (Q r) (H i) d) (b := fun r i d => v (K r) (H i) d) B.h3 B.h2 i r κ

/-- The cotangent of the logits. -/
theorem DSv_val (i : Fin 2) (r κ : Fin 1024) : DSv x0 x1 x2 x3 x4 x5 (ix3 i r κ) = ((dsR (sR q k) v g (H i) (Q r) (K κ) : ℝ) : EReal) := by
  change Pv x0 x1 x4 (ix3 i r κ) * (DPv x2 x3 (ix3 i r κ) - x5 (ix3 i r (wrap κ))) = _
  rw [Pv_val B, DPv_val B, B.h5, ← EReal.coe_sub, ← EReal.coe_mul, dsR]

/-- The tile's part of the queries' gradient. -/
theorem tileQ_val (i : Fin 2) (r : Fin 1024) (d : Fin 128) :
    tileQ x0 x1 x2 x3 x4 x5 i r d = ((∑ κ, dsR (sR q k) v g (H i) (Q r) (K κ) * padR k (K κ) (H i) d : ℝ) : EReal) := by
  change ∑ κ : Fin 1024, DSv x0 x1 x2 x3 x4 x5 (ix3 i r κ) * x1 (ix2 κ (lane i d)) = _
  simp only [DSv_val B, B.h1, ← EReal.coe_mul, coe_sum]

/-- The tile's part of the keys' gradient. -/
theorem tileK_val (i : Fin 2) (d : Fin 128) (κ : Fin 1024) :
    (∑ r : Fin 1024, x0 (ix2 r (lane i d)) * DSv x0 x1 x2 x3 x4 x5 (ix3 i r κ))
      = ((∑ r, padR (qs q) (Q r) (H i) d * dsR (sR q k) v g (H i) (Q r) (K κ) : ℝ) : EReal) := by
  simp only [DSv_val B, B.h0, ← EReal.coe_mul, coe_sum]

/-- The tile's part of the values' gradient. -/
theorem tileV_val (d : Fin 128) (κ : Fin 1024) :
    (∑ r : Fin 1024, doM x3 0 (ix2 r d) * Pv x0 x1 x4 (ix3 0 r κ)) + ∑ r : Fin 1024, doM x3 1 (ix2 r d) * Pv x0 x1 x4 (ix3 1 r κ)
      = ((∑ r, g (Q r) (H (half d)) (inner d) * pR (sR q k) (H (half d)) (Q r) (K κ) : ℝ) : EReal) :=
  halves (a := fun r i d => g (Q r) (H i) d) (p := fun i r κ => pR (sR q k) (H i) (Q r) (K κ)) B.h3 (Pv_val B) d κ

end Cert.MlaBwd

end
-- ==== Proof.Grads.lean ====
module

public import proofs.«01_k».proof.Proof.Blocks
public import proofs.«01_k».proof.Proof.Results
public import proofs.«01_k».proof.Proof.HostVals
public import proofs.«01_k».proof.Proof.Tile

@[expose] public section

noncomputable section

namespace Cert.MlaBwd

open Cert.KernelIdeal Cert.KernelIdeal.Gen Idealize.ShloMosaic Idealize.ShloMosaic.TcCoe

/-- The query rows of a grid point's blocks. -/
abbrev qrow (t : Fin cfg0.N) (r : Fin 1024) : Fin 8192 := ⟨1024 * (t.val % 8) + r.val, by omega⟩

/-- The keys of a grid point's blocks. -/
abbrev krow (t : Fin cfg0.N) (r : Fin 1024) : Fin 8192 := ⟨1024 * (t.val / 8 % 8) + r.val, by omega⟩

/-- The heads of a grid point's blocks. -/
abbrev head (t : Fin cfg0.N) (i : Fin 2) : Fin 8 := ⟨2 * (t.val / 64) + i.val, by have := lt256 t; omega⟩

section
variable (q k : Fin 8192 → Fin 8 → Fin 96 → ℝ) (v g : Fin 8192 → Fin 8 → Fin 64 → ℝ) (t : Fin cfg0.N)

theorem f96 (y : Fin 8192 → Fin 8 → Fin 128 → ℝ) {a a' : Fin 8192} {b b' : Fin 8} {d d' : Fin 128} (ha : a.val = a'.val) (hb : b.val = b'.val) (hd : d.val = d'.val) :
    y a b d = y a' b' d' := by rw [Fin.ext ha, Fin.ext hb, Fin.ext hd]

theorem f64 (y : Fin 8192 → Fin 8 → Fin 64 → ℝ) {a a' : Fin 8192} {b b' : Fin 8} {d d' : Fin 64} (ha : a.val = a'.val) (hb : b.val = b'.val) (hd : d.val = d'.val) :
    y a b d = y a' b' d' := by rw [Fin.ext ha, Fin.ext hb, Fin.ext hd]

/-- The queries' block at a grid point, in a real array. -/
theorem rd0 (r : Fin 1024) (i : Fin 2) (d : Fin 128) :
    ((cfg0.win 0).blk t).view.read (Elt Ideal) (hPad (hQs (up q))) (ix2 r (lane i d)) = ((padR (qs q) (qrow t r) (head t i) d : ℝ) : EReal) := by
  rw [hQs_up, blk0, hPad_apply]
  exact congrArg (fun x : ℝ => (x : EReal)) (f96 _ rfl (by change (256 * (t.val / 64) + (128 * i.val + d.val)) / 128 = 2 * (t.val / 64) + i.val; omega)
    (by change (256 * (t.val / 64) + (128 * i.val + d.val)) % 128 = d.val; omega))

theorem rd1 (r : Fin 1024) (i : Fin 2) (d : Fin 128) :
    ((cfg0.win 1).blk t).view.read (Elt Ideal) (hPad (up k)) (ix2 r (lane i d)) = ((padR k (krow t r) (head t i) d : ℝ) : EReal) := by
  rw [blk1, hPad_apply]
  exact congrArg (fun x : ℝ => (x : EReal)) (f96 _ rfl (by change (256 * (t.val / 64) + (128 * i.val + d.val)) / 128 = 2 * (t.val / 64) + i.val; omega)
    (by change (256 * (t.val / 64) + (128 * i.val + d.val)) % 128 = d.val; omega))

theorem rd2 (r : Fin 1024) (d : Fin 128) :
    ((cfg0.win 2).blk t).view.read (Elt Ideal) (hVv (upV v)) (ix2 r d) = ((v (krow t r) (head t (half d)) (inner d) : ℝ) : EReal) := by
  rw [blk2, hVv_apply]
  exact congrArg (fun x : ℝ => (x : EReal)) (f64 _ rfl (by change (128 * (t.val / 64) + d.val) / 64 = 2 * (t.val / 64) + d.val / 64; omega)
    (by change (128 * (t.val / 64) + d.val) % 64 = d.val % 64; omega))

theorem rd3 (r : Fin 1024) (d : Fin 128) :
    ((cfg0.win 3).blk t).view.read (Elt Ideal) (hDo (upG g)) (ix2 r d) = ((g (qrow t r) (head t (half d)) (inner d) : ℝ) : EReal) := by
  rw [blk3, hDo_apply]
  exact congrArg (fun x : ℝ => (x : EReal)) (f64 _ rfl (by change (128 * (t.val / 64) + d.val) / 64 = 2 * (t.val / 64) + d.val / 64; omega)
    (by change (128 * (t.val / 64) + d.val) % 64 = d.val % 64; omega))

theorem rd4 (i : Fin 2) (r : Fin 1024) (z : Fin 128) :
    ((cfg0.win 4).blk t).view.read (Elt Ideal) (hLse (hS (up q) (up k))) (ix3 i r z)
      = (((mR (sR q k) (head t i) (qrow t r) + Real.log (lR (sR q k) (head t i) (qrow t r))) / Real.log 2 : ℝ) : EReal) := by
  rw [blk4, hLse_apply (hS_apply q k)]

theorem rd5 (i : Fin 2) (r : Fin 1024) (z : Fin 128) :
    ((cfg0.win 5).blk t).view.read (Elt Ideal) (hDelta (hS (up q) (up k)) (upV v) (upG g)) (ix3 i r z) = ((dR (sR q k) v g (head t i) (qrow t r) : ℝ) : EReal) := by
  rw [blk5, hDelta_apply v g (hS_apply q k)]

end

variable (q k : Fin 8192 → Fin 8 → Fin 96 → ℝ) (v g : Fin 8192 → Fin 8 → Fin 64 → ℝ)
variable (m : (ℓ : Loc nD τ sig) → Buf (Elt Ideal) ℓ) (c : Dev nD)

/-- The launch memory holds the real arrays. -/
structure Holds : Prop where
  a0 : m ((c : Thread nD τ).loc main_arg0) = up q
  a1 : m ((c : Thread nD τ).loc main_arg1) = up k
  a2 : m ((c : Thread nD τ).loc main_arg2) = upV v
  a3 : m ((c : Thread nD τ).loc main_arg3) = upG g

variable {q k v g m c} (A : Holds q k v g m c)
include A

/-- The blocks at a grid point hold the arguments' rows and heads. -/
theorem blocksAt (t : Fin cfg0.N) :
    Blocks q k v g (qrow t) (krow t) (head t) (X0 m c t) (X1 m c t) (X2 m c t) (X3 m c t) (X4 m c t) (X5 m c t) where
  h0 r i d := by
    have e : X0 m c t = ((cfg0.win 0).blk t).view.read (Elt Ideal) (hPad (hQs (up q))) := by rw [← A.a0, ← V_v38]; rfl
    rw [e]; exact rd0 q t r i d
  h1 r i d := by
    have e : X1 m c t = ((cfg0.win 1).blk t).view.read (Elt Ideal) (hPad (up k)) := by rw [← A.a1, ← V_v42]; rfl
    rw [e]; exact rd1 k t r i d
  h2 r d := by
    have e : X2 m c t = ((cfg0.win 2).blk t).view.read (Elt Ideal) (hVv (upV v)) := by rw [← A.a2, ← V_v44]; rfl
    rw [e]; exact rd2 v t r d
  h3 r d := by
    have e : X3 m c t = ((cfg0.win 3).blk t).view.read (Elt Ideal) (hDo (upG g)) := by rw [← A.a3, ← V_v45]; rfl
    rw [e]; exact rd3 g t r d
  h4 i r z := by
    have e : X4 m c t = ((cfg0.win 4).blk t).view.read (Elt Ideal) (hLse (hS (up q) (up k))) := by rw [← A.a0, ← A.a1, ← V_v21]; rfl
    rw [e]; exact rd4 q k t i r z
  h5 i r z := by
    have e : X5 m c t = ((cfg0.win 5).blk t).view.read (Elt Ideal) (hDelta (hS (up q) (up k)) (upV v) (upG g)) := by
      rw [← A.a0, ← A.a1, ← A.a2, ← A.a3, ← V_v27]; rfl
    rw [e]; exact rd5 q k v g t i r z

end Cert.MlaBwd

end
-- ==== Proof.Final.lean ====
module

public import proofs.«01_k».proof.Proof.Grads

@[expose] public section

noncomputable section

namespace Cert.MlaBwd

open Cert.KernelIdeal Cert.KernelIdeal.Gen Idealize.ShloMosaic Idealize.ShloMosaic.TcCoe

section
variable (q k : Fin 8192 → Fin 8 → Fin 96 → ℝ) (v g : Fin 8192 → Fin 8 → Fin 64 → ℝ)

/-- A sum over eight blocks of 1024 positions, as extended reals. -/
theorem blocks_coe (f : Fin 8192 → ℝ) (c : ℕ → EReal)
    (hc : ∀ b (hb : b < 8), c b = ((∑ r : Fin 1024, f ⟨1024 * b + r.val, by omega⟩ : ℝ) : EReal)) :
    ∑ b ∈ Finset.range 8, c b = ((∑ x, f x : ℝ) : EReal) := by
  rw [sum_blocks, ← coe_sum]
  refine Finset.sum_congr rfl fun b hb => ?_
  have hb' := Finset.mem_range.mp hb
  rw [hc b hb']
  simp only [dif_pos hb']

theorem pad_dq (r : Fin 8192) (h : Fin 8) (d : Fin 128) :
    (∑ κ, dsR (sR q k) v g h r κ * padR k κ h d) = padR (dqR q k v g) r h d := by
  by_cases hd : d.val < 96
  · simp only [padR, dif_pos hd]; rfl
  · simp only [padR, dif_neg hd, mul_zero, Finset.sum_const_zero]

theorem pad_dk (κ : Fin 8192) (h : Fin 8) (d : Fin 128) :
    (∑ r, padR (qs q) r h d * dsR (sR q k) v g h r κ) = padR (dkR q k v g) κ h d := by
  by_cases hd : d.val < 96
  · simp only [padR, dif_pos hd, dkR, Finset.sum_div]
    exact Finset.sum_congr rfl fun r _ => by rw [qs]; ring
  · simp only [padR, dif_neg hd, zero_mul, Finset.sum_const_zero]

end

variable {q k : Fin 8192 → Fin 8 → Fin 96 → ℝ} {v g : Fin 8192 → Fin 8 → Fin 64 → ℝ}
variable {m : (ℓ : Loc nD τ sig) → Buf (Elt Ideal) ℓ} {c : Dev nD} (A : Holds q k v g m c)
include A

/-- A grid point's part of the queries' gradient. -/
theorem cQ_val (n : ℕ) (hn : n < cfg0.N) (r : Fin 8192) (l : Fin 256) :
    cQ m c n (ix2 r l) = ((∑ κ, dsR (sR q k) v g (head ⟨n, hn⟩ ⟨l.val / 128, by omega⟩) (qrow ⟨n, hn⟩ ⟨r.val % 1024, Nat.mod_lt _ (by decide)⟩) (krow ⟨n, hn⟩ κ)
      * padR k (krow ⟨n, hn⟩ κ) (head ⟨n, hn⟩ ⟨l.val / 128, by omega⟩) ⟨l.val % 128, Nat.mod_lt _ (by decide)⟩ : ℝ) : EReal) := by
  unfold cQ
  rw [dif_pos hn]
  exact tileQ_val (blocksAt A ⟨n, hn⟩) _ _ _

/-- A grid point's part of the keys' gradient. -/
theorem cK_val (n : ℕ) (hn : n < cfg0.N) (l : Fin 256) (κ : Fin 1024) :
    cK m c n (ix2 l κ) = ((∑ r, padR (qs q) (qrow ⟨n, hn⟩ r) (head ⟨n, hn⟩ ⟨l.val / 128, by omega⟩) ⟨l.val % 128, Nat.mod_lt _ (by decide)⟩
      * dsR (sR q k) v g (head ⟨n, hn⟩ ⟨l.val / 128, by omega⟩) (qrow ⟨n, hn⟩ r) (krow ⟨n, hn⟩ κ) : ℝ) : EReal) := by
  unfold cK
  rw [dif_pos hn]
  have h := tileK_val (blocksAt A ⟨n, hn⟩) ⟨l.val / 128, by omega⟩ ⟨l.val % 128, Nat.mod_lt _ (by decide)⟩ κ
  have e : lane ⟨l.val / 128, by omega⟩ ⟨l.val % 128, Nat.mod_lt _ (by decide)⟩ = l := Fin.ext (by change 128 * (l.val / 128) + l.val % 128 = l.val; omega)
  rw [e] at h
  exact h

/-- A grid point's part of the values' gradient. -/
theorem cV_val (n : ℕ) (hn : n < cfg0.N) (l : Fin 128) (κ : Fin 1024) :
    cV m c n (ix2 l κ) = ((∑ r, g (qrow ⟨n, hn⟩ r) (head ⟨n, hn⟩ (half l)) (inner l)
      * pR (sR q k) (head ⟨n, hn⟩ (half l)) (qrow ⟨n, hn⟩ r) (krow ⟨n, hn⟩ κ) : ℝ) : EReal) := by
  unfold cV
  rw [dif_pos hn]
  exact tileV_val (blocksAt A ⟨n, hn⟩) l κ

/-- The first result: the queries' gradient without the logits' scale, each head's 96 columns followed by 32 zeros. -/
theorem GQ_val (r : Fin 8192) (l : Fin 1024) :
    GQ m c (ix2 r l) = ((padR (dqR q k v g) r ⟨l.val / 128, by omega⟩ ⟨l.val % 128, Nat.mod_lt _ (by decide)⟩ : ℝ) : EReal) := by
  rw [← pad_dq]
  refine blocks_coe _ (fun b => cQ m c (l.val / 256 * 64 + 8 * b + r.val / 1024) (ix2 r ⟨l.val % 256, Nat.mod_lt _ (by decide)⟩)) fun b hb => ?_
  have hn : l.val / 256 * 64 + 8 * b + r.val / 1024 < cfg0.N := by change _ < 256; omega
  rw [cQ_val A _ hn]
  refine congrArg (fun x : ℝ => (x : EReal)) (Finset.sum_congr rfl fun κ _ => ?_)
  have eh : head ⟨_, hn⟩ ⟨l.val % 256 / 128, by omega⟩ = (⟨l.val / 128, by omega⟩ : Fin 8) :=
    Fin.ext (by change 2 * ((l.val / 256 * 64 + 8 * b + r.val / 1024) / 64) + l.val % 256 / 128 = l.val / 128; omega)
  have eq : qrow ⟨_, hn⟩ ⟨r.val % 1024, Nat.mod_lt _ (by decide)⟩ = r :=
    Fin.ext (by change 1024 * ((l.val / 256 * 64 + 8 * b + r.val / 1024) % 8) + r.val % 1024 = r.val; omega)
  have ek : krow ⟨_, hn⟩ κ = (⟨1024 * b + κ.val, by omega⟩ : Fin 8192) :=
    Fin.ext (by change 1024 * ((l.val / 256 * 64 + 8 * b + r.val / 1024) / 8 % 8) + κ.val = 1024 * b + κ.val; omega)
  have ed : (⟨l.val % 256 % 128, Nat.mod_lt _ (by decide)⟩ : Fin 128) = ⟨l.val % 128, Nat.mod_lt _ (by decide)⟩ := Fin.ext (by change l.val % 256 % 128 = l.val % 128; omega)
  rw [eh, eq, ek, ed]

/-- The second result: the keys' gradient over the natural logarithm of two, transposed, each head's 96 columns followed by 32 zeros. -/
theorem GK_val (l : Fin 1024) (κ : Fin 8192) :
    GK m c (ix2 l κ) = ((padR (dkR q k v g) κ ⟨l.val / 128, by omega⟩ ⟨l.val % 128, Nat.mod_lt _ (by decide)⟩ : ℝ) : EReal) := by
  rw [← pad_dk]
  refine blocks_coe _ (fun b => cK m c (l.val / 256 * 64 + 8 * (κ.val / 1024) + b) (ix2 ⟨l.val % 256, Nat.mod_lt _ (by decide)⟩ ⟨κ.val % 1024, Nat.mod_lt _ (by decide)⟩)) fun b hb => ?_
  have hn : l.val / 256 * 64 + 8 * (κ.val / 1024) + b < cfg0.N := by change _ < 256; omega
  rw [cK_val A _ hn]
  refine congrArg (fun x : ℝ => (x : EReal)) (Finset.sum_congr rfl fun r _ => ?_)
  have eh : head ⟨_, hn⟩ ⟨l.val % 256 / 128, by omega⟩ = (⟨l.val / 128, by omega⟩ : Fin 8) :=
    Fin.ext (by change 2 * ((l.val / 256 * 64 + 8 * (κ.val / 1024) + b) / 64) + l.val % 256 / 128 = l.val / 128; omega)
  have eq : qrow ⟨_, hn⟩ r = (⟨1024 * b + r.val, by omega⟩ : Fin 8192) :=
    Fin.ext (by change 1024 * ((l.val / 256 * 64 + 8 * (κ.val / 1024) + b) % 8) + r.val = 1024 * b + r.val; omega)
  have ek : krow ⟨_, hn⟩ ⟨κ.val % 1024, Nat.mod_lt _ (by decide)⟩ = κ :=
    Fin.ext (by change 1024 * ((l.val / 256 * 64 + 8 * (κ.val / 1024) + b) / 8 % 8) + κ.val % 1024 = κ.val; omega)
  have ed : (⟨l.val % 256 % 128, Nat.mod_lt _ (by decide)⟩ : Fin 128) = ⟨l.val % 128, Nat.mod_lt _ (by decide)⟩ := Fin.ext (by change l.val % 256 % 128 = l.val % 128; omega)
  rw [eh, eq, ek, ed]

/-- The third result: the values' gradient, transposed. -/
theorem GV_val (l : Fin 512) (κ : Fin 8192) :
    GV m c (ix2 l κ) = ((dvR (sR q k) g κ ⟨l.val / 64, by omega⟩ ⟨l.val % 64, Nat.mod_lt _ (by decide)⟩ : ℝ) : EReal) := by
  unfold dvR
  refine blocks_coe _ (fun b => cV m c (l.val / 128 * 64 + 8 * (κ.val / 1024) + b) (ix2 ⟨l.val % 128, Nat.mod_lt _ (by decide)⟩ ⟨κ.val % 1024, Nat.mod_lt _ (by decide)⟩)) fun b hb => ?_
  have hn : l.val / 128 * 64 + 8 * (κ.val / 1024) + b < cfg0.N := by change _ < 256; omega
  rw [cV_val A _ hn]
  refine congrArg (fun x : ℝ => (x : EReal)) (Finset.sum_congr rfl fun r _ => ?_)
  have eh : head ⟨_, hn⟩ (half ⟨l.val % 128, Nat.mod_lt _ (by decide)⟩) = (⟨l.val / 64, by omega⟩ : Fin 8) :=
    Fin.ext (by change 2 * ((l.val / 128 * 64 + 8 * (κ.val / 1024) + b) / 64) + l.val % 128 / 64 = l.val / 64; omega)
  have eq : qrow ⟨_, hn⟩ r = (⟨1024 * b + r.val, by omega⟩ : Fin 8192) :=
    Fin.ext (by change 1024 * ((l.val / 128 * 64 + 8 * (κ.val / 1024) + b) % 8) + r.val = 1024 * b + r.val; omega)
  have ek : krow ⟨_, hn⟩ ⟨κ.val % 1024, Nat.mod_lt _ (by decide)⟩ = κ :=
    Fin.ext (by change 1024 * ((l.val / 128 * 64 + 8 * (κ.val / 1024) + b) / 8 % 8) + κ.val % 1024 = κ.val; omega)
  have ed : inner (⟨l.val % 128, Nat.mod_lt _ (by decide)⟩ : Fin 128) = (⟨l.val % 64, Nat.mod_lt _ (by decide)⟩ : Fin 64) := Fin.ext (by change l.val % 128 % 64 = l.val % 64; omega)
  rw [eh, eq, ek, ed]

end Cert.MlaBwd

end
-- ==== Proof.Finite.lean ====
module

public import proofs.«01_k».proof.Proof.Final
public import proofs.«01_k».proof.Defs

@[expose] public section

set_option maxRecDepth 16384

noncomputable section

namespace Cert.MlaBwd

open Idealize.ShloMosaic

/-- A conjunction of bits that is one has only ones. -/
theorem foldl_and {ι : Type} (f : ι → BitVec 1) : ∀ (l : List ι) (b : BitVec 1), l.foldl (fun r n => IntOp.andi r (f n)) b = 1#1 → b = 1#1 ∧ ∀ n ∈ l, f n = 1#1
  | [], b, h => ⟨h, by simp⟩
  | a :: l, b, h => by
    obtain ⟨h1, h2⟩ := foldl_and f l (IntOp.andi b (f a)) h
    have h3 : b = 1#1 ∧ f a = 1#1 := by
      clear h h2
      revert h1; generalize f a = x; revert b x; decide
    exact ⟨h3.1, fun n hn => by
      rcases List.mem_cons.mp hn with rfl | hn
      · exact h3.2
      · exact h2 n hn⟩

/-- A number smaller in absolute value than infinity is real. -/
theorem real_of_lt (x : EReal) (h : FloatOps.cmpf (F := Ideal) (φ := .f32) .olt (FloatOps.absf (F := Ideal) (φ := .f32) x) (Ideal.ofBits .f32 0x7F800000#32) = 1#1) : x = ((x.toReal : ℝ) : EReal) := by
  rw [bitsTop] at h
  induction x with
  | bot => exact absurd h (by simp [FloatOps.cmpf, FloatOps.absf, Ideal.cmp])
  | coe x => simp
  | top => exact absurd h (by simp [FloatOps.cmpf, FloatOps.absf, Ideal.cmp])

/-- An array whose every element is tested smaller in absolute value than infinity holds real values. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel)
    (h : Host.reduce IntOp.andi (cmpf .olt (Host.absf x) (broadcastInDim s ![] hb (constant Cert.Pre_finite.S_ .f32 0x7F800000#32))) (constantI Cert.Pre_finite.S_ 1 1#1) hr hu = fun _ => 1#1)
    (i : s.Idx) : (x i : EReal) = ((EReal.toReal (x i) : ℝ) : EReal) := by
  have h0 := congrFun h (Shape.Idx.first hu)
  have h1 := (foldl_and _ _ _ h0).2 (s.rowMajor i) (List.mem_filter.mpr ⟨List.mem_finRange _, by
    rw [decide_eq_true_eq]; funext a; exact a.elim0⟩)
  rw [Equiv.symm_apply_apply] at h1
  exact real_of_lt _ h1

instance preFacts : Cert.Pre_finite.Facts where
  bcast_S_S8192x8x96 := by decide
  reducesTo_S8192x8x96_S_d0_1_2 := by decide
  h_S_ := by decide
  bcast_S_S8192x8x64 := by decide
  reducesTo_S8192x8x64_S_d0_1_2 := by decide
  bcast_S_S8192x512 := by decide
  reducesTo_S8192x512_S_d0_1 := by decide

section
variable (x0 x1 : FVec Ideal Cert.Pre_finite.S8192x8x96 .f32) (x2 : FVec Ideal Cert.Pre_finite.S8192x8x64 .f32) (x3 : FVec Ideal Cert.Pre_finite.S8192x512 .f32)

theorem real0 (h : (Cert.Pre_finite.fn x0 x1 x2 x3).1 = fun _ => 1#1) (i : Cert.Pre_finite.S8192x8x96.Idx) : (x0 i : EReal) = ((EReal.toReal (x0 i) : ℝ) : EReal) := by
  dsimp only [Cert.Pre_finite.fn] at h
  exact all_real x0 _ _ _ h i
theorem real1 (h : (Cert.Pre_finite.fn x0 x1 x2 x3).2.1 = fun _ => 1#1) (i : Cert.Pre_finite.S8192x8x96.Idx) : (x1 i : EReal) = ((EReal.toReal (x1 i) : ℝ) : EReal) := by
  dsimp only [Cert.Pre_finite.fn] at h
  exact all_real x1 _ _ _ h i
theorem real2 (h : (Cert.Pre_finite.fn x0 x1 x2 x3).2.2.1 = fun _ => 1#1) (i : Cert.Pre_finite.S8192x8x64.Idx) : (x2 i : EReal) = ((EReal.toReal (x2 i) : ℝ) : EReal) := by
  dsimp only [Cert.Pre_finite.fn] at h
  exact all_real x2 _ _ _ h i
theorem real3 (h : (Cert.Pre_finite.fn x0 x1 x2 x3).2.2.2 = fun _ => 1#1) (i : Cert.Pre_finite.S8192x512.Idx) : (x3 i : EReal) = ((EReal.toReal (x3 i) : ℝ) : EReal) := by
  dsimp only [Cert.Pre_finite.fn] at h
  exact all_real x3 _ _ _ h i

end

/-- Finite arguments are real arrays. -/
theorem holds_of_finite {m : (ℓ : Loc Cert.KernelIdeal.nD Cert.KernelIdeal.τ Cert.KernelIdeal.sig) → Buf (Elt Ideal) ℓ}
    (h : Cert.Pre_KernelIdeal_finite m) (c : Dev Cert.KernelIdeal.nD) :
    ∃ (q k : Fin 8192 → Fin 8 → Fin 96 → ℝ) (v g : Fin 8192 → Fin 8 → Fin 64 → ℝ), Holds q k v g m c := by
  obtain ⟨h0, h1, h2, h3⟩ := h c
  refine ⟨fun r a d => EReal.toReal ((m ((c.tc : Thread Cert.KernelIdeal.nD Cert.KernelIdeal.τ).loc Cert.KernelIdeal.main_arg0) : FVec Ideal Cert.KernelIdeal.S8192x8x96 .f32) (ix3 r a d)),
    fun r a d => EReal.toReal ((m ((c.tc : Thread Cert.KernelIdeal.nD Cert.KernelIdeal.τ).loc Cert.KernelIdeal.main_arg1) : FVec Ideal Cert.KernelIdeal.S8192x8x96 .f32) (ix3 r a d)),
    fun r a d => EReal.toReal ((m ((c.tc : Thread Cert.KernelIdeal.nD Cert.KernelIdeal.τ).loc Cert.KernelIdeal.main_arg2) : FVec Ideal Cert.KernelIdeal.S8192x8x64 .f32) (ix3 r a d)),
    fun r a d => EReal.toReal ((m ((c.tc : Thread Cert.KernelIdeal.nD Cert.KernelIdeal.τ).loc Cert.KernelIdeal.main_arg3) : FVec Ideal Cert.KernelIdeal.S8192x512 .f32) (ix2 r ⟨64 * a.val + d.val, by omega⟩)), ⟨?_, ?_, ?_, ?_⟩⟩
  · funext i
    refine (real0 _ _ _ _ h0 i).trans ?_
    obtain ⟨r, a, d, rfl⟩ : ∃ r a d, i = ix3 r a d := ⟨i 0, i 1, i 2, eq_ix3 i⟩
    rfl
  · funext i
    refine (real1 _ _ _ _ h1 i).trans ?_
    obtain ⟨r, a, d, rfl⟩ : ∃ r a d, i = ix3 r a d := ⟨i 0, i 1, i 2, eq_ix3 i⟩
    rfl
  · funext i
    refine (real2 _ _ _ _ h2 i).trans ?_
    obtain ⟨r, a, d, rfl⟩ : ∃ r a d, i = ix3 r a d := ⟨i 0, i 1, i 2, eq_ix3 i⟩
    rfl
  · have key : ∀ (r : Fin 8192) (l : Fin 512), (ix2 r l : Cert.KernelIdeal.S8192x512.Idx) = ix2 r (⟨64 * (l.val / 64) + l.val % 64, by omega⟩ : Fin 512) := fun r l =>
      congrArg (ix2 r) (Fin.ext (by change l.val = 64 * (l.val / 64) + l.val % 64; omega))
    funext i
    refine (real3 _ _ _ _ h3 i).trans ?_
    obtain ⟨r, l, rfl⟩ : ∃ (r : Fin 8192) (l : Fin 512), i = ix2 r l := ⟨i 0, i 1, eq_ix2 i⟩
    exact congrArg (fun j => ((EReal.toReal ((m ((c.tc : Thread Cert.KernelIdeal.nD Cert.KernelIdeal.τ).loc Cert.KernelIdeal.main_arg3) : FVec Ideal Cert.KernelIdeal.S8192x512 .f32) j) : ℝ) : EReal)) (key r l)

end Cert.MlaBwd

end
-- ==== Proof.GqaBodyKeeps.lean ====
module

public import proofs.«01_k».proof.Proof.Gen.KernelGqaIdeal.Frame
public import proofs.«01_k».proof.Proof.Gen.KernelGqaIdeal.Skeleton
public import proofs.«01_k».proof.Proof.Keeps
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.GqaBwd.Any

open Cert.KernelGqaIdeal Cert.KernelGqaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Held

variable {F : FTy → Type} [FloatOps F]

local notation "𝕄" => MT nD τ sig Unit (Elt F) ℕ (UR sig nD τ) ℕ

variable (c : Dev nD)

/-! ## The body gives back what it holds -/

variable (arg3 : Memref sig .tc .vmem S1024x128 .bf16) (arg4 : Memref sig .tc .vmem S1024x128 .bf16) (arg5 : Memref sig .tc .vmem S1024x128 .bf16) (arg6 : Memref sig .tc .vmem S1024x128 .bf16) (arg7 : Memref sig .tc .vmem S2x1024x128 .f32) (arg8 : Memref sig .tc .vmem S2x1024x128 .f32) (arg9 : Memref sig .tc .vmem S8192x128 .f32) (arg10 : Memref sig .tc .vmem S1x128x1024 .bf16) (arg11 : Memref sig .tc .vmem S1x128x1024 .bf16) (arg12 : Memref sig .tc .vmem S128x1024 .f32) (arg13 : Memref sig .tc .vmem S128x1024 .f32) (arg14 : Memref sig .tc .vmem S2x1024x1024 .f32) (arg15 : Memref sig .tc .vmem S2x1024x1024 .f32) (arg16 : Memref sig .tc .vmem S2x1024x1024 .bf16) (arg17 : Memref sig .tc .vmem S2x1024x1024 .bf16)
variable (x0 : Vec F S1024x128 .bf16) (x1 : Vec F S1024x128 .bf16) (x2 : Vec F S1024x128 .bf16) (x3 : Vec F S1024x128 .bf16) (x4 : Vec F S2x1024x128 .f32) (x5 : Vec F S2x1024x128 .f32)

/-- What the body holds: its six inputs at their values, its three results and six scratch buffers at anything. -/
def Held : sProp (MT nD τ sig Unit (Elt F) ℕ (UR sig nD τ) ℕ) :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))

variable (i : grid0.Coords) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole)

set_option maxHeartbeats 4000000 in
theorem body_keeps : Keeps (defs₀ (F := F)) c (Held c arg3 arg4 arg5 arg6 arg7 arg8 arg9 arg10 arg11 arg12 arg13 arg14 arg15 arg16 arg17 x0 x1 x2 x3 x4 x5) (cc0_gqa_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17) := by
  rw [cc0_gqa_bwd_eq_skeleton]
  unfold cc0_gqa_bwd_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel
  unfold Held
  repeat' first
    | with_reducible exact reads_self
    | with_reducible exact writes_self
    | with_reducible exact writes_self.reads
    | with_reducible exact reads_self.left
    | with_reducible exact writes_self.left
    | with_reducible exact writes_self.left.reads
    | apply Keeps.pure
    | apply Keeps.load
    | apply Keeps.store
    | apply Keeps.dite
    | apply Keeps.bind
    | with_reducible apply Reads.right
    | with_reducible apply Writes.right
    | intro _
    | split

end Cert.GqaBwd.Any

end
-- ==== Proof.GqaAnyRun.lean ====
module

public import proofs.«01_k».proof.Proof.GqaBodyKeeps

@[expose] public section

set_option maxRecDepth 16384

noncomputable section

namespace Cert.GqaBwd.Any

open Cert.KernelGqaIdeal Cert.KernelGqaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Held

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run over any float values -/

abbrev sc0 : Memref sig .tc .vmem S128x1024 .f32 := Memref.whole cc0_scratch0
abbrev sc1 : Memref sig .tc .vmem S128x1024 .f32 := Memref.whole cc0_scratch1
abbrev sc2 : Memref sig .tc .vmem S2x1024x1024 .f32 := Memref.whole cc0_scratch2
abbrev sc3 : Memref sig .tc .vmem S2x1024x1024 .f32 := Memref.whole cc0_scratch3
abbrev sc4 : Memref sig .tc .vmem S2x1024x1024 .bf16 := Memref.whole cc0_scratch4
abbrev sc5 : Memref sig .tc .vmem S2x1024x1024 .bf16 := Memref.whole cc0_scratch5

theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The results are the windows whose values are not followed. -/
def marked : Fin 9 → Bool := fun w => w.val == 6 || w.val == 7 || w.val == 8

/-- The proof data: each input's block in place, the scratch buffers at anything. -/
def datA (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem datA_A (c : Dev nD) (w : Fin cfg0.W) : (datA m 0 c).A w = V m c (Pipeline.arrRef spec0 w) := by
  dsimp only [datA]

theorem after0 (c : Dev nD) (t : Fin cfg0.N) : (datA m 0 c).after 0 t = iblk m c 0 t := by dsimp only [datA]
theorem after1 (c : Dev nD) (t : Fin cfg0.N) : (datA m 0 c).after 1 t = iblk m c 1 t := by dsimp only [datA]
theorem after2 (c : Dev nD) (t : Fin cfg0.N) : (datA m 0 c).after 2 t = iblk m c 2 t := by dsimp only [datA]
theorem after3 (c : Dev nD) (t : Fin cfg0.N) : (datA m 0 c).after 3 t = iblk m c 3 t := by dsimp only [datA]
theorem after4 (c : Dev nD) (t : Fin cfg0.N) : (datA m 0 c).after 4 t = iblk m c 4 t := by dsimp only [datA]
theorem after5 (c : Dev nD) (t : Fin cfg0.N) : (datA m 0 c).after 5 t = iblk m c 5 t := by dsimp only [datA]
theorem before0 (c : Dev nD) (t : Fin cfg0.N) (d) : (datA m 0 c).before 0 t d = iblk m c 0 t := before0_0_of m (datA m 0 c) (datA_A m c 0) (after0 m c) t d
theorem before1 (c : Dev nD) (t : Fin cfg0.N) (d) : (datA m 0 c).before 1 t d = iblk m c 1 t := before0_1_of m (datA m 0 c) (datA_A m c 1) (after1 m c) t d
theorem before2 (c : Dev nD) (t : Fin cfg0.N) (d) : (datA m 0 c).before 2 t d = iblk m c 2 t := before0_2_of m (datA m 0 c) (datA_A m c 2) (after2 m c) t d
theorem before3 (c : Dev nD) (t : Fin cfg0.N) (d) : (datA m 0 c).before 3 t d = iblk m c 3 t := before0_3_of m (datA m 0 c) (datA_A m c 3) (after3 m c) t d
theorem before4 (c : Dev nD) (t : Fin cfg0.N) (d) : (datA m 0 c).before 4 t d = iblk m c 4 t := before0_4_of m (datA m 0 c) (datA_A m c 4) (after4 m c) t d
theorem before5 (c : Dev nD) (t : Fin cfg0.N) (d) : (datA m 0 c).before 5 t d = iblk m c 5 t := before0_5_of m (datA m 0 c) (datA_A m c 5) (after5 m c) t d

/-- Nothing is claimed of what the results' windows hold. -/
abbrev rdA (c : Dev nD) : Pipeline.RDat τ (Elt F) Unit ℕ (UR sig nD τ) ℕ cfg0 c := (datA m 0 c).toRRel marked fun _ _ _ => True

/-- The body at any point, over the windows one by one. -/
theorem sound_body (c : Dev nD) (t : Fin cfg0.N) :
    iprop((datA m 0 c).Φ t.castSucc ∗ (datA m 0 c).owesAt () t.castSucc
    ∗ (∃ d, owns (c : Thread nD τ) (st0_0 t) fullShare ((datA m 0 c).before 0 t d))
    ∗ (∃ d, owns (c : Thread nD τ) (st0_1 t) fullShare ((datA m 0 c).before 1 t d))
    ∗ (∃ d, owns (c : Thread nD τ) (st0_2 t) fullShare ((datA m 0 c).before 2 t d))
    ∗ (∃ d, owns (c : Thread nD τ) (st0_3 t) fullShare ((datA m 0 c).before 3 t d))
    ∗ (∃ d, owns (c : Thread nD τ) (st0_4 t) fullShare ((datA m 0 c).before 4 t d))
    ∗ (∃ d, owns (c : Thread nD τ) (st0_5 t) fullShare ((datA m 0 c).before 5 t d))
    ∗ (∃ Y, ⌜(rdA m c).Finds 6 t Y⌝ ∗ owns (c : Thread nD τ) (st0_6 t) fullShare Y)
    ∗ (∃ Y, ⌜(rdA m c).Finds 7 t Y⌝ ∗ owns (c : Thread nD τ) (st0_7 t) fullShare Y)
    ∗ (∃ Y, ⌜(rdA m c).Finds 8 t Y⌝ ∗ owns (c : Thread nD τ) (st0_8 t) fullShare Y))
      ⊢ wp frame (wpE (defs₀ (F := F)) Variants.none c none) Set.univ (bodyAt0 (F := F) t) (fun _ => iprop((datA m 0 c).Φ t.succ ∗ (datA m 0 c).owesAt () t.succ
    ∗ owns (c : Thread nD τ) (st0_0 t) fullShare ((datA m 0 c).after 0 t)
    ∗ owns (c : Thread nD τ) (st0_1 t) fullShare ((datA m 0 c).after 1 t)
    ∗ owns (c : Thread nD τ) (st0_2 t) fullShare ((datA m 0 c).after 2 t)
    ∗ owns (c : Thread nD τ) (st0_3 t) fullShare ((datA m 0 c).after 3 t)
    ∗ owns (c : Thread nD τ) (st0_4 t) fullShare ((datA m 0 c).after 4 t)
    ∗ owns (c : Thread nD τ) (st0_5 t) fullShare ((datA m 0 c).after 5 t)
    ∗ (∃ X, ⌜True⌝ ∗ owns (c : Thread nD τ) (st0_6 t) fullShare X)
    ∗ (∃ X, ⌜True⌝ ∗ owns (c : Thread nD τ) (st0_7 t) fullShare X)
    ∗ (∃ X, ⌜True⌝ ∗ owns (c : Thread nD τ) (st0_8 t) fullShare X))) := by
  unfold bodyAt0
  simp only [before0, before1, before2, before3, before4, before5, after0, after1, after2, after3, after4, after5]
  rw [show (datA m 0 c).owesAt () t.succ = (datA m 0 c).owesAt () t.castSucc from rfl]
  rw [show (datA m 0 c).Φ t.succ = Pipeline.ΦA spec0 c from rfl, show (datA m 0 c).Φ t.castSucc = Pipeline.ΦA spec0 c from rfl, PhiA_eq]
  have hb := body_keeps (F := F) c _ _ _ _ _ _ _ _ _ sc0 sc1 sc2 sc3 sc4 sc5 (iblk m c 0 t) (iblk m c 1 t) (iblk m c 2 t) (iblk m c 3 t) (iblk m c 4 t) (iblk m c 5 t) (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (Memref.isWhole_whole _) (Memref.isWhole_whole _) (Memref.isWhole_whole _) (Memref.isWhole_whole _) (Memref.isWhole_whole _) (Memref.isWhole_whole _)
  unfold Keeps Held at hb
  iintro ⟨⟨⟨H12, H13, H14, H15, H16, H17⟩, Hg⟩, Ho, ⟨%d0, H3⟩, ⟨%d1, H4⟩, ⟨%d2, H5⟩, ⟨%d3, H6⟩, ⟨%d4, H7⟩, ⟨%d5, H8⟩, ⟨%y9, -, H9⟩, ⟨%y10, -, H10⟩, ⟨%y11, -, H11⟩⟩
  iapply (hb Set.univ _)
  isplitl [H3 H4 H5 H6 H7 H8 H9 H10 H11 H12 H13 H14 H15 H16 H17]
  · isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexact H12
    isplitl [H13]; · iexact H13
    isplitl [H14]; · iexact H14
    isplitl [H15]; · iexact H15
    isplitl [H16]; · iexact H16
    iexact H17
  iintro %r ⟨H3, H4, H5, H6, H7, H8, ⟨%d9, H9⟩, ⟨%d10, H10⟩, ⟨%d11, H11⟩, H12, H13, H14, H15, H16, H17⟩
  isplitl [H12 H13 H14 H15 H16 H17 Hg]
  · isplitr [Hg]; swap; · iexact Hg
    isplitl [H12]; · iexact H12
    isplitl [H13]; · iexact H13
    isplitl [H14]; · iexact H14
    isplitl [H15]; · iexact H15
    isplitl [H16]; · iexact H16
    iexact H17
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap
    · iexact H9
    · ipureintro; trivial
  isplitl [H10]
  · iexists _; isplitr; swap
    · iexact H10
    · ipureintro; trivial
  iexists _; isplitr; swap
  · iexact H11
  · ipureintro; trivial

theorem row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : Pipeline.BodyObligationRel (datA m 0 c) (defs₀ (F := F)) Variants.none () Set.univ marked fun _ _ _ => True := fun t => by
  rw [bigSep_W0, bigSep_W0, row]
  exact triple_restated (sound_body m c t) rfl .rfl fun _ => .rfl

set_option backward.isDefEq.respectTransparency.types false in
/-- The launch: every run ends, with the arrays no window writes as they were and every semaphore counter at zero. -/
theorem run_main : θ_run defs (onTc (τ := τ) (main (F := F))) (s₀ m ρ)
    (fun r => Pipeline.RDat.FramePost (cfgs 0) (rdA m) (V m) r ∧ r.2.sem = fun _ => 0) :=
  Pipeline.RDat.θ_run_frame_track (Q' := _) cfgs (0 : Fin 1) launch0 defs₀ Variants.none (rdA m) m ρ main
    (hbody := fun c => (body_obligation m c).toRRel) (hshare := fun c => (datA m 0 c).share_full fun _ => rfl)
    (howed := fun _ _ => rfl) (V := V m) (hmain := hmain m Variants.none) (hA := datA_A m) (hin := fun _ => Idealize.SL.BI.Entails.refl _) (hout := fun _ => Idealize.SL.BI.Entails.refl _)
    (hQ' := fun _ h => h)

/-- Every run ends with the arguments as they were and every semaphore counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.GqaBwd.Any

end
-- ==== Proof.GqaSame.lean ====
module

public import proofs.«01_k».proof.Defs
public import proofs.«01_k».proof.Proof.Gen.KernelGqa
public import proofs.«01_k».proof.Proof.GqaAnyRun

@[expose] public section

set_option maxRecDepth 16384

noncomputable section

namespace Cert.GqaBwd

open Idealize.ShloMosaic Idealize.SL.Sem

attribute [local instance] Cert.KernelGqa.Gen.facts Cert.KernelGqaIdeal.Gen.facts

/-! ## The two programs of the kernel have the same text

The kernel printed for machine words and the kernel printed for the extended reals differ in their names alone, so the run over
any float values is a run of the first. -/

set_option maxHeartbeats 8000000

theorem body_same : Cert.KernelGqa.cc0_gqa_bwd (F := Bits) = Cert.KernelGqaIdeal.cc0_gqa_bwd (F := Bits) := rfl

theorem bodies_same : Cert.KernelGqa.defs₀ (F := Bits) = Cert.KernelGqaIdeal.defs₀ (F := Bits) := by
  unfold Cert.KernelGqa.defs₀ Cert.KernelGqaIdeal.defs₀
  refine congrArg (Defs.onTc (nD := Cert.KernelGqaIdeal.nD) (τ := Cert.KernelGqaIdeal.τ) (sig := Cert.KernelGqaIdeal.sig) (Val := Elt Bits) (Λ := Cert.KernelGqaIdeal.Λ₀)) (funext fun l => funext fun a => ?_)
  match l, a with
  | 0, (t, s) => rfl
  | ⟨_ + 1, h⟩, _ => exact absurd h (Nat.not_lt.2 (Nat.le_add_left _ _))

theorem defs_same : Cert.KernelGqa.defs (F := Bits) = Cert.KernelGqaIdeal.defs (F := Bits) :=
  congrArg (Pipeline.defs (Cert.KernelGqaIdeal.pcfgs (F := Bits))) bodies_same

theorem part_same : Cert.KernelGqa.main_part0 (F := Bits) = Cert.KernelGqaIdeal.main_part0 (F := Bits) := rfl

theorem main_same : Cert.KernelGqa.main (F := Bits) = Cert.KernelGqaIdeal.main (F := Bits) :=
  funext fun d => congrArg (fun p => p >>= fun _ => Cert.KernelGqaIdeal.main_part1 (F := Bits) d) (congrFun part_same d)

/-- The kernel, read over machine words, runs, leaves its arguments unchanged and its semaphores at zero. -/
theorem frame_kernel : Cert.quiescent_KernelGqa (hKernelGqa := Cert.KernelGqa.Gen.facts) := by
  intro m g _
  rw [defs_same, main_same]
  exact Any.run_frame (F := Bits) m g

end Cert.GqaBwd

end
-- ==== Proof.GqaVals.lean ====
module

public import proofs.«01_k».proof.Proof.Steps
public import proofs.«01_k».proof.Proof.Gen.KernelGqaIdeal.Frame
public import proofs.«01_k».proof.Proof.Gen.KernelGqaIdeal.Skeleton

@[expose] public section

noncomputable section

namespace Cert.GqaBwd

open Cert.KernelGqaIdeal Cert.KernelGqaIdeal.Gen Idealize.ShloMosaic Idealize.ShloMosaic.TcCoe
open Cert.MlaBwd (wrap doM DPv lo_word Upto Stat ld_chunk)

/-! ## The values of one tile of the grouped-query call

The two heads of a pair share one block of keys and one of values, so a head is picked by masking the queries as the latent call
masks the cotangent: the scores are `DPv` of the keys and the queries. -/

/-- The scores of one tile: head `i`, query row `r`, key `k`. -/
def Sv (x0 x1 : Vec Ideal S1024x128 .bf16) : Vec Ideal S2x1024x1024 .f32 := DPv x1 x0

/-- The probabilities of one tile. -/
def Pv (x0 x1 : Vec Ideal S1024x128 .bf16) (x4 : Vec Ideal S2x1024x128 .f32) : Vec Ideal S2x1024x1024 .bf16 := fun j =>
  Ideal.exp2 (Sv x0 x1 j - x4 (ix3 (j 0) (j 1) (wrap (j 2))))

/-- The cotangent of the scores of one tile. -/
def DSv (x0 x1 x2 x3 : Vec Ideal S1024x128 .bf16) (x4 x5 : Vec Ideal S2x1024x128 .f32) : Vec Ideal S2x1024x1024 .bf16 := fun j =>
  Pv x0 x1 x4 j * (DPv x2 x3 j - x5 (ix3 (j 0) (j 1) (wrap (j 2))))

/-- The column numbers the body compares. -/
abbrev cols : IVec S1024x128 32 := iota .tc S1024x128 32 [1] iota_S1024x128_d1_w32

/-- The queries' block masked to the first head's columns. -/
theorem pay13_apply (x : Vec Ideal S1024x128 .bf16) (r : Fin 1024) (d : Fin 128) : k0_pay13 (F := Ideal) x (ix2 r d) = doM x 0 (ix2 r d) := by
  pointwise [k0_pay13, k0_pay12, k0_pay8]
  rw [lo_word]
  change _ = if d.val / 64 = 0 then x (ix2 r d) else 0
  by_cases h : d.val / 64 = 0
  · rw [if_pos h, if_pos h]; rfl
  · rw [if_neg h, if_neg h]; rfl

/-- The cotangent's block masked to the first head's columns. -/
theorem pay14_apply (x : Vec Ideal S1024x128 .bf16) (r : Fin 1024) (d : Fin 128) : k0_pay14 (F := Ideal) x (ix2 r d) = doM x 0 (ix2 r d) :=
  pay13_apply x r d

/-- The cotangent's block masked to the second head's columns. -/
theorem pay19_apply (x : Vec Ideal S1024x128 .bf16) (r : Fin 1024) (d : Fin 128) :
    k0_pay19 (F := Ideal) (k0_pay11 x) k0_pay12 (ix2 r d) = doM x 1 (ix2 r d) := by
  pointwise [k0_pay19, k0_pay12, k0_pay11]
  rw [lo_word]
  change _ = if d.val / 64 = 1 then x (ix2 r d) else 0
  have hd : d.val < 128 := d.isLt
  by_cases h : d.val / 64 = 0
  · rw [if_pos h, if_neg (by omega)]; rfl
  · rw [if_neg h, if_pos (by omega)]; rfl

/-- The queries' block masked to the second head's columns. -/
theorem pay18_apply (x : Vec Ideal S1024x128 .bf16) (r : Fin 1024) (d : Fin 128) :
    k0_pay18 (F := Ideal) (k0_pay8 x) cols k0_pay17 (ix2 r d) = doM x 1 (ix2 r d) :=
  pay19_apply x r d

/-- The first head's scores, as the body stores them. -/
theorem pay15_apply (x0 x1 : Vec Ideal S1024x128 .bf16) (a : Fin 1) (r k : Fin 1024) :
    k0_pay15 (F := Ideal) x0 x1 (ix3 a r k) = Sv x0 x1 (ix3 0 r k) := by
  pointwise [k0_pay15, k0_pay9, Sv, DPv]
  exact Finset.sum_congr rfl fun d _ => by rw [pay13_apply]

/-- The second head's scores. -/
theorem pay20_apply (x0 x1 : Vec Ideal S1024x128 .bf16) (a : Fin 1) (r k : Fin 1024) :
    k0_pay20 (F := Ideal) (k0_pay8 x0) (k0_pay9 x1) cols k0_pay17 (ix3 a r k) = Sv x0 x1 (ix3 1 r k) := by
  pointwise [k0_pay20, k0_pay9, Sv, DPv]
  exact Finset.sum_congr rfl fun d _ => by rw [pay18_apply]

/-- The first head's cotangent of the probabilities, as the body stores it. -/
theorem pay16_apply (x2 x3 : Vec Ideal S1024x128 .bf16) (a : Fin 1) (r k : Fin 1024) :
    k0_pay16 (F := Ideal) x2 x3 (ix3 a r k) = DPv x2 x3 (ix3 0 r k) := by
  pointwise [k0_pay16, k0_pay10, DPv]
  exact Finset.sum_congr rfl fun d _ => by rw [pay14_apply]

/-- The second head's. -/
theorem pay21_apply (x2 x3 : Vec Ideal S1024x128 .bf16) (a : Fin 1) (r k : Fin 1024) :
    k0_pay21 (F := Ideal) (k0_pay10 x2) (k0_pay11 x3) k0_pay12 (ix3 a r k) = DPv x2 x3 (ix3 1 r k) := by
  pointwise [k0_pay21, k0_pay10, DPv]
  exact Finset.sum_congr rfl fun d _ => by rw [pay19_apply]

/-- A row statistic's block without its unit axis. -/
theorem pay22_apply (v : Vec Ideal S1x1024x128 .f32) (r : Fin 1024) (l : Fin 128) : k0_pay22 (F := Ideal) v (ix2 r l) = v (ix3 0 r l) := by
  pointwise [k0_pay22]

/-- One chunk of 128 columns of the probabilities, from the chunk of the scores and the row statistic. -/
theorem pay28_apply (v47 : Vec Ideal S1024x128 .f32) (v66 : Vec Ideal S1x1024x128 .f32) (r : Fin 1024) (l : Fin 128) :
    k0_pay28 (F := Ideal) v47 v66 (ix2 r l) = Ideal.exp2 (v66 (ix3 0 r l) - v47 (ix2 r l)) := by
  pointwise [k0_pay28]
  rfl

/-- The same chunk as it is stored. -/
theorem pay29_apply (v47 : Vec Ideal S1024x128 .f32) (v66 : Vec Ideal S1x1024x128 .f32) (a : Fin 1) (r : Fin 1024) (l : Fin 128) :
    k0_pay29 (F := Ideal) v47 v66 (ix3 a r l) = k0_pay28 (F := Ideal) v47 v66 (ix2 r l) := by
  pointwise [k0_pay29]

/-- One chunk of 128 columns of the cotangent of the scores. -/
theorem pay30_apply (v47 v49 : Vec Ideal S1024x128 .f32) (v66 v74 : Vec Ideal S1x1024x128 .f32) (a : Fin 1) (r : Fin 1024) (l : Fin 128) :
    k0_pay30 (F := Ideal) v47 v49 v66 v74 (ix3 a r l) = k0_pay28 (F := Ideal) v47 v66 (ix2 r l) * (v74 (ix3 0 r l) - v49 (ix2 r l)) := by
  pointwise [k0_pay30]

/-- One chunk of the cotangent of the probabilities less the row statistic. -/
theorem pay33_apply (v49 : Vec Ideal S1024x128 .f32) (v90 : Vec Ideal S1x1024x128 .f32) (r : Fin 1024) (l : Fin 128) :
    k0_pay33 (F := Ideal) v49 v90 (ix2 r l) = v90 (ix3 0 r l) - v49 (ix2 r l) := by
  pointwise [k0_pay33]

/-- The product of a chunk of the probabilities with such a chunk. -/
theorem pay34_apply (v85 v92 : Vec Ideal S1024x128 .f32) (a : Fin 1) (r : Fin 1024) (l : Fin 128) :
    k0_pay34 (F := Ideal) v85 v92 (ix3 a r l) = v85 (ix2 r l) * v92 (ix2 r l) := by
  pointwise [k0_pay34]

/-- A chunk that is stored gains a unit axis. -/
theorem pay56_apply (v : FVec Ideal S1024x128 .bf16) (a : Fin 1) (r : Fin 1024) (l : Fin 128) : k0_pay56 (F := Ideal) v (ix3 a r l) = v (ix2 r l) := by
  pointwise [k0_pay56]

/-- The same product with the row statistic taken off on the way. -/
theorem pay57_apply (v181 v185 : Vec Ideal S1024x128 .f32) (v190 : Vec Ideal S1x1024x128 .f32) (a : Fin 1) (r : Fin 1024) (l : Fin 128) :
    k0_pay57 (F := Ideal) v181 v185 v190 (ix3 a r l) = v185 (ix2 r l) * (v190 (ix3 0 r l) - v181 (ix2 r l)) := by
  pointwise [k0_pay57]

/-- The product of one head's masked block with a tile, added to what the accumulator holds. -/
theorem pay82_apply (w : Vec Ideal S1024x128 .bf16) (y : Vec Ideal S128x1024 .f32) (p : Vec Ideal S1x1024x1024 .bf16)
    (d : Fin 128) (k : Fin 1024) :
    k0_pay82 (F := Ideal) w y p (ix2 d k) = y (ix2 d k) + ∑ r : Fin 1024, w (ix2 r d) * p (ix3 0 r k) := by
  pointwise [k0_pay82]

theorem pay84_apply (w : Vec Ideal S1024x128 .bf16) (p : Vec Ideal S1x1024x1024 .bf16) (y : Vec Ideal S128x1024 .f32)
    (d : Fin 128) (k : Fin 1024) :
    k0_pay84 (F := Ideal) w p y (ix2 d k) = y (ix2 d k) + ∑ r : Fin 1024, w (ix2 r d) * p (ix3 0 r k) := by
  pointwise [k0_pay84]

/-- The product of a tile with the block of keys. -/
theorem pay85_apply (w : Vec Ideal S1024x128 .bf16) (p : Vec Ideal S1x1024x1024 .bf16) (r : Fin 1024) (d : Fin 128) :
    k0_pay85 (F := Ideal) w p (ix2 r d) = ∑ k : Fin 1024, p (ix3 0 r k) * w (ix2 k d) := by
  pointwise [k0_pay85]

/-! ## The chunks of 128 columns -/

section Chunks

variable (x0 x1 x2 x3 : Vec Ideal S1024x128 .bf16) (x4 x5 : Vec Ideal S2x1024x128 .f32)

/-- A chunk of 128 columns, from column `cc` of head `i`, of a value held outside the buffers. -/
def Part (P : Fin 2 → Fin 1024 → Fin 1024 → EReal) (i : Fin 2) (cc : ℕ) (v : Fin 1024 → Fin 128 → EReal) : Prop :=
  ∀ (r : Fin 1024) (l : Fin 128) (h : cc + l.val < 1024), v r l = P i r ⟨cc + l.val, h⟩

/-- The probabilities of such a chunk. -/
abbrev PC (i : Fin 2) (cc : ℕ) (v : FVec Ideal S1024x128 .f32) : Prop :=
  Part (fun i r k => Pv x0 x1 x4 (ix3 i r k)) i cc (fun r l => v (ix2 r l))

/-- The probabilities of such a chunk, rounded to be stored. -/
abbrev PB (i : Fin 2) (cc : ℕ) (v : FVec Ideal S1024x128 .bf16) : Prop :=
  Part (fun i r k => Pv x0 x1 x4 (ix3 i r k)) i cc (fun r l => v (ix2 r l))

/-- The cotangents of the probabilities of such a chunk, less the row statistic. -/
abbrev DC (i : Fin 2) (cc : ℕ) (v : FVec Ideal S1024x128 .f32) : Prop :=
  Part (fun i r k => DPv x2 x3 (ix3 i r k) - x5 (ix3 i r (wrap k))) i cc (fun r l => v (ix2 r l))

variable {x0 x1 x2 x3 x4 x5}

theorem wrap_at {cc : ℕ} (hd : cc % 128 = 0) (l : Fin 128) (h : cc + l.val < 1024) : wrap ⟨cc + l.val, h⟩ = l :=
  Fin.ext (by show (cc + l.val) % 128 = l.val; omega)

/-- A loaded chunk of the scores, or of the cotangents of the probabilities. -/
abbrev Got (S : Vec Ideal S2x1024x1024 .f32) (i : Fin 2) (cc : ℕ) (v : Vec Ideal S1x1024x128 .f32) : Prop :=
  Part (fun i r k => S (ix3 i r k)) i cc (fun r l => v (ix3 0 r l))

theorem got_load {sig : RefSig} {κ : Kind} {sp : Space} {M : Memref sig κ sp S2x1024x1024 .f32} {f : M.view.ty.Contents (Elt Ideal)}
    {S : Vec Ideal S2x1024x1024 .f32} {N : ℕ} (h : Upto S N (M.view.read (Elt Ideal) f)) (i : Fin 2) (cc : ℕ) (hcc : cc + 128 ≤ 1024)
    (hN : 1024 * i.val + cc + 128 ≤ N)
    (inb : ∀ a, (![i.val, 0, cc] : Fin 3 → ℕ) a + S1x1024x128.size a ≤ S2x1024x1024.size a) :
    Got S i cc (M.view.readAt (Elt Ideal) (Rect.unit (s := S2x1024x1024) ![i.val, 0, cc] S1x1024x128.size inb).toLoadRect f) := by
  intro r l hl
  show M.view.readAt (Elt Ideal) (Rect.unit (s := S2x1024x1024) ![i.val, 0, cc] S1x1024x128.size inb).toLoadRect f (ix3 0 r l) = _
  rw [View.readAt_eq_ld]
  refine (ld_chunk _ i cc hcc _ r l).trans (h _ ?_)
  show 1024 * i.val + (cc + l.val) < N
  omega

theorem pc_val {i : Fin 2} {cc : ℕ} (hd : cc % 128 = 0) {v66 : Vec Ideal S1x1024x128 .f32} (hs : Got (Sv x0 x1) i cc v66)
    {v47 : FVec Ideal S1024x128 .f32} (h47 : Stat x4 i v47) : PC x0 x1 x4 i cc (k0_pay28 (F := Ideal) v47 v66) := by
  intro r l h
  show k0_pay28 (F := Ideal) v47 v66 (ix2 r l) = Ideal.exp2 (_ - x4 (ix3 i r (wrap ⟨cc + l.val, h⟩)))
  rw [pay28_apply, h47, wrap_at hd l h]
  exact congrArg (fun z => Ideal.exp2 (z - x4 (ix3 i r l))) (hs r l h)

theorem dc_val {i : Fin 2} {cc : ℕ} (hd : cc % 128 = 0) {v90 : Vec Ideal S1x1024x128 .f32} (hs : Got (DPv x2 x3) i cc v90)
    {v49 : FVec Ideal S1024x128 .f32} (h49 : Stat x5 i v49) : DC x2 x3 x5 i cc (k0_pay33 (F := Ideal) v49 v90) := by
  intro r l h
  show k0_pay33 (F := Ideal) v49 v90 (ix2 r l) = _ - x5 (ix3 i r (wrap ⟨cc + l.val, h⟩))
  rw [pay33_apply, h49, wrap_at hd l h]
  exact congrArg (· - x5 (ix3 i r l)) (hs r l h)

/-- A stored chunk of the probabilities. -/
theorem p_val {i : Fin 2} {cc : ℕ} (hcc : cc + 128 ≤ 1024) (hd : cc % 128 = 0) {v66 : Vec Ideal S1x1024x128 .f32} (hs : Got (Sv x0 x1) i cc v66)
    {v47 : FVec Ideal S1024x128 .f32} (h47 : Stat x4 i v47) (r : Fin 1024) (l : Fin 128) :
    k0_pay29 (F := Ideal) v47 v66 (ix3 0 r l) = Pv x0 x1 x4 (ix3 i r ⟨cc + l.val, by omega⟩) :=
  (pay29_apply v47 v66 0 r l).trans (pc_val hd hs h47 r l _)

theorem pb_val {i : Fin 2} {cc : ℕ} (hcc : cc + 128 ≤ 1024) {v : FVec Ideal S1024x128 .bf16} (h : PB x0 x1 x4 i cc v) (r : Fin 1024) (l : Fin 128) :
    k0_pay56 (F := Ideal) v (ix3 0 r l) = Pv x0 x1 x4 (ix3 i r ⟨cc + l.val, by omega⟩) :=
  (pay56_apply v 0 r l).trans (h r l _)

/-- A stored chunk of the cotangent of the scores. -/
theorem ds_mul {i : Fin 2} {cc : ℕ} (hcc : cc + 128 ≤ 1024) {v85 v92 : FVec Ideal S1024x128 .f32} (hp : PC x0 x1 x4 i cc v85) (hd : DC x2 x3 x5 i cc v92)
    (r : Fin 1024) (l : Fin 128) : k0_pay34 (F := Ideal) v85 v92 (ix3 0 r l) = DSv x0 x1 x2 x3 x4 x5 (ix3 i r ⟨cc + l.val, by omega⟩) :=
  (pay34_apply v85 v92 0 r l).trans (congrArg₂ (· * ·) (hp r l _) (hd r l _))

theorem ds_half {i : Fin 2} {cc : ℕ} (hcc : cc + 128 ≤ 1024) (hd : cc % 128 = 0) {v185 : FVec Ideal S1024x128 .f32} (hp : PC x0 x1 x4 i cc v185)
    {v190 : Vec Ideal S1x1024x128 .f32} (hs : Got (DPv x2 x3) i cc v190) {v181 : FVec Ideal S1024x128 .f32} (h49 : Stat x5 i v181)
    (r : Fin 1024) (l : Fin 128) : k0_pay57 (F := Ideal) v181 v185 v190 (ix3 0 r l) = DSv x0 x1 x2 x3 x4 x5 (ix3 i r ⟨cc + l.val, by omega⟩) :=
  (pay57_apply v181 v185 v190 0 r l).trans (congrArg₂ (· * ·) (hp r l _) ((pay33_apply v181 v190 r l).symm.trans (dc_val hd hs h49 r l _)))

theorem ds_val {i : Fin 2} {cc : ℕ} (hcc : cc + 128 ≤ 1024) (hd : cc % 128 = 0) {v66 v74 : Vec Ideal S1x1024x128 .f32} (hs : Got (Sv x0 x1) i cc v66)
    (hs' : Got (DPv x2 x3) i cc v74) {v47 v49 : FVec Ideal S1024x128 .f32} (h47 : Stat x4 i v47) (h49 : Stat x5 i v49)
    (r : Fin 1024) (l : Fin 128) : k0_pay30 (F := Ideal) v47 v49 v66 v74 (ix3 0 r l) = DSv x0 x1 x2 x3 x4 x5 (ix3 i r ⟨cc + l.val, by omega⟩) :=
  (pay30_apply v47 v49 v66 v74 0 r l).trans (congrArg₂ (· * ·) (pc_val hd hs h47 r l _) ((pay33_apply v49 v74 r l).symm.trans (dc_val hd hs' h49 r l _)))

end Chunks

end Cert.GqaBwd

end
-- ==== Proof.GqaParts.lean ====
module

public import proofs.«01_k».proof.Proof.GqaVals

@[expose] public section

set_option maxRecDepth 16384

noncomputable section

namespace Cert.GqaBwd

open Cert.KernelGqaIdeal Cert.KernelGqaIdeal.Gen
open Cert.MlaBwd (wrap doM DPv Upto Stat ld_stat read_write_whole tile_val word_eq0 word_pos word_eq7 word_off row_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
variable {arg3 : Memref sig .tc .vmem S1024x128 .bf16} (harg3 : arg3.IsWhole) {arg4 : Memref sig .tc .vmem S1024x128 .bf16} (harg4 : arg4.IsWhole) {arg5 : Memref sig .tc .vmem S1024x128 .bf16} (harg5 : arg5.IsWhole) {arg6 : Memref sig .tc .vmem S1024x128 .bf16} (harg6 : arg6.IsWhole) {arg7 : Memref sig .tc .vmem S2x1024x128 .f32} (harg7 : arg7.IsWhole) {arg8 : Memref sig .tc .vmem S2x1024x128 .f32} (harg8 : arg8.IsWhole) {arg9 : Memref sig .tc .vmem S8192x128 .f32} (harg9 : arg9.IsWhole) {arg10 : Memref sig .tc .vmem S1x128x1024 .bf16} (harg10 : arg10.IsWhole) {arg11 : Memref sig .tc .vmem S1x128x1024 .bf16} (harg11 : arg11.IsWhole) {arg12 : Memref sig .tc .vmem S128x1024 .f32} (harg12 : arg12.IsWhole) {arg13 : Memref sig .tc .vmem S128x1024 .f32} (harg13 : arg13.IsWhole) {arg14 : Memref sig .tc .vmem S2x1024x1024 .f32} (harg14 : arg14.IsWhole) {arg15 : Memref sig .tc .vmem S2x1024x1024 .f32} (harg15 : arg15.IsWhole) {arg16 : Memref sig .tc .vmem S2x1024x1024 .bf16} (harg16 : arg16.IsWhole) {arg17 : Memref sig .tc .vmem S2x1024x1024 .bf16} (harg17 : arg17.IsWhole)
variable (x0 x1 x2 x3 : Vec Ideal S1024x128 .bf16) (x4 x5 : Vec Ideal S2x1024x128 .f32)

/-- A buffer is held at what it reads. -/
theorem own_of {sp : Space} {S : Shape} {e : EltTy} {M : Memref sig .tc sp S e} {f : M.view.ty.Contents (Elt Ideal)} {X : S.Idx → Elt Ideal e}
    (h : M.view.read (Elt Ideal) f = X) :
    ((M.view.loc (c : Thread nD τ) ↦[M.view.set]{fullShare} f) : sProp 𝕄)
      ⊢ iprop(∃ f, ⌜M.view.read (Elt Ideal) f = X⌝ ∗ (M.view.loc (c : Thread nD τ) ↦[M.view.set]{fullShare} f)) := by
  iintro H
  iexists f; isplitr; · ipureintro; exact h
  iexact H

/-- The same where the first columns are known. -/
theorem upto_of {sp : Space} {e : EltTy} {M : Memref sig .tc sp S2x1024x1024 e} {f : M.view.ty.Contents (Elt Ideal)} {P : Vec Ideal S2x1024x1024 e} {N : ℕ}
    (h : Upto P N (M.view.read (Elt Ideal) f)) :
    ((M.view.loc (c : Thread nD τ) ↦[M.view.set]{fullShare} f) : sProp 𝕄)
      ⊢ iprop(∃ Y, ⌜Upto P N Y⌝ ∗ ∃ f, ⌜M.view.read (Elt Ideal) f = Y⌝ ∗ (M.view.loc (c : Thread nD τ) ↦[M.view.set]{fullShare} f)) := by
  iintro H
  iexists _; isplitr; · ipureintro; exact h
  iapply (own_of c rfl); iexact H

/-- The two heads' tiles while the body goes through their columns: the scores and the cotangents of the probabilities are there,
    and so are the first `N` columns of the probabilities and the first `M` of the cotangents of the scores. -/
def Mid (arg14 arg15 : Memref sig .tc .vmem S2x1024x1024 .f32) (arg16 arg17 : Memref sig .tc .vmem S2x1024x1024 .bf16) (N M : ℕ) : sProp 𝕄 :=
  iprop(owns (c : Thread nD τ) arg14 fullShare (Sv x0 x1) ∗ owns (c : Thread nD τ) arg15 fullShare (DPv x2 x3)
    ∗ (∃ Y, ⌜Upto (Pv x0 x1 x4) N Y⌝ ∗ owns (c : Thread nD τ) arg16 fullShare Y)
    ∗ (∃ Y, ⌜Upto (DSv x0 x1 x2 x3 x4 x5) M Y⌝ ∗ owns (c : Thread nD τ) arg17 fullShare Y))

section Tiles
variable {x0 x1 x2 x3 x4 x5}
variable {f14 : arg14.view.ty.Contents (Elt Ideal)} {f15 : arg15.view.ty.Contents (Elt Ideal)} {f16 : arg16.view.ty.Contents (Elt Ideal)}
  {f17 : arg17.view.ty.Contents (Elt Ideal)}

theorem mid_of {N M : ℕ} (h14 : arg14.view.read (Elt Ideal) f14 = Sv x0 x1) (h15 : arg15.view.read (Elt Ideal) f15 = DPv x2 x3)
    (h16 : Upto (Pv x0 x1 x4) N (arg16.view.read (Elt Ideal) f16)) (h17 : Upto (DSv x0 x1 x2 x3 x4 x5) M (arg17.view.read (Elt Ideal) f17)) :
    (iprop((arg14.view.loc (c : Thread nD τ) ↦[arg14.view.set]{fullShare} f14) ∗ (arg15.view.loc (c : Thread nD τ) ↦[arg15.view.set]{fullShare} f15)
      ∗ (arg16.view.loc (c : Thread nD τ) ↦[arg16.view.set]{fullShare} f16) ∗ (arg17.view.loc (c : Thread nD τ) ↦[arg17.view.set]{fullShare} f17)) : sProp 𝕄)
      ⊢ iprop((∃ f, ⌜arg14.view.read (Elt Ideal) f = Sv x0 x1⌝ ∗ (arg14.view.loc (c : Thread nD τ) ↦[arg14.view.set]{fullShare} f))
        ∗ (∃ f, ⌜arg15.view.read (Elt Ideal) f = DPv x2 x3⌝ ∗ (arg15.view.loc (c : Thread nD τ) ↦[arg15.view.set]{fullShare} f))
        ∗ (∃ Y, ⌜Upto (Pv x0 x1 x4) N Y⌝ ∗ ∃ f, ⌜arg16.view.read (Elt Ideal) f = Y⌝ ∗ (arg16.view.loc (c : Thread nD τ) ↦[arg16.view.set]{fullShare} f))
        ∗ (∃ Y, ⌜Upto (DSv x0 x1 x2 x3 x4 x5) M Y⌝ ∗ ∃ f, ⌜arg17.view.read (Elt Ideal) f = Y⌝ ∗ (arg17.view.loc (c : Thread nD τ) ↦[arg17.view.set]{fullShare} f))) := by
  iintro ⟨H14, H15, H16, H17⟩
  isplitl [H14]; · iapply (own_of c h14); iexact H14
  isplitl [H15]; · iapply (own_of c h15); iexact H15
  isplitl [H16]; · iapply (upto_of c h16); iexact H16
  iapply (upto_of c h17); iexact H17

theorem upto_all {e : EltTy} {P Y : Vec Ideal S2x1024x1024 e} (h : Y = P) : Upto P 2048 Y := fun j _ => congrFun h j

/-- A chunk of the scores, and one of the cotangents of the probabilities, loaded from where they are stored. -/
theorem got_s (h14 : arg14.view.read (Elt Ideal) f14 = Sv x0 x1) (i : Fin 2) (cc : ℕ) (hcc : cc + 128 ≤ 1024)
    (inb : ∀ a, (![i.val, 0, cc] : Fin 3 → ℕ) a + S1x1024x128.size a ≤ S2x1024x1024.size a) :
    Got (Sv x0 x1) i cc (arg14.view.readAt (Elt Ideal) (Rect.unit (s := S2x1024x1024) ![i.val, 0, cc] S1x1024x128.size inb).toLoadRect f14) :=
  got_load (upto_all h14) i cc hcc (by omega) inb

theorem got_p (h15 : arg15.view.read (Elt Ideal) f15 = DPv x2 x3) (i : Fin 2) (cc : ℕ) (hcc : cc + 128 ≤ 1024)
    (inb : ∀ a, (![i.val, 0, cc] : Fin 3 → ℕ) a + S1x1024x128.size a ≤ S2x1024x1024.size a) :
    Got (DPv x2 x3) i cc (arg15.view.readAt (Elt Ideal) (Rect.unit (s := S2x1024x1024) ![i.val, 0, cc] S1x1024x128.size inb).toLoadRect f15) :=
  got_load (upto_all h15) i cc hcc (by omega) inb

/-- Further chunks of the probabilities and of the cotangents of the scores, stored one after the other. -/
theorem upto_two {sp : Space} {e : EltTy} {M : Memref sig .tc sp S2x1024x1024 e} {f : M.view.ty.Contents (Elt Ideal)} {P : Vec Ideal S2x1024x1024 e}
    {N : ℕ} (h : Upto P N (M.view.read (Elt Ideal) f)) (i : Fin 2) (cc : ℕ) (hcc : cc + 128 + 128 ≤ 1024) (hN : N = 1024 * i.val + cc)
    {inb : ∀ a, (![i.val, 0, cc] : Fin 3 → ℕ) a + S1x1024x128.size a ≤ S2x1024x1024.size a}
    {inb' : ∀ a, (![i.val, 0, cc + 128] : Fin 3 → ℕ) a + S1x1024x128.size a ≤ S2x1024x1024.size a} {w w' : S1x1024x128.Idx → Elt Ideal e}
    (hw : ∀ (r : Fin 1024) (l : Fin 128), w (ix3 0 r l) = P (ix3 i r ⟨cc + l.val, by omega⟩))
    (hw' : ∀ (r : Fin 1024) (l : Fin 128), w' (ix3 0 r l) = P (ix3 i r ⟨cc + 128 + l.val, by omega⟩)) :
    Upto P (N + 256) (M.view.read (Elt Ideal) (M.view.writes (Elt Ideal) f
      [⟨Rect.unit (s := S2x1024x1024) ![i.val, 0, cc + 128] S1x1024x128.size inb', w'⟩, ⟨Rect.unit (s := S2x1024x1024) ![i.val, 0, cc] S1x1024x128.size inb, w⟩])) := by
  subst hN
  exact Cert.MlaBwd.Upto.chunk i (cc + 128) (by omega) (Cert.MlaBwd.Upto.chunk (L := []) i cc (by omega) h inb w hw) inb' w' hw'

end Tiles

/-- What an accumulator holds when a tile is begun: zeros at the first block of query rows, what it held at a later one. -/
def start {S : Shape} (i : grid0.Coords) (y : Vec Ideal S .f32) : Vec Ideal S .f32 := if (i 2).val = 0 then fun _ => 0 else y

theorem pay6_eq : k0_pay6 (F := Ideal) = fun _ => 0 := by
  funext j; obtain ⟨a, b, rfl⟩ : ∃ (a : Fin 128) (b : Fin 1024), j = ix2 a b := ⟨j 0, j 1, eq_ix2 j⟩
  pointwise [k0_pay6]

/-- A whole block loaded. -/
theorem read_all (M : Memref sig .tc .vmem S1024x128 .bf16) {f : M.view.ty.Contents (Elt Ideal)} {x : Vec Ideal S1024x128 .bf16} (h : M.view.read (Elt Ideal) f = x) :
    M.view.readAt (Elt Ideal) (Rect.unit (s := S1024x128) ![0, 0] S1024x128.size inb_S1024x128_S1024x128_0_0).toLoadRect f = x := by
  rw [View.readAt_eq_ld, h]; exact View.ld_unit_zero Cert.MlaBwd.off2 _ _

/-- One head's row statistic, loaded. -/
theorem stat_load (M : Memref sig .tc .vmem S2x1024x128 .f32) {f : M.view.ty.Contents (Elt Ideal)} {x : Vec Ideal S2x1024x128 .f32} (h : M.view.read (Elt Ideal) f = x) (i : Fin 2)
    (inb : ∀ a, (![i.val, 0, 0] : Fin 3 → ℕ) a + S1x1024x128.size a ≤ S2x1024x128.size a) :
    Stat x i (k0_pay22 (F := Ideal) (M.view.readAt (Elt Ideal) (Rect.unit (s := S2x1024x128) ![i.val, 0, 0] S1x1024x128.size inb).toLoadRect f)) := by
  intro r l; rw [pay22_apply, View.readAt_eq_ld, h]; exact ld_stat x i _ r l

set_option maxHeartbeats 1600000 in
/-- Part 1 of the body: at the first block of query rows the accumulators are zeroed; the first head's scores and cotangent of the
    probabilities are stored. -/
theorem part1_run (y12 y13 : Vec Ideal S128x1024 .f32) (E : Set ℕ) (K : (Σ' (arg1 : BitVec 32) (arg2 : BitVec 32) (v4 : FVec Ideal S1024x128 .bf16) (v6 : FVec Ideal S1024x128 .bf16) (v8 : FVec Ideal S1024x128 .bf16) (v10 : FVec Ideal S1024x128 .bf16) (v13 : IVec S1024x128 1) (v18 : FVec Ideal S1024x128 .bf16) (v20 : FVec Ideal S1024x128 .bf16) (v29 : IVec S1024x128 32), IVec S1024x128 32) → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg12 fullShare y12 ∗ owns (c : Thread nD τ) arg13 fullShare y13 ∗ (∃ d, owns (c : Thread nD τ) arg14 fullShare d) ∗ (∃ d, owns (c : Thread nD τ) arg15 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg12 fullShare (start i y12) ∗ owns (c : Thread nD τ) arg13 fullShare (start i y13)
          ∗ (∃ d, ⌜Upto (Sv x0 x1) 1024 d⌝ ∗ owns (c : Thread nD τ) arg14 fullShare d) ∗ (∃ d, ⌜Upto (DPv x2 x3) 1024 d⌝ ∗ owns (c : Thread nD τ) arg15 fullShare d))
        -∗ K ⟨BitVec.ofNat 32 (i 1).val, BitVec.ofNat 32 (i 2).val, k0_pay8 x0, k0_pay9 x1, k0_pay10 x2, k0_pay11 x3, k0_pay12, k0_pay13 x0, k0_pay14 x3, cols, k0_pay17⟩))
      ⊢ wp frame (wpE (defs₀ (F := Ideal)) Variants.none c none) E (k0_part1 i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part1_eq_skeleton]; unfold k0_part1_skel
  unfold owns
  by_cases h : (i 2).val = 0
  · rw [show start i y12 = k0_pay6 (F := Ideal) from (if_pos h).trans pay6_eq.symm, show start i y13 = k0_pay6 (F := Ideal) from (if_pos h).trans pay6_eq.symm]
    have hc := (word_eq0 (i 2)).mpr h
    iintro ⟨⟨%f3, %hf3, H3⟩, ⟨%f4, %hf4, H4⟩, ⟨%f5, %hf5, H5⟩, ⟨%f6, %hf6, H6⟩, ⟨%f12, %hf12, H12⟩, ⟨%f13, %hf13, H13⟩, ⟨%d14, %f14, -, H14⟩, ⟨%d15, %f15, -, H15⟩, Hk⟩
    sl_exec (disch := sl_exact hc)
    sl_step
    rw [read_all arg3 hf3, read_all arg4 hf4, read_all arg5 hf5, read_all arg6 hf6]
    sl_unfold_words
    iapply Hk
    isplitl [H3]; · iapply (own_of c hf3); iexact H3
    isplitl [H4]; · iapply (own_of c hf4); iexact H4
    isplitl [H5]; · iapply (own_of c hf5); iexact H5
    isplitl [H6]; · iapply (own_of c hf6); iexact H6
    isplitl [H12]; · iapply (own_of c (read_write_whole _ _ Cert.MlaBwd.off2 _ _ _)); iexact H12
    isplitl [H13]; · iapply (own_of c (read_write_whole _ _ Cert.MlaBwd.off2 _ _ _)); iexact H13
    isplitl [H14]
    · iapply (upto_of c (Cert.MlaBwd.Upto.tile 0 (Cert.MlaBwd.Upto.zero _ _) _ _ (fun r k => pay15_apply x0 x1 0 r k))); iexact H14
    · iapply (upto_of c (Cert.MlaBwd.Upto.tile 0 (Cert.MlaBwd.Upto.zero _ _) _ _ (fun r k => pay16_apply x2 x3 0 r k))); iexact H15
  · rw [show start i y12 = y12 from if_neg h, show start i y13 = y13 from if_neg h]
    have hc := fun hh => h ((word_eq0 (i 2)).mp hh)
    iintro ⟨⟨%f3, %hf3, H3⟩, ⟨%f4, %hf4, H4⟩, ⟨%f5, %hf5, H5⟩, ⟨%f6, %hf6, H6⟩, ⟨%f12, %hf12, H12⟩, ⟨%f13, %hf13, H13⟩, ⟨%d14, %f14, -, H14⟩, ⟨%d15, %f15, -, H15⟩, Hk⟩
    sl_exec (disch := sl_exact hc)
    sl_step
    rw [read_all arg3 hf3, read_all arg4 hf4, read_all arg5 hf5, read_all arg6 hf6]
    sl_unfold_words
    iapply Hk
    isplitl [H3]; · iapply (own_of c hf3); iexact H3
    isplitl [H4]; · iapply (own_of c hf4); iexact H4
    isplitl [H5]; · iapply (own_of c hf5); iexact H5
    isplitl [H6]; · iapply (own_of c hf6); iexact H6
    isplitl [H12]; · iapply (own_of c hf12); iexact H12
    isplitl [H13]; · iapply (own_of c hf13); iexact H13
    isplitl [H14]
    · iapply (upto_of c (Cert.MlaBwd.Upto.tile 0 (Cert.MlaBwd.Upto.zero _ _) _ _ (fun r k => pay15_apply x0 x1 0 r k))); iexact H14
    · iapply (upto_of c (Cert.MlaBwd.Upto.tile 0 (Cert.MlaBwd.Upto.zero _ _) _ _ (fun r k => pay16_apply x2 x3 0 r k))); iexact H15

/-- Part 2 of the body: the second head's scores and cotangent of the probabilities, the first head's row statistics, and the
    probabilities of its first 128 columns. -/
theorem part2_run (E : Set ℕ) (K : (Σ' (v34 : FVec Ideal S1024x128 .bf16) (v37 : FVec Ideal S1024x128 .bf16) (v47 : FVec Ideal S1024x128 .f32) (v49 : FVec Ideal S1024x128 .f32) (v53 : FVec Ideal S1024x128 .f32), FVec Ideal S1024x128 .f32) → sProp 𝕄) :
    iprop(owns (c : Thread nD τ) arg7 fullShare x4 ∗ owns (c : Thread nD τ) arg8 fullShare x5 ∗ (∃ d, ⌜Upto (Sv x0 x1) 1024 d⌝ ∗ owns (c : Thread nD τ) arg14 fullShare d) ∗ (∃ d, ⌜Upto (DPv x2 x3) 1024 d⌝ ∗ owns (c : Thread nD τ) arg15 fullShare d)
        ∗ (∃ d, owns (c : Thread nD τ) arg16 fullShare d) ∗ (∃ d, owns (c : Thread nD τ) arg17 fullShare d)
      ∗ (∀ v47, ∀ v49, ∀ vp, ∀ vd, iprop(⌜Stat x4 0 v47 ∧ Stat x5 0 v49 ∧ PC x0 x1 x4 0 0 vp ∧ DC x2 x3 x5 0 0 vd⌝ ∗ owns (c : Thread nD τ) arg7 fullShare x4 ∗ owns (c : Thread nD τ) arg8 fullShare x5 ∗ Mid c x0 x1 x2 x3 x4 x5 arg14 arg15 arg16 arg17 128 0)
        -∗ K ⟨k0_pay18 (k0_pay8 x0) cols k0_pay17, k0_pay19 (k0_pay11 x3) k0_pay12, v47, v49, vp, vd⟩))
      ⊢ wp frame (wpE (defs₀ (F := Ideal)) Variants.none c none) E (k0_part2 i arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay8 x0) (k0_pay9 x1) (k0_pay10 x2) (k0_pay11 x3) k0_pay12 cols k0_pay17) K := by
  simp only [k0_part2_eq_skeleton]; unfold k0_part2_skel
  unfold Mid owns
  iintro ⟨⟨%f7, %hf7, H7⟩, ⟨%f8, %hf8, H8⟩, ⟨%Y14, %hY14, ⟨%f14, %hf14, H14⟩⟩, ⟨%Y15, %hY15, ⟨%f15, %hf15, H15⟩⟩, ⟨%d16, %f16, -, H16⟩, ⟨%d17, %f17, -, H17⟩, Hk⟩
  subst hf14 hf15
  sl_exec
  sl_step
  sl_unfold_words
  have h14 : arg14.view.read (Elt Ideal) (arg14.view.writes (Elt Ideal) f14 [⟨Rect.unit (s := S2x1024x1024) ![1, 0, 0] S1x1024x1024.size inb_S2x1024x1024_S1x1024x1024_1_0_0,
      k0_pay20 (k0_pay8 x0) (k0_pay9 x1) cols k0_pay17⟩]) = Sv x0 x1 :=
    Cert.MlaBwd.Upto.eq (Cert.MlaBwd.Upto.tile 1 hY14 _ _ (fun r k => pay20_apply x0 x1 0 r k))
  have h15 : arg15.view.read (Elt Ideal) (arg15.view.writes (Elt Ideal) f15 [⟨Rect.unit (s := S2x1024x1024) ![1, 0, 0] S1x1024x1024.size inb_S2x1024x1024_S1x1024x1024_1_0_0,
      k0_pay21 (k0_pay10 x2) (k0_pay11 x3) k0_pay12⟩]) = DPv x2 x3 :=
    Cert.MlaBwd.Upto.eq (Cert.MlaBwd.Upto.tile 1 hY15 _ _ (fun r k => pay21_apply x2 x3 0 r k))
  have h47 := stat_load arg7 hf7 0 inb_S2x1024x128_S1x1024x128_0_0_0
  have h49 := stat_load arg8 hf8 0 inb_S2x1024x128_S1x1024x128_0_0_0
  have hs := got_load hY14 0 0 (by decide) (by decide) inb_S2x1024x1024_S1x1024x128_0_0_0
  have hp := got_load hY15 0 0 (by decide) (by decide) inb_S2x1024x1024_S1x1024x128_0_0_0
  iapply Hk
  isplitr
  · ipureintro; exact ⟨h47, h49, pc_val (by decide) hs h47, dc_val (by decide) hp h49⟩
  isplitl [H7]; · iapply (own_of c hf7); iexact H7
  isplitl [H8]; · iapply (own_of c hf8); iexact H8
  iapply (mid_of c (N := 128) (M := 0) h14 h15 (Cert.MlaBwd.Upto.chunk 0 0 (by decide) (Cert.MlaBwd.Upto.zero _ _) _ _ (p_val (by decide) (by decide) hs h47)) (Cert.MlaBwd.Upto.zero _ _))
  isplitl [H14]; · iexact H14
  isplitl [H15]; · iexact H15
  isplitl [H16]; · iexact H16
  iexact H17

/-- Part 3 of the body: the first head's columns up to 384 of the probabilities and 256 of the cotangents of the scores. -/
theorem part3_run (v47 v49 vp vd : FVec Ideal S1024x128 .f32) (h47 : Stat x4 0 v47) (h49 : Stat x5 0 v49) (hp : PC x0 x1 x4 0 0 vp) (hd : DC x2 x3 x5 0 0 vd)
    (E : Set ℕ) (K : (Σ' (v85 : FVec Ideal S1024x128 .f32), FVec Ideal S1024x128 .f32) → sProp 𝕄) :
    iprop(Mid c x0 x1 x2 x3 x4 x5 arg14 arg15 arg16 arg17 128 0 ∗ (∀ wp, ∀ wd, iprop(⌜PC x0 x1 x4 0 256 wp ∧ DC x2 x3 x5 0 256 wd⌝ ∗ Mid c x0 x1 x2 x3 x4 x5 arg14 arg15 arg16 arg17 384 256) -∗ K ⟨wp, wd⟩))
      ⊢ wp frame (wpE (defs₀ (F := Ideal)) Variants.none c none) E (k0_part3 i arg3 harg3 arg4 harg4 arg5 harg5 arg6 harg6 arg7 harg7 arg8 harg8 arg9 harg9 arg10 harg10 arg11 harg11 arg12 harg12 arg13 harg13 arg14 harg14 arg15 harg15 arg16 harg16 arg17 harg17 v47 v49 vp vd) K := by
  simp only [k0_part3_eq_skeleton]; unfold k0_part3_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  have s1 := got_s hf14 0 128 (by decide) inb_S2x1024x1024_S1x1024x128_0_0_128
  have s2 := got_s hf14 0 256 (by decide) inb_S2x1024x1024_S1x1024x128_0_0_256
  have p1 := got_p hf15 0 128 (by decide) inb_S2x1024x1024_S1x1024x128_0_0_128
  have p2 := got_p hf15 0 256 (by decide) inb_S2x1024x1024_S1x1024x128_0_0_256
  iapply Hk
  isplitr
  · ipureintro; exact ⟨pc_val (by decide) s2 h47, dc_val (by decide) p2 h49⟩
  iapply (mid_of c (N := 384) (M := 256) hf14 hf15 (upto_two hY16 0 128 (by decide) rfl (p_val (by decide) (by decide) s1 h47) (p_val (by decide) (by decide) s2 h47))
    (upto_two hY17 0 0 (by decide) rfl (ds_mul (by decide) hp hd) (ds_val (by decide) (by decide) s1 p1 h47 h49)))
  isplitl [H14]; · iexact H14
  isplitl [H15]; · iexact H15
  isplitl [H16]; · iexact H16
  iexact H17

/-- Part 4 of the body: the first head's columns up to 640 of the probabilities and 512 of the cotangents of the scores. -/
theorem part4_run (v47 v49 vp vd : FVec Ideal S1024x128 .f32) (h47 : Stat x4 0 v47) (h49 : Stat x5 0 v49) (hp : PC x0 x1 x4 0 256 vp) (hd : DC x2 x3 x5 0 256 vd)
    (E : Set ℕ) (K : (Σ' (v85 : FVec Ideal S1024x128 .f32), FVec Ideal S1024x128 .f32) → sProp 𝕄) :
    iprop(Mid c x0 x1 x2 x3 x4 x5 arg14 arg15 arg16 arg17 384 256 ∗ (∀ wp, ∀ wd, iprop(⌜PC x0 x1 x4 0 512 wp ∧ DC x2 x3 x5 0 512 wd⌝ ∗ Mid c x0 x1 x2 x3 x4 x5 arg14 arg15 arg16 arg17 640 512) -∗ K ⟨wp, wd⟩))
      ⊢ wp frame (wpE (defs₀ (F := Ideal)) Variants.none c none) E (k0_part4 i arg3 harg3 arg4 harg4 arg5 harg5 arg6 harg6 arg7 harg7 arg8 harg8 arg9 harg9 arg10 harg10 arg11 harg11 arg12 harg12 arg13 harg13 arg14 harg14 arg15 harg15 arg16 harg16 arg17 harg17 v47 v49 vp vd) K := by
  simp only [k0_part4_eq_skeleton]; unfold k0_part4_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  have s1 := got_s hf14 0 384 (by decide) inb_S2x1024x1024_S1x1024x128_0_0_384
  have s2 := got_s hf14 0 512 (by decide) inb_S2x1024x1024_S1x1024x128_0_0_512
  have p1 := got_p hf15 0 384 (by decide) inb_S2x1024x1024_S1x1024x128_0_0_384
  have p2 := got_p hf15 0 512 (by decide) inb_S2x1024x1024_S1x1024x128_0_0_512
  iapply Hk
  isplitr
  · ipureintro; exact ⟨pc_val (by decide) s2 h47, dc_val (by decide) p2 h49⟩
  iapply (mid_of c (N := 640) (M := 512) hf14 hf15 (upto_two hY16 0 384 (by decide) rfl (p_val (by decide) (by decide) s1 h47) (p_val (by decide) (by decide) s2 h47))
    (upto_two hY17 0 256 (by decide) rfl (ds_mul (by decide) hp hd) (ds_val (by decide) (by decide) s1 p1 h47 h49)))
  isplitl [H14]; · iexact H14
  isplitl [H15]; · iexact H15
  isplitl [H16]; · iexact H16
  iexact H17

/-- Part 5 of the body: the first head's columns up to 896 of the probabilities and 768 of the cotangents of the scores. -/
theorem part5_run (v47 v49 vp vd : FVec Ideal S1024x128 .f32) (h47 : Stat x4 0 v47) (h49 : Stat x5 0 v49) (hp : PC x0 x1 x4 0 512 vp) (hd : DC x2 x3 x5 0 512 vd)
    (E : Set ℕ) (K : (Σ' (v85 : FVec Ideal S1024x128 .f32), FVec Ideal S1024x128 .f32) → sProp 𝕄) :
    iprop(Mid c x0 x1 x2 x3 x4 x5 arg14 arg15 arg16 arg17 640 512 ∗ (∀ wp, ∀ wd, iprop(⌜PC x0 x1 x4 0 768 wp ∧ DC x2 x3 x5 0 768 wd⌝ ∗ Mid c x0 x1 x2 x3 x4 x5 arg14 arg15 arg16 arg17 896 768) -∗ K ⟨wp, wd⟩))
      ⊢ wp frame (wpE (defs₀ (F := Ideal)) Variants.none c none) E (k0_part5 i arg3 harg3 arg4 harg4 arg5 harg5 arg6 harg6 arg7 harg7 arg8 harg8 arg9 harg9 arg10 harg10 arg11 harg11 arg12 harg12 arg13 harg13 arg14 harg14 arg15 harg15 arg16 harg16 arg17 harg17 v47 v49 vp vd) K := by
  simp only [k0_part5_eq_skeleton]; unfold k0_part5_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  have s1 := got_s hf14 0 640 (by decide) inb_S2x1024x1024_S1x1024x128_0_0_640
  have s2 := got_s hf14 0 768 (by decide) inb_S2x1024x1024_S1x1024x128_0_0_768
  have p1 := got_p hf15 0 640 (by decide) inb_S2x1024x1024_S1x1024x128_0_0_640
  have p2 := got_p hf15 0 768 (by decide) inb_S2x1024x1024_S1x1024x128_0_0_768
  iapply Hk
  isplitr
  · ipureintro; exact ⟨pc_val (by decide) s2 h47, dc_val (by decide) p2 h49⟩
  iapply (mid_of c (N := 896) (M := 768) hf14 hf15 (upto_two hY16 0 640 (by decide) rfl (p_val (by decide) (by decide) s1 h47) (p_val (by decide) (by decide) s2 h47))
    (upto_two hY17 0 512 (by decide) rfl (ds_mul (by decide) hp hd) (ds_val (by decide) (by decide) s1 p1 h47 h49)))
  isplitl [H14]; · iexact H14
  isplitl [H15]; · iexact H15
  isplitl [H16]; · iexact H16
  iexact H17

/-- Part 6 of the body: the first head's last columns, the second head's row statistics and the probabilities of its first 128
    columns, not yet stored. -/
theorem part6_run (v47 v49 vp vd : FVec Ideal S1024x128 .f32) (h47 : Stat x4 0 v47) (h49 : Stat x5 0 v49) (hp : PC x0 x1 x4 0 768 vp) (hd : DC x2 x3 x5 0 768 vd)
    (E : Set ℕ) (K : (Σ' (v179 : FVec Ideal S1024x128 .f32) (v181 : FVec Ideal S1024x128 .f32) (v185 : FVec Ideal S1024x128 .f32), FVec Ideal S1024x128 .bf16) → sProp 𝕄) :
    iprop(owns (c : Thread nD τ) arg7 fullShare x4 ∗ owns (c : Thread nD τ) arg8 fullShare x5 ∗ Mid c x0 x1 x2 x3 x4 x5 arg14 arg15 arg16 arg17 896 768
      ∗ (∀ v179, ∀ v181, ∀ vf, ∀ vb, iprop(⌜Stat x4 1 v179 ∧ Stat x5 1 v181 ∧ PC x0 x1 x4 1 0 vf ∧ PB x0 x1 x4 1 0 vb⌝ ∗ owns (c : Thread nD τ) arg7 fullShare x4 ∗ owns (c : Thread nD τ) arg8 fullShare x5 ∗ Mid c x0 x1 x2 x3 x4 x5 arg14 arg15 arg16 arg17 1024 1024)
        -∗ K ⟨v179, v181, vf, vb⟩))
      ⊢ wp frame (wpE (defs₀ (F := Ideal)) Variants.none c none) E (k0_part6 i arg3 harg3 arg4 harg4 arg5 harg5 arg6 harg6 arg7 harg7 arg8 harg8 arg9 harg9 arg10 harg10 arg11 harg11 arg12 harg12 arg13 harg13 arg14 harg14 arg15 harg15 arg16 harg16 arg17 harg17 v47 v49 vp vd) K := by
  simp only [k0_part6_eq_skeleton]; unfold k0_part6_skel
  unfold Mid owns
  iintro ⟨⟨%f7, %hf7, H7⟩, ⟨%f8, %hf8, H8⟩, ⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  sl_unfold_words
  have h179 := stat_load arg7 hf7 1 inb_S2x1024x128_S1x1024x128_1_0_0
  have h181 := stat_load arg8 hf8 1 inb_S2x1024x128_S1x1024x128_1_0_0
  have s1 := got_s hf14 0 896 (by decide) inb_S2x1024x1024_S1x1024x128_0_0_896
  have p1 := got_p hf15 0 896 (by decide) inb_S2x1024x1024_S1x1024x128_0_0_896
  have s2 := got_s hf14 1 0 (by decide) inb_S2x1024x1024_S1x1024x128_1_0_0
  iapply Hk
  isplitr
  · ipureintro; exact ⟨h179, h181, pc_val (by decide) s2 h179, pc_val (by decide) s2 h179⟩
  isplitl [H7]; · iapply (own_of c hf7); iexact H7
  isplitl [H8]; · iapply (own_of c hf8); iexact H8
  iapply (mid_of c (N := 1024) (M := 1024) hf14 hf15 (Cert.MlaBwd.Upto.chunk (f := f16) (L := []) 0 896 (by decide) hY16 _ _ (p_val (by decide) (by decide) s1 h47))
    (upto_two hY17 0 768 (by decide) rfl (ds_mul (by decide) hp hd) (ds_val (by decide) (by decide) s1 p1 h47 h49)))
  isplitl [H14]; · iexact H14
  isplitl [H15]; · iexact H15
  isplitl [H16]; · iexact H16
  iexact H17

/-- Part 7 of the body: the second head's columns up to 256, and the probabilities of the next 128, not yet stored. -/
theorem part7_run (v179 v181 vf : FVec Ideal S1024x128 .f32) (vb : FVec Ideal S1024x128 .bf16) (h47 : Stat x4 1 v179) (h49 : Stat x5 1 v181) (hp : PC x0 x1 x4 1 0 vf) (hb : PB x0 x1 x4 1 0 vb)
    (E : Set ℕ) (K : (Σ' (v217 : FVec Ideal S1024x128 .f32), FVec Ideal S1024x128 .bf16) → sProp 𝕄) :
    iprop(Mid c x0 x1 x2 x3 x4 x5 arg14 arg15 arg16 arg17 1024 1024 ∗ (∀ wf, ∀ wb, iprop(⌜PC x0 x1 x4 1 256 wf ∧ PB x0 x1 x4 1 256 wb⌝ ∗ Mid c x0 x1 x2 x3 x4 x5 arg14 arg15 arg16 arg17 1280 1280) -∗ K ⟨wf, wb⟩))
      ⊢ wp frame (wpE (defs₀ (F := Ideal)) Variants.none c none) E (k0_part7 i arg3 harg3 arg4 harg4 arg5 harg5 arg6 harg6 arg7 harg7 arg8 harg8 arg9 harg9 arg10 harg10 arg11 harg11 arg12 harg12 arg13 harg13 arg14 harg14 arg15 harg15 arg16 harg16 arg17 harg17 v179 v181 vf vb) K := by
  simp only [k0_part7_eq_skeleton]; unfold k0_part7_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  have p0 := got_p hf15 1 0 (by decide) inb_S2x1024x1024_S1x1024x128_1_0_0
  have s1 := got_s hf14 1 128 (by decide) inb_S2x1024x1024_S1x1024x128_1_0_128
  have p1 := got_p hf15 1 128 (by decide) inb_S2x1024x1024_S1x1024x128_1_0_128
  have s2 := got_s hf14 1 256 (by decide) inb_S2x1024x1024_S1x1024x128_1_0_256
  iapply Hk
  isplitr
  · ipureintro; exact ⟨pc_val (by decide) s2 h47, pc_val (by decide) s2 h47⟩
  iapply (mid_of c (N := 1280) (M := 1280) hf14 hf15 (upto_two hY16 1 0 (by decide) rfl (pb_val (by decide) hb) (p_val (by decide) (by decide) s1 h47))
    (upto_two hY17 1 0 (by decide) rfl (ds_half (by decide) (by decide) hp p0 h49) (ds_val (by decide) (by decide) s1 p1 h47 h49)))
  isplitl [H14]; · iexact H14
  isplitl [H15]; · iexact H15
  isplitl [H16]; · iexact H16
  iexact H17

/-- Part 8 of the body: the second head's columns up to 512, and the probabilities of the next 128, not yet stored. -/
theorem part8_run (v179 v181 vf : FVec Ideal S1024x128 .f32) (vb : FVec Ideal S1024x128 .bf16) (h47 : Stat x4 1 v179) (h49 : Stat x5 1 v181) (hp : PC x0 x1 x4 1 256 vf) (hb : PB x0 x1 x4 1 256 vb)
    (E : Set ℕ) (K : (Σ' (v217 : FVec Ideal S1024x128 .f32), FVec Ideal S1024x128 .bf16) → sProp 𝕄) :
    iprop(Mid c x0 x1 x2 x3 x4 x5 arg14 arg15 arg16 arg17 1280 1280 ∗ (∀ wf, ∀ wb, iprop(⌜PC x0 x1 x4 1 512 wf ∧ PB x0 x1 x4 1 512 wb⌝ ∗ Mid c x0 x1 x2 x3 x4 x5 arg14 arg15 arg16 arg17 1536 1536) -∗ K ⟨wf, wb⟩))
      ⊢ wp frame (wpE (defs₀ (F := Ideal)) Variants.none c none) E (k0_part8 i arg3 harg3 arg4 harg4 arg5 harg5 arg6 harg6 arg7 harg7 arg8 harg8 arg9 harg9 arg10 harg10 arg11 harg11 arg12 harg12 arg13 harg13 arg14 harg14 arg15 harg15 arg16 harg16 arg17 harg17 v179 v181 vf vb) K := by
  simp only [k0_part8_eq_skeleton]; unfold k0_part8_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  have p0 := got_p hf15 1 256 (by decide) inb_S2x1024x1024_S1x1024x128_1_0_256
  have s1 := got_s hf14 1 384 (by decide) inb_S2x1024x1024_S1x1024x128_1_0_384
  have p1 := got_p hf15 1 384 (by decide) inb_S2x1024x1024_S1x1024x128_1_0_384
  have s2 := got_s hf14 1 512 (by decide) inb_S2x1024x1024_S1x1024x128_1_0_512
  iapply Hk
  isplitr
  · ipureintro; exact ⟨pc_val (by decide) s2 h47, pc_val (by decide) s2 h47⟩
  iapply (mid_of c (N := 1536) (M := 1536) hf14 hf15 (upto_two hY16 1 256 (by decide) rfl (pb_val (by decide) hb) (p_val (by decide) (by decide) s1 h47))
    (upto_two hY17 1 256 (by decide) rfl (ds_half (by decide) (by decide) hp p0 h49) (ds_val (by decide) (by decide) s1 p1 h47 h49)))
  isplitl [H14]; · iexact H14
  isplitl [H15]; · iexact H15
  isplitl [H16]; · iexact H16
  iexact H17

/-- Part 9 of the body: the second head's columns up to 768, and the probabilities of the next 128, not yet stored. -/
theorem part9_run (v179 v181 vf : FVec Ideal S1024x128 .f32) (vb : FVec Ideal S1024x128 .bf16) (h47 : Stat x4 1 v179) (h49 : Stat x5 1 v181) (hp : PC x0 x1 x4 1 512 vf) (hb : PB x0 x1 x4 1 512 vb)
    (E : Set ℕ) (K : (Σ' (v217 : FVec Ideal S1024x128 .f32), FVec Ideal S1024x128 .bf16) → sProp 𝕄) :
    iprop(Mid c x0 x1 x2 x3 x4 x5 arg14 arg15 arg16 arg17 1536 1536 ∗ (∀ wf, ∀ wb, iprop(⌜PC x0 x1 x4 1 768 wf ∧ PB x0 x1 x4 1 768 wb⌝ ∗ Mid c x0 x1 x2 x3 x4 x5 arg14 arg15 arg16 arg17 1792 1792) -∗ K ⟨wf, wb⟩))
      ⊢ wp frame (wpE (defs₀ (F := Ideal)) Variants.none c none) E (k0_part9 i arg3 harg3 arg4 harg4 arg5 harg5 arg6 harg6 arg7 harg7 arg8 harg8 arg9 harg9 arg10 harg10 arg11 harg11 arg12 harg12 arg13 harg13 arg14 harg14 arg15 harg15 arg16 harg16 arg17 harg17 v179 v181 vf vb) K := by
  simp only [k0_part9_eq_skeleton]; unfold k0_part9_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, Hk⟩
  subst hf16 hf17
  sl_exec
  sl_step
  have p0 := got_p hf15 1 512 (by decide) inb_S2x1024x1024_S1x1024x128_1_0_512
  have s1 := got_s hf14 1 640 (by decide) inb_S2x1024x1024_S1x1024x128_1_0_640
  have p1 := got_p hf15 1 640 (by decide) inb_S2x1024x1024_S1x1024x128_1_0_640
  have s2 := got_s hf14 1 768 (by decide) inb_S2x1024x1024_S1x1024x128_1_0_768
  iapply Hk
  isplitr
  · ipureintro; exact ⟨pc_val (by decide) s2 h47, pc_val (by decide) s2 h47⟩
  iapply (mid_of c (N := 1792) (M := 1792) hf14 hf15 (upto_two hY16 1 512 (by decide) rfl (pb_val (by decide) hb) (p_val (by decide) (by decide) s1 h47))
    (upto_two hY17 1 512 (by decide) rfl (ds_half (by decide) (by decide) hp p0 h49) (ds_val (by decide) (by decide) s1 p1 h47 h49)))
  isplitl [H14]; · iexact H14
  isplitl [H15]; · iexact H15
  isplitl [H16]; · iexact H16
  iexact H17

end Cert.GqaBwd

end
-- ==== Proof.GqaParts10.lean ====
module

public import proofs.«01_k».proof.Proof.GqaParts

@[expose] public section

set_option maxRecDepth 16384

noncomputable section

namespace Cert.GqaBwd

open Cert.KernelGqaIdeal Cert.KernelGqaIdeal.Gen
open Cert.MlaBwd (wrap doM DPv Upto Stat ld_stat read_write_whole tile_val word_eq0 word_pos word_eq7 word_off row_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
variable {arg3 : Memref sig .tc .vmem S1024x128 .bf16} (harg3 : arg3.IsWhole) {arg4 : Memref sig .tc .vmem S1024x128 .bf16} (harg4 : arg4.IsWhole) {arg5 : Memref sig .tc .vmem S1024x128 .bf16} (harg5 : arg5.IsWhole) {arg6 : Memref sig .tc .vmem S1024x128 .bf16} (harg6 : arg6.IsWhole) {arg7 : Memref sig .tc .vmem S2x1024x128 .f32} (harg7 : arg7.IsWhole) {arg8 : Memref sig .tc .vmem S2x1024x128 .f32} (harg8 : arg8.IsWhole) {arg9 : Memref sig .tc .vmem S8192x128 .f32} (harg9 : arg9.IsWhole) {arg10 : Memref sig .tc .vmem S1x128x1024 .bf16} (harg10 : arg10.IsWhole) {arg11 : Memref sig .tc .vmem S1x128x1024 .bf16} (harg11 : arg11.IsWhole) {arg12 : Memref sig .tc .vmem S128x1024 .f32} (harg12 : arg12.IsWhole) {arg13 : Memref sig .tc .vmem S128x1024 .f32} (harg13 : arg13.IsWhole) {arg14 : Memref sig .tc .vmem S2x1024x1024 .f32} (harg14 : arg14.IsWhole) {arg15 : Memref sig .tc .vmem S2x1024x1024 .f32} (harg15 : arg15.IsWhole) {arg16 : Memref sig .tc .vmem S2x1024x1024 .bf16} (harg16 : arg16.IsWhole) {arg17 : Memref sig .tc .vmem S2x1024x1024 .bf16} (harg17 : arg17.IsWhole)
variable (x0 x1 x2 x3 : Vec Ideal S1024x128 .bf16) (x4 x5 : Vec Ideal S2x1024x128 .f32)

/-- One head's contribution of a tile to an accumulated cotangent: the columns of a block `x` that are the head's, against the
    head's tile of `P`. The cotangent of the keys adds up the two heads', which share the block of keys, and so does that of the values. -/
def acc (x : Vec Ideal S1024x128 .bf16) (P : Vec Ideal S2x1024x1024 .bf16) (i : Fin 2) (y : Vec Ideal S128x1024 .f32) : Vec Ideal S128x1024 .f32 := fun j =>
  y j + ∑ r : Fin 1024, doM x i (ix2 r (j 0)) * P (ix3 i r (j 1))

/-- What adds a product to an accumulator is that, when the product's operands are the head's columns and the head's tile. -/
theorem acc_of {x : Vec Ideal S1024x128 .bf16} {P : Vec Ideal S2x1024x1024 .bf16} {i : Fin 2} {w : Vec Ideal S1024x128 .bf16} {p : Vec Ideal S1x1024x1024 .bf16}
    {g y y' : Vec Ideal S128x1024 .f32} (hg : ∀ (d : Fin 128) (k : Fin 1024), g (ix2 d k) = y (ix2 d k) + ∑ r : Fin 1024, w (ix2 r d) * p (ix3 0 r k))
    (hw : ∀ (r : Fin 1024) (d : Fin 128), w (ix2 r d) = doM x i (ix2 r d)) (hp : ∀ r k : Fin 1024, p (ix3 0 r k) = P (ix3 i r k))
    (hy : y = y') : g = acc x P i y' := by
  subst hy
  funext j
  obtain ⟨d, k, rfl⟩ : ∃ (d : Fin 128) (k : Fin 1024), j = ix2 d k := ⟨j 0, j 1, eq_ix2 j⟩
  rw [hg]
  show _ = y (ix2 d k) + ∑ r : Fin 1024, doM x i (ix2 r d) * P (ix3 i r k)
  congr 1; exact Finset.sum_congr rfl fun r _ => by rw [hw, hp]

/-- One head's product of its tile with the block of keys, whatever the column. -/
def prodQ (i : Fin 2) (r : Fin 1024) (d : Fin 128) : Ideal .f32 := ∑ k : Fin 1024, DSv x0 x1 x2 x3 x4 x5 (ix3 i r k) * x1 (ix2 k d)

/-- An accumulator loaded. -/
theorem read_acc (M : Memref sig .tc .vmem S128x1024 .f32) {f : M.view.ty.Contents (Elt Ideal)} {x : Vec Ideal S128x1024 .f32} (h : M.view.read (Elt Ideal) f = x) :
    M.view.readAt (Elt Ideal) (Rect.unit (s := S128x1024) ![0, 0] S128x1024.size inb_S128x1024_S128x1024_0_0).toLoadRect f = x := by
  rw [View.readAt_eq_ld, h]; exact View.ld_unit_zero Cert.MlaBwd.off2 _ _

/-- One head's tile loaded. -/
theorem read_tile (M : Memref sig .tc .vmem S2x1024x1024 .bf16) {f : M.view.ty.Contents (Elt Ideal)} {P : Vec Ideal S2x1024x1024 .bf16} {N : ℕ}
    (h : Upto P N (M.view.read (Elt Ideal) f)) (i : Fin 2) (hN : 1024 * i.val + 1024 ≤ N)
    (inb : ∀ a, (![i.val, 0, 0] : Fin 3 → ℕ) a + S1x1024x1024.size a ≤ S2x1024x1024.size a) (r k : Fin 1024) :
    M.view.readAt (Elt Ideal) (Rect.unit (s := S2x1024x1024) ![i.val, 0, 0] S1x1024x1024.size inb).toLoadRect f (ix3 0 r k) = P (ix3 i r k) := by
  rw [View.readAt_eq_ld]; exact tile_val h i hN _ r k

/-- Part 10 of the body: the second head's last columns, and the values' cotangent with the first head's contribution, not yet stored. -/
theorem part10_run (v179 v181 vf : FVec Ideal S1024x128 .f32) (vb : FVec Ideal S1024x128 .bf16) (h47 : Stat x4 1 v179) (h49 : Stat x5 1 v181) (hp : PC x0 x1 x4 1 768 vf) (hb : PB x0 x1 x4 1 768 vb)
    (y13 : Vec Ideal S128x1024 .f32) (E : Set ℕ) (K : FVec Ideal S128x1024 .f32 → sProp 𝕄) :
    iprop(Mid c x0 x1 x2 x3 x4 x5 arg14 arg15 arg16 arg17 1792 1792 ∗ owns (c : Thread nD τ) arg13 fullShare y13
      ∗ (iprop(Mid c x0 x1 x2 x3 x4 x5 arg14 arg15 arg16 arg17 2048 2048 ∗ owns (c : Thread nD τ) arg13 fullShare y13) -∗ K (acc x3 (Pv x0 x1 x4) 0 y13)))
      ⊢ wp frame (wpE (defs₀ (F := Ideal)) Variants.none c none) E (k0_part10 i arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay14 x3) v179 v181 vf vb) K := by
  simp only [k0_part10_eq_skeleton]; unfold k0_part10_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, ⟨%f13, %hf13, H13⟩, Hk⟩
  subst hf16 hf17
  sl_exec
  sl_step
  sl_unfold_words
  have p0 := got_p hf15 1 768 (by decide) inb_S2x1024x1024_S1x1024x128_1_0_768
  have s1 := got_s hf14 1 896 (by decide) inb_S2x1024x1024_S1x1024x128_1_0_896
  have p1 := got_p hf15 1 896 (by decide) inb_S2x1024x1024_S1x1024x128_1_0_896
  have t0 : ∀ r k : Fin 1024, arg16.view.readAt (Elt Ideal) (Rect.unit (s := S2x1024x1024) ![0, 0, 0] S1x1024x1024.size inb_S2x1024x1024_S1x1024x1024_0_0_0).toLoadRect f16 (ix3 0 r k) = Pv x0 x1 x4 (ix3 0 r k) := read_tile arg16 hY16 0 (by decide) inb_S2x1024x1024_S1x1024x1024_0_0_0
  rw [acc_of (pay82_apply _ _ _) (pay14_apply x3) t0 (read_acc arg13 hf13)]
  iapply Hk
  isplitr [H13]
  · iapply (mid_of c (N := 2048) (M := 2048) hf14 hf15 (upto_two hY16 1 768 (by decide) rfl (pb_val (by decide) hb) (p_val (by decide) (by decide) s1 h47))
      (upto_two hY17 1 768 (by decide) rfl (ds_half (by decide) (by decide) hp p0 h49) (ds_val (by decide) (by decide) s1 p1 h47 h49)))
    isplitl [H14]; · iexact H14
    isplitl [H15]; · iexact H15
    isplitl [H16]; · iexact H16
    iexact H17
  iapply (own_of c hf13); iexact H13

end Cert.GqaBwd

end
-- ==== Proof.GqaParts11.lean ====
module

public import proofs.«01_k».proof.Proof.GqaParts10

@[expose] public section

set_option maxRecDepth 16384

noncomputable section

namespace Cert.GqaBwd

open Cert.KernelGqaIdeal Cert.KernelGqaIdeal.Gen
open Cert.MlaBwd (wrap doM DPv Upto Stat ld_stat read_write_whole tile_val word_eq0 word_pos word_eq7 word_off row_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
variable {arg3 : Memref sig .tc .vmem S1024x128 .bf16} (harg3 : arg3.IsWhole) {arg4 : Memref sig .tc .vmem S1024x128 .bf16} (harg4 : arg4.IsWhole) {arg5 : Memref sig .tc .vmem S1024x128 .bf16} (harg5 : arg5.IsWhole) {arg6 : Memref sig .tc .vmem S1024x128 .bf16} (harg6 : arg6.IsWhole) {arg7 : Memref sig .tc .vmem S2x1024x128 .f32} (harg7 : arg7.IsWhole) {arg8 : Memref sig .tc .vmem S2x1024x128 .f32} (harg8 : arg8.IsWhole) {arg9 : Memref sig .tc .vmem S8192x128 .f32} (harg9 : arg9.IsWhole) {arg10 : Memref sig .tc .vmem S1x128x1024 .bf16} (harg10 : arg10.IsWhole) {arg11 : Memref sig .tc .vmem S1x128x1024 .bf16} (harg11 : arg11.IsWhole) {arg12 : Memref sig .tc .vmem S128x1024 .f32} (harg12 : arg12.IsWhole) {arg13 : Memref sig .tc .vmem S128x1024 .f32} (harg13 : arg13.IsWhole) {arg14 : Memref sig .tc .vmem S2x1024x1024 .f32} (harg14 : arg14.IsWhole) {arg15 : Memref sig .tc .vmem S2x1024x1024 .f32} (harg15 : arg15.IsWhole) {arg16 : Memref sig .tc .vmem S2x1024x1024 .bf16} (harg16 : arg16.IsWhole) {arg17 : Memref sig .tc .vmem S2x1024x1024 .bf16} (harg17 : arg17.IsWhole)
variable (x0 x1 x2 x3 : Vec Ideal S1024x128 .bf16) (x4 x5 : Vec Ideal S2x1024x128 .f32)

theorem pay86_apply (w : Vec Ideal S1024x128 .bf16) (y : Vec Ideal S128x1024 .f32) (p : Vec Ideal S1x1024x1024 .bf16)
    (d : Fin 128) (k : Fin 1024) :
    k0_pay86 (F := Ideal) w y p (ix2 d k) = y (ix2 d k) + ∑ r : Fin 1024, w (ix2 r d) * p (ix3 0 r k) := by
  pointwise [k0_pay86]

theorem pay87_apply (w : Vec Ideal S1024x128 .bf16) (p : Vec Ideal S1x1024x1024 .bf16) (y : Vec Ideal S128x1024 .f32)
    (d : Fin 128) (k : Fin 1024) :
    k0_pay87 (F := Ideal) w p y (ix2 d k) = y (ix2 d k) + ∑ r : Fin 1024, w (ix2 r d) * p (ix3 0 r k) := by
  pointwise [k0_pay87]

theorem pay9_apply (w : Vec Ideal S1024x128 .bf16) (r : Fin 1024) (d : Fin 128) : k0_pay9 (F := Ideal) w (ix2 r d) = w (ix2 r d) := by
  pointwise [k0_pay9]

theorem pay83_eq (v : Vec Ideal S128x1024 .f32) : k0_pay83 (F := Ideal) v = v := by
  funext j
  obtain ⟨d, k, rfl⟩ : ∃ (d : Fin 128) (k : Fin 1024), j = ix2 d k := ⟨j 0, j 1, eq_ix2 j⟩
  pointwise [k0_pay83]

set_option maxHeartbeats 800000 in
/-- Part 11 of the body: the other products of the tile, the keys' cotangent with the second head's contribution not yet stored. -/
theorem part11_run (v314 : FVec Ideal S128x1024 .f32) (y12 y13 : Vec Ideal S128x1024 .f32)
    (E : Set ℕ) (K : (Σ' (v328 : FVec Ideal S1024x128 .f32), FVec Ideal S128x1024 .f32) → sProp 𝕄) :
    iprop(Mid c x0 x1 x2 x3 x4 x5 arg14 arg15 arg16 arg17 2048 2048 ∗ owns (c : Thread nD τ) arg12 fullShare y12 ∗ owns (c : Thread nD τ) arg13 fullShare y13
      ∗ (∀ v328, iprop(⌜∀ r d, v328 (ix2 r d) = prodQ x0 x1 x2 x3 x4 x5 0 r d⌝ ∗ Mid c x0 x1 x2 x3 x4 x5 arg14 arg15 arg16 arg17 2048 2048 ∗ owns (c : Thread nD τ) arg12 fullShare (acc x0 (DSv x0 x1 x2 x3 x4 x5) 0 y12) ∗ owns (c : Thread nD τ) arg13 fullShare (acc x3 (Pv x0 x1 x4) 1 v314))
        -∗ K ⟨v328, acc x0 (DSv x0 x1 x2 x3 x4 x5) 1 (acc x0 (DSv x0 x1 x2 x3 x4 x5) 0 y12)⟩))
      ⊢ wp frame (wpE (defs₀ (F := Ideal)) Variants.none c none) E (k0_part11 i arg3 harg3 arg4 harg4 arg5 harg5 arg6 harg6 arg7 harg7 arg8 harg8 arg9 harg9 arg10 harg10 arg11 harg11 arg12 harg12 arg13 harg13 arg14 harg14 arg15 harg15 arg16 harg16 arg17 harg17 (k0_pay9 x1) (k0_pay13 x0) (k0_pay18 (k0_pay8 x0) cols k0_pay17) (k0_pay19 (k0_pay11 x3) k0_pay12) v314) K := by
  simp only [k0_part11_eq_skeleton]; unfold k0_part11_skel
  unfold Mid owns
  iintro ⟨⟨⟨%f14, %hf14, H14⟩, ⟨%f15, %hf15, H15⟩, ⟨%Y16, %hY16, ⟨%f16, %hf16, H16⟩⟩, ⟨%Y17, %hY17, ⟨%f17, %hf17, H17⟩⟩⟩, ⟨%f12, %hf12, H12⟩, ⟨%f13, %hf13, H13⟩, Hk⟩
  subst hf16 hf17
  sl_exec
  sl_step
  sl_unfold_words
  have t0 : ∀ r k : Fin 1024, arg17.view.readAt (Elt Ideal) (Rect.unit (s := S2x1024x1024) ![0, 0, 0] S1x1024x1024.size inb_S2x1024x1024_S1x1024x1024_0_0_0).toLoadRect f17 (ix3 0 r k) = DSv x0 x1 x2 x3 x4 x5 (ix3 0 r k) := read_tile arg17 hY17 0 (by decide) inb_S2x1024x1024_S1x1024x1024_0_0_0
  have t1 : ∀ r k : Fin 1024, arg17.view.readAt (Elt Ideal) (Rect.unit (s := S2x1024x1024) ![1, 0, 0] S1x1024x1024.size inb_S2x1024x1024_S1x1024x1024_1_0_0).toLoadRect f17 (ix3 0 r k) = DSv x0 x1 x2 x3 x4 x5 (ix3 1 r k) := read_tile arg17 hY17 1 (by decide) inb_S2x1024x1024_S1x1024x1024_1_0_0
  have t2 : ∀ r k : Fin 1024, arg16.view.readAt (Elt Ideal) (Rect.unit (s := S2x1024x1024) ![1, 0, 0] S1x1024x1024.size inb_S2x1024x1024_S1x1024x1024_1_0_0).toLoadRect f16 (ix3 0 r k) = Pv x0 x1 x4 (ix3 1 r k) := read_tile arg16 hY16 1 (by decide) inb_S2x1024x1024_S1x1024x1024_1_0_0
  have e0 : k0_pay84 (k0_pay13 x0) (arg17.view.readAt (Elt Ideal) (Rect.unit (s := S2x1024x1024) ![0, 0, 0] S1x1024x1024.size inb_S2x1024x1024_S1x1024x1024_0_0_0).toLoadRect f17)
      (arg12.view.readAt (Elt Ideal) (Rect.unit (s := S128x1024) ![0, 0] S128x1024.size inb_S128x1024_S128x1024_0_0).toLoadRect f12) = acc x0 (DSv x0 x1 x2 x3 x4 x5) 0 y12 :=
    acc_of (pay84_apply _ _ _) (pay13_apply x0) t0 (read_acc arg12 hf12)
  rw [e0, View.readCov_unit_zero _ Cert.MlaBwd.off2, View.readCov_unit_zero _ Cert.MlaBwd.off2]
  have e1 : ∀ y, k0_pay87 (F := Ideal) (k0_pay18 (k0_pay8 x0) cols k0_pay17) (arg17.view.readAt (Elt Ideal) (Rect.unit (s := S2x1024x1024) ![1, 0, 0] S1x1024x1024.size inb_S2x1024x1024_S1x1024x1024_1_0_0).toLoadRect f17) y
      = acc x0 (DSv x0 x1 x2 x3 x4 x5) 1 y := fun y => acc_of (pay87_apply _ _ _) (pay18_apply x0) t1 rfl
  have e2 : ∀ y, k0_pay86 (F := Ideal) (k0_pay19 (k0_pay11 x3) k0_pay12) y (arg16.view.readAt (Elt Ideal) (Rect.unit (s := S2x1024x1024) ![1, 0, 0] S1x1024x1024.size inb_S2x1024x1024_S1x1024x1024_1_0_0).toLoadRect f16)
      = acc x3 (Pv x0 x1 x4) 1 y := fun y => acc_of (pay86_apply _ _ _) (pay19_apply x3) t2 rfl
  rw [e1, e2, pay83_eq]
  iapply Hk
  isplitr
  · ipureintro; intro r d; rw [pay85_apply]; exact Finset.sum_congr rfl fun k _ => by rw [t0, pay9_apply]
  isplitr [H12 H13]
  · iapply (mid_of c (N := 2048) (M := 2048) hf14 hf15 hY16 hY17)
    isplitl [H14]; · iexact H14
    isplitl [H15]; · iexact H15
    isplitl [H16]; · iexact H16
    iexact H17
  isplitl [H12]
  · iapply (own_of c (read_write_whole _ _ Cert.MlaBwd.off2 _ _ _)); iexact H12
  · iapply (own_of c (read_write_whole _ _ Cert.MlaBwd.off2 _ _ _)); iexact H13

end Cert.GqaBwd

end
-- ==== Proof.GqaBody.lean ====
module

public import proofs.«01_k».proof.Proof.GqaParts11

@[expose] public section

set_option maxRecDepth 16384

noncomputable section

namespace Cert.GqaBwd

open Cert.KernelGqaIdeal Cert.KernelGqaIdeal.Gen
open Cert.MlaBwd (wrap doM DPv Upto Stat ld_stat read_write_whole tile_val word_eq0 word_pos word_eq7 word_off row_lt)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (c : Dev nD) (i : grid0.Coords)
variable {arg3 : Memref sig .tc .vmem S1024x128 .bf16} (harg3 : arg3.IsWhole) {arg4 : Memref sig .tc .vmem S1024x128 .bf16} (harg4 : arg4.IsWhole) {arg5 : Memref sig .tc .vmem S1024x128 .bf16} (harg5 : arg5.IsWhole) {arg6 : Memref sig .tc .vmem S1024x128 .bf16} (harg6 : arg6.IsWhole) {arg7 : Memref sig .tc .vmem S2x1024x128 .f32} (harg7 : arg7.IsWhole) {arg8 : Memref sig .tc .vmem S2x1024x128 .f32} (harg8 : arg8.IsWhole) {arg9 : Memref sig .tc .vmem S8192x128 .f32} (harg9 : arg9.IsWhole) {arg10 : Memref sig .tc .vmem S1x128x1024 .bf16} (harg10 : arg10.IsWhole) {arg11 : Memref sig .tc .vmem S1x128x1024 .bf16} (harg11 : arg11.IsWhole) {arg12 : Memref sig .tc .vmem S128x1024 .f32} (harg12 : arg12.IsWhole) {arg13 : Memref sig .tc .vmem S128x1024 .f32} (harg13 : arg13.IsWhole) {arg14 : Memref sig .tc .vmem S2x1024x1024 .f32} (harg14 : arg14.IsWhole) {arg15 : Memref sig .tc .vmem S2x1024x1024 .f32} (harg15 : arg15.IsWhole) {arg16 : Memref sig .tc .vmem S2x1024x1024 .bf16} (harg16 : arg16.IsWhole) {arg17 : Memref sig .tc .vmem S2x1024x1024 .bf16} (harg17 : arg17.IsWhole)
variable (x0 x1 x2 x3 : Vec Ideal S1024x128 .bf16) (x4 x5 : Vec Ideal S2x1024x128 .f32)

/-- The accumulator of the keys' cotangent after the tile at a point. -/
def next12 (y : Vec Ideal S128x1024 .f32) : Vec Ideal S128x1024 .f32 := acc x0 (DSv x0 x1 x2 x3 x4 x5) 1 (acc x0 (DSv x0 x1 x2 x3 x4 x5) 0 (start i y))

/-- The accumulator of the values' cotangent after the tile at a point. -/
def next13 (y : Vec Ideal S128x1024 .f32) : Vec Ideal S128x1024 .f32 := acc x3 (Pv x0 x1 x4) 1 (acc x3 (Pv x0 x1 x4) 0 (start i y))

/-- The tile's contribution to the cotangent of the queries: each column is of one of the two heads. -/
def tileQ (r : Fin 1024) (d : Fin 128) : Ideal .f32 := prodQ x0 x1 x2 x3 x4 x5 ⟨d.val / 64, by omega⟩ r d

/-- The cotangent of the queries of a pair of heads after the tile at a point: the rows of the point's block of queries are
    the tile's contribution, added to what is there unless the block of keys is the first. -/
def next9 (y : Vec Ideal S8192x128 .f32) : Vec Ideal S8192x128 .f32 := fun j =>
  if (j 0).val / 1024 = (i 2).val then
    (if (i 1).val = 0 then 0 else y j) + tileQ x0 x1 x2 x3 x4 x5 ⟨(j 0).val % 1024, Nat.mod_lt _ (by decide)⟩ (j 1)
  else y j

/-- An accumulator as it is written out, with a unit axis. -/
def up (y : Vec Ideal S128x1024 .f32) : Vec Ideal S1x128x1024 .bf16 := fun j => y (ix2 (j 1) (j 2))

theorem cond2_iff : k0_cond2 i = 1#1 ↔ (i 1).val = 0 := word_eq0 (i 1)
theorem cond3_iff : k0_cond3 i = 1#1 ↔ (i 1).val ≠ 0 := word_pos (i 1)
theorem cond4_iff : k0_cond4 i = 1#1 ↔ (i 2).val = 7 := word_eq7 (i 2)
theorem off1_eq : k0_off1 i = ![1024 * (i 2).val, 0] := congrArg (![·, 0]) (word_off (i 2))
theorem off2_eq : k0_off2 i = ![1024 * (i 2).val, 0] := congrArg (![·, 0]) (word_off (i 2))

theorem pay2_apply {v328 : FVec Ideal S1024x128 .f32} {p : Vec Ideal S1x1024x1024 .bf16} (hq : ∀ r d, v328 (ix2 r d) = prodQ x0 x1 x2 x3 x4 x5 0 r d)
    (hp : ∀ r k : Fin 1024, p (ix3 0 r k) = DSv x0 x1 x2 x3 x4 x5 (ix3 1 r k)) (r : Fin 1024) (d : Fin 128) :
    k0_pay2 (F := Ideal) (k0_pay9 x1) k0_pay12 v328 p (ix2 r d) = tileQ x0 x1 x2 x3 x4 x5 r d := by
  pointwise [k0_pay2, k0_pay12, k0_pay9]
  rw [Cert.MlaBwd.lo_word]
  have hd : d.val < 128 := d.isLt
  unfold tileQ
  by_cases h : d.val / 64 = 0
  · rw [if_pos h, show (⟨d.val / 64, by omega⟩ : Fin 2) = 0 from Fin.ext h]; exact hq r d
  · rw [if_neg h, show (⟨d.val / 64, by omega⟩ : Fin 2) = 1 from Fin.ext (by show d.val / 64 = 1; omega)]
    change ∑ k : Fin 1024, p (ix3 0 r k) * x1 (ix2 k d) = ∑ k : Fin 1024, DSv x0 x1 x2 x3 x4 x5 (ix3 1 r k) * x1 (ix2 k d)
    simp only [hp]

theorem pay3_apply (a : FVec Ideal S1024x128 .bf16) (b : IVec S1024x128 1) (v : FVec Ideal S1024x128 .f32) (p : Vec Ideal S1x1024x1024 .bf16)
    (w : Vec Ideal S1024x128 .f32) (r : Fin 1024) (d : Fin 128) :
    k0_pay3 (F := Ideal) a b v p w (ix2 r d) = w (ix2 r d) + k0_pay2 (F := Ideal) a b v p (ix2 r d) := by
  pointwise [k0_pay3]

theorem pay3_val {a : FVec Ideal S1024x128 .bf16} {b : IVec S1024x128 1} {v : FVec Ideal S1024x128 .f32} {p : Vec Ideal S1x1024x1024 .bf16}
    {w : Vec Ideal S1024x128 .f32} {r : Fin 1024} {d : Fin 128} {y z : Ideal .f32} (hw : w (ix2 r d) = y) (hz : k0_pay2 (F := Ideal) a b v p (ix2 r d) = z) :
    k0_pay3 (F := Ideal) a b v p w (ix2 r d) = y + z := by
  rw [pay3_apply, hw, hz]

theorem pay1_eq (v : Vec Ideal S128x1024 .f32) : k0_pay1 (F := Ideal) v = v := by
  funext j
  obtain ⟨d, k, rfl⟩ : ∃ (d : Fin 128) (k : Fin 1024), j = ix2 d k := ⟨j 0, j 1, eq_ix2 j⟩
  pointwise [k0_pay1]

theorem pay5_eq (v : Vec Ideal S128x1024 .f32) : k0_pay5 (F := Ideal) v = up v := by
  funext j
  obtain ⟨a, d, k, rfl⟩ : ∃ (a : Fin 1) (d : Fin 128) (k : Fin 1024), j = ix3 a d k := ⟨j 0, j 1, j 2, eq_ix3 j⟩
  pointwise [k0_pay5, up]

theorem pay4_eq (v : Vec Ideal S128x1024 .f32) : k0_pay4 (F := Ideal) v = up v := by
  funext j
  obtain ⟨a, d, k, rfl⟩ : ∃ (a : Fin 1) (d : Fin 128) (k : Fin 1024), j = ix3 a d k := ⟨j 0, j 1, j 2, eq_ix3 j⟩
  pointwise [k0_pay4, up]

section Rows
variable {κ : Kind} {sp : Space} (v : View sig κ sp S8192x128 .f32) (f : v.ty.Contents (Elt Ideal)) (qb : Fin 8)

theorem rows_emb {off : Fin 2 → ℕ} (ho : off = ![1024 * qb.val, 0])
    (inb : ∀ a, off a + S1024x128.size a ≤ S8192x128.size a) (r : Fin 1024) (d : Fin 128) :
    (Rect.unit (s := S8192x128) off S1024x128.size inb).emb (ix2 r d) = ix2 ⟨1024 * qb.val + r.val, row_lt qb r⟩ d := by
  subst ho; funext a; refine Fin.ext ?_
  fin_cases a
  · show 1024 * qb.val + 1 * r.val = _; simp
  · show 0 + 1 * d.val = d.val; omega

theorem rows_mem {off : Fin 2 → ℕ} (ho : off = ![1024 * qb.val, 0])
    (inb : ∀ a, off a + S1024x128.size a ≤ S8192x128.size a) (j : S8192x128.Idx) (hj : j ∈ (Rect.unit (s := S8192x128) off S1024x128.size inb).set) :
    (j 0).val / 1024 = qb.val := by
  subst ho; rw [Rect.mem_set_unit] at hj
  have h0 := hj 0
  change 1024 * qb.val ≤ (j 0).val ∧ (j 0).val < 1024 * qb.val + 1024 at h0
  omega

/-- One block of rows, written. -/
theorem rows_one {off : Fin 2 → ℕ} (ho : off = ![1024 * qb.val, 0]) (inb : ∀ a, off a + S1024x128.size a ≤ S8192x128.size a)
    (w : Vec Ideal S1024x128 .f32) (G : Vec Ideal S8192x128 .f32)
    (g0 : ∀ (r : Fin 1024) (d : Fin 128), w (ix2 r d) = G (ix2 ⟨1024 * qb.val + r.val, row_lt qb r⟩ d))
    (g : ∀ j, (j 0).val / 1024 ≠ qb.val → v.read (Elt Ideal) f j = G j) :
    v.read (Elt Ideal) (v.writes (Elt Ideal) f [⟨Rect.unit (s := S8192x128) off S1024x128.size inb, w⟩]) = G := by
  have e0 := rows_emb qb ho inb
  funext j
  obtain ⟨p, d, rfl⟩ : ∃ (p : Fin 8192) (d : Fin 128), j = ix2 p d := ⟨j 0, j 1, eq_ix2 j⟩
  by_cases hp : p.val / 1024 = qb.val
  · have hex : ∃ r : Fin 1024, p.val = 1024 * qb.val + r.val := ⟨⟨p.val % 1024, Nat.mod_lt _ (by decide)⟩, by show p.val = 1024 * qb.val + p.val % 1024; omega⟩
    obtain ⟨r, hr⟩ := hex
    obtain rfl : p = ⟨1024 * qb.val + r.val, row_lt qb r⟩ := Fin.ext hr
    rw [← e0 r d, View.read_writes_cons_emb, e0, g0]
  · rw [View.writes_cons, View.read_slice_write_of_not_mem _ _ _ _ (by
        rw [Rect.map_emb_univ]; exact fun h => hp (rows_mem qb ho inb _ h))]
    exact g _ hp

/-- One block of rows, loaded. -/
theorem rows_ld {off : Fin 2 → ℕ} (ho : off = ![1024 * qb.val, 0])
    (inb : ∀ a, off a + S1024x128.size a ≤ S8192x128.size a) (r : Fin 1024) (d : Fin 128) :
    v.readAt (Elt Ideal) (Rect.unit (s := S8192x128) off S1024x128.size inb).toLoadRect f (ix2 r d)
      = v.read (Elt Ideal) f (ix2 ⟨1024 * qb.val + r.val, row_lt qb r⟩ d) :=
  congrArg (v.read (Elt Ideal) f) (rows_emb qb ho inb r d)
end Rows

theorem next9_in (y : Vec Ideal S8192x128 .f32) (r : Fin 1024) (d : Fin 128) :
    next9 i x0 x1 x2 x3 x4 x5 y (ix2 ⟨1024 * (i 2).val + r.val, row_lt (i 2) r⟩ d)
      = (if (i 1).val = 0 then 0 else y (ix2 ⟨1024 * (i 2).val + r.val, row_lt (i 2) r⟩ d)) + tileQ x0 x1 x2 x3 x4 x5 r d := by
  have hc : (1024 * (i 2).val + r.val) / 1024 = (i 2).val := by omega
  unfold next9
  refine (if_pos hc).trans ?_
  have e2 : (⟨(1024 * (i 2).val + r.val) % 1024, Nat.mod_lt _ (by decide)⟩ : Fin 1024) = r := Fin.ext (by show (1024 * (i 2).val + r.val) % 1024 = r.val; omega)
  exact congrArg (fun z => _ + tileQ x0 x1 x2 x3 x4 x5 z d) e2

theorem next9_out (y : Vec Ideal S8192x128 .f32) (j : S8192x128.Idx) (hj : (j 0).val / 1024 ≠ (i 2).val) :
    next9 i x0 x1 x2 x3 x4 x5 y j = y j := if_neg hj

theorem off3 : (![0, 0, 0] : Fin 3 → ℕ) = fun _ => 0 := by funext a; fin_cases a <;> rfl

/-- An accumulator read back after a write of the whole. -/
theorem read_back (M : Memref sig .tc .vmem S128x1024 .f32) {w y : Vec Ideal S128x1024 .f32} (h : w = y) :
    M.view.readCov (Val := Elt Ideal) [(⟨Rect.unit (s := S128x1024) ![0, 0] S128x1024.size inb_S128x1024_S128x1024_0_0, w⟩ : View.Piece (Elt Ideal) S128x1024 .f32)]
      (Rect.unit (s := S128x1024) ![0, 0] S128x1024.size inb_S128x1024_S128x1024_0_0).toLoadRect = y :=
  (View.readCov_unit_zero _ Cert.MlaBwd.off2 _ _).trans h

/-- What is written out of an accumulator. -/
theorem out_val (M : Memref sig .tc .vmem S1x128x1024 .bf16) (f : M.view.ty.Contents (Elt Ideal)) {w : Vec Ideal S1x128x1024 .bf16} {y y' : Vec Ideal S128x1024 .f32}
    (hw : w = up y) (hy : y = y') :
    M.view.read (Elt Ideal) (M.view.writes (Elt Ideal) f [⟨Rect.unit (s := S1x128x1024) ![0, 0, 0] S1x128x1024.size inb_S1x128x1024_S1x128x1024_0_0_0, w⟩]) = up y' := by
  rw [read_write_whole _ _ off3, hw, hy]

set_option maxHeartbeats 8000000 in
/-- The kernel body at a grid point: from any contents of the outputs and of the scratch buffers, the windows of inputs at
    `x0` to `x5`, it adds the point's tile to the three accumulations, and at the last block of query rows writes the two
    key-side accumulators out. -/
theorem body_run (y9 : Vec Ideal S8192x128 .f32) (y10 y11 : Vec Ideal S1x128x1024 .bf16)
    (y12 y13 : Vec Ideal S128x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y9 ∗ owns (c : Thread nD τ) arg10 fullShare y10 ∗ owns (c : Thread nD τ) arg11 fullShare y11 ∗ owns (c : Thread nD τ) arg12 fullShare y12 ∗ owns (c : Thread nD τ) arg13 fullShare y13
        ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
      ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (next9 i x0 x1 x2 x3 x4 x5 y9)
          ∗ owns (c : Thread nD τ) arg10 fullShare (if (i 2).val = 7 then up (next12 i x0 x1 x2 x3 x4 x5 y12) else y10) ∗ owns (c : Thread nD τ) arg11 fullShare (if (i 2).val = 7 then up (next13 i x0 x1 x3 x4 y13) else y11)
          ∗ owns (c : Thread nD τ) arg12 fullShare (next12 i x0 x1 x2 x3 x4 x5 y12) ∗ owns (c : Thread nD τ) arg13 fullShare (next13 i x0 x1 x3 x4 y13)
          ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))
        -∗ K ⟨⟩))
      ⊢ wp frame (wpE (defs₀ (F := Ideal)) Variants.none c none) E (cc0_gqa_bwd (F := Ideal) i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_gqa_bwd_eq_skeleton]; unfold cc0_gqa_bwd_skel
  iintro ⟨H3, H4, H5, H6, H7, H8, H9, H10, H11, H12, H13, H14, H15, H16, H17, Hk⟩
  rw [wp_bind]
  iapply (part1_run c i harg3 harg4 harg5 harg6 harg7 harg8 harg9 harg10 harg11 harg12 harg13 harg14 harg15 harg16 harg17 x0 x1 x2 x3 y12 y13)
  isplitl [H3]; · iexact H3
  isplitl [H4]; · iexact H4
  isplitl [H5]; · iexact H5
  isplitl [H6]; · iexact H6
  isplitl [H12]; · iexact H12
  isplitl [H13]; · iexact H13
  isplitl [H14]; · iexact H14
  isplitl [H15]; · iexact H15
  iintro ⟨H3, H4, H5, H6, H12, H13, H14, H15⟩
  (try dsimp only)
  rw [wp_bind]
  iapply (part2_run c i harg3 harg4 harg5 harg6 harg7 harg8 harg9 harg10 harg11 harg12 harg13 harg14 harg15 harg16 harg17 x0 x1 x2 x3 x4 x5)
  isplitl [H7]; · iexact H7
  isplitl [H8]; · iexact H8
  isplitl [H14]; · iexact H14
  isplitl [H15]; · iexact H15
  isplitl [H16]; · iexact H16
  isplitl [H17]; · iexact H17
  iintro %v47 %v49 %p2 %d2 ⟨%h2, H7, H8, HM⟩
  (try dsimp only)
  rw [wp_bind]
  iapply (part3_run c i harg3 harg4 harg5 harg6 harg7 harg8 harg9 harg10 harg11 harg12 harg13 harg14 harg15 harg16 harg17 x0 x1 x2 x3 x4 x5 v47 v49 p2 d2 h2.1 h2.2.1 h2.2.2.1 h2.2.2.2)
  isplitl [HM]; · iexact HM
  iintro %p3 %d3 ⟨%h3, HM⟩
  (try dsimp only)
  rw [wp_bind]
  iapply (part4_run c i harg3 harg4 harg5 harg6 harg7 harg8 harg9 harg10 harg11 harg12 harg13 harg14 harg15 harg16 harg17 x0 x1 x2 x3 x4 x5 v47 v49 p3 d3 h2.1 h2.2.1 h3.1 h3.2)
  isplitl [HM]; · iexact HM
  iintro %p4 %d4 ⟨%h4, HM⟩
  (try dsimp only)
  rw [wp_bind]
  iapply (part5_run c i harg3 harg4 harg5 harg6 harg7 harg8 harg9 harg10 harg11 harg12 harg13 harg14 harg15 harg16 harg17 x0 x1 x2 x3 x4 x5 v47 v49 p4 d4 h2.1 h2.2.1 h4.1 h4.2)
  isplitl [HM]; · iexact HM
  iintro %p5 %d5 ⟨%h5, HM⟩
  (try dsimp only)
  rw [wp_bind]
  iapply (part6_run c i harg3 harg4 harg5 harg6 harg7 harg8 harg9 harg10 harg11 harg12 harg13 harg14 harg15 harg16 harg17 x0 x1 x2 x3 x4 x5 v47 v49 p5 d5 h2.1 h2.2.1 h5.1 h5.2)
  isplitl [H7]; · iexact H7
  isplitl [H8]; · iexact H8
  isplitl [HM]; · iexact HM
  iintro %v179 %v181 %p6 %d6 ⟨%h6, H7, H8, HM⟩
  (try dsimp only)
  rw [wp_bind]
  iapply (part7_run c i harg3 harg4 harg5 harg6 harg7 harg8 harg9 harg10 harg11 harg12 harg13 harg14 harg15 harg16 harg17 x0 x1 x2 x3 x4 x5 v179 v181 p6 d6 h6.1 h6.2.1 h6.2.2.1 h6.2.2.2)
  isplitl [HM]; · iexact HM
  iintro %p7 %d7 ⟨%h7, HM⟩
  (try dsimp only)
  rw [wp_bind]
  iapply (part8_run c i harg3 harg4 harg5 harg6 harg7 harg8 harg9 harg10 harg11 harg12 harg13 harg14 harg15 harg16 harg17 x0 x1 x2 x3 x4 x5 v179 v181 p7 d7 h6.1 h6.2.1 h7.1 h7.2)
  isplitl [HM]; · iexact HM
  iintro %p8 %d8 ⟨%h8, HM⟩
  (try dsimp only)
  rw [wp_bind]
  iapply (part9_run c i harg3 harg4 harg5 harg6 harg7 harg8 harg9 harg10 harg11 harg12 harg13 harg14 harg15 harg16 harg17 x0 x1 x2 x3 x4 x5 v179 v181 p8 d8 h6.1 h6.2.1 h8.1 h8.2)
  isplitl [HM]; · iexact HM
  iintro %p9 %d9 ⟨%h9, HM⟩
  (try dsimp only)
  rw [wp_bind]
  iapply (part10_run c i harg3 harg4 harg5 harg6 harg7 harg8 harg9 harg10 harg11 harg12 harg13 harg14 harg15 harg16 harg17 x0 x1 x2 x3 x4 x5 v179 v181 p9 d9 h6.1 h6.2.1 h9.1 h9.2 (start i y13))
  isplitl [HM]; · iexact HM
  isplitl [H13]; · iexact H13
  iintro ⟨HM, H13⟩
  (try dsimp only)
  rw [wp_bind]
  iapply (part11_run c i harg3 harg4 harg5 harg6 harg7 harg8 harg9 harg10 harg11 harg12 harg13 harg14 harg15 harg16 harg17 x0 x1 x2 x3 x4 x5 (acc x3 (Pv x0 x1 x4) 0 (start i y13)) (start i y12) (start i y13))
  isplitl [HM]; · iexact HM
  isplitl [H12]; · iexact H12
  isplitl [H13]; · iexact H13
  iintro %v328 ⟨%hq, HM, H12, H13⟩
  (try dsimp only)
  rw [show acc x3 (Pv x0 x1 x4) 1 (acc x3 (Pv x0 x1 x4) 0 (start i y13)) = next13 i x0 x1 x3 x4 y13 from rfl, show acc x0 (DSv x0 x1 x2 x3 x4 x5) 1 (acc x0 (DSv x0 x1 x2 x3 x4 x5) 0 (start i y12)) = next12 i x0 x1 x2 x3 x4 x5 y12 from rfl]
  unfold Mid owns
  icases HM with ⟨H14, H15, ⟨%Y16, -, H16⟩, ⟨%Y17, %hY17, ⟨%f17, %hf17, H17⟩⟩⟩
  subst hf17
  icases H9 with ⟨%f9, %hf9, H9⟩
  icases H10 with ⟨%f10, %hf10, H10⟩
  icases H11 with ⟨%f11, %hf11, H11⟩
  icases H12 with ⟨%f12, %hf12, H12⟩
  icases H13 with ⟨%f13, %hf13, H13⟩
  have hp := read_tile arg17 hY17 1 (by decide) inb_S2x1024x1024_S1x1024x1024_1_0_0
  have tq := pay2_apply x0 x1 x2 x3 x4 x5 hq hp
  have g := fun j hj => (congrFun hf9 j).trans (next9_out i x0 x1 x2 x3 x4 x5 y9 j hj).symm
  by_cases hk : (i 1).val = 0
  · by_cases h7 : (i 2).val = 7
    · simp only [dif_pos ((cond2_iff i).mpr hk), dif_neg (fun h => (cond3_iff i).mp h hk), dif_pos ((cond4_iff i).mpr h7), if_pos h7]
      sl_exec
      sl_step
      sl_unfold_words
      iapply Hk
      isplitl [H3]; · iexact H3
      isplitl [H4]; · iexact H4
      isplitl [H5]; · iexact H5
      isplitl [H6]; · iexact H6
      isplitl [H7]; · iexact H7
      isplitl [H8]; · iexact H8
      isplitl [H9]; · iapply (own_of c (rows_one arg9.view f9 (i 2) (off1_eq i) _ _ _ (fun r d => (tq r d).trans (((next9_in i x0 x1 x2 x3 x4 x5 y9 r d).trans (by rw [if_pos hk, zero_add])).symm)) g)); iexact H9
      isplitl [H10]; · iapply (own_of c (out_val arg10 f10 (pay4_eq _) (read_back arg12 (pay1_eq _)))); iexact H10
      isplitl [H11]; · iapply (own_of c (out_val arg11 f11 (pay5_eq _) (read_acc arg13 hf13))); iexact H11
      isplitl [H12]; · iapply (own_of c ((read_write_whole _ _ Cert.MlaBwd.off2 _ _ _).trans (pay1_eq _))); iexact H12
      isplitl [H13]; · iapply (own_of c hf13); iexact H13
      isplitl [H14]; · iexists _; iexact H14
      isplitl [H15]; · iexists _; iexact H15
      isplitl [H16]; · iexists _; iexact H16
      iexists _; iapply (own_of c rfl); iexact H17
    · simp only [dif_pos ((cond2_iff i).mpr hk), dif_neg (fun h => (cond3_iff i).mp h hk), dif_neg (fun h => h7 ((cond4_iff i).mp h)), if_neg h7]
      sl_exec
      sl_step
      sl_unfold_words
      iapply Hk
      isplitl [H3]; · iexact H3
      isplitl [H4]; · iexact H4
      isplitl [H5]; · iexact H5
      isplitl [H6]; · iexact H6
      isplitl [H7]; · iexact H7
      isplitl [H8]; · iexact H8
      isplitl [H9]; · iapply (own_of c (rows_one arg9.view f9 (i 2) (off1_eq i) _ _ _ (fun r d => (tq r d).trans (((next9_in i x0 x1 x2 x3 x4 x5 y9 r d).trans (by rw [if_pos hk, zero_add])).symm)) g)); iexact H9
      isplitl [H10]; · iapply (own_of c hf10); iexact H10
      isplitl [H11]; · iapply (own_of c hf11); iexact H11
      isplitl [H12]; · iapply (own_of c ((read_write_whole _ _ Cert.MlaBwd.off2 _ _ _).trans (pay1_eq _))); iexact H12
      isplitl [H13]; · iapply (own_of c hf13); iexact H13
      isplitl [H14]; · iexists _; iexact H14
      isplitl [H15]; · iexists _; iexact H15
      isplitl [H16]; · iexists _; iexact H16
      iexists _; iapply (own_of c rfl); iexact H17
  · by_cases h7 : (i 2).val = 7
    · simp only [dif_neg (fun h => hk ((cond2_iff i).mp h)), dif_pos ((cond3_iff i).mpr hk), dif_pos ((cond4_iff i).mpr h7), if_pos h7]
      sl_exec
      sl_step
      sl_unfold_words
      iapply Hk
      isplitl [H3]; · iexact H3
      isplitl [H4]; · iexact H4
      isplitl [H5]; · iexact H5
      isplitl [H6]; · iexact H6
      isplitl [H7]; · iexact H7
      isplitl [H8]; · iexact H8
      isplitl [H9]; · iapply (own_of c (rows_one arg9.view f9 (i 2) (off2_eq i) _ _ _ (fun r d => (pay3_val ((rows_ld arg9.view f9 (i 2) (off2_eq i) _ r d).trans (congrFun hf9 _)) (tq r d)).trans (((next9_in i x0 x1 x2 x3 x4 x5 y9 r d).trans (by rw [if_neg hk])).symm)) g)); iexact H9
      isplitl [H10]; · iapply (own_of c (out_val arg10 f10 (pay4_eq _) (read_back arg12 (pay1_eq _)))); iexact H10
      isplitl [H11]; · iapply (own_of c (out_val arg11 f11 (pay5_eq _) (read_acc arg13 hf13))); iexact H11
      isplitl [H12]; · iapply (own_of c ((read_write_whole _ _ Cert.MlaBwd.off2 _ _ _).trans (pay1_eq _))); iexact H12
      isplitl [H13]; · iapply (own_of c hf13); iexact H13
      isplitl [H14]; · iexists _; iexact H14
      isplitl [H15]; · iexists _; iexact H15
      isplitl [H16]; · iexists _; iexact H16
      iexists _; iapply (own_of c rfl); iexact H17
    · simp only [dif_neg (fun h => hk ((cond2_iff i).mp h)), dif_pos ((cond3_iff i).mpr hk), dif_neg (fun h => h7 ((cond4_iff i).mp h)), if_neg h7]
      sl_exec
      sl_step
      sl_unfold_words
      iapply Hk
      isplitl [H3]; · iexact H3
      isplitl [H4]; · iexact H4
      isplitl [H5]; · iexact H5
      isplitl [H6]; · iexact H6
      isplitl [H7]; · iexact H7
      isplitl [H8]; · iexact H8
      isplitl [H9]; · iapply (own_of c (rows_one arg9.view f9 (i 2) (off2_eq i) _ _ _ (fun r d => (pay3_val ((rows_ld arg9.view f9 (i 2) (off2_eq i) _ r d).trans (congrFun hf9 _)) (tq r d)).trans (((next9_in i x0 x1 x2 x3 x4 x5 y9 r d).trans (by rw [if_neg hk])).symm)) g)); iexact H9
      isplitl [H10]; · iapply (own_of c hf10); iexact H10
      isplitl [H11]; · iapply (own_of c hf11); iexact H11
      isplitl [H12]; · iapply (own_of c ((read_write_whole _ _ Cert.MlaBwd.off2 _ _ _).trans (pay1_eq _))); iexact H12
      isplitl [H13]; · iapply (own_of c hf13); iexact H13
      isplitl [H14]; · iexists _; iexact H14
      isplitl [H15]; · iexists _; iexact H15
      isplitl [H16]; · iexists _; iexact H16
      iexists _; iapply (own_of c rfl); iexact H17

end Cert.GqaBwd

end
-- ==== Proof.GqaObl.lean ====
module

public import proofs.«01_k».proof.Proof.GqaBody
public import proofs.«01_k».proof.Proof.Gen.KernelGqaIdeal.Frame
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.GqaBwd

open Cert.KernelGqaIdeal Cert.KernelGqaIdeal.Gen
open Cert.MlaBwd (doM)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The block of input 0 at a point. -/
abbrev X0 (c : Dev nD) (t : Fin cfg0.N) : Vec Ideal S1024x128 .bf16 := iblk m c 0 t
/-- The block of input 1 at a point. -/
abbrev X1 (c : Dev nD) (t : Fin cfg0.N) : Vec Ideal S1024x128 .bf16 := iblk m c 1 t
/-- The block of input 2 at a point. -/
abbrev X2 (c : Dev nD) (t : Fin cfg0.N) : Vec Ideal S1024x128 .bf16 := iblk m c 2 t
/-- The block of input 3 at a point. -/
abbrev X3 (c : Dev nD) (t : Fin cfg0.N) : Vec Ideal S1024x128 .bf16 := iblk m c 3 t
/-- The block of input 4 at a point. -/
abbrev X4 (c : Dev nD) (t : Fin cfg0.N) : Vec Ideal S2x1024x128 .f32 := iblk m c 4 t
/-- The block of input 5 at a point. -/
abbrev X5 (c : Dev nD) (t : Fin cfg0.N) : Vec Ideal S2x1024x128 .f32 := iblk m c 5 t

/-- What the two heads' tiles of `P` add to an accumulator, against the columns of the block `x`. -/
def tileA (x : Vec Ideal S1024x128 .bf16) (P : Vec Ideal S2x1024x1024 .bf16) (j : S128x1024.Idx) : Ideal .f32 :=
  (∑ r : Fin 1024, doM x 0 (ix2 r (j 0)) * P (ix3 0 r (j 1))) + ∑ r : Fin 1024, doM x 1 (ix2 r (j 0)) * P (ix3 1 r (j 1))

/-- What the tile at the `n`-th point adds to the cotangent of the keys. -/
def cK (c : Dev nD) (n : ℕ) (j : S128x1024.Idx) : Ideal .f32 :=
  if h : n < cfg0.N then tileA (X0 m c ⟨n, h⟩) (DSv (X0 m c ⟨n, h⟩) (X1 m c ⟨n, h⟩) (X2 m c ⟨n, h⟩) (X3 m c ⟨n, h⟩) (X4 m c ⟨n, h⟩) (X5 m c ⟨n, h⟩)) j else 0

/-- What the tile at the `n`-th point adds to the cotangent of the values. -/
def cV (c : Dev nD) (n : ℕ) (j : S128x1024.Idx) : Ideal .f32 :=
  if h : n < cfg0.N then tileA (X3 m c ⟨n, h⟩) (Pv (X0 m c ⟨n, h⟩) (X1 m c ⟨n, h⟩) (X4 m c ⟨n, h⟩)) j else 0

/-- What the tile at the `n`-th point adds to the cotangent of its block of the queries. -/
def cQ (c : Dev nD) (n : ℕ) (j : S8192x128.Idx) : Ideal .f32 :=
  if h : n < cfg0.N then tileQ (X0 m c ⟨n, h⟩) (X1 m c ⟨n, h⟩) (X2 m c ⟨n, h⟩) (X3 m c ⟨n, h⟩) (X4 m c ⟨n, h⟩) (X5 m c ⟨n, h⟩) ⟨(j 0).val % 1024, Nat.mod_lt _ (by decide)⟩ (j 1) else 0

/-- An accumulator after the `n`-th point, when the `n`-th tile adds `f n`: the tiles of its block of keys so far. -/
def sumA (f : ℕ → S128x1024.Idx → Ideal .f32) (n : ℕ) (j : S128x1024.Idx) : Ideal .f32 := ∑ b ∈ Finset.range (n % 8 + 1), f (n / 8 * 8 + b) j

/-- What the queries' window holds after the `n`-th point: in a row of a block already reached in this round, the tiles of the
    rounds so far; in a later block's row, those of the rounds before, if there was one. -/
def RQ (c : Dev nD) (n : ℕ) (X : Vec Ideal S8192x128 .f32) : Prop :=
  ∀ j : S8192x128.Idx,
    ((j 0).val / 1024 ≤ n % 8 → X j = ∑ b ∈ Finset.range (n / 8 % 8 + 1), cQ m c (n / 64 * 64 + 8 * b + (j 0).val / 1024) j)
    ∧ (n % 8 < (j 0).val / 1024 → n / 8 % 8 ≠ 0 → X j = ∑ b ∈ Finset.range (n / 8 % 8), cQ m c (n / 64 * 64 + 8 * b + (j 0).val / 1024) j)

section Coords
variable (t : Fin cfg0.N)
theorem lt256 : t.val < 256 := lt_of_lt_of_eq t.isLt (show cfg0.N = 256 from N_0)
theorem co0 : (grid0.coords t 0).val = t.val / 64 := by
  have e : (grid0.coords t 0).val = t.val / 64 % 4 := Pipeline.Grid.coords_val t 0 (by decide) rfl
  have := lt256 t; omega
theorem co1 : (grid0.coords t 1).val = t.val / 8 % 8 := Pipeline.Grid.coords_val t 1 (by decide) rfl
theorem co2 : (grid0.coords t 2).val = t.val % 8 := by
  have e : (grid0.coords t 2).val = t.val / 1 % 8 := Pipeline.Grid.coords_val t 2 (by decide) rfl
  rw [e, Nat.div_one]
end Coords

theorem next_eq (f : ℕ → S128x1024.Idx → Ideal .f32) (t : Fin cfg0.N) (x : Vec Ideal S1024x128 .bf16) (P : Vec Ideal S2x1024x1024 .bf16)
    (hf : f t.val = tileA x P) (y : Vec Ideal S128x1024 .f32) (hy : t.val % 8 ≠ 0 → y = sumA f (t.val - 1)) :
    acc x P 1 (acc x P 0 (start (grid0.coords t) y)) = sumA f t.val := by
  funext j
  show (start (grid0.coords t) y j + _) + _ = _
  unfold sumA
  rw [Finset.sum_range_succ, show t.val / 8 * 8 + t.val % 8 = t.val by omega, hf, add_assoc]
  unfold tileA
  congr 1
  unfold start
  rw [co2]
  by_cases h : t.val % 8 = 0
  · rw [if_pos h, h]; rfl
  · rw [if_neg h, hy h]; unfold sumA
    rw [show (t.val - 1) % 8 + 1 = t.val % 8 by omega, show (t.val - 1) / 8 = t.val / 8 by omega]

theorem next12_eq (c : Dev nD) (t : Fin cfg0.N) (y : Vec Ideal S128x1024 .f32) (hy : t.val % 8 ≠ 0 → y = sumA (cK m c) (t.val - 1)) :
    next12 (grid0.coords t) (X0 m c t) (X1 m c t) (X2 m c t) (X3 m c t) (X4 m c t) (X5 m c t) y = sumA (cK m c) t.val :=
  next_eq (cK m c) t _ _ (funext fun _ => dif_pos t.isLt) y hy

theorem next13_eq (c : Dev nD) (t : Fin cfg0.N) (y : Vec Ideal S128x1024 .f32) (hy : t.val % 8 ≠ 0 → y = sumA (cV m c) (t.val - 1)) :
    next13 (grid0.coords t) (X0 m c t) (X1 m c t) (X3 m c t) (X4 m c t) y = sumA (cV m c) t.val :=
  next_eq (cV m c) t _ _ (funext fun _ => dif_pos t.isLt) y hy

theorem next9_eq (c : Dev nD) (t : Fin cfg0.N) (y : Vec Ideal S8192x128 .f32) (hy : t.val % 64 ≠ 0 → RQ m c (t.val - 1) y) :
    RQ m c t.val (next9 (grid0.coords t) (X0 m c t) (X1 m c t) (X2 m c t) (X3 m c t) (X4 m c t) (X5 m c t) y) := by
  intro j
  have hj : (j 0).val < 8192 := (j 0).isLt
  have ht := lt256 t
  unfold next9
  rw [co1, co2]
  refine ⟨fun hle => ?_, fun hlt hk => ?_⟩
  · by_cases he : (j 0).val / 1024 = t.val % 8
    · rw [if_pos he, Finset.sum_range_succ, show t.val / 64 * 64 + 8 * (t.val / 8 % 8) + (j 0).val / 1024 = t.val by omega]
      have hl : cQ m c t.val j = _ := dif_pos t.isLt
      rw [hl]
      congr 1
      by_cases hk : t.val / 8 % 8 = 0
      · rw [if_pos hk, hk]; rfl
      · rw [if_neg hk]
        have h0 := hy (by omega) j
        by_cases hq : t.val % 8 = 0
        · have := h0.1 (by omega)
          rw [this, show (t.val - 1) / 8 % 8 + 1 = t.val / 8 % 8 by omega, show (t.val - 1) / 64 = t.val / 64 by omega]
        · have := h0.2 (by omega) (by omega)
          rw [this, show (t.val - 1) / 8 % 8 = t.val / 8 % 8 by omega, show (t.val - 1) / 64 = t.val / 64 by omega]
    · rw [if_neg he]
      have h0 := (hy (by omega) j).1 (by omega)
      rw [h0, show (t.val - 1) / 8 % 8 = t.val / 8 % 8 by omega, show (t.val - 1) / 64 = t.val / 64 by omega]
  · rw [if_neg (by omega)]
    have h0 := hy (by omega) j
    by_cases hq : t.val % 8 = 0
    · have := h0.1 (by omega)
      rw [this, show (t.val - 1) / 8 % 8 + 1 = t.val / 8 % 8 by omega, show (t.val - 1) / 64 = t.val / 64 by omega]
    · have := h0.2 (by omega) (by omega)
      rw [this, show (t.val - 1) / 8 % 8 = t.val / 8 % 8 by omega, show (t.val - 1) / 64 = t.val / 64 by omega]

/-! ## The pipeline's proof data -/

abbrev sc0 : Memref sig .tc .vmem S128x1024 .f32 := Memref.whole cc0_scratch0
abbrev sc1 : Memref sig .tc .vmem S128x1024 .f32 := Memref.whole cc0_scratch1
abbrev sc2 : Memref sig .tc .vmem S2x1024x1024 .f32 := Memref.whole cc0_scratch2
abbrev sc3 : Memref sig .tc .vmem S2x1024x1024 .f32 := Memref.whole cc0_scratch3
abbrev sc4 : Memref sig .tc .vmem S2x1024x1024 .bf16 := Memref.whole cc0_scratch4
abbrev sc5 : Memref sig .tc .vmem S2x1024x1024 .bf16 := Memref.whole cc0_scratch5

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- What the region holds between points: after a point the two accumulators at their running sums, the other scratch buffers
    at anything; before the first point all at anything. -/
def PhiV (c : Dev nD) : ℕ → sProp 𝕄
  | 0 => Pipeline.ΦA spec0 c
  | n + 1 => iprop(iprop(owns (c : Thread nD τ) sc0 fullShare (sumA (cK m c) n) ∗ owns (c : Thread nD τ) sc1 fullShare (sumA (cV m c) n) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r))

/-- The results are the windows of which a property is kept instead of a value. -/
def marked : Fin 9 → Bool := fun w => w.val == 6 || w.val == 7 || w.val == 8

/-- What is known of the results' windows after a point. -/
def Rl (c : Dev nD) : (w : Fin cfg0.W) → Fin cfg0.N → ((cfg0.win w).block.Idx → Elt Ideal (cfg0.win w).elt) → Prop
  | ⟨6, _⟩, t, X => RQ m c t.val X
  | ⟨7, _⟩, t, X => t.val % 8 = 7 → (X : Vec Ideal S1x128x1024 .bf16) = up (sumA (cK m c) t.val)
  | ⟨8, _⟩, t, X => t.val % 8 = 7 → (X : Vec Ideal S1x128x1024 .bf16) = up (sumA (cV m c) t.val)
  | _, _, _ => True

/-- The proof data: each input's block in place, the invariant `PhiV`. -/
def datV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := PhiV m c t.val
  q _ := fullShare
  owed _ := 0

theorem datV_A (c : Dev nD) (w : Fin cfg0.W) : (datV m 0 c).A w = V m c (Pipeline.arrRef spec0 w) := by
  dsimp only [datV]

theorem after0 (c : Dev nD) (t : Fin cfg0.N) : (datV m 0 c).after 0 t = iblk m c 0 t := by dsimp only [datV]
theorem after1 (c : Dev nD) (t : Fin cfg0.N) : (datV m 0 c).after 1 t = iblk m c 1 t := by dsimp only [datV]
theorem after2 (c : Dev nD) (t : Fin cfg0.N) : (datV m 0 c).after 2 t = iblk m c 2 t := by dsimp only [datV]
theorem after3 (c : Dev nD) (t : Fin cfg0.N) : (datV m 0 c).after 3 t = iblk m c 3 t := by dsimp only [datV]
theorem after4 (c : Dev nD) (t : Fin cfg0.N) : (datV m 0 c).after 4 t = iblk m c 4 t := by dsimp only [datV]
theorem after5 (c : Dev nD) (t : Fin cfg0.N) : (datV m 0 c).after 5 t = iblk m c 5 t := by dsimp only [datV]
theorem before0 (c : Dev nD) (t : Fin cfg0.N) (d) : (datV m 0 c).before 0 t d = iblk m c 0 t := before0_0_of m (datV m 0 c) (datV_A m c 0) (after0 m c) t d
theorem before1 (c : Dev nD) (t : Fin cfg0.N) (d) : (datV m 0 c).before 1 t d = iblk m c 1 t := before0_1_of m (datV m 0 c) (datV_A m c 1) (after1 m c) t d
theorem before2 (c : Dev nD) (t : Fin cfg0.N) (d) : (datV m 0 c).before 2 t d = iblk m c 2 t := before0_2_of m (datV m 0 c) (datV_A m c 2) (after2 m c) t d
theorem before3 (c : Dev nD) (t : Fin cfg0.N) (d) : (datV m 0 c).before 3 t d = iblk m c 3 t := before0_3_of m (datV m 0 c) (datV_A m c 3) (after3 m c) t d
theorem before4 (c : Dev nD) (t : Fin cfg0.N) (d) : (datV m 0 c).before 4 t d = iblk m c 4 t := before0_4_of m (datV m 0 c) (datV_A m c 4) (after4 m c) t d
theorem before5 (c : Dev nD) (t : Fin cfg0.N) (d) : (datV m 0 c).before 5 t d = iblk m c 5 t := before0_5_of m (datV m 0 c) (datV_A m c 5) (after5 m c) t d

abbrev rdV (c : Dev nD) : Pipeline.RDat τ (Elt Ideal) Unit ℕ (UR sig nD τ) ℕ cfg0 c := (datV m 0 c).toRRel marked (Rl m c)

theorem finds6 (c : Dev nD) (t : Fin cfg0.N) (Y) (h : (rdV m c).Finds 6 t Y) : t.val % 64 ≠ 0 → RQ m c (t.val - 1) Y := by
  intro ht
  rw [Pipeline.RDat.finds_of_pos (rdV m c) (w := 6) (t := t) rfl (by omega)] at h
  rcases h with h | h
  · exfalso; have := (flush0_6 _).mp h; dsimp only at this; omega
  · exact Dat.toRRel_leaves (datV m 0 c) (fgt := marked) (Rl := Rl m c) (w := 6) rfl h

/-- The body at any point, over the windows one by one. -/
theorem sound_body (c : Dev nD) (t : Fin cfg0.N) :
    iprop((datV m 0 c).Φ t.castSucc ∗ (datV m 0 c).owesAt () t.castSucc
    ∗ (∃ d, owns (c : Thread nD τ) (st0_0 t) fullShare ((datV m 0 c).before 0 t d))
    ∗ (∃ d, owns (c : Thread nD τ) (st0_1 t) fullShare ((datV m 0 c).before 1 t d))
    ∗ (∃ d, owns (c : Thread nD τ) (st0_2 t) fullShare ((datV m 0 c).before 2 t d))
    ∗ (∃ d, owns (c : Thread nD τ) (st0_3 t) fullShare ((datV m 0 c).before 3 t d))
    ∗ (∃ d, owns (c : Thread nD τ) (st0_4 t) fullShare ((datV m 0 c).before 4 t d))
    ∗ (∃ d, owns (c : Thread nD τ) (st0_5 t) fullShare ((datV m 0 c).before 5 t d))
    ∗ (∃ Y, ⌜(rdV m c).Finds 6 t Y⌝ ∗ owns (c : Thread nD τ) (st0_6 t) fullShare Y)
    ∗ (∃ Y, ⌜(rdV m c).Finds 7 t Y⌝ ∗ owns (c : Thread nD τ) (st0_7 t) fullShare Y)
    ∗ (∃ Y, ⌜(rdV m c).Finds 8 t Y⌝ ∗ owns (c : Thread nD τ) (st0_8 t) fullShare Y))
      ⊢ wp frame (wpE (defs₀ (F := Ideal)) Variants.none c none) Set.univ (bodyAt0 (F := Ideal) t) (fun _ => iprop((datV m 0 c).Φ t.succ ∗ (datV m 0 c).owesAt () t.succ
    ∗ owns (c : Thread nD τ) (st0_0 t) fullShare ((datV m 0 c).after 0 t)
    ∗ owns (c : Thread nD τ) (st0_1 t) fullShare ((datV m 0 c).after 1 t)
    ∗ owns (c : Thread nD τ) (st0_2 t) fullShare ((datV m 0 c).after 2 t)
    ∗ owns (c : Thread nD τ) (st0_3 t) fullShare ((datV m 0 c).after 3 t)
    ∗ owns (c : Thread nD τ) (st0_4 t) fullShare ((datV m 0 c).after 4 t)
    ∗ owns (c : Thread nD τ) (st0_5 t) fullShare ((datV m 0 c).after 5 t)
    ∗ (∃ X, ⌜Rl m c 6 t X⌝ ∗ owns (c : Thread nD τ) (st0_6 t) fullShare X)
    ∗ (∃ X, ⌜Rl m c 7 t X⌝ ∗ owns (c : Thread nD τ) (st0_7 t) fullShare X)
    ∗ (∃ X, ⌜Rl m c 8 t X⌝ ∗ owns (c : Thread nD τ) (st0_8 t) fullShare X))) := by
  unfold bodyAt0
  simp only [before0, before1, before2, before3, before4, before5, after0, after1, after2, after3, after4, after5]
  rw [show (datV m 0 c).owesAt () t.succ = (datV m 0 c).owesAt () t.castSucc from rfl]
  rw [show (datV m 0 c).Φ t.succ = PhiV m c (t.val + 1) from rfl, show (datV m 0 c).Φ t.castSucc = PhiV m c t.val from rfl]
  have hpre : PhiV m c t.val ⊢ iprop(iprop((∃ y12, ∃ y13, ⌜t.val % 8 ≠ 0 → y12 = sumA (cK m c) (t.val - 1) ∧ y13 = sumA (cV m c) (t.val - 1)⌝ ∗ owns (c : Thread nD τ) sc0 fullShare y12 ∗ owns (c : Thread nD τ) sc1 fullShare y13) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
    by_cases hz : t.val = 0
    · rw [hz]
      show Pipeline.ΦA spec0 c ⊢ _
      rw [PhiA_eq]
      iintro ⟨⟨⟨%y12, H0⟩, ⟨%y13, H1⟩, H2, H3, H4, H5⟩, Hg⟩
      isplitr [Hg]; swap; · iexact Hg
      isplitl [H0 H1]
      · iexists y12; iexists y13; isplitr
        · ipureintro; intro h; exact absurd rfl h
        isplitl [H0]; · iexact H0
        iexact H1
      isplitl [H2]; · iexact H2
      isplitl [H3]; · iexact H3
      isplitl [H4]; · iexact H4
      iexact H5
    · obtain ⟨n, hn⟩ : ∃ n, t.val = n + 1 := ⟨t.val - 1, by omega⟩
      rw [hn, Nat.add_sub_cancel]
      show iprop(_ ∗ _) ⊢ _
      iintro ⟨⟨H0, H1, H2, H3, H4, H5⟩, Hg⟩
      isplitr [Hg]; swap; · iexact Hg
      isplitl [H0 H1]
      · iexists _; iexists _; isplitr; swap
        · isplitl [H0]; · iexact H0
          iexact H1
        · ipureintro; intro _; exact ⟨rfl, rfl⟩
      isplitl [H2]; · iexact H2
      isplitl [H3]; · iexact H3
      isplitl [H4]; · iexact H4
      iexact H5
  refine (sep_mono hpre .rfl).trans ?_
  iintro ⟨⟨⟨⟨%y12, %y13, %hy, H12, H13⟩, H14, H15, H16, H17⟩, Hg⟩, Ho, ⟨%d0, H3⟩, ⟨%d1, H4⟩, ⟨%d2, H5⟩, ⟨%d3, H6⟩, ⟨%d4, H7⟩, ⟨%d5, H8⟩, ⟨%y9, %hy9, H9⟩, ⟨%y10, -, H10⟩, ⟨%y11, -, H11⟩⟩
  iapply (body_run c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (Memref.isWhole_whole _) (Memref.isWhole_whole _) (Memref.isWhole_whole _) (Memref.isWhole_whole _) (Memref.isWhole_whole _) (Memref.isWhole_whole _) (X0 m c t) (X1 m c t) (X2 m c t) (X3 m c t) (X4 m c t) (X5 m c t) y9 y10 y11 y12 y13 Set.univ _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H3, H4, H5, H6, H7, H8, H9, H10, H11, H12, H13, H14, H15, H16, H17⟩
  rw [show PhiV m c (t.val + 1) = iprop(iprop(owns (c : Thread nD τ) sc0 fullShare (sumA (cK m c) t.val) ∗ owns (c : Thread nD τ) sc1 fullShare (sumA (cV m c) t.val) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) from rfl,
    next12_eq m c t y12 (fun h => (hy h).1), next13_eq m c t y13 (fun h => (hy h).2)]
  isplitl [H12 H13 H14 H15 H16 H17 Hg]
  · isplitr [Hg]; swap; · iexact Hg
    isplitl [H12]; · iexact H12
    isplitl [H13]; · iexact H13
    isplitl [H14]; · iexact H14
    isplitl [H15]; · iexact H15
    isplitl [H16]; · iexact H16
    iexact H17
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap
    · iexact H9
    · ipureintro; exact next9_eq m c t y9 (finds6 m c t y9 hy9)
  isplitl [H10]
  · iexists _; isplitr; swap
    · iexact H10
    · ipureintro
      intro h; exact if_pos ((co2 t).trans h)
  iexists _; isplitr; swap
  · iexact H11
  · ipureintro
    intro h; exact if_pos ((co2 t).trans h)

theorem row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : Pipeline.BodyObligationRel (datV m 0 c) (defs₀ (F := Ideal)) Variants.none () Set.univ marked (Rl m c) := fun t => by
  rw [bigSep_W0, bigSep_W0, row]
  exact triple_restated (sound_body m c t) rfl .rfl fun _ => .rfl

theorem hin (c : Dev nD) : Pipeline.ΦA spec0 c ⊢ (datV m 0 c).Φ 0 := Idealize.SL.BI.Entails.refl _

theorem hout (c : Dev nD) : (datV m 0 c).Φ (Fin.last cfg0.N) ⊢ Pipeline.ΦA spec0 c := by
  rw [show (datV m 0 c).Φ (Fin.last cfg0.N) = PhiV m c cfg0.N from rfl, show cfg0.N = 255 + 1 from N_0, PhiA_eq]
  show iprop(_ ∗ _) ⊢ _
  iintro ⟨⟨H0, H1, H2, H3, H4, H5⟩, Hg⟩
  isplitr [Hg]; swap; · iexact Hg
  isplitl [H0]; · iexists _; iexact H0
  isplitl [H1]; · iexists _; iexact H1
  isplitl [H2]; · iexact H2
  isplitl [H3]; · iexact H3
  isplitl [H4]; · iexact H4
  iexact H5

set_option backward.isDefEq.respectTransparency.types false in
/-- The launch: every run ends, with each window's array as the data allow and every semaphore counter at zero. -/
theorem run_main : θ_run defs (onTc (τ := τ) (main (F := Ideal))) (s₀ m ρ)
    (fun r => Pipeline.RDat.FramePost (cfgs 0) (rdV m) (V m) r ∧ r.2.sem = fun _ => 0) :=
  Pipeline.RDat.θ_run_frame_track (Q' := _) cfgs (0 : Fin 1) launch0 defs₀ Variants.none (rdV m) m ρ main
    (hbody := fun c => (body_obligation m c).toRRel) (hshare := fun c => (datV m 0 c).share_full fun _ => rfl)
    (howed := fun _ _ => rfl) (V := V m) (hmain := hmain m Variants.none) (hA := datV_A m) (hin := hin m) (hout := hout m)
    (hQ' := fun _ h => h)

end Cert.GqaBwd

end
-- ==== Proof.GqaResults.lean ====
module

public import proofs.«01_k».proof.Proof.GqaObl
public import Idealize.ShloMosaic.Lib.Pipeline.ValueKit

@[expose] public section

set_option maxRecDepth 16384

noncomputable section

namespace Cert.GqaBwd

open Cert.KernelGqaIdeal Cert.KernelGqaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The queries' cotangent as the kernel computes it: in a row of the `i`-th block of rows and a column of the `p`-th pair of
    heads, the sum of the tiles of the eight blocks of keys. -/
def GQ (c : Dev nD) : S8192x512.Idx → Ideal .f32 := fun j =>
  ∑ b ∈ Finset.range 8, cQ m c ((j 1).val / 128 * 64 + 8 * b + (j 0).val / 1024) (ix2 ⟨(j 0).val, (j 0).isLt⟩ ⟨(j 1).val % 128, Nat.mod_lt _ (by decide)⟩)

/-- An array by pairs of heads, transposed, of which the `n`-th point adds `f n` to a block. -/
def sumG (f : ℕ → S128x1024.Idx → Ideal .f32) : S4x128x8192.Idx → Ideal .bf16 := fun j =>
  ∑ b ∈ Finset.range 8, f ((j 0).val * 64 + 8 * ((j 2).val / 1024) + b) (ix2 ⟨(j 1).val, (j 1).isLt⟩ ⟨(j 2).val % 1024, Nat.mod_lt _ (by decide)⟩)

/-- The keys' cotangent of each pair of heads, transposed. -/
def GK (c : Dev nD) : S4x128x8192.Idx → Ideal .bf16 := sumG (cK m c)

/-- The values' cotangent of each pair of heads, transposed. -/
def GV (c : Dev nD) : S4x128x8192.Idx → Ideal .bf16 := sumG (cV m c)

theorem e6 : ∀ t : Fin cfg0.N, win0_6.index t = ![0, t.val / 64] := (by decide +kernel : ∀ t : Fin grid0.N, _)
theorem e7 : ∀ t : Fin cfg0.N, win0_7.index t = ![t.val / 64, 0, t.val / 8 % 8] := (by decide +kernel : ∀ t : Fin grid0.N, _)
theorem e8 : ∀ t : Fin cfg0.N, win0_8.index t = ![t.val / 64, 0, t.val / 8 % 8] := (by decide +kernel : ∀ t : Fin grid0.N, _)
section
variable (c : Dev nD) (after : (w' : Fin cfg0.W) → Fin cfg0.N → (cfg0.win w').block.Idx → Elt Ideal (cfg0.win w').elt)

theorem arrQ (h : ∀ t : Fin cfg0.N, t.val % 64 = 63 → RQ m c t.val (after 6 t)) : ((rdV m c).withAfter after).arrAt 6 cfg0.N = GQ m c := by
  refine Dat.arrAt_eq_of_covers (cfg := cfg0) (c := c) ((rdV m c).withAfter after) 6 (GQ m c) (by decide +kernel) fun t hf y => ?_
  have hm := (flush0_6 t).mp hf
  have hr := h t hm
  have hy0 : (y 0).val < 8192 := (y 0).isLt
  have hy1 : (y 1).val < 128 := (y 1).isLt
  blk_simp
  have h0 : ((win0_6.blk t).view.emb y 0 : ℕ) = (y 0).val := by blk_simp [e6]
  have h1 : ((win0_6.blk t).view.emb y 1 : ℕ) = t.val / 64 * 128 + (y 1).val := by blk_simp [e6]
  refine ((hr y).1 (by omega)).trans ?_
  show _ = ∑ b ∈ Finset.range 8, _
  rw [show t.val / 8 % 8 + 1 = 8 by omega]
  refine Finset.sum_congr rfl fun b _ => ?_
  refine congrArg₂ (cQ m c) ?_ ?_
  · rw [h0, h1]; omega
  · funext a; fin_cases a
    · exact Fin.ext h0.symm
    · refine Fin.ext ?_
      show (y 1).val = _ % 128
      rw [h1]; omega

/-- The sum at the last block of query rows is the array's. -/
theorem sum_full (f : ℕ → S128x1024.Idx → Ideal .f32) (n : ℕ) (hn : n % 8 = 7) (y : S1x128x1024.Idx) (j : S4x128x8192.Idx) (h0 : (j 0).val = n / 64)
    (h1 : (j 1).val = (y 1).val) (h2 : (j 2).val = n / 8 % 8 * 1024 + (y 2).val) : up (sumA f n) y = sumG f j := by
  have hy2 : (y 2).val < 1024 := (y 2).isLt
  unfold up sumA sumG
  rw [show n % 8 + 1 = 8 by omega]
  refine Finset.sum_congr rfl fun b _ => ?_
  refine congrArg₂ f ?_ ?_
  · rw [h0, h2]; omega
  · funext a; fin_cases a
    · exact Fin.ext h1.symm
    · refine Fin.ext ?_
      show (y 2).val = (j 2).val % 1024
      rw [h2]; omega

theorem arrK (h : ∀ t : Fin cfg0.N, t.val % 8 = 7 → (after 7 t : Vec Ideal S1x128x1024 .bf16) = up (sumA (cK m c) t.val)) : ((rdV m c).withAfter after).arrAt 7 cfg0.N = GK m c := by
  refine Dat.arrAt_eq_of_covers (cfg := cfg0) (c := c) ((rdV m c).withAfter after) 7 (GK m c) (by decide +kernel) fun t hf y => ?_
  have hm := (flush0_7 t).mp hf
  have hr := h t hm
  have hy0 : (y 0).val < 1 := (y 0).isLt
  have hy1 : (y 1).val < 128 := (y 1).isLt
  have hy2 : (y 2).val < 1024 := (y 2).isLt
  blk_simp
  have h0 : ((win0_7.blk t).view.emb y 0 : ℕ) = t.val / 64 := by blk_simp [e7]
  have h1 : ((win0_7.blk t).view.emb y 1 : ℕ) = (y 1).val := by blk_simp [e7]
  have h2 : ((win0_7.blk t).view.emb y 2 : ℕ) = t.val / 8 % 8 * 1024 + (y 2).val := by blk_simp [e7]
  exact (congrFun hr y).trans (sum_full (cK m c) t.val hm y _ h0 h1 h2)

theorem arrV (h : ∀ t : Fin cfg0.N, t.val % 8 = 7 → (after 8 t : Vec Ideal S1x128x1024 .bf16) = up (sumA (cV m c) t.val)) : ((rdV m c).withAfter after).arrAt 8 cfg0.N = GV m c := by
  refine Dat.arrAt_eq_of_covers (cfg := cfg0) (c := c) ((rdV m c).withAfter after) 8 (GV m c) (by decide +kernel) fun t hf y => ?_
  have hm := (flush0_8 t).mp hf
  have hr := h t hm
  have hy0 : (y 0).val < 1 := (y 0).isLt
  have hy1 : (y 1).val < 128 := (y 1).isLt
  have hy2 : (y 2).val < 1024 := (y 2).isLt
  blk_simp
  have h0 : ((win0_8.blk t).view.emb y 0 : ℕ) = t.val / 64 := by blk_simp [e8]
  have h1 : ((win0_8.blk t).view.emb y 1 : ℕ) = (y 1).val := by blk_simp [e8]
  have h2 : ((win0_8.blk t).view.emb y 2 : ℕ) = t.val / 8 % 8 * 1024 + (y 2).val := by blk_simp [e8]
  exact (congrFun hr y).trans (sum_full (cV m c) t.val hm y _ h0 h1 h2)

end

/-- The run's post: the three results, the arguments as launched, the counters at zero. -/
theorem run_results : θ_run defs (onTc (τ := τ) (main (F := Ideal))) ⟨m, fun _ => 0, ρ⟩ (fun r => (∀ c : Dev nD,
      r.2.mem ((c.tc : Thread nD τ).loc main_v48_0) = GQ m c
      ∧ r.2.mem ((c.tc : Thread nD τ).loc main_v48_1) = GK m c
      ∧ r.2.mem ((c.tc : Thread nD τ).loc main_v48_2) = GV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ?_, h.2⟩) (run_main m ρ)
  have h2 := (h.1 c).2
  obtain ⟨after, hL, hA⟩ := Pipeline.RDat.FramePost.exists_exact (rdat := rdV m) h.1 c
  have f6 : ∀ t : Fin cfg0.N, t.val % 64 = 63 → RQ m c t.val (after 6 t) := fun t ht =>
    Dat.toRRel_leaves (datV m 0 c) (fgt := marked) (Rl := Rl m c) (w := 6) rfl (hL 6 t ((flush0_6 t).mpr ht))
  have f7 : ∀ t : Fin cfg0.N, t.val % 8 = 7 → (after 7 t : Vec Ideal S1x128x1024 .bf16) = up (sumA (cK m c) t.val) := fun t ht =>
    Dat.toRRel_leaves (datV m 0 c) (fgt := marked) (Rl := Rl m c) (w := 7) rfl (hL 7 t ((flush0_7 t).mpr ht)) ht
  have f8 : ∀ t : Fin cfg0.N, t.val % 8 = 7 → (after 8 t : Vec Ideal S1x128x1024 .bf16) = up (sumA (cV m c) t.val) := fun t ht =>
    Dat.toRRel_leaves (datV m 0 c) (fgt := marked) (Rl := Rl m c) (w := 8) rfl (hL 8 t ((flush0_8 t).mpr ht)) ht
  refine ⟨(hA 6).trans (arrQ m c after f6), (hA 7).trans (arrK m c after f7), (hA 8).trans (arrV m c after f8), ?_, ?_, ?_, ?_⟩
  · exact (h2 main_arg0 (Pipeline.mem_restRefs_of main_arg0 (by decide) (by decide))).trans (V_main_arg0 m c)
  · exact (h2 main_arg1 (Pipeline.mem_restRefs_of main_arg1 (by decide) (by decide))).trans (V_main_arg1 m c)
  · exact (h2 main_arg2 (Pipeline.mem_restRefs_of main_arg2 (by decide) (by decide))).trans (V_main_arg2 m c)
  · exact (h2 main_arg3 (Pipeline.mem_restRefs_of main_arg3 (by decide) (by decide))).trans (V_main_arg3 m c)

end Cert.GqaBwd

end
-- ==== Proof.GqaReals.lean ====
module

public import proofs.«01_k».proof.Proof.Reals

@[expose] public section

noncomputable section

/-! The attention of eight query heads over two heads of keys and values, on real numbers. -/

namespace Cert.GqaBwd

open Idealize.ShloMosaic
open Cert.MlaBwd (dsR)

theorem bits64 : Ideal.ofBits .f32 0x42800000#32 = ((64 : ℝ) : EReal) := by
  simp [Ideal.ofBits, Ideal.ieee]; rw [← EReal.coe_mul]; norm_num

theorem sqrt64 : Ideal.sqrt ((64 : ℝ) : EReal) = ((Real.sqrt 64 : ℝ) : EReal) := by
  rw [Ideal.sqrt_coe, if_neg (by norm_num)]

theorem sqrt64_ne : Real.sqrt 64 ≠ 0 := (Real.sqrt_pos.mpr (by norm_num)).ne'

/-- Two heads repeated for eight: the head `h` is the `h mod 2`-th of the two. -/
def rep (y : Fin 8192 → Fin 2 → Fin 64 → ℝ) (r : Fin 8192) (h : Fin 8) (d : Fin 64) : ℝ := y r ⟨h.val % 2, Nat.mod_lt _ (by decide)⟩ d

section
variable (q k v g : Fin 8192 → Fin 8 → Fin 64 → ℝ)

/-- The logits. -/
def sG (h : Fin 8) (r κ : Fin 8192) : ℝ := (∑ d, q r h d * k κ h d) / Real.sqrt 64

/-- The queries scaled as the kernel takes them. -/
def qG (r : Fin 8192) (h : Fin 8) (d : Fin 64) : ℝ := q r h d / Real.sqrt 64 / Real.log 2

/-- The queries' gradient without the logits' scale. -/
def dqG (r : Fin 8192) (h : Fin 8) (d : Fin 64) : ℝ := ∑ κ, dsR (sG q k) v g h r κ * k κ h d

/-- The keys' gradient of each query head over the natural logarithm of two. -/
def dkG (κ : Fin 8192) (h : Fin 8) (d : Fin 64) : ℝ := (∑ r, dsR (sG q k) v g h r κ * q r h d) / Real.sqrt 64 / Real.log 2

/-- The keys' gradient from the scaled queries. -/
theorem dkG_eq (κ : Fin 8192) (h : Fin 8) (d : Fin 64) :
    (∑ r, qG q r h d * dsR (sG q k) v g h r κ) = dkG q k v g κ h d := by
  rw [dkG, Finset.sum_div, Finset.sum_div]
  exact Finset.sum_congr rfl fun r _ => by rw [qG]; ring

end

end Cert.GqaBwd

end
-- ==== Proof.GqaHost.lean ====
module

public import proofs.«01_k».proof.Proof.HostVals
public import proofs.«01_k».proof.Proof.GqaReals
public import proofs.«01_k».proof.Proof.Gen.KernelGqaIdeal.Frame

@[expose] public section

noncomputable section

namespace Cert.GqaBwd

open Cert.KernelGqaIdeal Cert.KernelGqaIdeal.Gen Idealize.ShloMosaic Idealize.ShloMosaic.TcCoe
open Cert.MlaBwd (cLog2e cLog2e_apply hLse hDelta hDo upV upG upV_apply coe_sum div_coe)

/-- `1 / √64`. -/
def gScale : FVec Ideal S_ .f32 := Host.divf (constant S_ .f32 0x3F800000#32) (Host.sqrt (constant S_ .f32 0x42800000#32))

/-- Two heads repeated for eight. -/
def gRep (y : FVec Ideal S8192x2x64 .f32) : FVec Ideal S8192x8x64 .f32 :=
  shapeCast S8192x8x64 (broadcastInDim S8192x4x2x64 ![0, 1, 2, 3] bcast_S8192x1x2x64_S8192x4x2x64_0_1_2_3
    (broadcastInDim S8192x1x2x64 ![0, 2, 3] bcast_S8192x2x64_S8192x1x2x64_0_2_3 y)) shapeCasts_S8192x4x2x64_S8192x8x64

/-- The logits of each query head. -/
def gS (x0 x1 : FVec Ideal S8192x8x64 .f32) : FVec Ideal S8x8192x8192 .f32 :=
  mulf (Host.dotGeneral dot_S8192x8x64_S8192x8x64_S8x8192x8192_2_2_0_0_1_1 none x0 x1)
    (broadcastInDim S8x8192x8192 ![] bcast_S_S8x8192x8192 gScale)

/-- The queries scaled by `1 / √64 / ln 2`, the heads in one row. -/
def gQs (x0 : FVec Ideal S8192x8x64 .f32) : FVec Ideal S8192x512 .bf16 :=
  truncf (F := Ideal) .bf16 (shapeCast S8192x512 (mulf x0 (broadcastInDim S8192x8x64 ![] bcast_S_S8192x8x64 (mulf gScale cLog2e)))
    shapeCasts_S8192x8x64_S8192x512) bitsLt_bf16_f32

/-- The keys or the values, the two heads in one row. -/
def gKv (y : FVec Ideal S8192x2x64 .f32) : FVec Ideal S8192x128 .bf16 :=
  truncf (F := Ideal) .bf16 (shapeCast S8192x128 y shapeCasts_S8192x2x64_S8192x128) bitsLt_bf16_f32

section
variable (m : (ℓ : Loc nD τ sig) → Buf (Elt Ideal) ℓ) (c : Dev nD)

set_option maxRecDepth 100000 in
set_option maxHeartbeats 4000000 in
/-- The queries that the kernel's window 0 reads. -/
theorem V_v42 : V (F := Ideal) m c main_v42 = gQs (m ((c : Thread nD τ).loc main_arg0)) := by
  unfold V
  simp only [hostOps0]
  after_reads_simp
  rfl

set_option maxRecDepth 100000 in
set_option maxHeartbeats 4000000 in
/-- The keys that the kernel's window 1 reads. -/
theorem V_v44 : V (F := Ideal) m c main_v44 = gKv (m ((c : Thread nD τ).loc main_arg1)) := by
  unfold V
  simp only [hostOps0]
  after_reads_simp
  rfl

set_option maxRecDepth 100000 in
set_option maxHeartbeats 4000000 in
/-- The values that the kernel's window 2 reads. -/
theorem V_v46 : V (F := Ideal) m c main_v46 = gKv (m ((c : Thread nD τ).loc main_arg2)) := by
  unfold V
  simp only [hostOps0]
  after_reads_simp
  rfl

set_option maxRecDepth 100000 in
set_option maxHeartbeats 4000000 in
/-- The cotangent that the kernel's window 3 reads. -/
theorem V_v47 : V (F := Ideal) m c main_v47 = hDo (m ((c : Thread nD τ).loc main_arg3)) := by
  unfold V
  simp only [hostOps0]
  after_reads_simp
  rfl

set_option maxRecDepth 100000 in
set_option maxHeartbeats 4000000 in
/-- The row logarithms that the kernel's window 4 reads. -/
theorem V_v27 : V (F := Ideal) m c main_v27 = hLse (gS (m ((c : Thread nD τ).loc main_arg0)) (gRep (m ((c : Thread nD τ).loc main_arg1)))) := by
  unfold V
  simp only [hostOps0]
  after_reads_simp
  rfl

set_option maxRecDepth 100000 in
set_option maxHeartbeats 4000000 in
/-- The row sums of cotangent times output that the kernel's window 5 reads. -/
theorem V_v33 : V (F := Ideal) m c main_v33
    = hDelta (gS (m ((c : Thread nD τ).loc main_arg0)) (gRep (m ((c : Thread nD τ).loc main_arg1)))) (gRep (m ((c : Thread nD τ).loc main_arg2))) (m ((c : Thread nD τ).loc main_arg3)) := by
  unfold V
  simp only [hostOps0]
  after_reads_simp
  rfl

end

/-! The same at real arguments. -/

/-- Real keys or values as an array. -/
def upK (y : Fin 8192 → Fin 2 → Fin 64 → ℝ) : FVec Ideal S8192x2x64 .f32 := fun i => ((y (i 0) (i 1) (i 2) : ℝ) : EReal)

theorem upK_apply (y : Fin 8192 → Fin 2 → Fin 64 → ℝ) (r : Fin 8192) (h : Fin 2) (d : Fin 64) : upK y (ix3 r h d) = ((y r h d : ℝ) : EReal) := rfl

theorem gScale_apply (i : S_.Idx) : gScale i = ((1 / Real.sqrt 64 : ℝ) : EReal) := by
  pointwise [gScale]
  rw [bits64, sqrt64, ← EReal.coe_one, div_coe _ _ sqrt64_ne]

theorem gRep_apply (y : FVec Ideal S8192x2x64 .f32) (r : Fin 8192) (h : Fin 8) (d : Fin 64) :
    gRep y (ix3 r h d) = y (ix3 r ⟨h.val % 2, Nat.mod_lt _ (by decide)⟩ d) := by
  pointwise [gRep]

theorem gRep_up (y : Fin 8192 → Fin 2 → Fin 64 → ℝ) : gRep (upK y) = upV (rep y) := by
  funext j
  rw [eq_ix3 j]
  exact gRep_apply (upK y) (j 0) (j 1) (j 2)

theorem gS_apply (q k : Fin 8192 → Fin 8 → Fin 64 → ℝ) (h : Fin 8) (r κ : Fin 8192) : gS (upV q) (upV k) (ix3 h r κ) = ((sG q k h r κ : ℝ) : EReal) := by
  pointwise [gS]
  rw [gScale_apply]
  simp only [upV_apply, ← EReal.coe_mul, coe_sum]
  rw [sG, mul_one_div]

/-- A scaled array with its heads in one row. -/
theorem scaleRow (x : FVec Ideal S8192x8x64 .f32) (s : FVec Ideal S_ .f32) (w : EReal) (hw : ∀ i, s i = w) (r : Fin 8192) (l : Fin 512) :
    truncf (F := Ideal) .bf16 (shapeCast S8192x512 (mulf x (broadcastInDim S8192x8x64 ![] bcast_S_S8192x8x64 s)) shapeCasts_S8192x8x64_S8192x512) bitsLt_bf16_f32 (ix2 r l)
      = x (ix3 r ⟨l.val / 64, by omega⟩ ⟨l.val % 64, Nat.mod_lt _ (by decide)⟩) * w := by
  pointwise
  rw [hw]

theorem cQ_apply (i : S_.Idx) : mulf gScale cLog2e i = ((1 / Real.sqrt 64 * (1 / Real.log 2) : ℝ) : EReal) := by
  change gScale i * cLog2e i = _
  rw [gScale_apply, cLog2e_apply, ← EReal.coe_mul]

theorem gQs_apply (q : Fin 8192 → Fin 8 → Fin 64 → ℝ) (r : Fin 8192) (l : Fin 512) :
    gQs (upV q) (ix2 r l) = ((qG q r ⟨l.val / 64, by omega⟩ ⟨l.val % 64, Nat.mod_lt _ (by decide)⟩ : ℝ) : EReal) := by
  refine (scaleRow (upV q) (mulf gScale cLog2e) _ cQ_apply r l).trans ?_
  rw [upV_apply, ← EReal.coe_mul, qG]
  exact congrArg (fun x : ℝ => (x : EReal)) (by ring)

theorem gKv_apply (y : Fin 8192 → Fin 2 → Fin 64 → ℝ) (r : Fin 8192) (l : Fin 128) :
    gKv (upK y) (ix2 r l) = ((y r ⟨l.val / 64, by omega⟩ ⟨l.val % 64, Nat.mod_lt _ (by decide)⟩ : ℝ) : EReal) := by
  pointwise [gKv]
  rfl

end Cert.GqaBwd

end
-- ==== Proof.GqaRefVals.lean ====
module

public import proofs.«01_k».proof.Proof.GqaHost
public import proofs.«01_k».proof.Proof.RefVals
public import proofs.«01_k».proof.Proof.Gen.ReferenceGqaIdeal.Read

@[expose] public section

noncomputable section

namespace Cert.GqaBwd

open Cert.MlaBwd (upV upG upV_apply coe_sum div_coe fold_max_coe bits2 bitsBot log_pos_coe log2_ne lR_pos mR eR lR pR dpR dsR dsR_eq dvR maxRow div_add_mul)
open Cert.ReferenceGqaIdeal Cert.ReferenceGqaIdeal.Gen Cert.ReferenceGqaIdeal.Read Idealize.ShloMosaic

variable (q g : Fin 8192 → Fin 8 → Fin 64 → ℝ) (k v : Fin 8192 → Fin 2 → Fin 64 → ℝ)

/-- The keys repeated for the eight query heads. -/
theorem rv2 : val_main_v2 (F := Ideal) (upK k) = upV (rep k) := gRep_up k

/-- The values repeated for the eight query heads. -/
theorem rv5 : val_main_v5 (F := Ideal) (upK v) = upV (rep v) := gRep_up v

/-- The reference's logits. -/
theorem rv9 (i : S8x8192x8192.Idx) : val_main_v9 (F := Ideal) (upV q) (upK k) i = ((sG q (rep k) (i 0) (i 1) (i 2) : ℝ) : EReal) := by
  rw [val_main_v9_apply, val_main_v6_apply, val_main_v8_apply, val_main_v7_apply, val_main_cst_apply, rv2]
  change Ideal.div (∑ d : Fin 64, ((q (i 1) (i 0) d : ℝ) : EReal) * ((rep k (i 2) (i 0) d : ℝ) : EReal)) (Ideal.sqrt (Ideal.ofBits .f32 0x42800000#32)) = _
  rw [bits64, sqrt64]
  simp only [← EReal.coe_mul, coe_sum]
  exact div_coe _ _ sqrt64_ne

/-- Their row maxima. -/
theorem rv10 (i : S8x8192.Idx) : val_main_v10 (F := Ideal) (upV q) (upK k) i = ((mR (sG q (rep k)) (i 0) (i 1) : ℝ) : EReal) := by
  have e : ∀ (h : Fin 8) (r : Fin 8192), val_main_v10 (F := Ideal) (upV q) (upK k) (ix2 h r) = ((mR (sG q (rep k)) h r : ℝ) : EReal) := by
    intro h r
    unfold val_main_v10 val_main_cst_0
    rw [maxRow, bitsBot]
    simp only [rv9]
    exact fold_max_coe (n := 8191) _
  have hi := e (i 0) (i 1)
  rwa [← eq_ix2 i] at hi

theorem rv17 (i : S8x8192.Idx) : val_main_v17 (F := Ideal) (upV q) (upK k) i = ((mR (sG q (rep k)) (i 0) (i 1) : ℝ) : EReal) := by
  rw [val_main_v17_apply, val_main_v16_apply, val_main_cst_2_apply, rv10]
  change max (Ideal.ofBits .f32 0xFF800000#32) _ = _
  rw [bitsBot]; exact max_bot_left _

/-- The exponentials. -/
theorem rv30 (i : S8x8192x8192.Idx) : val_main_v30 (F := Ideal) (upV q) (upK k) i = ((eR (sG q (rep k)) (i 0) (i 1) (i 2) : ℝ) : EReal) := by
  rw [val_main_v30_apply, val_main_v29_apply, val_main_v28_apply, val_main_v27_apply, rv17, rv9]
  change Ideal.exp (((sG q (rep k) (i 0) (i 1) (i 2) : ℝ) : EReal) - ((mR (sG q (rep k)) (i 0) (i 1) : ℝ) : EReal)) = _
  rw [← EReal.coe_sub, Ideal.exp_coe]; rfl

/-- Their row sums. -/
theorem rv32 (i : S8x8192x1.Idx) : val_main_v32 (F := Ideal) (upV q) (upK k) i = ((lR (sG q (rep k)) (i 0) (i 1) : ℝ) : EReal) := by
  rw [val_main_v32_apply, val_main_v31_apply, val_main_cst_8_apply]
  simp only [rv30]
  change Ideal.ofBits .f32 0x00000000#32 + ∑ κ : Fin 8192, ((eR (sG q (rep k)) (i 0) (i 1) κ : ℝ) : EReal) = _
  rw [Ideal.ofBits_zero_f32, zero_add, coe_sum]; rfl

/-- The probabilities. -/
theorem rv34 (i : S8x8192x8192.Idx) : val_main_v34 (F := Ideal) (upV q) (upK k) i = ((pR (sG q (rep k)) (i 0) (i 1) (i 2) : ℝ) : EReal) := by
  rw [val_main_v34_apply, val_main_v33_apply, rv32, rv30]
  change Ideal.div ((eR (sG q (rep k)) (i 0) (i 1) (i 2) : ℝ) : EReal) ((lR (sG q (rep k)) (i 0) (i 1) : ℝ) : EReal) = _
  exact div_coe _ _ (lR_pos (sG q (rep k)) _ _).ne'

theorem rv37 (i : S8x8192x1.Idx) :
    val_main_v37 (F := Ideal) (upV q) (upK k) i = ((1 / (lR (sG q (rep k)) (i 0) (i 1) * lR (sG q (rep k)) (i 0) (i 1)) : ℝ) : EReal) := by
  rw [val_main_v37_apply, val_main_v36_apply, val_main_cst_9_apply, val_main_v35_apply, rv32]
  change Ideal.div (Ideal.ofBits .f32 0x3F800000#32) (((lR (sG q (rep k)) (i 0) (i 1) : ℝ) : EReal) * ((lR (sG q (rep k)) (i 0) (i 1) : ℝ) : EReal)) = _
  have hl := (lR_pos (sG q (rep k)) (i 0) (i 1)).ne'
  rw [Ideal.ofBits_one_f32, ← EReal.coe_one, ← EReal.coe_mul, div_coe _ _ (mul_ne_zero hl hl)]

/-- The cotangent by heads. -/
theorem rv41 (i : S8192x8x64.Idx) : val_main_v41 (F := Ideal) (upG g) i = ((g (i 0) (i 1) (i 2) : ℝ) : EReal) := by
  rw [val_main_v41_apply]
  have h1 : (i 1).val < 8 := (i 1).isLt
  have h2 : (i 2).val < 64 := (i 2).isLt
  have e0 : (((i 0).val * 8 + (i 1).val) * 64 + (i 2).val) / 512 = (i 0).val := by omega
  have e1 : (((i 0).val * 8 + (i 1).val) * 64 + (i 2).val) % 512 / 64 = (i 1).val := by omega
  have e2 : (((i 0).val * 8 + (i 1).val) * 64 + (i 2).val) % 512 % 64 = (i 2).val := by omega
  unfold upG
  refine congrArg _ ?_
  have f : ∀ (a a' : Fin 8192) (b b' : Fin 8) (c c' : Fin 64), a.val = a'.val → b.val = b'.val → c.val = c'.val → g a b c = g a' b' c' := by
    intro a a' b b' c c' ha hb hc
    rw [Fin.ext ha, Fin.ext hb, Fin.ext hc]
  exact f _ _ _ _ _ _ e0 e1 e2

theorem rv42 (i : S8x64x8192.Idx) : val_main_v42 (F := Ideal) (upG g) i = ((g (i 2) (i 0) (i 1) : ℝ) : EReal) := by
  rw [val_main_v42_apply, rv41]; rfl

/-- The cotangent of the probabilities. -/
theorem rv43 (i : S8x8192x8192.Idx) : val_main_v43 (F := Ideal) (upK v) (upG g) i = ((dpR (rep v) g (i 0) (i 1) (i 2) : ℝ) : EReal) := by
  rw [val_main_v43_apply, rv5]
  simp only [rv42]
  change ∑ d : Fin 64, ((g (i 1) (i 0) d : ℝ) : EReal) * ((rep v (i 2) (i 0) d : ℝ) : EReal) = _
  simp only [← EReal.coe_mul, coe_sum]
  rfl

/-- The values' gradient. -/
theorem rv45 (i : S8192x8x64.Idx) : val_main_v45 (F := Ideal) (upV q) (upK k) (upG g) i = ((dvR (sG q (rep k)) g (i 0) (i 1) (i 2) : ℝ) : EReal) := by
  rw [val_main_v45_apply, val_main_v44_apply]
  simp only [rv42, rv34]
  change ∑ r : Fin 8192, ((g r (i 1) (i 2) : ℝ) : EReal) * ((pR (sG q (rep k)) (i 1) r (i 0) : ℝ) : EReal) = _
  simp only [← EReal.coe_mul, coe_sum]
  rfl

theorem rv48 (i : S8x8192x8192.Idx) : val_main_v48 (F := Ideal) (upV q) (upK k) (upK v) (upG g) i
    = ((dpR (rep v) g (i 0) (i 1) (i 2) * (1 / (lR (sG q (rep k)) (i 0) (i 1) * lR (sG q (rep k)) (i 0) (i 1))) * eR (sG q (rep k)) (i 0) (i 1) (i 2) : ℝ) : EReal) := by
  rw [val_main_v48_apply, val_main_v47_apply, val_main_v46_apply, rv43, rv37, rv30]
  change ((dpR (rep v) g (i 0) (i 1) (i 2) : ℝ) : EReal) * ((1 / (lR (sG q (rep k)) (i 0) (i 1) * lR (sG q (rep k)) (i 0) (i 1)) : ℝ) : EReal) * ((eR (sG q (rep k)) (i 0) (i 1) (i 2) : ℝ) : EReal) = _
  rw [← EReal.coe_mul, ← EReal.coe_mul]

theorem rv49 (i : S8x8192.Idx) : val_main_v49 (F := Ideal) (upV q) (upK k) (upK v) (upG g) i
    = ((∑ κ, dpR (rep v) g (i 0) (i 1) κ * (1 / (lR (sG q (rep k)) (i 0) (i 1) * lR (sG q (rep k)) (i 0) (i 1))) * eR (sG q (rep k)) (i 0) (i 1) κ : ℝ) : EReal) := by
  rw [val_main_v49_apply, val_main_cst_10_apply]
  simp only [rv48]
  change Ideal.ofBits .f32 0x00000000#32 + ∑ κ : Fin 8192, ((dpR (rep v) g (i 0) (i 1) κ * (1 / (lR (sG q (rep k)) (i 0) (i 1) * lR (sG q (rep k)) (i 0) (i 1))) * eR (sG q (rep k)) (i 0) (i 1) κ : ℝ) : EReal) = _
  rw [Ideal.ofBits_zero_f32, zero_add, coe_sum]

theorem rv51 (i : S8x8192x1.Idx) : val_main_v51 (F := Ideal) (upV q) (upK k) (upK v) (upG g) i
    = ((-(∑ κ, dpR (rep v) g (i 0) (i 1) κ * (1 / (lR (sG q (rep k)) (i 0) (i 1) * lR (sG q (rep k)) (i 0) (i 1))) * eR (sG q (rep k)) (i 0) (i 1) κ) : ℝ) : EReal) := by
  rw [val_main_v51_apply, val_main_v50_apply, rv49]
  have h2 : (i 2).val < 1 := (i 2).isLt
  have e0 : idx_main_v50 i 0 = i 0 := Fin.ext (by
    have h1 : (i 1).val < 8192 := (i 1).isLt
    change (((i 0).val * 8192 + (i 1).val) * 1 + (i 2).val) / 8192 = (i 0).val
    omega)
  have e1 : idx_main_v50 i 1 = i 1 := Fin.ext (by
    have h1 : (i 1).val < 8192 := (i 1).isLt
    change (((i 0).val * 8192 + (i 1).val) * 1 + (i 2).val) % 8192 = (i 1).val
    omega)
  rw [e0, e1]
  change -((_ : ℝ) : EReal) = _
  rw [← EReal.coe_neg]

theorem rv55 (i : S8x8192x8192.Idx) : val_main_v55 (F := Ideal) (upV q) (upK k) (upK v) (upG g) i
    = ((-(∑ κ, dpR (rep v) g (i 0) (i 1) κ * (1 / (lR (sG q (rep k)) (i 0) (i 1) * lR (sG q (rep k)) (i 0) (i 1))) * eR (sG q (rep k)) (i 0) (i 1) κ) : ℝ) : EReal) := by
  rw [val_main_v55_apply, val_main_v54_apply, val_main_cst_11_apply]
  simp only [rv51]
  rw [Fin.sum_univ_one]
  change Ideal.ofBits .f32 0x00000000#32 + _ = _
  rw [Ideal.ofBits_zero_f32, zero_add]; rfl

/-- The cotangent of the logits. -/
theorem rv57 (i : S8x8192x8192.Idx) : val_main_v57 (F := Ideal) (upV q) (upK k) (upK v) (upG g) i
    = ((dsR (sG q (rep k)) (rep v) g (i 0) (i 1) (i 2) : ℝ) : EReal) := by
  rw [val_main_v57_apply, val_main_v56_apply, val_main_v53_apply, val_main_v52_apply, rv55, rv43, rv32, rv30]
  change (Ideal.div ((dpR (rep v) g (i 0) (i 1) (i 2) : ℝ) : EReal) ((lR (sG q (rep k)) (i 0) (i 1) : ℝ) : EReal) + ((_ : ℝ) : EReal)) * ((eR (sG q (rep k)) (i 0) (i 1) (i 2) : ℝ) : EReal) = _
  exact (div_add_mul _ _ _ _ (lR_pos (sG q (rep k)) _ _).ne').trans (congrArg _ (dsR_eq (sG q (rep k)) (rep v) g _ _ _))

theorem rv59 (i : S8x8192x8192.Idx) : val_main_v59 (F := Ideal) (upV q) (upK k) (upK v) (upG g) i
    = ((dsR (sG q (rep k)) (rep v) g (i 0) (i 1) (i 2) / Real.sqrt 64 : ℝ) : EReal) := by
  rw [val_main_v59_apply, val_main_v58_apply, val_main_v7_apply, val_main_cst_apply, rv57]
  change Ideal.div _ (Ideal.sqrt (Ideal.ofBits .f32 0x42800000#32)) = _
  rw [bits64, sqrt64, div_coe _ _ sqrt64_ne]

/-- The logits' scale taken out of the keys' gradient. -/
theorem dk_scale (κ : Fin 8192) (h : Fin 8) (d : Fin 64) :
    (∑ r, dsR (sG q (rep k)) (rep v) g h r κ / Real.sqrt 64 * q r h d) / Real.log 2 = dkG q (rep k) (rep v) g κ h d := by
  rw [dkG, Finset.sum_div Finset.univ _ (Real.sqrt 64)]
  exact congrArg (· / Real.log 2) (Finset.sum_congr rfl fun r _ => by ring)

/-- The logits' scale taken out of the queries' gradient. -/
theorem dq_scale (r : Fin 8192) (h : Fin 8) (d : Fin 64) :
    (∑ κ, dsR (sG q (rep k)) (rep v) g h r κ / Real.sqrt 64 * rep k κ h d) * Real.sqrt 64 = dqG q (rep k) (rep v) g r h d := by
  have h9 := sqrt64_ne
  rw [dqG, Finset.sum_mul]
  exact Finset.sum_congr rfl fun κ _ => by field_simp

/-- The keys' gradient over the natural logarithm of two. -/
theorem rv70 (i : S8192x8x64.Idx) : val_main_v70 (F := Ideal) (upV q) (upK k) (upK v) (upG g) i
    = ((dkG q (rep k) (rep v) g (i 0) (i 1) (i 2) : ℝ) : EReal) := by
  rw [val_main_v70_apply, val_main_v69_apply, val_main_v68_apply, val_main_cst_13_apply, val_main_v61_apply, val_main_v60_apply]
  simp only [rv59]
  change Ideal.div (∑ r : Fin 8192, ((dsR (sG q (rep k)) (rep v) g (i 1) r (i 0) / Real.sqrt 64 : ℝ) : EReal) * ((q r (i 1) (i 2) : ℝ) : EReal)) (Ideal.log (Ideal.ofBits .f32 0x40000000#32)) = _
  rw [bits2, log_pos_coe _ (by norm_num)]
  simp only [← EReal.coe_mul, coe_sum]
  exact (div_coe _ _ log2_ne).trans (congrArg _ (dk_scale q g k v _ _ _))

/-- The queries' gradient without the logits' scale. -/
theorem rv66 (i : S8192x8x64.Idx) : val_main_v66 (F := Ideal) (upV q) (upK k) (upK v) (upG g) i
    = ((dqG q (rep k) (rep v) g (i 0) (i 1) (i 2) : ℝ) : EReal) := by
  rw [val_main_v66_apply, val_main_v65_apply, val_main_v64_apply, val_main_cst_12_apply, val_main_v63_apply, val_main_v62_apply, rv2]
  simp only [rv59]
  change (∑ κ : Fin 8192, ((dsR (sG q (rep k)) (rep v) g (i 1) (i 0) κ / Real.sqrt 64 : ℝ) : EReal) * ((rep k κ (i 1) (i 2) : ℝ) : EReal)) * (Ideal.sqrt (Ideal.ofBits .f32 0x42800000#32)) = _
  rw [bits64, sqrt64]
  simp only [← EReal.coe_mul, coe_sum]
  exact congrArg (fun x : ℝ => (x : EReal)) (dq_scale q g k v _ _ _)

theorem at3 (y : Fin 8192 → Fin 8 → Fin 64 → ℝ) {a a' : Fin 8192} {b b' : Fin 8} {d d' : Fin 64} (ha : a.val = a'.val) (hb : b.val = b'.val) (hd : d.val = d'.val) :
    ((y a b d : ℝ) : EReal) = ((y a' b' d' : ℝ) : EReal) := by rw [Fin.ext ha, Fin.ext hb, Fin.ext hd]

/-- The first result. -/
theorem rv67 (r : Fin 8192) (l : Fin 512) : val_main_v67 (F := Ideal) (upV q) (upK k) (upK v) (upG g) (ix2 r l)
    = ((dqG q (rep k) (rep v) g r ⟨l.val / 64, by omega⟩ ⟨l.val % 64, Nat.mod_lt _ (by decide)⟩ : ℝ) : EReal) := by
  rw [val_main_v67_apply, rv66]
  have hl := l.isLt
  refine at3 _ ?_ ?_ ?_
  · change (r.val * 512 + l.val) / 512 = r.val; omega
  · change (r.val * 512 + l.val) / 64 % 8 = l.val / 64; omega
  · change (r.val * 512 + l.val) % 64 = l.val % 64; omega

/-- The second result. -/
theorem rv75 (p : Fin 4) (d : Fin 128) (κ : Fin 8192) : val_main_v75 (F := Ideal) (upV q) (upK k) (upK v) (upG g) (ix3 p d κ)
    = ((dkG q (rep k) (rep v) g κ ⟨2 * p.val + d.val / 64, by omega⟩ ⟨d.val % 64, Nat.mod_lt _ (by decide)⟩ : ℝ) : EReal) := by
  rw [val_main_v75_apply, val_main_v72_apply, val_main_v71_apply, rv70]
  have hp := p.isLt
  have hd := d.isLt
  refine at3 _ ?_ ?_ ?_
  · change ((κ.val * 4 + p.val) * 128 + d.val) / 512 = κ.val; omega
  · change ((κ.val * 4 + p.val) * 128 + d.val) / 64 % 8 = 2 * p.val + d.val / 64; omega
  · change ((κ.val * 4 + p.val) * 128 + d.val) % 64 = d.val % 64; omega

/-- The third result. -/
theorem rv76 (p : Fin 4) (d : Fin 128) (κ : Fin 8192) : val_main_v76 (F := Ideal) (upV q) (upK k) (upG g) (ix3 p d κ)
    = ((dvR (sG q (rep k)) g κ ⟨2 * p.val + d.val / 64, by omega⟩ ⟨d.val % 64, Nat.mod_lt _ (by decide)⟩ : ℝ) : EReal) := by
  rw [val_main_v76_apply, val_main_v74_apply, val_main_v73_apply, rv45]
  have hp := p.isLt
  have hd := d.isLt
  refine at3 _ ?_ ?_ ?_
  · change ((κ.val * 4 + p.val) * 128 + d.val) / 512 = κ.val; omega
  · change ((κ.val * 4 + p.val) * 128 + d.val) / 64 % 8 = 2 * p.val + d.val / 64; omega
  · change ((κ.val * 4 + p.val) * 128 + d.val) % 64 = d.val % 64; omega

end Cert.GqaBwd

end
-- ==== Proof.GqaBlocks.lean ====
module

public import proofs.«01_k».proof.Proof.GqaResults
public import Idealize.ShloMosaic.Lib.Pipeline.ValueKit

@[expose] public section

set_option maxRecDepth 16384

noncomputable section

namespace Cert.GqaBwd

open Cert.KernelGqaIdeal Cert.KernelGqaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem e0 : ∀ t : Fin cfg0.N, win0_0.index t = ![t.val % 8, t.val / 64] := (by decide +kernel : ∀ t : Fin grid0.N, _)
theorem e1 : ∀ t : Fin cfg0.N, win0_1.index t = ![t.val / 8 % 8, 0] := (by decide +kernel : ∀ t : Fin grid0.N, _)
theorem e2 : ∀ t : Fin cfg0.N, win0_2.index t = ![t.val / 8 % 8, 0] := (by decide +kernel : ∀ t : Fin grid0.N, _)
theorem e3 : ∀ t : Fin cfg0.N, win0_3.index t = ![t.val % 8, t.val / 64] := (by decide +kernel : ∀ t : Fin grid0.N, _)
theorem e4 : ∀ t : Fin cfg0.N, win0_4.index t = ![t.val / 64, t.val % 8, 0] := (by decide +kernel : ∀ t : Fin grid0.N, _)
theorem e5 : ∀ t : Fin cfg0.N, win0_5.index t = ![t.val / 64, t.val % 8, 0] := (by decide +kernel : ∀ t : Fin grid0.N, _)

/-- Block 0 at a point is the part of its array at the point's coordinates. -/
theorem blk0 (t : Fin cfg0.N) (A : Vec Ideal S8192x512 .bf16) (r : Fin 1024) (l : Fin 128) :
    ((cfg0.win 0).blk t).view.read (Elt Ideal) A (ix2 r l) = A (ix2 ⟨1024 * (t.val % 8) + r.val, by have := lt256 t; omega⟩ ⟨128 * (t.val / 64) + l.val, by have := lt256 t; omega⟩) := by
  refine congrArg A (funext fun a => Fin.ext ?_)
  have h0 : (((cfg0.win 0).blk t).view.emb (ix2 r l) 0 : ℕ) = 1024 * (t.val % 8) + r.val := by
    blk_simp [e0]; show _ + r.val = _; omega
  have h1 : (((cfg0.win 0).blk t).view.emb (ix2 r l) 1 : ℕ) = 128 * (t.val / 64) + l.val := by
    blk_simp [e0]; show _ + l.val = _; omega
  fin_cases a
  · exact h0
  · exact h1

/-- Block 1 at a point is the part of its array at the point's coordinates. -/
theorem blk1 (t : Fin cfg0.N) (A : Vec Ideal S8192x128 .bf16) (r : Fin 1024) (l : Fin 128) :
    ((cfg0.win 1).blk t).view.read (Elt Ideal) A (ix2 r l) = A (ix2 ⟨1024 * (t.val / 8 % 8) + r.val, by have := lt256 t; omega⟩ l) := by
  refine congrArg A (funext fun a => Fin.ext ?_)
  have h0 : (((cfg0.win 1).blk t).view.emb (ix2 r l) 0 : ℕ) = 1024 * (t.val / 8 % 8) + r.val := by
    blk_simp [e1]; show _ + r.val = _; omega
  have h1 : (((cfg0.win 1).blk t).view.emb (ix2 r l) 1 : ℕ) = l.val := by
    blk_simp [e1]
  fin_cases a
  · exact h0
  · exact h1

/-- Block 2 at a point is the part of its array at the point's coordinates. -/
theorem blk2 (t : Fin cfg0.N) (A : Vec Ideal S8192x128 .bf16) (r : Fin 1024) (l : Fin 128) :
    ((cfg0.win 2).blk t).view.read (Elt Ideal) A (ix2 r l) = A (ix2 ⟨1024 * (t.val / 8 % 8) + r.val, by have := lt256 t; omega⟩ l) := by
  refine congrArg A (funext fun a => Fin.ext ?_)
  have h0 : (((cfg0.win 2).blk t).view.emb (ix2 r l) 0 : ℕ) = 1024 * (t.val / 8 % 8) + r.val := by
    blk_simp [e2]; show _ + r.val = _; omega
  have h1 : (((cfg0.win 2).blk t).view.emb (ix2 r l) 1 : ℕ) = l.val := by
    blk_simp [e2]
  fin_cases a
  · exact h0
  · exact h1

/-- Block 3 at a point is the part of its array at the point's coordinates. -/
theorem blk3 (t : Fin cfg0.N) (A : Vec Ideal S8192x512 .bf16) (r : Fin 1024) (l : Fin 128) :
    ((cfg0.win 3).blk t).view.read (Elt Ideal) A (ix2 r l) = A (ix2 ⟨1024 * (t.val % 8) + r.val, by have := lt256 t; omega⟩ ⟨128 * (t.val / 64) + l.val, by have := lt256 t; omega⟩) := by
  refine congrArg A (funext fun a => Fin.ext ?_)
  have h0 : (((cfg0.win 3).blk t).view.emb (ix2 r l) 0 : ℕ) = 1024 * (t.val % 8) + r.val := by
    blk_simp [e3]; show _ + r.val = _; omega
  have h1 : (((cfg0.win 3).blk t).view.emb (ix2 r l) 1 : ℕ) = 128 * (t.val / 64) + l.val := by
    blk_simp [e3]; show _ + l.val = _; omega
  fin_cases a
  · exact h0
  · exact h1

/-- Block 4 at a point is the part of its array at the point's coordinates. -/
theorem blk4 (t : Fin cfg0.N) (A : Vec Ideal S8x8192x128 .f32) (i : Fin 2) (r : Fin 1024) (l : Fin 128) :
    ((cfg0.win 4).blk t).view.read (Elt Ideal) A (ix3 i r l) = A (ix3 ⟨2 * (t.val / 64) + i.val, by have := lt256 t; omega⟩ ⟨1024 * (t.val % 8) + r.val, by have := lt256 t; omega⟩ l) := by
  refine congrArg A (funext fun a => Fin.ext ?_)
  have h0 : (((cfg0.win 4).blk t).view.emb (ix3 i r l) 0 : ℕ) = 2 * (t.val / 64) + i.val := by
    blk_simp [e4]; show _ + i.val = _; omega
  have h1 : (((cfg0.win 4).blk t).view.emb (ix3 i r l) 1 : ℕ) = 1024 * (t.val % 8) + r.val := by
    blk_simp [e4]; show _ + r.val = _; omega
  have h2 : (((cfg0.win 4).blk t).view.emb (ix3 i r l) 2 : ℕ) = l.val := by
    blk_simp [e4]
  fin_cases a
  · exact h0
  · exact h1
  · exact h2

/-- Block 5 at a point is the part of its array at the point's coordinates. -/
theorem blk5 (t : Fin cfg0.N) (A : Vec Ideal S8x8192x128 .f32) (i : Fin 2) (r : Fin 1024) (l : Fin 128) :
    ((cfg0.win 5).blk t).view.read (Elt Ideal) A (ix3 i r l) = A (ix3 ⟨2 * (t.val / 64) + i.val, by have := lt256 t; omega⟩ ⟨1024 * (t.val % 8) + r.val, by have := lt256 t; omega⟩ l) := by
  refine congrArg A (funext fun a => Fin.ext ?_)
  have h0 : (((cfg0.win 5).blk t).view.emb (ix3 i r l) 0 : ℕ) = 2 * (t.val / 64) + i.val := by
    blk_simp [e5]; show _ + i.val = _; omega
  have h1 : (((cfg0.win 5).blk t).view.emb (ix3 i r l) 1 : ℕ) = 1024 * (t.val % 8) + r.val := by
    blk_simp [e5]; show _ + r.val = _; omega
  have h2 : (((cfg0.win 5).blk t).view.emb (ix3 i r l) 2 : ℕ) = l.val := by
    blk_simp [e5]
  fin_cases a
  · exact h0
  · exact h1
  · exact h2

end Cert.GqaBwd

end
-- ==== Proof.GqaTile.lean ====
module

public import proofs.«01_k».proof.Proof.GqaObl
public import proofs.«01_k».proof.Proof.GqaReals
public import proofs.«01_k».proof.Proof.Halves

@[expose] public section

noncomputable section

/-! One tile of the grouped-query call at real arguments: what each grid point computes, of query rows `Q`, keys `K` and query heads `H`. -/

namespace Cert.GqaBwd

open Cert.KernelGqaIdeal Cert.KernelGqaIdeal.Gen Idealize.ShloMosaic
open Cert.MlaBwd (wrap doM DPv half inner mR lR pR dpR dR dsR rpow_pR coe_sum DPv_real halves)

variable (q g : Fin 8192 → Fin 8 → Fin 64 → ℝ) (k v : Fin 8192 → Fin 2 → Fin 64 → ℝ)
variable (Q K : Fin 1024 → Fin 8192) (H : Fin 2 → Fin 8)
variable (x0 x1 x2 x3 : Vec Ideal S1024x128 .bf16) (x4 x5 : Vec Ideal S2x1024x128 .f32)

/-- The blocks at a grid point hold the arguments' rows `Q` and `K` of the heads `H`, and the rows' statistics. -/
structure Blocks : Prop where
  hH : ∀ i, (H i).val % 2 = i.val
  h0 : ∀ r d, x0 (ix2 r d) = ((qG q (Q r) (H (half d)) (inner d) : ℝ) : EReal)
  h1 : ∀ r d, x1 (ix2 r d) = ((k (K r) (half d) (inner d) : ℝ) : EReal)
  h2 : ∀ r d, x2 (ix2 r d) = ((v (K r) (half d) (inner d) : ℝ) : EReal)
  h3 : ∀ r d, x3 (ix2 r d) = ((g (Q r) (H (half d)) (inner d) : ℝ) : EReal)
  h4 : ∀ i r z, x4 (ix3 i r z)
    = (((mR (sG q (rep k)) (H i) (Q r) + Real.log (lR (sG q (rep k)) (H i) (Q r))) / Real.log 2 : ℝ) : EReal)
  h5 : ∀ i r z, x5 (ix3 i r z) = ((dR (sG q (rep k)) (rep v) g (H i) (Q r) : ℝ) : EReal)

variable {q g k v Q K H x0 x1 x2 x3 x4 x5} (B : Blocks q g k v Q K H x0 x1 x2 x3 x4 x5)
include B

/-- The repeated head that a query head of the pair meets. -/
theorem rep_H (y : Fin 8192 → Fin 2 → Fin 64 → ℝ) (r : Fin 8192) (i : Fin 2) (d : Fin 64) : rep y r (H i) d = y r i d :=
  congrArg (fun j => y r j d) (Fin.ext (B.hH i))

/-- The scores are the logits over the natural logarithm of two. -/
theorem Sv_val (i : Fin 2) (r κ : Fin 1024) : Sv x0 x1 (ix3 i r κ) = ((sG q (rep k) (H i) (Q r) (K κ) / Real.log 2 : ℝ) : EReal) := by
  refine (DPv_real (a := fun r i d => qG q (Q r) (H i) d) (b := fun r i d => k (K r) i d) B.h0 B.h1 i r κ).trans (congrArg (fun x : ℝ => (x : EReal)) ?_)
  rw [sG, Finset.sum_div, Finset.sum_div]
  refine Finset.sum_congr rfl fun d _ => ?_
  rw [rep_H B, qG]
  ring

/-- The probabilities. -/
theorem Pv_val (i : Fin 2) (r κ : Fin 1024) : Pv x0 x1 x4 (ix3 i r κ) = ((pR (sG q (rep k)) (H i) (Q r) (K κ) : ℝ) : EReal) := by
  change Ideal.exp2 (Sv x0 x1 (ix3 i r κ) - x4 (ix3 i r (wrap κ))) = _
  rw [Sv_val B, B.h4, ← EReal.coe_sub, Ideal.exp2_coe, rpow_pR]

/-- The cotangent of the probabilities. -/
theorem DPv_val (i : Fin 2) (r κ : Fin 1024) : DPv x2 x3 (ix3 i r κ) = ((dpR (rep v) g (H i) (Q r) (K κ) : ℝ) : EReal) := by
  refine (DPv_real (a := fun r i d => g (Q r) (H i) d) (b := fun r i d => v (K r) i d) B.h3 B.h2 i r κ).trans (congrArg (fun x : ℝ => (x : EReal)) ?_)
  rw [dpR]
  exact Finset.sum_congr rfl fun d _ => by rw [rep_H B]

/-- The cotangent of the logits. -/
theorem DSv_val (i : Fin 2) (r κ : Fin 1024) : DSv x0 x1 x2 x3 x4 x5 (ix3 i r κ) = ((dsR (sG q (rep k)) (rep v) g (H i) (Q r) (K κ) : ℝ) : EReal) := by
  change Pv x0 x1 x4 (ix3 i r κ) * (DPv x2 x3 (ix3 i r κ) - x5 (ix3 i r (wrap κ))) = _
  rw [Pv_val B, DPv_val B, B.h5, ← EReal.coe_sub, ← EReal.coe_mul, dsR]

/-- The tile's part of the queries' gradient. -/
theorem tileQ_val (r : Fin 1024) (d : Fin 128) :
    tileQ x0 x1 x2 x3 x4 x5 r d
      = ((∑ κ, dsR (sG q (rep k)) (rep v) g (H (half d)) (Q r) (K κ) * rep k (K κ) (H (half d)) (inner d) : ℝ) : EReal) := by
  change ∑ κ : Fin 1024, DSv x0 x1 x2 x3 x4 x5 (ix3 (half d) r κ) * x1 (ix2 κ d) = _
  simp only [DSv_val B, B.h1, rep_H B, ← EReal.coe_mul, coe_sum]

/-- The tile's part of the keys' gradient. -/
theorem tileK_val (d : Fin 128) (κ : Fin 1024) :
    tileA x0 (DSv x0 x1 x2 x3 x4 x5) (ix2 d κ)
      = ((∑ r, qG q (Q r) (H (half d)) (inner d) * dsR (sG q (rep k)) (rep v) g (H (half d)) (Q r) (K κ) : ℝ) : EReal) :=
  halves (a := fun r i d => qG q (Q r) (H i) d) (p := fun i r κ => dsR (sG q (rep k)) (rep v) g (H i) (Q r) (K κ)) B.h0 (DSv_val B) d κ

/-- The tile's part of the values' gradient. -/
theorem tileV_val (d : Fin 128) (κ : Fin 1024) :
    tileA x3 (Pv x0 x1 x4) (ix2 d κ)
      = ((∑ r, g (Q r) (H (half d)) (inner d) * pR (sG q (rep k)) (H (half d)) (Q r) (K κ) : ℝ) : EReal) :=
  halves (a := fun r i d => g (Q r) (H i) d) (p := fun i r κ => pR (sG q (rep k)) (H i) (Q r) (K κ)) B.h3 (Pv_val B) d κ

end Cert.GqaBwd

end
-- ==== Proof.GqaGrads.lean ====
module

public import proofs.«01_k».proof.Proof.GqaBlocks
public import proofs.«01_k».proof.Proof.GqaResults
public import proofs.«01_k».proof.Proof.GqaHost
public import proofs.«01_k».proof.Proof.GqaTile
public import proofs.«01_k».proof.Proof.Grads

@[expose] public section

noncomputable section

namespace Cert.GqaBwd

open Cert.KernelGqaIdeal Cert.KernelGqaIdeal.Gen Idealize.ShloMosaic Idealize.ShloMosaic.TcCoe
open Cert.MlaBwd (half inner mR lR dR f64 upV upG hDo hLse hDelta hDo_apply hLse_apply hDelta_apply)

/-- The query rows of a grid point's blocks. -/
abbrev qrow (t : Fin cfg0.N) (r : Fin 1024) : Fin 8192 := ⟨1024 * (t.val % 8) + r.val, by omega⟩

/-- The keys of a grid point's blocks. -/
abbrev krow (t : Fin cfg0.N) (r : Fin 1024) : Fin 8192 := ⟨1024 * (t.val / 8 % 8) + r.val, by omega⟩

/-- The query heads of a grid point's blocks. -/
abbrev head (t : Fin cfg0.N) (i : Fin 2) : Fin 8 := ⟨2 * (t.val / 64) + i.val, by have := lt256 t; omega⟩

section
variable (q g : Fin 8192 → Fin 8 → Fin 64 → ℝ) (k v : Fin 8192 → Fin 2 → Fin 64 → ℝ) (t : Fin cfg0.N)

/-- A column of a pair's block among the columns of all heads. -/
theorem col (y : Fin 8192 → Fin 8 → Fin 64 → ℝ) (r : Fin 8192) (d : Fin 128) (h : 128 * (t.val / 64) + d.val < 512) :
    ((y r ⟨(128 * (t.val / 64) + d.val) / 64, by omega⟩ ⟨(128 * (t.val / 64) + d.val) % 64, Nat.mod_lt _ (by decide)⟩ : ℝ) : EReal)
      = ((y r (head t (half d)) (inner d) : ℝ) : EReal) :=
  congrArg (fun x : ℝ => (x : EReal)) (f64 y rfl (by change (128 * (t.val / 64) + d.val) / 64 = 2 * (t.val / 64) + d.val / 64; omega)
    (by change (128 * (t.val / 64) + d.val) % 64 = d.val % 64; omega))

/-- The queries' block at a grid point, in a real array. -/
theorem rd0 (r : Fin 1024) (d : Fin 128) :
    ((cfg0.win 0).blk t).view.read (Elt Ideal) (gQs (upV q)) (ix2 r d) = ((qG q (qrow t r) (head t (half d)) (inner d) : ℝ) : EReal) := by
  rw [blk0, gQs_apply]
  exact col t (qG q) _ d (by have := lt256 t; omega)

theorem rd1 (r : Fin 1024) (d : Fin 128) :
    ((cfg0.win 1).blk t).view.read (Elt Ideal) (gKv (upK k)) (ix2 r d) = ((k (krow t r) (half d) (inner d) : ℝ) : EReal) := by
  rw [blk1, gKv_apply]

theorem rd2 (r : Fin 1024) (d : Fin 128) :
    ((cfg0.win 2).blk t).view.read (Elt Ideal) (gKv (upK v)) (ix2 r d) = ((v (krow t r) (half d) (inner d) : ℝ) : EReal) := by
  rw [blk2, gKv_apply]

theorem rd3 (r : Fin 1024) (d : Fin 128) :
    ((cfg0.win 3).blk t).view.read (Elt Ideal) (hDo (upG g)) (ix2 r d) = ((g (qrow t r) (head t (half d)) (inner d) : ℝ) : EReal) := by
  rw [blk3, hDo_apply]
  exact col t g _ d (by have := lt256 t; omega)

theorem rd4 (i : Fin 2) (r : Fin 1024) (z : Fin 128) :
    ((cfg0.win 4).blk t).view.read (Elt Ideal) (hLse (gS (upV q) (gRep (upK k)))) (ix3 i r z)
      = (((mR (sG q (rep k)) (head t i) (qrow t r) + Real.log (lR (sG q (rep k)) (head t i) (qrow t r))) / Real.log 2 : ℝ) : EReal) := by
  rw [blk4, gRep_up, hLse_apply (gS_apply q (rep k))]

theorem rd5 (i : Fin 2) (r : Fin 1024) (z : Fin 128) :
    ((cfg0.win 5).blk t).view.read (Elt Ideal) (hDelta (gS (upV q) (gRep (upK k))) (gRep (upK v)) (upG g)) (ix3 i r z)
      = ((dR (sG q (rep k)) (rep v) g (head t i) (qrow t r) : ℝ) : EReal) := by
  rw [blk5, gRep_up, gRep_up, hDelta_apply (rep v) g (gS_apply q (rep k))]

end

variable (q g : Fin 8192 → Fin 8 → Fin 64 → ℝ) (k v : Fin 8192 → Fin 2 → Fin 64 → ℝ)
variable (m : (ℓ : Loc nD τ sig) → Buf (Elt Ideal) ℓ) (c : Dev nD)

/-- The launch memory holds the real arrays. -/
structure Holds : Prop where
  a0 : m ((c : Thread nD τ).loc main_arg0) = upV q
  a1 : m ((c : Thread nD τ).loc main_arg1) = upK k
  a2 : m ((c : Thread nD τ).loc main_arg2) = upK v
  a3 : m ((c : Thread nD τ).loc main_arg3) = upG g

variable {q g k v m c} (A : Holds q g k v m c)
include A

/-- The blocks at a grid point hold the arguments' rows and heads. -/
theorem blocksAt (t : Fin cfg0.N) :
    Blocks q g k v (qrow t) (krow t) (head t) (X0 m c t) (X1 m c t) (X2 m c t) (X3 m c t) (X4 m c t) (X5 m c t) where
  hH i := by change (2 * (t.val / 64) + i.val) % 2 = i.val; omega
  h0 r d := by
    have e : X0 m c t = ((cfg0.win 0).blk t).view.read (Elt Ideal) (gQs (upV q)) := by rw [← A.a0, ← V_v42]; rfl
    rw [e]; exact rd0 q t r d
  h1 r d := by
    have e : X1 m c t = ((cfg0.win 1).blk t).view.read (Elt Ideal) (gKv (upK k)) := by rw [← A.a1, ← V_v44]; rfl
    rw [e]; exact rd1 k t r d
  h2 r d := by
    have e : X2 m c t = ((cfg0.win 2).blk t).view.read (Elt Ideal) (gKv (upK v)) := by rw [← A.a2, ← V_v46]; rfl
    rw [e]; exact rd2 v t r d
  h3 r d := by
    have e : X3 m c t = ((cfg0.win 3).blk t).view.read (Elt Ideal) (hDo (upG g)) := by rw [← A.a3, ← V_v47]; rfl
    rw [e]; exact rd3 g t r d
  h4 i r z := by
    have e : X4 m c t = ((cfg0.win 4).blk t).view.read (Elt Ideal) (hLse (gS (upV q) (gRep (upK k)))) := by rw [← A.a0, ← A.a1, ← V_v27]; rfl
    rw [e]; exact rd4 q k t i r z
  h5 i r z := by
    have e : X5 m c t = ((cfg0.win 5).blk t).view.read (Elt Ideal) (hDelta (gS (upV q) (gRep (upK k))) (gRep (upK v)) (upG g)) := by
      rw [← A.a0, ← A.a1, ← A.a2, ← A.a3, ← V_v33]; rfl
    rw [e]; exact rd5 q g k v t i r z

end Cert.GqaBwd

end
-- ==== Proof.GqaFinal.lean ====
module

public import proofs.«01_k».proof.Proof.GqaGrads
public import proofs.«01_k».proof.Proof.Final

@[expose] public section

noncomputable section

namespace Cert.GqaBwd

open Cert.KernelGqaIdeal Cert.KernelGqaIdeal.Gen Idealize.ShloMosaic Idealize.ShloMosaic.TcCoe
open Cert.MlaBwd (half inner pR dsR dvR blocks_coe)

variable {q g : Fin 8192 → Fin 8 → Fin 64 → ℝ} {k v : Fin 8192 → Fin 2 → Fin 64 → ℝ}
variable {m : (ℓ : Loc nD τ sig) → Buf (Elt Ideal) ℓ} {c : Dev nD} (A : Holds q g k v m c)
include A

/-- A grid point's part of the queries' gradient. -/
theorem cQ_val (n : ℕ) (hn : n < cfg0.N) (r : Fin 8192) (l : Fin 128) :
    cQ m c n (ix2 r l) = ((∑ κ, dsR (sG q (rep k)) (rep v) g (head ⟨n, hn⟩ (half l)) (qrow ⟨n, hn⟩ ⟨r.val % 1024, Nat.mod_lt _ (by decide)⟩) (krow ⟨n, hn⟩ κ)
      * rep k (krow ⟨n, hn⟩ κ) (head ⟨n, hn⟩ (half l)) (inner l) : ℝ) : EReal) := by
  unfold cQ
  rw [dif_pos hn]
  exact tileQ_val (blocksAt A ⟨n, hn⟩) _ _

/-- A grid point's part of the keys' gradient. -/
theorem cK_val (n : ℕ) (hn : n < cfg0.N) (l : Fin 128) (κ : Fin 1024) :
    cK m c n (ix2 l κ) = ((∑ r, qG q (qrow ⟨n, hn⟩ r) (head ⟨n, hn⟩ (half l)) (inner l)
      * dsR (sG q (rep k)) (rep v) g (head ⟨n, hn⟩ (half l)) (qrow ⟨n, hn⟩ r) (krow ⟨n, hn⟩ κ) : ℝ) : EReal) := by
  unfold cK
  rw [dif_pos hn]
  exact tileK_val (blocksAt A ⟨n, hn⟩) l κ

/-- A grid point's part of the values' gradient. -/
theorem cV_val (n : ℕ) (hn : n < cfg0.N) (l : Fin 128) (κ : Fin 1024) :
    cV m c n (ix2 l κ) = ((∑ r, g (qrow ⟨n, hn⟩ r) (head ⟨n, hn⟩ (half l)) (inner l)
      * pR (sG q (rep k)) (head ⟨n, hn⟩ (half l)) (qrow ⟨n, hn⟩ r) (krow ⟨n, hn⟩ κ) : ℝ) : EReal) := by
  unfold cV
  rw [dif_pos hn]
  exact tileV_val (blocksAt A ⟨n, hn⟩) l κ

omit A in
/-- An array by pairs of heads is the sum over all query rows, when each grid point adds its block's rows. -/
theorem sumG_val (f : ℕ → S128x1024.Idx → Ideal .f32) (F : Fin 8 → Fin 64 → Fin 8192 → Fin 8192 → ℝ)
    (hf : ∀ (n : ℕ) (hn : n < cfg0.N) (l : Fin 128) (κ : Fin 1024),
      f n (ix2 l κ) = ((∑ r, F (head ⟨n, hn⟩ (half l)) (inner l) (qrow ⟨n, hn⟩ r) (krow ⟨n, hn⟩ κ) : ℝ) : EReal))
    (p : Fin 4) (l : Fin 128) (κ : Fin 8192) :
    sumG f (ix3 p l κ) = ((∑ r, F ⟨2 * p.val + l.val / 64, by omega⟩ (inner l) r κ : ℝ) : EReal) := by
  refine blocks_coe _ (fun b => f (p.val * 64 + 8 * (κ.val / 1024) + b) (ix2 l ⟨κ.val % 1024, Nat.mod_lt _ (by decide)⟩)) fun b hb => ?_
  have hn : p.val * 64 + 8 * (κ.val / 1024) + b < cfg0.N := by change _ < 256; omega
  rw [hf _ hn]
  refine congrArg (fun x : ℝ => (x : EReal)) (Finset.sum_congr rfl fun r _ => ?_)
  have eh : head ⟨_, hn⟩ (half l) = (⟨2 * p.val + l.val / 64, by omega⟩ : Fin 8) :=
    Fin.ext (by change 2 * ((p.val * 64 + 8 * (κ.val / 1024) + b) / 64) + l.val / 64 = 2 * p.val + l.val / 64; omega)
  have eq : qrow ⟨_, hn⟩ r = (⟨1024 * b + r.val, by omega⟩ : Fin 8192) :=
    Fin.ext (by change 1024 * ((p.val * 64 + 8 * (κ.val / 1024) + b) % 8) + r.val = 1024 * b + r.val; omega)
  have ek : krow ⟨_, hn⟩ ⟨κ.val % 1024, Nat.mod_lt _ (by decide)⟩ = κ :=
    Fin.ext (by change 1024 * ((p.val * 64 + 8 * (κ.val / 1024) + b) / 8 % 8) + κ.val % 1024 = κ.val; omega)
  rw [eh, eq, ek]

/-- The first result: the queries' gradient without the logits' scale. -/
theorem GQ_val (r : Fin 8192) (l : Fin 512) :
    GQ m c (ix2 r l) = ((dqG q (rep k) (rep v) g r ⟨l.val / 64, by omega⟩ ⟨l.val % 64, Nat.mod_lt _ (by decide)⟩ : ℝ) : EReal) := by
  unfold dqG
  refine blocks_coe _ (fun b => cQ m c (l.val / 128 * 64 + 8 * b + r.val / 1024) (ix2 r ⟨l.val % 128, Nat.mod_lt _ (by decide)⟩)) fun b hb => ?_
  have hn : l.val / 128 * 64 + 8 * b + r.val / 1024 < cfg0.N := by change _ < 256; omega
  rw [cQ_val A _ hn]
  refine congrArg (fun x : ℝ => (x : EReal)) (Finset.sum_congr rfl fun κ _ => ?_)
  have eh : head ⟨_, hn⟩ (half ⟨l.val % 128, Nat.mod_lt _ (by decide)⟩) = (⟨l.val / 64, by omega⟩ : Fin 8) :=
    Fin.ext (by change 2 * ((l.val / 128 * 64 + 8 * b + r.val / 1024) / 64) + l.val % 128 / 64 = l.val / 64; omega)
  have eq : qrow ⟨_, hn⟩ ⟨r.val % 1024, Nat.mod_lt _ (by decide)⟩ = r :=
    Fin.ext (by change 1024 * ((l.val / 128 * 64 + 8 * b + r.val / 1024) % 8) + r.val % 1024 = r.val; omega)
  have ek : krow ⟨_, hn⟩ κ = (⟨1024 * b + κ.val, by omega⟩ : Fin 8192) :=
    Fin.ext (by change 1024 * ((l.val / 128 * 64 + 8 * b + r.val / 1024) / 8 % 8) + κ.val = 1024 * b + κ.val; omega)
  have ed : inner (⟨l.val % 128, Nat.mod_lt _ (by decide)⟩ : Fin 128) = (⟨l.val % 64, Nat.mod_lt _ (by decide)⟩ : Fin 64) := Fin.ext (by change l.val % 128 % 64 = l.val % 64; omega)
  rw [eh, eq, ek, ed]

/-- The second result: each query head's gradient of the keys over the natural logarithm of two, transposed, by pairs of heads. -/
theorem GK_val (p : Fin 4) (d : Fin 128) (κ : Fin 8192) :
    GK m c (ix3 p d κ) = ((dkG q (rep k) (rep v) g κ ⟨2 * p.val + d.val / 64, by omega⟩ (inner d) : ℝ) : EReal) := by
  rw [← dkG_eq]
  exact sumG_val (cK m c) (fun h e r κ => qG q r h e * dsR (sG q (rep k)) (rep v) g h r κ) (cK_val A) p d κ

/-- The third result: each query head's gradient of the values, transposed, by pairs of heads. -/
theorem GV_val (p : Fin 4) (d : Fin 128) (κ : Fin 8192) :
    GV m c (ix3 p d κ) = ((dvR (sG q (rep k)) g κ ⟨2 * p.val + d.val / 64, by omega⟩ (inner d) : ℝ) : EReal) :=
  sumG_val (cV m c) (fun h e r κ => g r h e * pR (sG q (rep k)) h r κ) (cV_val A) p d κ

end Cert.GqaBwd

end
-- ==== Proof.GqaFinite.lean ====
module

public import proofs.«01_k».proof.Proof.GqaGrads
public import proofs.«01_k».proof.Proof.Finite

@[expose] public section

set_option maxRecDepth 16384

noncomputable section

namespace Cert.GqaBwd

open Idealize.ShloMosaic
open Cert.MlaBwd (all_real)

instance preFacts : Cert.Pre_gqa_finite.Facts where
  bcast_S_S8192x8x64 := by decide
  reducesTo_S8192x8x64_S_d0_1_2 := by decide
  h_S_ := by decide
  bcast_S_S8192x2x64 := by decide
  reducesTo_S8192x2x64_S_d0_1_2 := by decide
  bcast_S_S8192x512 := by decide
  reducesTo_S8192x512_S_d0_1 := by decide

/-- Arguments that pass the test hold real values. -/
theorem real_of_fn (x0 : FVec Ideal Cert.Pre_gqa_finite.S8192x8x64 .f32) (x1 x2 : FVec Ideal Cert.Pre_gqa_finite.S8192x2x64 .f32) (x3 : FVec Ideal Cert.Pre_gqa_finite.S8192x512 .f32)
    (h0 : (Cert.Pre_gqa_finite.fn x0 x1 x2 x3).1 = fun _ => 1#1) (h1 : (Cert.Pre_gqa_finite.fn x0 x1 x2 x3).2.1 = fun _ => 1#1)
    (h2 : (Cert.Pre_gqa_finite.fn x0 x1 x2 x3).2.2.1 = fun _ => 1#1) (h3 : (Cert.Pre_gqa_finite.fn x0 x1 x2 x3).2.2.2 = fun _ => 1#1) :
    (∀ i, (x0 i : EReal) = ((EReal.toReal (x0 i) : ℝ) : EReal)) ∧ (∀ i, (x1 i : EReal) = ((EReal.toReal (x1 i) : ℝ) : EReal))
      ∧ (∀ i, (x2 i : EReal) = ((EReal.toReal (x2 i) : ℝ) : EReal)) ∧ ∀ i, (x3 i : EReal) = ((EReal.toReal (x3 i) : ℝ) : EReal) := by
  dsimp only [Cert.Pre_gqa_finite.fn] at h0 h1 h2 h3
  exact ⟨all_real x0 _ _ _ h0, all_real x1 _ _ _ h1, all_real x2 _ _ _ h2, all_real x3 _ _ _ h3⟩

/-- A real array of three axes read by its coordinates. -/
theorem of_real3 {a b d : ℕ} (x : FVec Ideal ⟨3, ![a, b, d]⟩ .f32) (h : ∀ i, (x i : EReal) = ((EReal.toReal (x i) : ℝ) : EReal)) :
    x = fun i => ((EReal.toReal (x (ix3 (i 0) (i 1) (i 2))) : ℝ) : EReal) := by
  funext i
  refine (h i).trans ?_
  rw [← eq_ix3 i]

/-- A real array of eight heads is the array of its numbers. -/
theorem of_realV (x : FVec Ideal Cert.Pre_gqa_finite.S8192x8x64 .f32) (h : ∀ i, (x i : EReal) = ((EReal.toReal (x i) : ℝ) : EReal)) :
    x = Cert.MlaBwd.upV fun r a d => EReal.toReal (x (ix3 r a d)) := of_real3 x h

/-- A real array of two heads is the array of its numbers. -/
theorem of_realK (x : FVec Ideal Cert.Pre_gqa_finite.S8192x2x64 .f32) (h : ∀ i, (x i : EReal) = ((EReal.toReal (x i) : ℝ) : EReal)) :
    x = upK fun r a d => EReal.toReal (x (ix3 r a d)) := of_real3 x h

/-- A real array whose rows hold eight heads is the array of its numbers by heads. -/
theorem of_realG (x : FVec Ideal Cert.Pre_gqa_finite.S8192x512 .f32) (h : ∀ i, (x i : EReal) = ((EReal.toReal (x i) : ℝ) : EReal)) :
    x = Cert.MlaBwd.upG fun r a d => EReal.toReal (x (ix2 r ⟨64 * a.val + d.val, by omega⟩)) := by
  funext i
  refine (h i).trans ?_
  obtain ⟨r, l, rfl⟩ : ∃ (r : Fin 8192) (l : Fin 512), i = ix2 r l := ⟨i 0, i 1, eq_ix2 i⟩
  have key : l = (⟨64 * (l.val / 64) + l.val % 64, by omega⟩ : Fin 512) := Fin.ext (by change l.val = 64 * (l.val / 64) + l.val % 64; omega)
  exact congrArg (fun j : Fin 512 => ((EReal.toReal (x (ix2 r j)) : ℝ) : EReal)) key

/-- Finite arguments are real arrays. -/
theorem holds_of_finite {m : (ℓ : Loc Cert.KernelGqaIdeal.nD Cert.KernelGqaIdeal.τ Cert.KernelGqaIdeal.sig) → Buf (Elt Ideal) ℓ}
    (h : Cert.Pre_KernelGqaIdeal_gqa_finite m) (c : Dev Cert.KernelGqaIdeal.nD) :
    ∃ (q g : Fin 8192 → Fin 8 → Fin 64 → ℝ) (k v : Fin 8192 → Fin 2 → Fin 64 → ℝ), Holds q g k v m c := by
  obtain ⟨h0, h1, h2, h3⟩ := h c
  obtain ⟨r0, r1, r2, r3⟩ := real_of_fn _ _ _ _ h0 h1 h2 h3
  exact ⟨_, _, _, _, ⟨of_realV _ r0, of_realK _ r1, of_realK _ r2, of_realG _ r3⟩⟩

end Cert.GqaBwd

end
-- ==== Proof.FfnDh.lean ====
module

public import proofs.«01_k».proof.Proof.Gen.KernelDhIdeal.Value
public import proofs.«01_k».proof.Proof.Gen.ReferenceDhIdeal.Run
public import proofs.«01_k».proof.Proof.Gen.ReferenceDhIdeal.Read
public import Idealize.ShloMosaic.Lib.Pipeline.ValueKit
public import Idealize.ShloMosaic.Lib.StableHlo.ReadAt
public import Idealize.ShloMosaic.Lib.Pointwise
public import proofs.«01_k».proof.Proof.Reals

@[expose] public section

set_option maxRecDepth 16384

noncomputable section

/-! The gradient of the feed-forward layer's hidden values: a product of the output's cotangent with the second weight,
    times the derivative of the squared positive part. -/

namespace Cert.FfnDh

open Cert.KernelDhIdeal Cert.KernelDhIdeal.Gen Cert.KernelDhIdeal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

theorem hz : (![0, 0] : Fin 2 → Nat) = fun _ => 0 := funext fun a => by fin_cases a <;> rfl

theorem lt16 (t : Fin cfg0.N) : t.val < 16 := lt_of_lt_of_eq t.isLt N_0

/-- What a grid point leaves in the output's block is its body's value of the input blocks. -/
theorem out_A (i : grid0.Coords) (a3 : Memref sig .tc .vmem S2048x1024 .bf16) (h3 : a3.IsWhole) (a4 : Memref sig .tc .vmem S1024x1024 .bf16) (h4 : a4.IsWhole)
    (a5 : Memref sig .tc .vmem S2048x1024 .bf16) (h5 : a5.IsWhole) (a6 : Memref sig .tc .vmem S2048x1024 .bf16) (h6 : a6.IsWhole) (a7 : Memref sig .tc .vmem S2048x1024 .f32) (h7 : a7.IsWhole)
    (x0 : Vec Ideal S2048x1024 .bf16) (x1 : Vec Ideal S1024x1024 .bf16) (x2 : Vec Ideal S2048x1024 .bf16) :
    out0_A_3 c i a3 h3 a4 h4 a5 h5 a6 h6 a7 h7 x0 x1 x2 = k0_pay1 x0 x1 x2 := by
  unfold out0_A_3
  rw [View.read_writes_eq_canon _ _ _ (cover0_A_3 c i a3 h3 a4 h4 a5 h5 a6 h6 a7 h7 x0 x1 x2)]
  unfold kernelRun0_A
  dsimp only
  rw [View.canon_unit_zero hz]
  simp only [View.readAt_eq_ld, h3.read_unread, h4.read_unread, h5.read_unread, View.ld_unit_zero (S := S2048x1024) hz, View.ld_unit_zero (S := S1024x1024) hz]

/-- That value at a row and a column. -/
theorem pay_apply (x0 : Vec Ideal S2048x1024 .bf16) (x1 : Vec Ideal S1024x1024 .bf16) (x2 : Vec Ideal S2048x1024 .bf16) (r : Fin 2048) (l : Fin 1024) :
    k0_pay1 (F := Ideal) x0 x1 x2 (ix2 r l)
      = (∑ κ : Fin 1024, x0 (ix2 r κ) * x1 (ix2 l κ)) * (((2 : ℝ) : EReal) * max (x2 (ix2 r l)) 0) := by
  pointwise [k0_pay1]
  rw [Cert.MlaBwd.bits2]

/-- The output's cotangent, the weight and the hidden values as launched. -/
def A0 : FVec Ideal S8192x1024 .f32 := m ((c : Thread nD τ).loc main_arg0)
def A1 : FVec Ideal S4096x1024 .f32 := m ((c : Thread nD τ).loc main_arg1)
def A2 : FVec Ideal S8192x4096 .f32 := m ((c : Thread nD τ).loc main_arg2)

/-- The gradient of the hidden values in a row and a column. -/
def dhAt (y : FVec Ideal S8192x1024 .f32) (w : FVec Ideal S4096x1024 .f32) (x : FVec Ideal S8192x4096 .f32) (r : Fin 8192) (l : Fin 4096) : EReal :=
  (∑ κ : Fin 1024, y (ix2 r κ) * w (ix2 l κ)) * (((2 : ℝ) : EReal) * max (x (ix2 r l)) 0)

/-- The gradient as the kernel computes it. -/
def G : S8192x4096.Idx → Ideal .bf16 := fun j => dhAt (A0 m c) (A1 m c) (A2 m c) (j 0) (j 1)

theorem V_0 : V (F := Ideal) m c main_v0 = A0 m c := by
  unfold V; simp only [hostOps0]; after_reads_simp; rfl
theorem V_1 : V (F := Ideal) m c main_v1 = A1 m c := by
  unfold V; simp only [hostOps0]; after_reads_simp; rfl
theorem V_2 : V (F := Ideal) m c main_v2 = A2 m c := by
  unfold V; simp only [hostOps0]; after_reads_simp; rfl

theorem e0 : ∀ t : Fin cfg0.N, win0_0.index t = ![t.val / 4, 0] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, t.val % 4] := (by decide +kernel : ∀ t : Fin grid0.N, _)
theorem e3 : ∀ t : Fin cfg0.N, win0_3.index t = ![t.val / 4, t.val % 4] := (by decide +kernel : ∀ t : Fin grid0.N, _)

/-- The output's cotangent's block at a grid point. -/
theorem blk0 (t : Fin cfg0.N) (r : Fin 2048) (κ : Fin 1024) :
    iblk m c 0 t (ix2 r κ) = (A0 m c) (ix2 ⟨2048 * (t.val / 4) + r.val, by have := lt16 t; omega⟩ κ) := by
  have e : iblk m c 0 t = ((cfg0.win 0).blk t).view.read (Elt Ideal) (A0 m c) := by rw [← V_0 m c]; rfl
  rw [e]
  refine congrArg (A0 m c) (funext fun a => Fin.ext ?_)
  have h0 : (((cfg0.win 0).blk t).view.emb (ix2 r κ) 0 : ℕ) = 2048 * (t.val / 4) + r.val := by
    blk_simp [e0]; show _ + r.val = _; omega
  have h1 : (((cfg0.win 0).blk t).view.emb (ix2 r κ) 1 : ℕ) = κ.val := by
    blk_simp [e0]
  fin_cases a
  · exact h0
  · exact h1

/-- The weight's block at a grid point. -/
theorem blk1 (t : Fin cfg0.N) (l : Fin 1024) (κ : Fin 1024) :
    iblk m c 1 t (ix2 l κ) = (A1 m c) (ix2 ⟨1024 * (t.val % 4) + l.val, by omega⟩ κ) := by
  have e : iblk m c 1 t = ((cfg0.win 1).blk t).view.read (Elt Ideal) (A1 m c) := by rw [← V_1 m c]; rfl
  rw [e]
  refine congrArg (A1 m c) (funext fun a => Fin.ext ?_)
  have h0 : (((cfg0.win 1).blk t).view.emb (ix2 l κ) 0 : ℕ) = 1024 * (t.val % 4) + l.val := by
    blk_simp [e1]; show _ + l.val = _; omega
  have h1 : (((cfg0.win 1).blk t).view.emb (ix2 l κ) 1 : ℕ) = κ.val := by
    blk_simp [e1]
  fin_cases a
  · exact h0
  · exact h1

/-- The hidden values' block at a grid point. -/
theorem blk2 (t : Fin cfg0.N) (r : Fin 2048) (l : Fin 1024) :
    iblk m c 2 t (ix2 r l) = (A2 m c)
      (ix2 ⟨2048 * (t.val / 4) + r.val, by have := lt16 t; omega⟩ ⟨1024 * (t.val % 4) + l.val, by omega⟩) := by
  have e : iblk m c 2 t = ((cfg0.win 2).blk t).view.read (Elt Ideal) (A2 m c) := by rw [← V_2 m c]; rfl
  rw [e]
  refine congrArg (A2 m c) (funext fun a => Fin.ext ?_)
  have h0 : (((cfg0.win 2).blk t).view.emb (ix2 r l) 0 : ℕ) = 2048 * (t.val / 4) + r.val := by
    blk_simp [e2]; show _ + r.val = _; omega
  have h1 : (((cfg0.win 2).blk t).view.emb (ix2 r l) 1 : ℕ) = 1024 * (t.val % 4) + l.val := by
    blk_simp [e2]; show _ + l.val = _; omega
  fin_cases a
  · exact h0
  · exact h1

/-- The result array after the run. -/
theorem arr : (dats m 0 c).arrAt 3 cfg0.N = G m c := by
  refine Dat.arrAt_eq_of_covers (cfg := cfg0) (c := c) (dats m 0 c) 3 (G m c) (by decide +kernel) fun t hf y => ?_
  obtain ⟨r, l, rfl⟩ : ∃ (r : Fin 2048) (l : Fin 1024), y = ix2 r l := ⟨y 0, y 1, eq_ix2 y⟩
  have h := lt16 t
  have hj : ((cfg0.win 3).blk t).view.emb (ix2 r l) = (ix2 ⟨2048 * (t.val / 4) + r.val, by omega⟩ ⟨1024 * (t.val % 4) + l.val, by omega⟩ : S8192x4096.Idx) := by
    funext a
    refine Fin.ext ?_
    have h0 : (((cfg0.win 3).blk t).view.emb (ix2 r l) 0 : ℕ) = 2048 * (t.val / 4) + r.val := by
      blk_simp [e3]; show _ + r.val = _; omega
    have h1 : (((cfg0.win 3).blk t).view.emb (ix2 r l) 1 : ℕ) = 1024 * (t.val % 4) + l.val := by
      blk_simp [e3]; show _ + l.val = _; omega
    fin_cases a
    · exact h0
    · exact h1
  rw [after0_3, outsAt0, out_A]
  refine Eq.trans ?_ (congrArg (G m c) hj).symm
  refine (pay_apply _ _ _ r l).trans ?_
  simp only [blk0, blk1, blk2]
  rfl

/-- The run's post: the result, and the arguments as launched. -/
theorem run_result : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr m c), (h c).2⟩) (run_blocks m ρ)

open Cert.ReferenceDhIdeal.Read in
/-- The reference's gradient at a row and a column. -/
theorem ref_apply (y : FVec Ideal S8192x1024 .f32) (w : FVec Ideal S4096x1024 .f32) (x : FVec Ideal S8192x4096 .f32) (r : Fin 8192) (l : Fin 4096) :
    val_main_v12 (F := Ideal) y w x (ix2 r l) = dhAt y w x r l := by
  unfold dhAt
  pointwise [val_main_v12, val_main_v11, val_main_v10, val_main_v9, val_main_v8, val_main_v6, val_main_v5, val_main_v2, val_main_v1, val_main_v0, val_main_cst_2, val_main_cst_1, val_main_cst, val_main_call0_v0, val_main_call0_cst]
  rw [Cert.MlaBwd.bits2]
  split_ifs with hx
  · rfl
  · rw [max_eq_right (not_lt.mp hx), mul_zero, mul_zero]

end Cert.FfnDh

end
-- ==== Proof.FfnSum.lean ====
module

public import Idealize.ShloMosaic.PureOps.Ideal
public import Mathlib.Algebra.BigOperators.Fin
public import Mathlib.Logic.Equiv.Fin.Basic

@[expose] public section

noncomputable section

/-! Sums taken block by block. -/

namespace Cert.FfnSum

/-- A sum over `a` blocks of `b` numbers each, in any order. -/
theorem sum_of_blocks {M : Type*} [AddCommMonoid M] (a b : ℕ) {n : ℕ} (hn : n = a * b) (f : Fin n → M) (g : Fin a → Fin b → M)
    (hg : ∀ (k : Fin a) (y : Fin b) (h : b * k.val + y.val < n), g k y = f ⟨b * k.val + y.val, h⟩) :
    ∑ x, f x = ∑ k, ∑ y, g k y := by
  subst hn
  rw [← Equiv.sum_comp (finProdFinEquiv : Fin a × Fin b ≃ Fin (a * b)) f, Fintype.sum_prod_type]
  refine Finset.sum_congr rfl fun k _ => Finset.sum_congr rfl fun y _ => ?_
  have e : (finProdFinEquiv (k, y)).val = b * k.val + y.val := by simp [finProdFinEquiv]; omega
  rw [hg k y (e ▸ (finProdFinEquiv (k, y)).isLt)]
  exact congrArg f (Fin.ext e)

/-- The product of two columns of 8192 numbers, over the `k`-th quarter of the rows. -/
def quarter (x y : Fin 8192 → EReal) (k : Fin 4) : EReal :=
  ∑ κ : Fin 2048, x ⟨2048 * k.val + κ.val, by omega⟩ * y ⟨2048 * k.val + κ.val, by omega⟩

theorem sum_quarters (x y : Fin 8192 → EReal) :
    ∑ κ, x κ * y κ = quarter x y 0 + quarter x y 1 + quarter x y 2 + quarter x y 3 :=
  (sum_of_blocks 4 2048 rfl _ _ fun _ _ _ => rfl).trans (Fin.sum_univ_four (quarter x y))

end Cert.FfnSum

end
-- ==== Proof.FfnDu.lean ====
module

public import proofs.«01_k».proof.Proof.Gen.KernelDuIdeal.Value
public import proofs.«01_k».proof.Proof.Gen.ReferenceDuIdeal.Run
public import proofs.«01_k».proof.Proof.Gen.ReferenceDuIdeal.Read
public import Idealize.ShloMosaic.Lib.Pipeline.ValueKit
public import Idealize.ShloMosaic.Lib.StableHlo.ReadAt
public import Idealize.ShloMosaic.Lib.Pointwise
public import proofs.«01_k».proof.Proof.FfnSum

@[expose] public section

set_option maxRecDepth 16384

noncomputable section

/-! The gradient of the feed-forward layer's input: a product of the hidden values' cotangent with the first weight, the
    4096 hidden values summed over in two halves. -/

namespace Cert.FfnDu

open Cert.KernelDuIdeal Cert.KernelDuIdeal.Gen Cert.KernelDuIdeal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

theorem hz : (![0, 0] : Fin 2 → Nat) = fun _ => 0 := funext fun a => by fin_cases a <;> rfl

theorem lt16 (t : Fin cfg0.N) : t.val < 16 := lt_of_lt_of_eq t.isLt N_0

section
variable (i : grid0.Coords) (a3 : Memref sig .tc .vmem S1024x2048 .bf16) (h3 : a3.IsWhole) (a4 : Memref sig .tc .vmem S1024x2048 .bf16) (h4 : a4.IsWhole)
  (a5 : Memref sig .tc .vmem S1024x1024 .bf16) (h5 : a5.IsWhole) (a6 : Memref sig .tc .vmem S1024x1024 .f32) (h6 : a6.IsWhole)
  (x0 x1 : Vec Ideal S1024x2048 .bf16) (s : Vec Ideal S1024x1024 .f32)

/-- The first half leaves its product in the accumulator. -/
theorem sout_A (g0 : cond0_0 i) (g1 : ¬cond0_1 i) (g2 : ¬cond0_2 i) :
    sout0_A_0 c i a3 h3 a4 h4 a5 h5 a6 h6 g0 g1 g2 x0 x1 = k0_pay2 x0 x1 := by
  unfold sout0_A_0
  rw [View.read_writes_eq_canon _ _ _ (scover0_A_0 c i a3 h3 a4 h4 a5 h5 a6 h6 g0 g1 g2 x0 x1)]
  unfold kernelRun0_A
  dsimp only
  rw [View.canon_unit_zero hz]
  simp only [View.readAt_eq_ld, h3.read_unread, h4.read_unread, View.ld_unit_zero (S := S1024x2048) hz]

/-- The second half leaves the accumulator plus its product in the output's block. -/
theorem out_B (g0 : ¬cond0_0 i) (g1 : cond0_1 i) (g2 : cond0_2 i) :
    out0_B_2 c i a3 h3 a4 h4 a5 h5 a6 h6 g0 g1 g2 x0 x1 s = k0_pay4 (k0_pay3 x0 x1 s) := by
  unfold out0_B_2
  rw [View.read_writes_eq_canon _ _ _ (cover0_B_2 c i a3 h3 a4 h4 a5 h5 a6 h6 g0 g1 g2 x0 x1 s)]
  unfold kernelRun0_B
  sl_unfold_words
  rw [View.canon_unit_zero hz]
  simp only [View.readCov_unit_zero (S := S1024x1024) _ hz, View.readAt_eq_ld, h3.read_unread, h4.read_unread, h6.read_unread, View.ld_unit_zero (S := S1024x2048) hz, View.ld_unit_zero (S := S1024x1024) hz]

end

/-- The values of the two halves at a row and a column. -/
theorem pay2_apply (x0 x1 : Vec Ideal S1024x2048 .bf16) (r l : Fin 1024) :
    k0_pay2 (F := Ideal) x0 x1 (ix2 r l) = ∑ κ : Fin 2048, x0 (ix2 r κ) * x1 (ix2 l κ) := by
  pointwise [k0_pay2, k0_pay1]
theorem pay4_apply (x0 x1 : Vec Ideal S1024x2048 .bf16) (s : Vec Ideal S1024x1024 .f32) (r l : Fin 1024) :
    k0_pay4 (F := Ideal) (k0_pay3 x0 x1 s) (ix2 r l) = s (ix2 r l) + ∑ κ : Fin 2048, x0 (ix2 r κ) * x1 (ix2 l κ) := by
  pointwise [k0_pay4, k0_pay3, k0_pay1]

/-- The hidden values' cotangent and the weight as launched. -/
def A0 : FVec Ideal S8192x4096 .f32 := m ((c : Thread nD τ).loc main_arg0)
def A1 : FVec Ideal S1024x4096 .f32 := m ((c : Thread nD τ).loc main_arg1)

/-- The input's gradient in a row and a column. -/
def duAt (y : FVec Ideal S8192x4096 .f32) (w : FVec Ideal S1024x4096 .f32) (r : Fin 8192) (l : Fin 1024) : EReal :=
  ∑ κ : Fin 4096, y (ix2 r κ) * w (ix2 l κ)

/-- The part of that sum over one half of the hidden values. -/
def half (y : FVec Ideal S8192x4096 .f32) (w : FVec Ideal S1024x4096 .f32) (r : Fin 8192) (l : Fin 1024) (k : Fin 2) : EReal :=
  ∑ κ : Fin 2048, y (ix2 r ⟨2048 * k.val + κ.val, by omega⟩) * w (ix2 l ⟨2048 * k.val + κ.val, by omega⟩)

theorem duAt_halves (y : FVec Ideal S8192x4096 .f32) (w : FVec Ideal S1024x4096 .f32) (r : Fin 8192) (l : Fin 1024) :
    duAt y w r l = half y w r l 0 + half y w r l 1 :=
  (Cert.FfnSum.sum_of_blocks 2 2048 rfl _ _ fun _ _ _ => rfl).trans (Fin.sum_univ_two (half y w r l))

/-- The gradient as the kernel computes it. -/
def G : S8192x1024.Idx → Ideal .bf16 := fun j => duAt (A0 m c) (A1 m c) (j 0) (j 1)

theorem V_0 : V (F := Ideal) m c main_v0 = A0 m c := by
  unfold V; simp only [hostOps0]; after_reads_simp; rfl
theorem V_1 : V (F := Ideal) m c main_v1 = A1 m c := by
  unfold V; simp only [hostOps0]; after_reads_simp; rfl

theorem e0 : ∀ t : Fin cfg0.N, win0_0.index t = ![t.val / 2, t.val % 2] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, 0] := (by decide +kernel : ∀ t : Fin grid0.N, _)

/-- The row of the arrays that a grid point's row is. -/
abbrev row (t : Fin cfg0.N) (r : Fin 1024) : Fin 8192 := ⟨1024 * (t.val / 2) + r.val, by have := lt16 t; omega⟩

/-- The input blocks at a grid point. -/
def X0 (t : Fin cfg0.N) : Vec Ideal S1024x2048 .bf16 := iblk m c 0 t
def X1 (t : Fin cfg0.N) : Vec Ideal S1024x2048 .bf16 := iblk m c 1 t

/-- The cotangent's block at a grid point. -/
theorem blk0 (t : Fin cfg0.N) (r : Fin 1024) (κ : Fin 2048) :
    X0 m c t (ix2 r κ) = (A0 m c) (ix2 (row t r) ⟨2048 * (t.val % 2) + κ.val, by omega⟩) := by
  have e : X0 m c t = ((cfg0.win 0).blk t).view.read (Elt Ideal) (A0 m c) := by rw [← V_0 m c]; rfl
  rw [e]
  refine congrArg (A0 m c) (funext fun a => Fin.ext ?_)
  have h0 : (((cfg0.win 0).blk t).view.emb (ix2 r κ) 0 : ℕ) = 1024 * (t.val / 2) + r.val := by
    blk_simp [e0]; show _ + r.val = _; omega
  have h1 : (((cfg0.win 0).blk t).view.emb (ix2 r κ) 1 : ℕ) = 2048 * (t.val % 2) + κ.val := by
    blk_simp [e0]; show _ + κ.val = _; omega
  fin_cases a
  · exact h0
  · exact h1

/-- The weight's block at a grid point. -/
theorem blk1 (t : Fin cfg0.N) (l : Fin 1024) (κ : Fin 2048) :
    X1 m c t (ix2 l κ) = (A1 m c) (ix2 l ⟨2048 * (t.val % 2) + κ.val, by omega⟩) := by
  have e : X1 m c t = ((cfg0.win 1).blk t).view.read (Elt Ideal) (A1 m c) := by rw [← V_1 m c]; rfl
  rw [e]
  refine congrArg (A1 m c) (funext fun a => Fin.ext ?_)
  have h0 : (((cfg0.win 1).blk t).view.emb (ix2 l κ) 0 : ℕ) = l.val := by
    blk_simp [e1]
  have h1 : (((cfg0.win 1).blk t).view.emb (ix2 l κ) 1 : ℕ) = 2048 * (t.val % 2) + κ.val := by
    blk_simp [e1]; show _ + κ.val = _; omega
  fin_cases a
  · exact h0
  · exact h1

/-- The product of the blocks at a grid point is one half of the sum. -/
theorem prod_at (t : Fin cfg0.N) (r l : Fin 1024) :
    (∑ κ : Fin 2048, X0 m c t (ix2 r κ) * X1 m c t (ix2 l κ))
      = half (A0 m c) (A1 m c) (row t r) l ⟨t.val % 2, by omega⟩ := by
  simp only [blk0, blk1]
  rfl

/-- At the second half, the output's block holds the whole sum. -/
theorem out_at (t : Fin cfg0.N) (ht : t.val % 2 = 1) (r l : Fin 1024) :
    (outsAt0 m c t.val t.isLt).1 (ix2 r l) = duAt (A0 m c) (A1 m c) (row t r) l := by
  have h := lt16 t
  have hs := outsAt0_A m c ⟨t.val - 1, by omega⟩ (by show (t.val - 1) % 2 = 0; omega) (by show ¬(t.val - 1) % 2 = 1; omega) (by show ¬(t.val - 1) % 2 = 1; omega)
  rw [outsAt0_B m c t (by omega) ht ht]
  dsimp only
  rw [out_B]
  refine (pay4_apply _ _ _ r l).trans ?_
  rw [duAt_halves]
  refine congrArg₂ (· + ·) ?_ ?_
  · refine (congrFun (congrArg Prod.snd hs) (ix2 r l)).trans ?_
    rw [sout_A]
    refine (pay2_apply _ _ r l).trans ((prod_at m c _ r l).trans ?_)
    have ea : (⟨1024 * ((t.val - 1) / 2) + r.val, by omega⟩ : Fin 8192) = row t r := Fin.ext (by show 1024 * ((t.val - 1) / 2) + r.val = 1024 * (t.val / 2) + r.val; omega)
    have eb : (⟨(t.val - 1) % 2, by omega⟩ : Fin 2) = 0 := Fin.ext (by show (t.val - 1) % 2 = 0; omega)
    exact congrArg₂ (fun a b => half (A0 m c) (A1 m c) a l b) ea eb
  · exact (prod_at m c t r l).trans (congrArg (half (A0 m c) (A1 m c) (row t r) l) (Fin.ext ht : (⟨t.val % 2, by omega⟩ : Fin 2) = 1))

/-- The result array after the run. -/
theorem arr : (dats m 0 c).arrAt 2 cfg0.N = G m c := by
  refine Dat.arrAt_eq_of_covers (cfg := cfg0) (c := c) (dats m 0 c) 2 (G m c) (by decide +kernel) fun t hf y => ?_
  obtain ⟨r, l, rfl⟩ : ∃ (r : Fin 1024) (l : Fin 1024), y = ix2 r l := ⟨y 0, y 1, eq_ix2 y⟩
  have h := lt16 t
  have hj : ((cfg0.win 2).blk t).view.emb (ix2 r l) = (ix2 (row t r) l : S8192x1024.Idx) := by
    funext a
    refine Fin.ext ?_
    have h0 : (((cfg0.win 2).blk t).view.emb (ix2 r l) 0 : ℕ) = 1024 * (t.val / 2) + r.val := by
      blk_simp [e2]; show _ + r.val = _; omega
    have h1 : (((cfg0.win 2).blk t).view.emb (ix2 r l) 1 : ℕ) = l.val := by
      blk_simp [e2]
    fin_cases a
    · exact h0
    · exact h1
  rw [after0_2]
  refine Eq.trans ?_ (congrArg (G m c) hj).symm
  exact out_at m c t ((flush0_2 t).mp hf) r l

/-- The run's post: the result, and the arguments as launched. -/
theorem run_result : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr m c), (h c).2⟩) (run_blocks m ρ)

open Cert.ReferenceDuIdeal.Read in
/-- The reference's gradient at a row and a column. -/
theorem ref_apply (y : FVec Ideal S8192x4096 .f32) (w : FVec Ideal S1024x4096 .f32) (r : Fin 8192) (l : Fin 1024) :
    val_main_v3 (F := Ideal) y w (ix2 r l) = duAt y w r l := by
  unfold duAt
  pointwise [val_main_v3, val_main_v2]

end Cert.FfnDu

end
-- ==== Proof.FfnDwDown.lean ====
module

public import proofs.«01_k».proof.Proof.Gen.KernelDwDownIdeal.Value
public import proofs.«01_k».proof.Proof.Gen.ReferenceDwDownIdeal.Run
public import proofs.«01_k».proof.Proof.Gen.ReferenceDwDownIdeal.Read
public import Idealize.ShloMosaic.Lib.Pipeline.ValueKit
public import Idealize.ShloMosaic.Lib.StableHlo.ReadAt
public import Idealize.ShloMosaic.Lib.Pointwise
public import proofs.«01_k».proof.Proof.FfnSum

@[expose] public section

set_option maxRecDepth 16384

noncomputable section

/-! The gradient of the feed-forward layer's second weight, written over one layer of the layers' gradients: a product of
    the activations with the output's cotangent, the 8192 positions summed over in four quarters. -/

namespace Cert.FfnDwDown

open Cert.KernelDwDownIdeal Cert.KernelDwDownIdeal.Gen Cert.KernelDwDownIdeal.Value Cert.FfnSum
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

theorem lt16 (t : Fin cfg0.N) : t.val < 16 := lt_of_lt_of_eq t.isLt N_0

section
variable (i : grid0.Coords) (a3 : Memref sig .tc .vmem S2048x1024 .bf16) (h3 : a3.IsWhole) (a4 : Memref sig .tc .vmem S2048x1024 .bf16) (h4 : a4.IsWhole)
  (a6 : Memref sig .tc .vmem S1x1024x1024 .bf16) (h6 : a6.IsWhole) (a7 : Memref sig .tc .vmem S1024x1024 .f32) (h7 : a7.IsWhole)
  (x0 x1 : Vec Ideal S2048x1024 .bf16) (s : Vec Ideal S1024x1024 .f32)

/-- The first quarter leaves its product in the accumulator. -/
theorem sout_A (g0 : cond0_0 i) (g1 : ¬cond0_1 i) (g2 : ¬cond0_2 i) :
    sout0_A_0 c i a3 h3 a4 h4 a6 h6 a7 h7 g0 g1 g2 x0 x1 = k0_pay2 x0 x1 := by
  unfold sout0_A_0
  rw [View.read_writes_eq_canon _ _ _ (scover0_A_0 c i a3 h3 a4 h4 a6 h6 a7 h7 g0 g1 g2 x0 x1)]
  unfold kernelRun0_A
  dsimp only
  rw [View.canon_unit_zero hz]
  simp only [View.readAt_eq_ld, h3.read_unread, h4.read_unread, View.ld_unit_zero (S := S2048x1024) hz]

/-- The quarters between add their products to it. -/
theorem sout_B (g0 : ¬cond0_0 i) (g1 : cond0_1 i) (g2 : ¬cond0_2 i) :
    sout0_B_0 c i a3 h3 a4 h4 a6 h6 a7 h7 g0 g1 g2 x0 x1 s = k0_pay3 x0 x1 s := by
  unfold sout0_B_0
  rw [View.read_writes_eq_canon _ _ _ (scover0_B_0 c i a3 h3 a4 h4 a6 h6 a7 h7 g0 g1 g2 x0 x1 s)]
  unfold kernelRun0_B
  dsimp only
  rw [View.canon_unit_zero hz]
  simp only [View.readAt_eq_ld, h3.read_unread, h4.read_unread, h7.read_unread, View.ld_unit_zero (S := S2048x1024) hz, View.ld_unit_zero (S := S1024x1024) hz]

/-- The last quarter leaves the accumulator plus its product in the output's block. -/
theorem out_C (g0 : ¬cond0_0 i) (g1 : cond0_1 i) (g2 : cond0_2 i) :
    out0_C_2 c i a3 h3 a4 h4 a6 h6 a7 h7 g0 g1 g2 x0 x1 s = k0_pay4 (k0_pay3 x0 x1 s) := by
  unfold out0_C_2
  rw [View.read_writes_eq_canon _ _ _ (cover0_C_2 c i a3 h3 a4 h4 a6 h6 a7 h7 g0 g1 g2 x0 x1 s)]
  unfold kernelRun0_C
  sl_unfold_words
  rw [View.canon_unit_zero hz3]
  simp only [View.readCov_unit_zero (S := S1024x1024) _ hz, View.readAt_eq_ld, h3.read_unread, h4.read_unread, h7.read_unread, View.ld_unit_zero (S := S2048x1024) hz, View.ld_unit_zero (S := S1024x1024) hz]

end

/-- The values of the quarters at a row and a column. -/
theorem pay2_apply (x0 x1 : Vec Ideal S2048x1024 .bf16) (r l : Fin 1024) :
    k0_pay2 (F := Ideal) x0 x1 (ix2 r l) = ∑ κ : Fin 2048, x0 (ix2 κ r) * x1 (ix2 κ l) := by
  pointwise [k0_pay2, k0_pay1]
theorem pay3_apply (x0 x1 : Vec Ideal S2048x1024 .bf16) (s : Vec Ideal S1024x1024 .f32) (r l : Fin 1024) :
    k0_pay3 (F := Ideal) x0 x1 s (ix2 r l) = s (ix2 r l) + ∑ κ : Fin 2048, x0 (ix2 κ r) * x1 (ix2 κ l) := by
  pointwise [k0_pay3, k0_pay1]
theorem pay4_apply (s : Vec Ideal S1024x1024 .f32) (z : Fin 1) (r l : Fin 1024) :
    k0_pay4 (F := Ideal) s (ix3 z r l) = s (ix2 r l) := by
  pointwise [k0_pay4]

/-- The activations, the output's cotangent and the layers' gradients as launched. -/
def A0 : FVec Ideal S8192x4096 .f32 := m ((c : Thread nD τ).loc main_arg0)
def A1 : FVec Ideal S8192x1024 .f32 := m ((c : Thread nD τ).loc main_arg1)
def A2 : FVec Ideal S4x4096x1024 .f32 := m ((c : Thread nD τ).loc main_arg2)

/-- The layers' gradients with the last layer's put in. -/
def dwAt (x : FVec Ideal S8192x4096 .f32) (y : FVec Ideal S8192x1024 .f32) (b : FVec Ideal S4x4096x1024 .f32) (z : Fin 4) (r : Fin 4096) (l : Fin 1024) : EReal :=
  if z.val = 3 then ∑ κ : Fin 8192, x (ix2 κ r) * y (ix2 κ l) else b (ix3 z r l)

/-- The gradients as the kernel leaves them. -/
def G : S4x4096x1024.Idx → Ideal .bf16 := fun j => dwAt (A0 m c) (A1 m c) (A2 m c) (j 0) (j 1) (j 2)

theorem V_0 : V (F := Ideal) m c main_v0 = A0 m c := by
  unfold V; simp only [hostOps0]; after_reads_simp; rfl
theorem V_1 : V (F := Ideal) m c main_v1 = A1 m c := by
  unfold V; simp only [hostOps0]; after_reads_simp; rfl
theorem V_3 : V (F := Ideal) m c main_v3 = A2 m c := by
  unfold V; simp only [hostOps0]; after_reads_simp; rfl

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![3, t.val / 4, 0] := (by decide +kernel : ∀ t : Fin grid0.N, _)

/-- The row and the column of the weight that a grid point's are. -/
abbrev row (t : Fin cfg0.N) (r : Fin 1024) : Fin 4096 := ⟨1024 * (t.val / 4) + r.val, by have := lt16 t; omega⟩
abbrev col (t : Fin cfg0.N) (l : Fin 1024) : Fin 1024 := l

/-- The input blocks at a grid point. -/
def X0 (t : Fin cfg0.N) : Vec Ideal S2048x1024 .bf16 := iblk m c 0 t
def X1 (t : Fin cfg0.N) : Vec Ideal S2048x1024 .bf16 := iblk m c 1 t

/-- The activations' block at a grid point. -/
theorem blk0 (t : Fin cfg0.N) (κ : Fin 2048) (r : Fin 1024) :
    X0 m c t (ix2 κ r) = (A0 m c) (ix2 ⟨2048 * (t.val % 4) + κ.val, by omega⟩ (row t r)) := by
  have e : X0 m c t = ((cfg0.win 0).blk t).view.read (Elt Ideal) (A0 m c) := by rw [← V_0 m c]; rfl
  rw [e]
  refine congrArg (A0 m c) (funext fun a => Fin.ext ?_)
  have h0 : (((cfg0.win 0).blk t).view.emb (ix2 κ r) 0 : ℕ) = 2048 * (t.val % 4) + κ.val := by
    blk_simp [e0]; show _ + κ.val = _; omega
  have h1 : (((cfg0.win 0).blk t).view.emb (ix2 κ r) 1 : ℕ) = 1024 * (t.val / 4) + r.val := by
    blk_simp [e0]; show _ + r.val = _; omega
  fin_cases a
  · exact h0
  · exact h1

/-- The cotangent's block at a grid point. -/
theorem blk1 (t : Fin cfg0.N) (κ : Fin 2048) (l : Fin 1024) :
    X1 m c t (ix2 κ l) = (A1 m c) (ix2 ⟨2048 * (t.val % 4) + κ.val, by omega⟩ (col t l)) := by
  have e : X1 m c t = ((cfg0.win 1).blk t).view.read (Elt Ideal) (A1 m c) := by rw [← V_1 m c]; rfl
  rw [e]
  refine congrArg (A1 m c) (funext fun a => Fin.ext ?_)
  have h0 : (((cfg0.win 1).blk t).view.emb (ix2 κ l) 0 : ℕ) = 2048 * (t.val % 4) + κ.val := by
    blk_simp [e1]; show _ + κ.val = _; omega
  have h1 : (((cfg0.win 1).blk t).view.emb (ix2 κ l) 1 : ℕ) = l.val := by
    blk_simp [e1]
  fin_cases a
  · exact h0
  · exact h1

/-- The quarter of the sum at a row and a column of the weight. -/
def part (r : Fin 4096) (l : Fin 1024) (k : Fin 4) : EReal := quarter (fun κ => A0 m c (ix2 κ r)) (fun κ => A1 m c (ix2 κ l)) k

/-- The product of the blocks at a grid point is a quarter of the sum. -/
theorem prod_at (t : Fin cfg0.N) (r l : Fin 1024) :
    (∑ κ : Fin 2048, X0 m c t (ix2 κ r) * X1 m c t (ix2 κ l)) = part m c (row t r) (col t l) ⟨t.val % 4, by omega⟩ := by
  simp only [blk0, blk1]
  rfl

/-- The accumulator after a first quarter. -/
theorem acc_first (t : Fin cfg0.N) (ht : t.val % 4 = 0) (r l : Fin 1024) :
    (outsAt0 m c t.val t.isLt).2 (ix2 r l) = part m c (row t r) (col t l) ⟨t.val % 4, by omega⟩ := by
  rw [outsAt0_A m c t ht (by omega) (by omega)]
  dsimp only
  rw [sout_A]
  exact (pay2_apply _ _ r l).trans (prod_at m c t r l)

/-- The accumulator after a quarter between, over what the quarter before left. -/
theorem acc_next (t : Fin cfg0.N) (h0 : ¬t.val % 4 = 0) (h3 : ¬t.val % 4 = 3) (r l : Fin 1024) :
    (outsAt0 m c t.val t.isLt).2 (ix2 r l)
      = (outsAt0 m c (t.val - 1) (Nat.lt_of_le_of_lt (Nat.sub_le _ _) t.isLt)).2 (ix2 r l) + part m c (row t r) (col t l) ⟨t.val % 4, by omega⟩ := by
  rw [outsAt0_B m c t h0 (by omega) h3]
  dsimp only
  rw [sout_B]
  exact (pay3_apply _ _ _ r l).trans (congrArg _ (prod_at m c t r l))

/-- After a last quarter, the output's block holds the whole sum. -/
theorem out_at (t : Fin cfg0.N) (ht : t.val % 4 = 3) (z : Fin 1) (r l : Fin 1024) :
    (outsAt0 m c t.val t.isLt).1 (ix3 z r l) = ∑ κ : Fin 8192, A0 m c (ix2 κ (row t r)) * A1 m c (ix2 κ (col t l)) := by
  have h := lt16 t
  have p : ∀ (d : ℕ) (hd : d ≤ 3), part m c (row ⟨t.val - d, by omega⟩ r) (col ⟨t.val - d, by omega⟩ l) ⟨(t.val - d) % 4, by omega⟩
      = part m c (row t r) (col t l) ⟨3 - d, by omega⟩ := fun d hd => by
    have er : row ⟨t.val - d, by omega⟩ r = row t r := Fin.ext (by show 1024 * ((t.val - d) / 4) + r.val = 1024 * (t.val / 4) + r.val; omega)
    have ek : (⟨(t.val - d) % 4, by omega⟩ : Fin 4) = ⟨3 - d, by omega⟩ := Fin.ext (by show (t.val - d) % 4 = 3 - d; omega)
    rw [er, ek]
  have s1 := acc_next m c ⟨t.val - 1, by omega⟩ (by show ¬(t.val - 1) % 4 = 0; omega) (by show ¬(t.val - 1) % 4 = 3; omega) r l
  have s2 := acc_next m c ⟨t.val - 2, by omega⟩ (by show ¬(t.val - 2) % 4 = 0; omega) (by show ¬(t.val - 2) % 4 = 3; omega) r l
  have s3 := acc_first m c ⟨t.val - 3, by omega⟩ (by show (t.val - 3) % 4 = 0; omega) r l
  rw [outsAt0_C m c t (by omega) (by omega) ht]
  dsimp only
  rw [out_C]
  refine (pay4_apply _ z r l).trans ((pay3_apply _ _ _ r l).trans ?_)
  refine Eq.trans ?_ (sum_quarters _ _).symm
  refine congrArg₂ (· + ·) (s1.trans (congrArg₂ (· + ·) (s2.trans (congrArg₂ (· + ·) (s3.trans (p 3 le_rfl)) (p 2 (by omega)))) (p 1 (by omega)))) ?_
  exact (prod_at m c t r l).trans (p 0 (by omega))

/-- The result array after the run. -/
theorem arr : (dats m 0 c).arrAt 2 cfg0.N = G m c := by
  refine Dat.arrAt_eq_of_coversWhere_of_agree (cfg := cfg0) (c := c) (dats m 0 c) 2 (G m c) (fun β => β (0 : Fin 3) = 3) (by decide +kernel)
    (fun t hf y => ?_) (fun j hj => ?_)
  · obtain ⟨z, r, l, rfl⟩ : ∃ (z : Fin 1) (r l : Fin 1024), y = ix3 z r l := ⟨y 0, y 1, y 2, eq_ix3 y⟩
    have h := lt16 t
    have hj : ((cfg0.win 2).blk t).view.emb (ix3 z r l) = (ix3 3 (row t r) (col t l) : S4x4096x1024.Idx) := by
      funext a
      refine Fin.ext ?_
      have h0 : (((cfg0.win 2).blk t).view.emb (ix3 z r l) 0 : ℕ) = 3 := by
        blk_simp [e2]
      have h1 : (((cfg0.win 2).blk t).view.emb (ix3 z r l) 1 : ℕ) = 1024 * (t.val / 4) + r.val := by
        blk_simp [e2]; show _ + r.val = _; omega
      have h2 : (((cfg0.win 2).blk t).view.emb (ix3 z r l) 2 : ℕ) = l.val := by
        blk_simp [e2]
      fin_cases a
      · exact h0
      · exact h1
      · exact h2
    rw [after0_2]
    refine Eq.trans ?_ (congrArg (G m c) hj).symm
    refine (out_at m c t ((flush0_2 t).mp hf) z r l).trans ?_
    unfold G dwAt
    exact (if_pos rfl).symm
  · have hne : ¬(j 0).val = 3 := fun e => hj (by rw [Pipeline.Window.cell_apply]; exact (Nat.div_one _).trans e)
    refine Eq.trans ?_ ((if_neg hne).symm : A2 m c (ix3 (j 0) (j 1) (j 2)) = G m c j)
    rw [A_eq]
    exact (congrFun (V_3 m c) j).trans (congrArg (A2 m c) (eq_ix3 j))

/-- The run's post: the result, and the arguments as launched. -/
theorem run_result : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr m c), (h c).2⟩) (run_blocks m ρ)

open Cert.ReferenceDwDownIdeal.Read in
/-- The reference's gradients at a layer, a row and a column. -/
theorem ref_apply (x : FVec Ideal S8192x4096 .f32) (y : FVec Ideal S8192x1024 .f32) (b : FVec Ideal S4x4096x1024 .f32) (z : Fin 4) (r : Fin 4096) (l : Fin 1024) :
    val_main_v7 (F := Ideal) x y b (ix3 z r l) = dwAt x y b z r l := by
  unfold dwAt
  pointwise [val_main_v7, val_main_v6, val_main_v5, val_main_v4, val_main_v3, val_main_v2]
  by_cases hz : z.val < 3
  · rw [dif_pos hz, if_neg (by omega)]
  · rw [dif_neg hz, if_pos (by omega)]
    exact Finset.sum_congr rfl fun κ _ => mul_comm _ _

end Cert.FfnDwDown

end
-- ==== Proof.FfnDwUp.lean ====
module

public import proofs.«01_k».proof.Proof.Gen.KernelDwUpIdeal.Value
public import proofs.«01_k».proof.Proof.Gen.ReferenceDwUpIdeal.Run
public import proofs.«01_k».proof.Proof.Gen.ReferenceDwUpIdeal.Read
public import Idealize.ShloMosaic.Lib.Pipeline.ValueKit
public import Idealize.ShloMosaic.Lib.StableHlo.ReadAt
public import Idealize.ShloMosaic.Lib.Pointwise
public import proofs.«01_k».proof.Proof.FfnSum

@[expose] public section

set_option maxRecDepth 16384

noncomputable section

/-! The gradient of the feed-forward layer's first weight, written over one layer of the layers' gradients: a product of
    the layer's input with the hidden values' cotangent, the 8192 positions summed over in four quarters. -/

namespace Cert.FfnDwUp

open Cert.KernelDwUpIdeal Cert.KernelDwUpIdeal.Gen Cert.KernelDwUpIdeal.Value Cert.FfnSum
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

theorem lt16 (t : Fin cfg0.N) : t.val < 16 := lt_of_lt_of_eq t.isLt N_0

section
variable (i : grid0.Coords) (a3 : Memref sig .tc .vmem S2048x1024 .bf16) (h3 : a3.IsWhole) (a4 : Memref sig .tc .vmem S2048x1024 .bf16) (h4 : a4.IsWhole)
  (a6 : Memref sig .tc .vmem S1x1024x1024 .bf16) (h6 : a6.IsWhole) (a7 : Memref sig .tc .vmem S1024x1024 .f32) (h7 : a7.IsWhole)
  (x0 x1 : Vec Ideal S2048x1024 .bf16) (s : Vec Ideal S1024x1024 .f32)

/-- The first quarter leaves its product in the accumulator. -/
theorem sout_A (g0 : cond0_0 i) (g1 : ¬cond0_1 i) (g2 : ¬cond0_2 i) :
    sout0_A_0 c i a3 h3 a4 h4 a6 h6 a7 h7 g0 g1 g2 x0 x1 = k0_pay2 x0 x1 := by
  unfold sout0_A_0
  rw [View.read_writes_eq_canon _ _ _ (scover0_A_0 c i a3 h3 a4 h4 a6 h6 a7 h7 g0 g1 g2 x0 x1)]
  unfold kernelRun0_A
  dsimp only
  rw [View.canon_unit_zero hz]
  simp only [View.readAt_eq_ld, h3.read_unread, h4.read_unread, View.ld_unit_zero (S := S2048x1024) hz]

/-- The quarters between add their products to it. -/
theorem sout_B (g0 : ¬cond0_0 i) (g1 : cond0_1 i) (g2 : ¬cond0_2 i) :
    sout0_B_0 c i a3 h3 a4 h4 a6 h6 a7 h7 g0 g1 g2 x0 x1 s = k0_pay3 x0 x1 s := by
  unfold sout0_B_0
  rw [View.read_writes_eq_canon _ _ _ (scover0_B_0 c i a3 h3 a4 h4 a6 h6 a7 h7 g0 g1 g2 x0 x1 s)]
  unfold kernelRun0_B
  dsimp only
  rw [View.canon_unit_zero hz]
  simp only [View.readAt_eq_ld, h3.read_unread, h4.read_unread, h7.read_unread, View.ld_unit_zero (S := S2048x1024) hz, View.ld_unit_zero (S := S1024x1024) hz]

/-- The last quarter leaves the accumulator plus its product in the output's block. -/
theorem out_C (g0 : ¬cond0_0 i) (g1 : cond0_1 i) (g2 : cond0_2 i) :
    out0_C_2 c i a3 h3 a4 h4 a6 h6 a7 h7 g0 g1 g2 x0 x1 s = k0_pay4 (k0_pay3 x0 x1 s) := by
  unfold out0_C_2
  rw [View.read_writes_eq_canon _ _ _ (cover0_C_2 c i a3 h3 a4 h4 a6 h6 a7 h7 g0 g1 g2 x0 x1 s)]
  unfold kernelRun0_C
  sl_unfold_words
  rw [View.canon_unit_zero hz3]
  simp only [View.readCov_unit_zero (S := S1024x1024) _ hz, View.readAt_eq_ld, h3.read_unread, h4.read_unread, h7.read_unread, View.ld_unit_zero (S := S2048x1024) hz, View.ld_unit_zero (S := S1024x1024) hz]

end

/-- The values of the quarters at a row and a column. -/
theorem pay2_apply (x0 x1 : Vec Ideal S2048x1024 .bf16) (r l : Fin 1024) :
    k0_pay2 (F := Ideal) x0 x1 (ix2 r l) = ∑ κ : Fin 2048, x0 (ix2 κ r) * x1 (ix2 κ l) := by
  pointwise [k0_pay2, k0_pay1]
theorem pay3_apply (x0 x1 : Vec Ideal S2048x1024 .bf16) (s : Vec Ideal S1024x1024 .f32) (r l : Fin 1024) :
    k0_pay3 (F := Ideal) x0 x1 s (ix2 r l) = s (ix2 r l) + ∑ κ : Fin 2048, x0 (ix2 κ r) * x1 (ix2 κ l) := by
  pointwise [k0_pay3, k0_pay1]
theorem pay4_apply (s : Vec Ideal S1024x1024 .f32) (z : Fin 1) (r l : Fin 1024) :
    k0_pay4 (F := Ideal) s (ix3 z r l) = s (ix2 r l) := by
  pointwise [k0_pay4]

/-- The layer's input, the hidden values' cotangent and the layers' gradients as launched. -/
def A0 : FVec Ideal S8192x1024 .f32 := m ((c : Thread nD τ).loc main_arg0)
def A1 : FVec Ideal S8192x4096 .f32 := m ((c : Thread nD τ).loc main_arg1)
def A2 : FVec Ideal S4x1024x4096 .f32 := m ((c : Thread nD τ).loc main_arg2)

/-- The layers' gradients with the last layer's put in. -/
def dwAt (x : FVec Ideal S8192x1024 .f32) (y : FVec Ideal S8192x4096 .f32) (b : FVec Ideal S4x1024x4096 .f32) (z : Fin 4) (r : Fin 1024) (l : Fin 4096) : EReal :=
  if z.val = 3 then ∑ κ : Fin 8192, x (ix2 κ r) * y (ix2 κ l) else b (ix3 z r l)

/-- The gradients as the kernel leaves them. -/
def G : S4x1024x4096.Idx → Ideal .bf16 := fun j => dwAt (A0 m c) (A1 m c) (A2 m c) (j 0) (j 1) (j 2)

theorem V_0 : V (F := Ideal) m c main_v0 = A0 m c := by
  unfold V; simp only [hostOps0]; after_reads_simp; rfl
theorem V_1 : V (F := Ideal) m c main_v1 = A1 m c := by
  unfold V; simp only [hostOps0]; after_reads_simp; rfl
theorem V_3 : V (F := Ideal) m c main_v3 = A2 m c := by
  unfold V; simp only [hostOps0]; after_reads_simp; rfl

theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)
theorem e2 : ∀ t : Fin cfg0.N, win0_2.index t = ![3, 0, t.val / 4] := (by decide +kernel : ∀ t : Fin grid0.N, _)

/-- The row and the column of the weight that a grid point's are. -/
abbrev row (t : Fin cfg0.N) (r : Fin 1024) : Fin 1024 := r
abbrev col (t : Fin cfg0.N) (l : Fin 1024) : Fin 4096 := ⟨1024 * (t.val / 4) + l.val, by have := lt16 t; omega⟩

/-- The input blocks at a grid point. -/
def X0 (t : Fin cfg0.N) : Vec Ideal S2048x1024 .bf16 := iblk m c 0 t
def X1 (t : Fin cfg0.N) : Vec Ideal S2048x1024 .bf16 := iblk m c 1 t

/-- The input's block at a grid point. -/
theorem blk0 (t : Fin cfg0.N) (κ : Fin 2048) (r : Fin 1024) :
    X0 m c t (ix2 κ r) = (A0 m c) (ix2 ⟨2048 * (t.val % 4) + κ.val, by omega⟩ (row t r)) := by
  have e : X0 m c t = ((cfg0.win 0).blk t).view.read (Elt Ideal) (A0 m c) := by rw [← V_0 m c]; rfl
  rw [e]
  refine congrArg (A0 m c) (funext fun a => Fin.ext ?_)
  have h0 : (((cfg0.win 0).blk t).view.emb (ix2 κ r) 0 : ℕ) = 2048 * (t.val % 4) + κ.val := by
    blk_simp [e0]; show _ + κ.val = _; omega
  have h1 : (((cfg0.win 0).blk t).view.emb (ix2 κ r) 1 : ℕ) = r.val := by
    blk_simp [e0]
  fin_cases a
  · exact h0
  · exact h1

/-- The cotangent's block at a grid point. -/
theorem blk1 (t : Fin cfg0.N) (κ : Fin 2048) (l : Fin 1024) :
    X1 m c t (ix2 κ l) = (A1 m c) (ix2 ⟨2048 * (t.val % 4) + κ.val, by omega⟩ (col t l)) := by
  have e : X1 m c t = ((cfg0.win 1).blk t).view.read (Elt Ideal) (A1 m c) := by rw [← V_1 m c]; rfl
  rw [e]
  refine congrArg (A1 m c) (funext fun a => Fin.ext ?_)
  have h0 : (((cfg0.win 1).blk t).view.emb (ix2 κ l) 0 : ℕ) = 2048 * (t.val % 4) + κ.val := by
    blk_simp [e1]; show _ + κ.val = _; omega
  have h1 : (((cfg0.win 1).blk t).view.emb (ix2 κ l) 1 : ℕ) = 1024 * (t.val / 4) + l.val := by
    blk_simp [e1]; show _ + l.val = _; omega
  fin_cases a
  · exact h0
  · exact h1

/-- The quarter of the sum at a row and a column of the weight. -/
def part (r : Fin 1024) (l : Fin 4096) (k : Fin 4) : EReal := quarter (fun κ => A0 m c (ix2 κ r)) (fun κ => A1 m c (ix2 κ l)) k

/-- The product of the blocks at a grid point is a quarter of the sum. -/
theorem prod_at (t : Fin cfg0.N) (r l : Fin 1024) :
    (∑ κ : Fin 2048, X0 m c t (ix2 κ r) * X1 m c t (ix2 κ l)) = part m c (row t r) (col t l) ⟨t.val % 4, by omega⟩ := by
  simp only [blk0, blk1]
  rfl

/-- The accumulator after a first quarter. -/
theorem acc_first (t : Fin cfg0.N) (ht : t.val % 4 = 0) (r l : Fin 1024) :
    (outsAt0 m c t.val t.isLt).2 (ix2 r l) = part m c (row t r) (col t l) ⟨t.val % 4, by omega⟩ := by
  rw [outsAt0_A m c t ht (by omega) (by omega)]
  dsimp only
  rw [sout_A]
  exact (pay2_apply _ _ r l).trans (prod_at m c t r l)

/-- The accumulator after a quarter between, over what the quarter before left. -/
theorem acc_next (t : Fin cfg0.N) (h0 : ¬t.val % 4 = 0) (h3 : ¬t.val % 4 = 3) (r l : Fin 1024) :
    (outsAt0 m c t.val t.isLt).2 (ix2 r l)
      = (outsAt0 m c (t.val - 1) (Nat.lt_of_le_of_lt (Nat.sub_le _ _) t.isLt)).2 (ix2 r l) + part m c (row t r) (col t l) ⟨t.val % 4, by omega⟩ := by
  rw [outsAt0_B m c t h0 (by omega) h3]
  dsimp only
  rw [sout_B]
  exact (pay3_apply _ _ _ r l).trans (congrArg _ (prod_at m c t r l))

/-- After a last quarter, the output's block holds the whole sum. -/
theorem out_at (t : Fin cfg0.N) (ht : t.val % 4 = 3) (z : Fin 1) (r l : Fin 1024) :
    (outsAt0 m c t.val t.isLt).1 (ix3 z r l) = ∑ κ : Fin 8192, A0 m c (ix2 κ (row t r)) * A1 m c (ix2 κ (col t l)) := by
  have h := lt16 t
  have p : ∀ (d : ℕ) (hd : d ≤ 3), part m c (row ⟨t.val - d, by omega⟩ r) (col ⟨t.val - d, by omega⟩ l) ⟨(t.val - d) % 4, by omega⟩
      = part m c (row t r) (col t l) ⟨3 - d, by omega⟩ := fun d hd => by
    have el : col ⟨t.val - d, by omega⟩ l = col t l := Fin.ext (by show 1024 * ((t.val - d) / 4) + l.val = 1024 * (t.val / 4) + l.val; omega)
    have ek : (⟨(t.val - d) % 4, by omega⟩ : Fin 4) = ⟨3 - d, by omega⟩ := Fin.ext (by show (t.val - d) % 4 = 3 - d; omega)
    rw [el, ek]
  have s1 := acc_next m c ⟨t.val - 1, by omega⟩ (by show ¬(t.val - 1) % 4 = 0; omega) (by show ¬(t.val - 1) % 4 = 3; omega) r l
  have s2 := acc_next m c ⟨t.val - 2, by omega⟩ (by show ¬(t.val - 2) % 4 = 0; omega) (by show ¬(t.val - 2) % 4 = 3; omega) r l
  have s3 := acc_first m c ⟨t.val - 3, by omega⟩ (by show (t.val - 3) % 4 = 0; omega) r l
  rw [outsAt0_C m c t (by omega) (by omega) ht]
  dsimp only
  rw [out_C]
  refine (pay4_apply _ z r l).trans ((pay3_apply _ _ _ r l).trans ?_)
  refine Eq.trans ?_ (sum_quarters _ _).symm
  refine congrArg₂ (· + ·) (s1.trans (congrArg₂ (· + ·) (s2.trans (congrArg₂ (· + ·) (s3.trans (p 3 le_rfl)) (p 2 (by omega)))) (p 1 (by omega)))) ?_
  exact (prod_at m c t r l).trans (p 0 (by omega))

/-- The result array after the run. -/
theorem arr : (dats m 0 c).arrAt 2 cfg0.N = G m c := by
  refine Dat.arrAt_eq_of_coversWhere_of_agree (cfg := cfg0) (c := c) (dats m 0 c) 2 (G m c) (fun β => β (0 : Fin 3) = 3) (by decide +kernel)
    (fun t hf y => ?_) (fun j hj => ?_)
  · obtain ⟨z, r, l, rfl⟩ : ∃ (z : Fin 1) (r l : Fin 1024), y = ix3 z r l := ⟨y 0, y 1, y 2, eq_ix3 y⟩
    have h := lt16 t
    have hj : ((cfg0.win 2).blk t).view.emb (ix3 z r l) = (ix3 3 (row t r) (col t l) : S4x1024x4096.Idx) := by
      funext a
      refine Fin.ext ?_
      have h0 : (((cfg0.win 2).blk t).view.emb (ix3 z r l) 0 : ℕ) = 3 := by
        blk_simp [e2]
      have h1 : (((cfg0.win 2).blk t).view.emb (ix3 z r l) 1 : ℕ) = r.val := by
        blk_simp [e2]
      have h2 : (((cfg0.win 2).blk t).view.emb (ix3 z r l) 2 : ℕ) = 1024 * (t.val / 4) + l.val := by
        blk_simp [e2]; show _ + l.val = _; omega
      fin_cases a
      · exact h0
      · exact h1
      · exact h2
    rw [after0_2]
    refine Eq.trans ?_ (congrArg (G m c) hj).symm
    refine (out_at m c t ((flush0_2 t).mp hf) z r l).trans ?_
    unfold G dwAt
    exact (if_pos rfl).symm
  · have hne : ¬(j 0).val = 3 := fun e => hj (by rw [Pipeline.Window.cell_apply]; exact (Nat.div_one _).trans e)
    refine Eq.trans ?_ ((if_neg hne).symm : A2 m c (ix3 (j 0) (j 1) (j 2)) = G m c j)
    rw [A_eq]
    exact (congrFun (V_3 m c) j).trans (congrArg (A2 m c) (eq_ix3 j))

/-- The run's post: the result, and the arguments as launched. -/
theorem run_result : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr m c), (h c).2⟩) (run_blocks m ρ)

open Cert.ReferenceDwUpIdeal.Read in
/-- The reference's gradients at a layer, a row and a column. -/
theorem ref_apply (x : FVec Ideal S8192x1024 .f32) (y : FVec Ideal S8192x4096 .f32) (b : FVec Ideal S4x1024x4096 .f32) (z : Fin 4) (r : Fin 1024) (l : Fin 4096) :
    val_main_v7 (F := Ideal) x y b (ix3 z r l) = dwAt x y b z r l := by
  unfold dwAt
  pointwise [val_main_v7, val_main_v6, val_main_v5, val_main_v4, val_main_v3, val_main_v2]
  by_cases hz : z.val < 3
  · rw [dif_pos hz, if_neg (by omega)]
  · rw [dif_neg hz, if_pos (by omega)]
    exact Finset.sum_congr rfl fun κ _ => mul_comm _ _

end Cert.FfnDwUp

end
-- ==== Proof.MixDz.lean ====
module

public import proofs.«01_k».proof.Proof.Gen.KernelDzIdeal.Value
public import proofs.«01_k».proof.Proof.Gen.ReferenceDzIdeal.Run
public import proofs.«01_k».proof.Proof.Gen.ReferenceDzIdeal.Read
public import Idealize.ShloMosaic.Lib.Pipeline.ValueKit
public import Idealize.ShloMosaic.Lib.StableHlo.ReadAt
public import Idealize.ShloMosaic.Lib.Pointwise
public import proofs.«01_k».proof.Proof.FfnSum

@[expose] public section

set_option maxRecDepth 16384

noncomputable section

/-! The gradient of the token mixer's input: a product of the combined projection's cotangent with its weight, the
    3584 columns of that projection summed over in two halves. -/

namespace Cert.MixDz

open Cert.KernelDzIdeal Cert.KernelDzIdeal.Gen Cert.KernelDzIdeal.Value
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

theorem hz : (![0, 0] : Fin 2 → Nat) = fun _ => 0 := funext fun a => by fin_cases a <;> rfl

theorem lt16 (t : Fin cfg0.N) : t.val < 16 := lt_of_lt_of_eq t.isLt N_0

section
variable (i : grid0.Coords) (a3 : Memref sig .tc .vmem S1024x1792 .bf16) (h3 : a3.IsWhole) (a4 : Memref sig .tc .vmem S1024x1792 .bf16) (h4 : a4.IsWhole)
  (a5 : Memref sig .tc .vmem S1024x1024 .bf16) (h5 : a5.IsWhole) (a6 : Memref sig .tc .vmem S1024x1024 .f32) (h6 : a6.IsWhole)
  (x0 x1 : Vec Ideal S1024x1792 .bf16) (s : Vec Ideal S1024x1024 .f32)

/-- The first half leaves its product in the accumulator. -/
theorem sout_A (g0 : cond0_0 i) (g1 : ¬cond0_1 i) (g2 : ¬cond0_2 i) :
    sout0_A_0 c i a3 h3 a4 h4 a5 h5 a6 h6 g0 g1 g2 x0 x1 = k0_pay2 x0 x1 := by
  unfold sout0_A_0
  rw [View.read_writes_eq_canon _ _ _ (scover0_A_0 c i a3 h3 a4 h4 a5 h5 a6 h6 g0 g1 g2 x0 x1)]
  unfold kernelRun0_A
  dsimp only
  rw [View.canon_unit_zero hz]
  simp only [View.readAt_eq_ld, h3.read_unread, h4.read_unread, View.ld_unit_zero (S := S1024x1792) hz]

/-- The second half leaves the accumulator plus its product in the output's block. -/
theorem out_B (g0 : ¬cond0_0 i) (g1 : cond0_1 i) (g2 : cond0_2 i) :
    out0_B_2 c i a3 h3 a4 h4 a5 h5 a6 h6 g0 g1 g2 x0 x1 s = k0_pay4 (k0_pay3 x0 x1 s) := by
  unfold out0_B_2
  rw [View.read_writes_eq_canon _ _ _ (cover0_B_2 c i a3 h3 a4 h4 a5 h5 a6 h6 g0 g1 g2 x0 x1 s)]
  unfold kernelRun0_B
  sl_unfold_words
  rw [View.canon_unit_zero hz]
  simp only [View.readCov_unit_zero (S := S1024x1024) _ hz, View.readAt_eq_ld, h3.read_unread, h4.read_unread, h6.read_unread, View.ld_unit_zero (S := S1024x1792) hz, View.ld_unit_zero (S := S1024x1024) hz]

end

/-- The values of the two halves at a row and a column. -/
theorem pay2_apply (x0 x1 : Vec Ideal S1024x1792 .bf16) (r l : Fin 1024) :
    k0_pay2 (F := Ideal) x0 x1 (ix2 r l) = ∑ κ : Fin 1792, x0 (ix2 r κ) * x1 (ix2 l κ) := by
  pointwise [k0_pay2, k0_pay1]
theorem pay4_apply (x0 x1 : Vec Ideal S1024x1792 .bf16) (s : Vec Ideal S1024x1024 .f32) (r l : Fin 1024) :
    k0_pay4 (F := Ideal) (k0_pay3 x0 x1 s) (ix2 r l) = s (ix2 r l) + ∑ κ : Fin 1792, x0 (ix2 r κ) * x1 (ix2 l κ) := by
  pointwise [k0_pay4, k0_pay3, k0_pay1]

/-- The projection's cotangent and its weight as launched. -/
def A0 : FVec Ideal S8192x3584 .f32 := m ((c : Thread nD τ).loc main_arg0)
def A1 : FVec Ideal S1024x3584 .f32 := m ((c : Thread nD τ).loc main_arg1)

/-- The input's gradient in a row and a column. -/
def dzAt (y : FVec Ideal S8192x3584 .f32) (w : FVec Ideal S1024x3584 .f32) (r : Fin 8192) (l : Fin 1024) : EReal :=
  ∑ κ : Fin 3584, y (ix2 r κ) * w (ix2 l κ)

/-- The part of that sum over one half of the columns. -/
def half (y : FVec Ideal S8192x3584 .f32) (w : FVec Ideal S1024x3584 .f32) (r : Fin 8192) (l : Fin 1024) (k : Fin 2) : EReal :=
  ∑ κ : Fin 1792, y (ix2 r ⟨1792 * k.val + κ.val, by omega⟩) * w (ix2 l ⟨1792 * k.val + κ.val, by omega⟩)

theorem dzAt_halves (y : FVec Ideal S8192x3584 .f32) (w : FVec Ideal S1024x3584 .f32) (r : Fin 8192) (l : Fin 1024) :
    dzAt y w r l = half y w r l 0 + half y w r l 1 :=
  (Cert.FfnSum.sum_of_blocks 2 1792 rfl _ _ fun _ _ _ => rfl).trans (Fin.sum_univ_two (half y w r l))

/-- The gradient as the kernel computes it. -/
def G : S8192x1024.Idx → Ideal .bf16 := fun j => dzAt (A0 m c) (A1 m c) (j 0) (j 1)

theorem V_0 : V (F := Ideal) m c main_v0 = A0 m c := by
  unfold V; simp only [hostOps0]; after_reads_simp; rfl
theorem V_1 : V (F := Ideal) m c main_v1 = A1 m c := by
  unfold V; simp only [hostOps0]; after_reads_simp; rfl

theorem e0 : ∀ t : Fin cfg0.N, win0_0.index t = ![t.val / 2, t.val % 2] := (by decide +kernel : ∀ t : Fin grid0.N, _)
theorem e1 : ∀ t : Fin cfg0.N, win0_1.index t = ![0, t.val % 2] := (by decide +kernel : ∀ t : Fin grid0.N, _)
theorem e2 : ∀ t : Fin cfg0.N, win0_2.index t = ![t.val / 2, 0] := (by decide +kernel : ∀ t : Fin grid0.N, _)

/-- The row of the arrays that a grid point's row is. -/
abbrev row (t : Fin cfg0.N) (r : Fin 1024) : Fin 8192 := ⟨1024 * (t.val / 2) + r.val, by have := lt16 t; omega⟩

/-- The input blocks at a grid point. -/
def X0 (t : Fin cfg0.N) : Vec Ideal S1024x1792 .bf16 := iblk m c 0 t
def X1 (t : Fin cfg0.N) : Vec Ideal S1024x1792 .bf16 := iblk m c 1 t

/-- The cotangent's block at a grid point. -/
theorem blk0 (t : Fin cfg0.N) (r : Fin 1024) (κ : Fin 1792) :
    X0 m c t (ix2 r κ) = (A0 m c) (ix2 (row t r) ⟨1792 * (t.val % 2) + κ.val, by omega⟩) := by
  have e : X0 m c t = ((cfg0.win 0).blk t).view.read (Elt Ideal) (A0 m c) := by rw [← V_0 m c]; rfl
  rw [e]
  refine congrArg (A0 m c) (funext fun a => Fin.ext ?_)
  have h0 : (((cfg0.win 0).blk t).view.emb (ix2 r κ) 0 : ℕ) = 1024 * (t.val / 2) + r.val := by
    blk_simp [e0]; show _ + r.val = _; omega
  have h1 : (((cfg0.win 0).blk t).view.emb (ix2 r κ) 1 : ℕ) = 1792 * (t.val % 2) + κ.val := by
    blk_simp [e0]; show _ + κ.val = _; omega
  fin_cases a
  · exact h0
  · exact h1

/-- The weight's block at a grid point. -/
theorem blk1 (t : Fin cfg0.N) (l : Fin 1024) (κ : Fin 1792) :
    X1 m c t (ix2 l κ) = (A1 m c) (ix2 l ⟨1792 * (t.val % 2) + κ.val, by omega⟩) := by
  have e : X1 m c t = ((cfg0.win 1).blk t).view.read (Elt Ideal) (A1 m c) := by rw [← V_1 m c]; rfl
  rw [e]
  refine congrArg (A1 m c) (funext fun a => Fin.ext ?_)
  have h0 : (((cfg0.win 1).blk t).view.emb (ix2 l κ) 0 : ℕ) = l.val := by
    blk_simp [e1]
  have h1 : (((cfg0.win 1).blk t).view.emb (ix2 l κ) 1 : ℕ) = 1792 * (t.val % 2) + κ.val := by
    blk_simp [e1]; show _ + κ.val = _; omega
  fin_cases a
  · exact h0
  · exact h1

/-- The product of the blocks at a grid point is one half of the sum. -/
theorem prod_at (t : Fin cfg0.N) (r l : Fin 1024) :
    (∑ κ : Fin 1792, X0 m c t (ix2 r κ) * X1 m c t (ix2 l κ))
      = half (A0 m c) (A1 m c) (row t r) l ⟨t.val % 2, by omega⟩ := by
  simp only [blk0, blk1]
  rfl

/-- At the second half, the output's block holds the whole sum. -/
theorem out_at (t : Fin cfg0.N) (ht : t.val % 2 = 1) (r l : Fin 1024) :
    (outsAt0 m c t.val t.isLt).1 (ix2 r l) = dzAt (A0 m c) (A1 m c) (row t r) l := by
  have h := lt16 t
  have hs := outsAt0_A m c ⟨t.val - 1, by omega⟩ (by show (t.val - 1) % 2 = 0; omega) (by show ¬(t.val - 1) % 2 = 1; omega) (by show ¬(t.val - 1) % 2 = 1; omega)
  rw [outsAt0_B m c t (by omega) ht ht]
  dsimp only
  rw [out_B]
  refine (pay4_apply _ _ _ r l).trans ?_
  rw [dzAt_halves]
  refine congrArg₂ (· + ·) ?_ ?_
  · refine (congrFun (congrArg Prod.snd hs) (ix2 r l)).trans ?_
    rw [sout_A]
    refine (pay2_apply _ _ r l).trans ((prod_at m c _ r l).trans ?_)
    have ea : (⟨1024 * ((t.val - 1) / 2) + r.val, by omega⟩ : Fin 8192) = row t r := Fin.ext (by show 1024 * ((t.val - 1) / 2) + r.val = 1024 * (t.val / 2) + r.val; omega)
    have eb : (⟨(t.val - 1) % 2, by omega⟩ : Fin 2) = 0 := Fin.ext (by show (t.val - 1) % 2 = 0; omega)
    exact congrArg₂ (fun a b => half (A0 m c) (A1 m c) a l b) ea eb
  · exact (prod_at m c t r l).trans (congrArg (half (A0 m c) (A1 m c) (row t r) l) (Fin.ext ht : (⟨t.val % 2, by omega⟩ : Fin 2) = 1))

/-- The result array after the run. -/
theorem arr : (dats m 0 c).arrAt 2 cfg0.N = G m c := by
  refine Dat.arrAt_eq_of_covers (cfg := cfg0) (c := c) (dats m 0 c) 2 (G m c) (by decide +kernel) fun t hf y => ?_
  obtain ⟨r, l, rfl⟩ : ∃ (r : Fin 1024) (l : Fin 1024), y = ix2 r l := ⟨y 0, y 1, eq_ix2 y⟩
  have h := lt16 t
  have hj : ((cfg0.win 2).blk t).view.emb (ix2 r l) = (ix2 (row t r) l : S8192x1024.Idx) := by
    funext a
    refine Fin.ext ?_
    have h0 : (((cfg0.win 2).blk t).view.emb (ix2 r l) 0 : ℕ) = 1024 * (t.val / 2) + r.val := by
      blk_simp [e2]; show _ + r.val = _; omega
    have h1 : (((cfg0.win 2).blk t).view.emb (ix2 r l) 1 : ℕ) = l.val := by
      blk_simp [e2]
    fin_cases a
    · exact h0
    · exact h1
  rw [after0_2]
  refine Eq.trans ?_ (congrArg (G m c) hj).symm
  exact out_at m c t ((flush0_2 t).mp hf) r l

/-- The run's post: the result, and the arguments as launched. -/
theorem run_result : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (arr m c), (h c).2⟩) (run_blocks m ρ)

open Cert.ReferenceDzIdeal.Read in
/-- The reference's gradient at a row and a column. -/
theorem ref_apply (y : FVec Ideal S8192x3584 .f32) (w : FVec Ideal S1024x3584 .f32) (r : Fin 8192) (l : Fin 1024) :
    val_main_v3 (F := Ideal) y w (ix2 r l) = dzAt y w r l := by
  unfold dzAt
  pointwise [val_main_v3, val_main_v2]

end Cert.MixDz

end
-- ==== Proof.MixDwIn.lean ====
module

public import proofs.«01_k».proof.Proof.Gen.KernelDwInIdeal.Value
public import proofs.«01_k».proof.Proof.Gen.ReferenceDwInIdeal.Run
public import proofs.«01_k».proof.Proof.Gen.ReferenceDwInIdeal.Read
public import Idealize.ShloMosaic.Lib.Pipeline.ValueKit
public import Idealize.ShloMosaic.Lib.StableHlo.ReadAt
public import Idealize.ShloMosaic.Lib.Pointwise
public import proofs.«01_k».proof.Proof.FfnSum

@[expose] public section

set_option maxRecDepth 16384

noncomputable section

/-! The gradient of the token mixer's combined projection, written over one layer of the layers' gradients: a product of
    the mixer's input with the projection's cotangent, the 8192 positions summed over in four quarters. -/

namespace Cert.MixDwIn

open Cert.KernelDwInIdeal Cert.KernelDwInIdeal.Gen Cert.KernelDwInIdeal.Value Cert.FfnSum
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg) (c : Dev nD)

theorem hz : (![0, 0] : Fin 2 → Nat) = fun _ => 0 := funext fun a => by fin_cases a <;> rfl
theorem hz3 : (![0, 0, 0] : Fin 3 → Nat) = fun _ => 0 := funext fun a => by fin_cases a <;> rfl

theorem lt16 (t : Fin cfg0.N) : t.val < 16 := lt_of_lt_of_eq t.isLt N_0

section
variable (i : grid0.Coords) (a3 : Memref sig .tc .vmem S2048x1024 .bf16) (h3 : a3.IsWhole) (a4 : Memref sig .tc .vmem S2048x896 .bf16) (h4 : a4.IsWhole)
  (a6 : Memref sig .tc .vmem S1x1024x896 .bf16) (h6 : a6.IsWhole) (a7 : Memref sig .tc .vmem S1024x896 .f32) (h7 : a7.IsWhole)
  (x0 : Vec Ideal S2048x1024 .bf16) (x1 : Vec Ideal S2048x896 .bf16) (s : Vec Ideal S1024x896 .f32)

/-- The first quarter leaves its product in the accumulator. -/
theorem sout_A (g0 : cond0_0 i) (g1 : ¬cond0_1 i) (g2 : ¬cond0_2 i) :
    sout0_A_0 c i a3 h3 a4 h4 a6 h6 a7 h7 g0 g1 g2 x0 x1 = k0_pay2 x0 x1 := by
  unfold sout0_A_0
  rw [View.read_writes_eq_canon _ _ _ (scover0_A_0 c i a3 h3 a4 h4 a6 h6 a7 h7 g0 g1 g2 x0 x1)]
  unfold kernelRun0_A
  dsimp only
  rw [View.canon_unit_zero hz]
  simp only [View.readAt_eq_ld, h3.read_unread, h4.read_unread, View.ld_unit_zero (S := S2048x1024) hz, View.ld_unit_zero (S := S2048x896) hz]

/-- The quarters between add their products to it. -/
theorem sout_B (g0 : ¬cond0_0 i) (g1 : cond0_1 i) (g2 : ¬cond0_2 i) :
    sout0_B_0 c i a3 h3 a4 h4 a6 h6 a7 h7 g0 g1 g2 x0 x1 s = k0_pay3 x0 x1 s := by
  unfold sout0_B_0
  rw [View.read_writes_eq_canon _ _ _ (scover0_B_0 c i a3 h3 a4 h4 a6 h6 a7 h7 g0 g1 g2 x0 x1 s)]
  unfold kernelRun0_B
  dsimp only
  rw [View.canon_unit_zero hz]
  simp only [View.readAt_eq_ld, h3.read_unread, h4.read_unread, h7.read_unread, View.ld_unit_zero (S := S2048x1024) hz, View.ld_unit_zero (S := S2048x896) hz, View.ld_unit_zero (S := S1024x896) hz]

/-- The last quarter leaves the accumulator plus its product in the output's block. -/
theorem out_C (g0 : ¬cond0_0 i) (g1 : cond0_1 i) (g2 : cond0_2 i) :
    out0_C_2 c i a3 h3 a4 h4 a6 h6 a7 h7 g0 g1 g2 x0 x1 s = k0_pay4 (k0_pay3 x0 x1 s) := by
  unfold out0_C_2
  rw [View.read_writes_eq_canon _ _ _ (cover0_C_2 c i a3 h3 a4 h4 a6 h6 a7 h7 g0 g1 g2 x0 x1 s)]
  unfold kernelRun0_C
  sl_unfold_words
  rw [View.canon_unit_zero hz3]
  simp only [View.readCov_unit_zero (S := S1024x896) _ hz, View.readAt_eq_ld, h3.read_unread, h4.read_unread, h7.read_unread, View.ld_unit_zero (S := S2048x1024) hz, View.ld_unit_zero (S := S2048x896) hz, View.ld_unit_zero (S := S1024x896) hz]

end

/-- The values of the quarters at a row and a column. -/
theorem pay2_apply (x0 : Vec Ideal S2048x1024 .bf16) (x1 : Vec Ideal S2048x896 .bf16) (r : Fin 1024) (l : Fin 896) :
    k0_pay2 (F := Ideal) x0 x1 (ix2 r l) = ∑ κ : Fin 2048, x0 (ix2 κ r) * x1 (ix2 κ l) := by
  pointwise [k0_pay2, k0_pay1]
theorem pay3_apply (x0 : Vec Ideal S2048x1024 .bf16) (x1 : Vec Ideal S2048x896 .bf16) (s : Vec Ideal S1024x896 .f32) (r : Fin 1024) (l : Fin 896) :
    k0_pay3 (F := Ideal) x0 x1 s (ix2 r l) = s (ix2 r l) + ∑ κ : Fin 2048, x0 (ix2 κ r) * x1 (ix2 κ l) := by
  pointwise [k0_pay3, k0_pay1]
theorem pay4_apply (s : Vec Ideal S1024x896 .f32) (z : Fin 1) (r : Fin 1024) (l : Fin 896) :
    k0_pay4 (F := Ideal) s (ix3 z r l) = s (ix2 r l) := by
  pointwise [k0_pay4]

/-- The mixer's input, the projection's cotangent and the layers' gradients as launched. -/
def A0 : FVec Ideal S8192x1024 .f32 := m ((c : Thread nD τ).loc main_arg0)
def A1 : FVec Ideal S8192x3584 .f32 := m ((c : Thread nD τ).loc main_arg1)
def A2 : FVec Ideal S4x1024x3584 .f32 := m ((c : Thread nD τ).loc main_arg2)

/-- The layers' gradients with the last layer's put in. -/
def dwAt (x : FVec Ideal S8192x1024 .f32) (y : FVec Ideal S8192x3584 .f32) (b : FVec Ideal S4x1024x3584 .f32) (z : Fin 4) (r : Fin 1024) (l : Fin 3584) : EReal :=
  if z.val = 3 then ∑ κ : Fin 8192, x (ix2 κ r) * y (ix2 κ l) else b (ix3 z r l)

/-- The gradients as the kernel leaves them. -/
def G : S4x1024x3584.Idx → Ideal .bf16 := fun j => dwAt (A0 m c) (A1 m c) (A2 m c) (j 0) (j 1) (j 2)

theorem V_0 : V (F := Ideal) m c main_v0 = A0 m c := by
  unfold V; simp only [hostOps0]; after_reads_simp; rfl
theorem V_1 : V (F := Ideal) m c main_v1 = A1 m c := by
  unfold V; simp only [hostOps0]; after_reads_simp; rfl
theorem V_3 : V (F := Ideal) m c main_v3 = A2 m c := by
  unfold V; simp only [hostOps0]; after_reads_simp; rfl

theorem e0 : ∀ t : Fin cfg0.N, win0_0.index t = ![t.val % 4, 0] := (by decide +kernel : ∀ t : Fin grid0.N, _)
theorem e1 : ∀ t : Fin cfg0.N, win0_1.index t = ![t.val % 4, t.val / 4] := (by decide +kernel : ∀ t : Fin grid0.N, _)
theorem e2 : ∀ t : Fin cfg0.N, win0_2.index t = ![3, 0, t.val / 4] := (by decide +kernel : ∀ t : Fin grid0.N, _)

/-- The row and the column of the weight that a grid point's are. -/
abbrev row (t : Fin cfg0.N) (r : Fin 1024) : Fin 1024 := r
abbrev col (t : Fin cfg0.N) (l : Fin 896) : Fin 3584 := ⟨896 * (t.val / 4) + l.val, by have := lt16 t; omega⟩

/-- The input blocks at a grid point. -/
def X0 (t : Fin cfg0.N) : Vec Ideal S2048x1024 .bf16 := iblk m c 0 t
def X1 (t : Fin cfg0.N) : Vec Ideal S2048x896 .bf16 := iblk m c 1 t

/-- The input's block at a grid point. -/
theorem blk0 (t : Fin cfg0.N) (κ : Fin 2048) (r : Fin 1024) :
    X0 m c t (ix2 κ r) = (A0 m c) (ix2 ⟨2048 * (t.val % 4) + κ.val, by omega⟩ (row t r)) := by
  have e : X0 m c t = ((cfg0.win 0).blk t).view.read (Elt Ideal) (A0 m c) := by rw [← V_0 m c]; rfl
  rw [e]
  refine congrArg (A0 m c) (funext fun a => Fin.ext ?_)
  have h0 : (((cfg0.win 0).blk t).view.emb (ix2 κ r) 0 : ℕ) = 2048 * (t.val % 4) + κ.val := by
    blk_simp [e0]; show _ + κ.val = _; omega
  have h1 : (((cfg0.win 0).blk t).view.emb (ix2 κ r) 1 : ℕ) = r.val := by
    blk_simp [e0]
  fin_cases a
  · exact h0
  · exact h1

/-- The cotangent's block at a grid point. -/
theorem blk1 (t : Fin cfg0.N) (κ : Fin 2048) (l : Fin 896) :
    X1 m c t (ix2 κ l) = (A1 m c) (ix2 ⟨2048 * (t.val % 4) + κ.val, by omega⟩ (col t l)) := by
  have e : X1 m c t = ((cfg0.win 1).blk t).view.read (Elt Ideal) (A1 m c) := by rw [← V_1 m c]; rfl
  rw [e]
  refine congrArg (A1 m c) (funext fun a => Fin.ext ?_)
  have h0 : (((cfg0.win 1).blk t).view.emb (ix2 κ l) 0 : ℕ) = 2048 * (t.val % 4) + κ.val := by
    blk_simp [e1]; show _ + κ.val = _; omega
  have h1 : (((cfg0.win 1).blk t).view.emb (ix2 κ l) 1 : ℕ) = 896 * (t.val / 4) + l.val := by
    blk_simp [e1]; show _ + l.val = _; omega
  fin_cases a
  · exact h0
  · exact h1

/-- The quarter of the sum at a row and a column of the weight. -/
def part (r : Fin 1024) (l : Fin 3584) (k : Fin 4) : EReal := quarter (fun κ => A0 m c (ix2 κ r)) (fun κ => A1 m c (ix2 κ l)) k

/-- The product of the blocks at a grid point is a quarter of the sum. -/
theorem prod_at (t : Fin cfg0.N) (r : Fin 1024) (l : Fin 896) :
    (∑ κ : Fin 2048, X0 m c t (ix2 κ r) * X1 m c t (ix2 κ l)) = part m c (row t r) (col t l) ⟨t.val % 4, by omega⟩ := by
  simp only [blk0, blk1]
  rfl

/-- The accumulator after a first quarter. -/
theorem acc_first (t : Fin cfg0.N) (ht : t.val % 4 = 0) (r : Fin 1024) (l : Fin 896) :
    (outsAt0 m c t.val t.isLt).2 (ix2 r l) = part m c (row t r) (col t l) ⟨t.val % 4, by omega⟩ := by
  rw [outsAt0_A m c t ht (by omega) (by omega)]
  dsimp only
  rw [sout_A]
  exact (pay2_apply _ _ r l).trans (prod_at m c t r l)

/-- The accumulator after a quarter between, over what the quarter before left. -/
theorem acc_next (t : Fin cfg0.N) (h0 : ¬t.val % 4 = 0) (h3 : ¬t.val % 4 = 3) (r : Fin 1024) (l : Fin 896) :
    (outsAt0 m c t.val t.isLt).2 (ix2 r l)
      = (outsAt0 m c (t.val - 1) (Nat.lt_of_le_of_lt (Nat.sub_le _ _) t.isLt)).2 (ix2 r l) + part m c (row t r) (col t l) ⟨t.val % 4, by omega⟩ := by
  rw [outsAt0_B m c t h0 (by omega) h3]
  dsimp only
  rw [sout_B]
  exact (pay3_apply _ _ _ r l).trans (congrArg _ (prod_at m c t r l))

/-- After a last quarter, the output's block holds the whole sum. -/
theorem out_at (t : Fin cfg0.N) (ht : t.val % 4 = 3) (z : Fin 1) (r : Fin 1024) (l : Fin 896) :
    (outsAt0 m c t.val t.isLt).1 (ix3 z r l) = ∑ κ : Fin 8192, A0 m c (ix2 κ (row t r)) * A1 m c (ix2 κ (col t l)) := by
  have h := lt16 t
  have p : ∀ (d : ℕ) (hd : d ≤ 3), part m c (row ⟨t.val - d, by omega⟩ r) (col ⟨t.val - d, by omega⟩ l) ⟨(t.val - d) % 4, by omega⟩
      = part m c (row t r) (col t l) ⟨3 - d, by omega⟩ := fun d hd => by
    have el : col ⟨t.val - d, by omega⟩ l = col t l := Fin.ext (by show 896 * ((t.val - d) / 4) + l.val = 896 * (t.val / 4) + l.val; omega)
    have ek : (⟨(t.val - d) % 4, by omega⟩ : Fin 4) = ⟨3 - d, by omega⟩ := Fin.ext (by show (t.val - d) % 4 = 3 - d; omega)
    rw [el, ek]
  have s1 := acc_next m c ⟨t.val - 1, by omega⟩ (by show ¬(t.val - 1) % 4 = 0; omega) (by show ¬(t.val - 1) % 4 = 3; omega) r l
  have s2 := acc_next m c ⟨t.val - 2, by omega⟩ (by show ¬(t.val - 2) % 4 = 0; omega) (by show ¬(t.val - 2) % 4 = 3; omega) r l
  have s3 := acc_first m c ⟨t.val - 3, by omega⟩ (by show (t.val - 3) % 4 = 0; omega) r l
  rw [outsAt0_C m c t (by omega) (by omega) ht]
  dsimp only
  rw [out_C]
  refine (pay4_apply _ z r l).trans ((pay3_apply _ _ _ r l).trans ?_)
  refine Eq.trans ?_ (sum_quarters _ _).symm
  refine congrArg₂ (· + ·) (s1.trans (congrArg₂ (· + ·) (s2.trans (congrArg₂ (· + ·) (s3.trans (p 3 le_rfl)) (p 2 (by omega)))) (p 1 (by omega)))) ?_
  exact (prod_at m c t r l).trans (p 0 (by omega))

/-- The result array after the run. -/
theorem arr : (dats m 0 c).arrAt 2 cfg0.N = G m c := by
  refine Dat.arrAt_eq_of_coversWhere_of_agree (cfg := cfg0) (c := c) (dats m 0 c) 2 (G m c) (fun β => β (0 : Fin 3) = 3) (by decide +kernel)
    (fun t hf y => ?_) (fun j hj => ?_)
  · obtain ⟨z, r, l, rfl⟩ : ∃ (z : Fin 1) (r : Fin 1024) (l : Fin 896), y = ix3 z r l := ⟨y 0, y 1, y 2, eq_ix3 y⟩
    have h := lt16 t
    have hj : ((cfg0.win 2).blk t).view.emb (ix3 z r l) = (ix3 3 (row t r) (col t l) : S4x1024x3584.Idx) := by
      funext a
      refine Fin.ext ?_
      have h0 : (((cfg0.win 2).blk t).view.emb (ix3 z r l) 0 : ℕ) = 3 := by
        blk_simp [e2]
      have h1 : (((cfg0.win 2).blk t).view.emb (ix3 z r l) 1 : ℕ) = r.val := by
        blk_simp [e2]
      have h2 : (((cfg0.win 2).blk t).view.emb (ix3 z r l) 2 : ℕ) = 896 * (t.val / 4) + l.val := by
        blk_simp [e2]; show _ + l.val = _; omega
      fin_cases a
      · exact h0
      · exact h1
      · exact h2
    rw [after0_2]
    refine Eq.trans ?_ (congrArg (G m c) hj).symm
    refine (out_at m c t ((flush0_2 t).mp hf) z r l).trans ?_
    unfold G dwAt
    exact (if_pos rfl).symm
  · have hne : ¬(j 0).val = 3 := fun e => hj (by rw [Pipeline.Window.cell_apply]; exact (Nat.div_one _).trans e)
    refine Eq.trans ?_ ((if_neg hne).symm : A2 m c (ix3 (j 0) (j 1) (j 2)) = G m c j)
    rw [A_eq]
    exact (congrFun (V_3 m c) j).trans (congrArg (A2 m c) (eq_ix3 j))

/-- The run's post: the result, and the arguments as launched. -/
theorem run_result : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (arr m c), (h c).2⟩) (run_blocks m ρ)

open Cert.ReferenceDwInIdeal.Read in
/-- The reference's gradients at a layer, a row and a column. -/
theorem ref_apply (x : FVec Ideal S8192x1024 .f32) (y : FVec Ideal S8192x3584 .f32) (b : FVec Ideal S4x1024x3584 .f32) (z : Fin 4) (r : Fin 1024) (l : Fin 3584) :
    val_main_v7 (F := Ideal) x y b (ix3 z r l) = dwAt x y b z r l := by
  unfold dwAt
  pointwise [val_main_v7, val_main_v6, val_main_v5, val_main_v4, val_main_v3, val_main_v2]
  by_cases hz : z.val < 3
  · rw [dif_pos hz, if_neg (by omega)]
  · rw [dif_neg hz, if_pos (by omega)]
    exact Finset.sum_congr rfl fun κ _ => mul_comm _ _

end Cert.MixDwIn

end
-- ==== Proof.lean ====
/-
  The proof of `Cert.Claim`, for the latent-attention call, the grouped-query call, the four products of the
  feed-forward layer's backward pass and the two of the token mixer's combined projection: the frames of the kernel read
  over machine words, of the kernel and of the reference read over the extended reals, and the equality of the
  kernel's results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelGqa
public import proofs.«01_k».proof.Proof.Gen.KernelGqa.Skeleton
public import proofs.«01_k».proof.Proof.Gen.KernelGqa.Launch
public import proofs.«01_k».proof.Proof.Gen.KernelGqa.Points
public import proofs.«01_k».proof.Proof.Gen.KernelGqa.Frame
public import proofs.«01_k».proof.Proof.Gen.KernelGqaIdeal
public import proofs.«01_k».proof.Proof.Gen.KernelGqaIdeal.Skeleton
public import proofs.«01_k».proof.Proof.Gen.KernelGqaIdeal.Launch
public import proofs.«01_k».proof.Proof.Gen.KernelGqaIdeal.Points
public import proofs.«01_k».proof.Proof.Gen.KernelGqaIdeal.Frame
public import proofs.«01_k».proof.Proof.Gen.ReferenceIdeal.Run
public import proofs.«01_k».proof.Proof.Gen.ReferenceIdeal.Read
public import proofs.«01_k».proof.Proof.Gen.ReferenceGqaIdeal.Run
public import proofs.«01_k».proof.Proof.Gen.ReferenceGqaIdeal.Read
public import proofs.«01_k».proof.Proof.Gen.KernelDh
public import proofs.«01_k».proof.Proof.Gen.KernelDh.Skeleton
public import proofs.«01_k».proof.Proof.Gen.KernelDh.Launch
public import proofs.«01_k».proof.Proof.Gen.KernelDh.Points
public import proofs.«01_k».proof.Proof.Gen.KernelDh.Frame
public import proofs.«01_k».proof.Proof.Gen.KernelDhIdeal
public import proofs.«01_k».proof.Proof.Gen.KernelDhIdeal.Skeleton
public import proofs.«01_k».proof.Proof.Gen.KernelDhIdeal.Launch
public import proofs.«01_k».proof.Proof.Gen.KernelDhIdeal.Points
public import proofs.«01_k».proof.Proof.Gen.KernelDhIdeal.Frame
public import proofs.«01_k».proof.Proof.Gen.KernelDhIdeal.Value
public import proofs.«01_k».proof.Proof.Gen.ReferenceDhIdeal.Run
public import proofs.«01_k».proof.Proof.Gen.ReferenceDhIdeal.Read
public import proofs.«01_k».proof.Proof.Gen.KernelDu
public import proofs.«01_k».proof.Proof.Gen.KernelDu.Skeleton
public import proofs.«01_k».proof.Proof.Gen.KernelDu.Launch
public import proofs.«01_k».proof.Proof.Gen.KernelDu.Points
public import proofs.«01_k».proof.Proof.Gen.KernelDu.Frame
public import proofs.«01_k».proof.Proof.Gen.KernelDuIdeal
public import proofs.«01_k».proof.Proof.Gen.KernelDuIdeal.Skeleton
public import proofs.«01_k».proof.Proof.Gen.KernelDuIdeal.Launch
public import proofs.«01_k».proof.Proof.Gen.KernelDuIdeal.Points
public import proofs.«01_k».proof.Proof.Gen.KernelDuIdeal.Frame
public import proofs.«01_k».proof.Proof.Gen.KernelDuIdeal.Value
public import proofs.«01_k».proof.Proof.Gen.ReferenceDuIdeal.Run
public import proofs.«01_k».proof.Proof.Gen.ReferenceDuIdeal.Read
public import proofs.«01_k».proof.Proof.Gen.KernelDwDown
public import proofs.«01_k».proof.Proof.Gen.KernelDwDown.Skeleton
public import proofs.«01_k».proof.Proof.Gen.KernelDwDown.Launch
public import proofs.«01_k».proof.Proof.Gen.KernelDwDown.Points
public import proofs.«01_k».proof.Proof.Gen.KernelDwDown.Frame
public import proofs.«01_k».proof.Proof.Gen.KernelDwDownIdeal
public import proofs.«01_k».proof.Proof.Gen.KernelDwDownIdeal.Skeleton
public import proofs.«01_k».proof.Proof.Gen.KernelDwDownIdeal.Launch
public import proofs.«01_k».proof.Proof.Gen.KernelDwDownIdeal.Points
public import proofs.«01_k».proof.Proof.Gen.KernelDwDownIdeal.Frame
public import proofs.«01_k».proof.Proof.Gen.KernelDwDownIdeal.Value
public import proofs.«01_k».proof.Proof.Gen.ReferenceDwDownIdeal.Run
public import proofs.«01_k».proof.Proof.Gen.ReferenceDwDownIdeal.Read
public import proofs.«01_k».proof.Proof.Gen.KernelDwUp
public import proofs.«01_k».proof.Proof.Gen.KernelDwUp.Skeleton
public import proofs.«01_k».proof.Proof.Gen.KernelDwUp.Launch
public import proofs.«01_k».proof.Proof.Gen.KernelDwUp.Points
public import proofs.«01_k».proof.Proof.Gen.KernelDwUp.Frame
public import proofs.«01_k».proof.Proof.Gen.KernelDwUpIdeal
public import proofs.«01_k».proof.Proof.Gen.KernelDwUpIdeal.Skeleton
public import proofs.«01_k».proof.Proof.Gen.KernelDwUpIdeal.Launch
public import proofs.«01_k».proof.Proof.Gen.KernelDwUpIdeal.Points
public import proofs.«01_k».proof.Proof.Gen.KernelDwUpIdeal.Frame
public import proofs.«01_k».proof.Proof.Gen.KernelDwUpIdeal.Value
public import proofs.«01_k».proof.Proof.Gen.ReferenceDwUpIdeal.Run
public import proofs.«01_k».proof.Proof.Gen.ReferenceDwUpIdeal.Read
public import proofs.«01_k».proof.Proof.Same
public import proofs.«01_k».proof.Proof.Results
public import proofs.«01_k».proof.Proof.RefVals
public import proofs.«01_k».proof.Proof.Final
public import proofs.«01_k».proof.Proof.Finite
public import proofs.«01_k».proof.Proof.GqaSame
public import proofs.«01_k».proof.Proof.GqaResults
public import proofs.«01_k».proof.Proof.GqaRefVals
public import proofs.«01_k».proof.Proof.GqaFinal
public import proofs.«01_k».proof.Proof.GqaFinite
public import proofs.«01_k».proof.Proof.FfnDh
public import proofs.«01_k».proof.Proof.FfnDu
public import proofs.«01_k».proof.Proof.FfnDwDown
public import proofs.«01_k».proof.Proof.FfnDwUp
public import proofs.«01_k».proof.Proof.Gen.KernelDz
public import proofs.«01_k».proof.Proof.Gen.KernelDz.Skeleton
public import proofs.«01_k».proof.Proof.Gen.KernelDz.Launch
public import proofs.«01_k».proof.Proof.Gen.KernelDz.Points
public import proofs.«01_k».proof.Proof.Gen.KernelDz.Frame
public import proofs.«01_k».proof.Proof.Gen.KernelDzIdeal
public import proofs.«01_k».proof.Proof.Gen.KernelDzIdeal.Skeleton
public import proofs.«01_k».proof.Proof.Gen.KernelDzIdeal.Launch
public import proofs.«01_k».proof.Proof.Gen.KernelDzIdeal.Points
public import proofs.«01_k».proof.Proof.Gen.KernelDzIdeal.Frame
public import proofs.«01_k».proof.Proof.Gen.KernelDzIdeal.Value
public import proofs.«01_k».proof.Proof.Gen.ReferenceDzIdeal.Run
public import proofs.«01_k».proof.Proof.Gen.ReferenceDzIdeal.Read
public import proofs.«01_k».proof.Proof.Gen.KernelDwIn
public import proofs.«01_k».proof.Proof.Gen.KernelDwIn.Skeleton
public import proofs.«01_k».proof.Proof.Gen.KernelDwIn.Launch
public import proofs.«01_k».proof.Proof.Gen.KernelDwIn.Points
public import proofs.«01_k».proof.Proof.Gen.KernelDwIn.Frame
public import proofs.«01_k».proof.Proof.Gen.KernelDwInIdeal
public import proofs.«01_k».proof.Proof.Gen.KernelDwInIdeal.Skeleton
public import proofs.«01_k».proof.Proof.Gen.KernelDwInIdeal.Launch
public import proofs.«01_k».proof.Proof.Gen.KernelDwInIdeal.Points
public import proofs.«01_k».proof.Proof.Gen.KernelDwInIdeal.Frame
public import proofs.«01_k».proof.Proof.Gen.KernelDwInIdeal.Value
public import proofs.«01_k».proof.Proof.Gen.ReferenceDwInIdeal.Run
public import proofs.«01_k».proof.Proof.Gen.ReferenceDwInIdeal.Read
public import proofs.«01_k».proof.Proof.MixDz
public import proofs.«01_k».proof.Proof.MixDwIn

@[expose] public section

set_option maxRecDepth 16384

noncomputable section

namespace Cert.Proof

open Idealize.ShloMosaic Idealize.SL.Sem Cert.MlaBwd

/-- The reference runs, leaves its arguments unchanged and its semaphores at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun _ h => ⟨fun c => (h c).2.2.2, sem_eq_zero_of_no_sems rfl _⟩) (Cert.ReferenceIdeal.Value.run m g)

section
variable {q k : Fin 8192 → Fin 8 → Fin 96 → ℝ} {v g : Fin 8192 → Fin 8 → Fin 64 → ℝ}
variable {m : (ℓ : Loc Cert.KernelIdeal.nD Cert.KernelIdeal.τ Cert.KernelIdeal.sig) → Buf (Elt Ideal) ℓ} {c : Dev Cert.KernelIdeal.nD}

/-- On real arguments the kernel's gradient of the queries is the reference's. -/
theorem eqQ (A : Holds q k v g m c) : Cert.ReferenceIdeal.Read.val_main_v62 (F := Ideal) (up q) (up k) (upV v) (upG g) = GQ m c := by
  funext i
  obtain ⟨r, l, rfl⟩ : ∃ (r : Fin 8192) (l : Fin 1024), i = ix2 r l := ⟨i 0, i 1, eq_ix2 i⟩
  exact (rv62 q k v g r l).trans (GQ_val A r l).symm

/-- On real arguments the kernel's gradient of the keys is the reference's. -/
theorem eqK (A : Holds q k v g m c) : Cert.ReferenceIdeal.Read.val_main_v69 (F := Ideal) (up q) (up k) (upV v) (upG g) = GK m c := by
  funext i
  obtain ⟨r, l, rfl⟩ : ∃ (r : Fin 1024) (l : Fin 8192), i = ix2 r l := ⟨i 0, i 1, eq_ix2 i⟩
  exact (rv69 q k v g r l).trans (GK_val A r l).symm

/-- On real arguments the kernel's gradient of the values is the reference's. -/
theorem eqV (A : Holds q k v g m c) : Cert.ReferenceIdeal.Read.val_main_v72 (F := Ideal) (up q) (up k) (upG g) = GV m c := by
  funext i
  obtain ⟨r, l, rfl⟩ : ∃ (r : Fin 512) (l : Fin 8192), i = ix2 r l := ⟨i 0, i 1, eq_ix2 i⟩
  exact (rv72 q k g r l).trans (GV_val A r l).symm

end

/-- The kernel's three results are the reference's. -/
theorem equal_results : Cert.algebraic_KernelIdeal_ReferenceIdeal_pre_finite := by
  intro m g m' g' hpre hagree
  refine ⟨fun c => GQ m c, fun c => GK m c, fun c => GV m c, ?_, ?_⟩
  · exact (θ_run Cert.KernelIdeal.defs _ _).mono (fun _ h c => h.1 c) (run_results m g)
  · refine (θ_run Cert.ReferenceIdeal.defs _ _).mono (fun _ h c => ?_) (Cert.ReferenceIdeal.Value.run m' g')
    obtain ⟨h0, h1, h2, hrest⟩ := h c
    obtain ⟨a0, a1, a2, a3⟩ := hagree c
    obtain ⟨q, k, v, w, A⟩ := holds_of_finite hpre c
    have b0 := a0.trans A.a0
    have b1 := a1.trans A.a1
    have b2 := a2.trans A.a2
    have b3 := a3.trans A.a3
    refine ⟨?_, ?_, ?_, hrest⟩
    · refine (h0.trans (Cert.ReferenceIdeal.Read.val_main_v62_eq m' c)).trans ?_
      rw [b0, b1, b2, b3]
      exact eqQ A
    · refine (h1.trans (Cert.ReferenceIdeal.Read.val_main_v69_eq m' c)).trans ?_
      rw [b0, b1, b2, b3]
      exact eqK A
    · refine (h2.trans (Cert.ReferenceIdeal.Read.val_main_v72_eq _ _ _)).trans ?_
      rw [b0, b1, b3]
      exact eqV A

/-- The grouped-query reference runs, leaves its arguments unchanged and its semaphores at zero. -/
theorem reference_gqa_frame (m : (ℓ : Loc Cert.ReferenceGqaIdeal.nD Cert.ReferenceGqaIdeal.τ Cert.ReferenceGqaIdeal.sig) → Buf (Elt Ideal) ℓ) (g : Dev Cert.ReferenceGqaIdeal.nD → PrngReg) :
    θ_run (Cert.ReferenceGqaIdeal.defs (F := Ideal)) (onTc (τ := Cert.ReferenceGqaIdeal.τ) (Cert.ReferenceGqaIdeal.main (F := Ideal))) ⟨m, fun _ => 0, g⟩ (fun r => (∀ c : Dev Cert.ReferenceGqaIdeal.nD,
      r.2.mem ((c.tc : Thread Cert.ReferenceGqaIdeal.nD Cert.ReferenceGqaIdeal.τ).loc Cert.ReferenceGqaIdeal.main_arg0) = m ((c.tc : Thread Cert.ReferenceGqaIdeal.nD Cert.ReferenceGqaIdeal.τ).loc Cert.ReferenceGqaIdeal.main_arg0)
      ∧ r.2.mem ((c.tc : Thread Cert.ReferenceGqaIdeal.nD Cert.ReferenceGqaIdeal.τ).loc Cert.ReferenceGqaIdeal.main_arg1) = m ((c.tc : Thread Cert.ReferenceGqaIdeal.nD Cert.ReferenceGqaIdeal.τ).loc Cert.ReferenceGqaIdeal.main_arg1)
      ∧ r.2.mem ((c.tc : Thread Cert.ReferenceGqaIdeal.nD Cert.ReferenceGqaIdeal.τ).loc Cert.ReferenceGqaIdeal.main_arg2) = m ((c.tc : Thread Cert.ReferenceGqaIdeal.nD Cert.ReferenceGqaIdeal.τ).loc Cert.ReferenceGqaIdeal.main_arg2)
      ∧ r.2.mem ((c.tc : Thread Cert.ReferenceGqaIdeal.nD Cert.ReferenceGqaIdeal.τ).loc Cert.ReferenceGqaIdeal.main_arg3) = m ((c.tc : Thread Cert.ReferenceGqaIdeal.nD Cert.ReferenceGqaIdeal.τ).loc Cert.ReferenceGqaIdeal.main_arg3))
      ∧ r.2.sem = fun _ => 0) :=
  (θ_run Cert.ReferenceGqaIdeal.defs _ _).mono (fun _ h => ⟨fun c => (h c).2.2.2, sem_eq_zero_of_no_sems rfl _⟩) (Cert.ReferenceGqaIdeal.Value.run m g)

section
variable {q g : Fin 8192 → Fin 8 → Fin 64 → ℝ} {k v : Fin 8192 → Fin 2 → Fin 64 → ℝ}
variable {m : (ℓ : Loc Cert.KernelGqaIdeal.nD Cert.KernelGqaIdeal.τ Cert.KernelGqaIdeal.sig) → Buf (Elt Ideal) ℓ} {c : Dev Cert.KernelGqaIdeal.nD}

/-- On real arguments the grouped-query kernel's gradient of the queries is the reference's. -/
theorem gqa_eqQ (A : Cert.GqaBwd.Holds q g k v m c) : Cert.ReferenceGqaIdeal.Read.val_main_v67 (F := Ideal) (upV q) (Cert.GqaBwd.upK k) (Cert.GqaBwd.upK v) (upG g) = Cert.GqaBwd.GQ m c := by
  funext i
  obtain ⟨r, l, rfl⟩ : ∃ (r : Fin 8192) (l : Fin 512), i = ix2 r l := ⟨i 0, i 1, eq_ix2 i⟩
  exact (Cert.GqaBwd.rv67 q g k v r l).trans (Cert.GqaBwd.GQ_val A r l).symm

/-- On real arguments the grouped-query kernel's gradient of the keys is the reference's. -/
theorem gqa_eqK (A : Cert.GqaBwd.Holds q g k v m c) : Cert.ReferenceGqaIdeal.Read.val_main_v75 (F := Ideal) (upV q) (Cert.GqaBwd.upK k) (Cert.GqaBwd.upK v) (upG g) = Cert.GqaBwd.GK m c := by
  funext i
  obtain ⟨p, d, κ, rfl⟩ : ∃ (p : Fin 4) (d : Fin 128) (κ : Fin 8192), i = ix3 p d κ := ⟨i 0, i 1, i 2, eq_ix3 i⟩
  exact (Cert.GqaBwd.rv75 q g k v p d κ).trans (Cert.GqaBwd.GK_val A p d κ).symm

/-- On real arguments the grouped-query kernel's gradient of the values is the reference's. -/
theorem gqa_eqV (A : Cert.GqaBwd.Holds q g k v m c) : Cert.ReferenceGqaIdeal.Read.val_main_v76 (F := Ideal) (upV q) (Cert.GqaBwd.upK k) (upG g) = Cert.GqaBwd.GV m c := by
  funext i
  obtain ⟨p, d, κ, rfl⟩ : ∃ (p : Fin 4) (d : Fin 128) (κ : Fin 8192), i = ix3 p d κ := ⟨i 0, i 1, i 2, eq_ix3 i⟩
  exact (Cert.GqaBwd.rv76 q g k p d κ).trans (Cert.GqaBwd.GV_val A p d κ).symm

end

/-- The grouped-query kernel's three results are the reference's. -/
theorem equal_gqa_results : Cert.algebraic_KernelGqaIdeal_ReferenceGqaIdeal_pre_gqa_finite := by
  intro m g m' g' hpre hagree
  refine ⟨fun c => Cert.GqaBwd.GQ m c, fun c => Cert.GqaBwd.GK m c, fun c => Cert.GqaBwd.GV m c, ?_, ?_⟩
  · exact (θ_run Cert.KernelGqaIdeal.defs _ _).mono (fun _ h c => h.1 c) (Cert.GqaBwd.run_results m g)
  · refine (θ_run Cert.ReferenceGqaIdeal.defs _ _).mono (fun _ h c => ?_) (Cert.ReferenceGqaIdeal.Value.run m' g')
    obtain ⟨h0, h1, h2, hrest⟩ := h c
    obtain ⟨a0, a1, a2, a3⟩ := hagree c
    obtain ⟨q, w, k, v, A⟩ := Cert.GqaBwd.holds_of_finite hpre c
    have b0 := a0.trans A.a0
    have b1 := a1.trans A.a1
    have b2 := a2.trans A.a2
    have b3 := a3.trans A.a3
    refine ⟨?_, ?_, ?_, hrest⟩
    · refine (h0.trans (Cert.ReferenceGqaIdeal.Read.val_main_v67_eq m' c)).trans ?_
      rw [b0, b1, b2, b3]
      exact gqa_eqQ A
    · refine (h1.trans (Cert.ReferenceGqaIdeal.Read.val_main_v75_eq m' c)).trans ?_
      rw [b0, b1, b2, b3]
      exact gqa_eqK A
    · refine (h2.trans (Cert.ReferenceGqaIdeal.Read.val_main_v76_eq _ _ _)).trans ?_
      rw [b0, b1, b3]
      exact gqa_eqV A

/-- The reference of the hidden values' gradient runs, leaves its arguments unchanged and its semaphores at zero. -/
theorem reference_dh_frame (m : (ℓ : Loc Cert.ReferenceDhIdeal.nD Cert.ReferenceDhIdeal.τ Cert.ReferenceDhIdeal.sig) → Buf (Elt Ideal) ℓ) (g : Dev Cert.ReferenceDhIdeal.nD → PrngReg) :
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2))
      ∧ r.2.sem = fun _ => 0) :=
  (θ_run Cert.ReferenceDhIdeal.defs _ _).mono (fun _ h => ⟨fun c => (h c).2, sem_eq_zero_of_no_sems rfl _⟩) (Cert.ReferenceDhIdeal.Value.run m g)

/-- The kernel's result for the hidden values' gradient is the reference's. -/
theorem equal_dh : Cert.algebraic_KernelDhIdeal_ReferenceDhIdeal := by
  intro m g m' g' hpre hagree
  refine ⟨fun c => Cert.FfnDh.G m c, ?_, ?_⟩
  · exact Cert.FfnDh.run_result m g
  · refine (θ_run Cert.ReferenceDhIdeal.defs _ _).mono (fun _ h c => ?_) (Cert.ReferenceDhIdeal.Value.run m' g')
    obtain ⟨h0, hrest⟩ := h c
    obtain ⟨a0, a1, a2⟩ := hagree c
    refine ⟨(h0.trans (Cert.ReferenceDhIdeal.Read.val_main_v12_eq _ _ _)).trans ?_, hrest⟩
    rw [a0, a1, a2]
    funext i
    obtain ⟨r, l, rfl⟩ : ∃ (r : Fin 8192) (l : Fin 4096), i = ix2 r l := ⟨i 0, i 1, eq_ix2 i⟩
    exact Cert.FfnDh.ref_apply _ _ _ r l

/-- The reference of the input's gradient runs, leaves its arguments unchanged and its semaphores at zero. -/
theorem reference_du_frame (m : (ℓ : Loc Cert.ReferenceDuIdeal.nD Cert.ReferenceDuIdeal.τ Cert.ReferenceDuIdeal.sig) → Buf (Elt Ideal) ℓ) (g : Dev Cert.ReferenceDuIdeal.nD → PrngReg) :
    θ_run (Cert.ReferenceDuIdeal.defs (F := Ideal)) (onTc (τ := Cert.ReferenceDuIdeal.τ) (Cert.ReferenceDuIdeal.main (F := Ideal))) ⟨m, fun _ => 0, g⟩ (fun r => (∀ c : Dev Cert.ReferenceDuIdeal.nD,
      r.2.mem ((c.tc : Thread Cert.ReferenceDuIdeal.nD Cert.ReferenceDuIdeal.τ).loc Cert.ReferenceDuIdeal.main_arg0) = m ((c.tc : Thread Cert.ReferenceDuIdeal.nD Cert.ReferenceDuIdeal.τ).loc Cert.ReferenceDuIdeal.main_arg0)
      ∧ r.2.mem ((c.tc : Thread Cert.ReferenceDuIdeal.nD Cert.ReferenceDuIdeal.τ).loc Cert.ReferenceDuIdeal.main_arg1) = m ((c.tc : Thread Cert.ReferenceDuIdeal.nD Cert.ReferenceDuIdeal.τ).loc Cert.ReferenceDuIdeal.main_arg1))
      ∧ r.2.sem = fun _ => 0) :=
  (θ_run Cert.ReferenceDuIdeal.defs _ _).mono (fun _ h => ⟨fun c => (h c).2, sem_eq_zero_of_no_sems rfl _⟩) (Cert.ReferenceDuIdeal.Value.run m g)

/-- The kernel's result for the input's gradient is the reference's. -/
theorem equal_du : Cert.algebraic_KernelDuIdeal_ReferenceDuIdeal := by
  intro m g m' g' hpre hagree
  refine ⟨fun c => Cert.FfnDu.G m c, ?_, ?_⟩
  · exact Cert.FfnDu.run_result m g
  · refine (θ_run Cert.ReferenceDuIdeal.defs _ _).mono (fun _ h c => ?_) (Cert.ReferenceDuIdeal.Value.run m' g')
    obtain ⟨h0, hrest⟩ := h c
    obtain ⟨a0, a1⟩ := hagree c
    refine ⟨(h0.trans (Cert.ReferenceDuIdeal.Read.val_main_v3_eq _ _)).trans ?_, hrest⟩
    rw [a0, a1]
    funext i
    obtain ⟨r, l, rfl⟩ : ∃ (r : Fin 8192) (l : Fin 1024), i = ix2 r l := ⟨i 0, i 1, eq_ix2 i⟩
    exact Cert.FfnDu.ref_apply _ _ r l

/-- The reference of the second weight's gradient runs, leaves its arguments unchanged and its semaphores at zero. -/
theorem reference_dw_down_frame (m : (ℓ : Loc Cert.ReferenceDwDownIdeal.nD Cert.ReferenceDwDownIdeal.τ Cert.ReferenceDwDownIdeal.sig) → Buf (Elt Ideal) ℓ) (g : Dev Cert.ReferenceDwDownIdeal.nD → PrngReg) :
    θ_run (Cert.ReferenceDwDownIdeal.defs (F := Ideal)) (onTc (τ := Cert.ReferenceDwDownIdeal.τ) (Cert.ReferenceDwDownIdeal.main (F := Ideal))) ⟨m, fun _ => 0, g⟩ (fun r => (∀ c : Dev Cert.ReferenceDwDownIdeal.nD,
      r.2.mem ((c.tc : Thread Cert.ReferenceDwDownIdeal.nD Cert.ReferenceDwDownIdeal.τ).loc Cert.ReferenceDwDownIdeal.main_arg0) = m ((c.tc : Thread Cert.ReferenceDwDownIdeal.nD Cert.ReferenceDwDownIdeal.τ).loc Cert.ReferenceDwDownIdeal.main_arg0)
      ∧ r.2.mem ((c.tc : Thread Cert.ReferenceDwDownIdeal.nD Cert.ReferenceDwDownIdeal.τ).loc Cert.ReferenceDwDownIdeal.main_arg1) = m ((c.tc : Thread Cert.ReferenceDwDownIdeal.nD Cert.ReferenceDwDownIdeal.τ).loc Cert.ReferenceDwDownIdeal.main_arg1)
      ∧ r.2.mem ((c.tc : Thread Cert.ReferenceDwDownIdeal.nD Cert.ReferenceDwDownIdeal.τ).loc Cert.ReferenceDwDownIdeal.main_arg2) = m ((c.tc : Thread Cert.ReferenceDwDownIdeal.nD Cert.ReferenceDwDownIdeal.τ).loc Cert.ReferenceDwDownIdeal.main_arg2))
      ∧ r.2.sem = fun _ => 0) :=
  (θ_run Cert.ReferenceDwDownIdeal.defs _ _).mono (fun _ h => ⟨fun c => (h c).2, sem_eq_zero_of_no_sems rfl _⟩) (Cert.ReferenceDwDownIdeal.Value.run m g)

/-- The kernel's result for the second weight's gradient is the reference's. -/
theorem equal_dw_down : Cert.algebraic_KernelDwDownIdeal_ReferenceDwDownIdeal := by
  intro m g m' g' hpre hagree
  refine ⟨fun c => Cert.FfnDwDown.G m c, ?_, ?_⟩
  · exact Cert.FfnDwDown.run_result m g
  · refine (θ_run Cert.ReferenceDwDownIdeal.defs _ _).mono (fun _ h c => ?_) (Cert.ReferenceDwDownIdeal.Value.run m' g')
    obtain ⟨h0, hrest⟩ := h c
    obtain ⟨a0, a1, a2⟩ := hagree c
    refine ⟨(h0.trans (Cert.ReferenceDwDownIdeal.Read.val_main_v7_eq _ _ _)).trans ?_, hrest⟩
    rw [a0, a1, a2]
    funext i
    obtain ⟨z, r, l, rfl⟩ : ∃ (z : Fin 4) (r : Fin 4096) (l : Fin 1024), i = ix3 z r l := ⟨i 0, i 1, i 2, eq_ix3 i⟩
    exact Cert.FfnDwDown.ref_apply _ _ _ z r l

/-- The reference of the first weight's gradient runs, leaves its arguments unchanged and its semaphores at zero. -/
theorem reference_dw_up_frame (m : (ℓ : Loc Cert.ReferenceDwUpIdeal.nD Cert.ReferenceDwUpIdeal.τ Cert.ReferenceDwUpIdeal.sig) → Buf (Elt Ideal) ℓ) (g : Dev Cert.ReferenceDwUpIdeal.nD → PrngReg) :
    θ_run (Cert.ReferenceDwUpIdeal.defs (F := Ideal)) (onTc (τ := Cert.ReferenceDwUpIdeal.τ) (Cert.ReferenceDwUpIdeal.main (F := Ideal))) ⟨m, fun _ => 0, g⟩ (fun r => (∀ c : Dev Cert.ReferenceDwUpIdeal.nD,
      r.2.mem ((c.tc : Thread Cert.ReferenceDwUpIdeal.nD Cert.ReferenceDwUpIdeal.τ).loc Cert.ReferenceDwUpIdeal.main_arg0) = m ((c.tc : Thread Cert.ReferenceDwUpIdeal.nD Cert.ReferenceDwUpIdeal.τ).loc Cert.ReferenceDwUpIdeal.main_arg0)
      ∧ r.2.mem ((c.tc : Thread Cert.ReferenceDwUpIdeal.nD Cert.ReferenceDwUpIdeal.τ).loc Cert.ReferenceDwUpIdeal.main_arg1) = m ((c.tc : Thread Cert.ReferenceDwUpIdeal.nD Cert.ReferenceDwUpIdeal.τ).loc Cert.ReferenceDwUpIdeal.main_arg1)
      ∧ r.2.mem ((c.tc : Thread Cert.ReferenceDwUpIdeal.nD Cert.ReferenceDwUpIdeal.τ).loc Cert.ReferenceDwUpIdeal.main_arg2) = m ((c.tc : Thread Cert.ReferenceDwUpIdeal.nD Cert.ReferenceDwUpIdeal.τ).loc Cert.ReferenceDwUpIdeal.main_arg2))
      ∧ r.2.sem = fun _ => 0) :=
  (θ_run Cert.ReferenceDwUpIdeal.defs _ _).mono (fun _ h => ⟨fun c => (h c).2, sem_eq_zero_of_no_sems rfl _⟩) (Cert.ReferenceDwUpIdeal.Value.run m g)

/-- The kernel's result for the first weight's gradient is the reference's. -/
theorem equal_dw_up : Cert.algebraic_KernelDwUpIdeal_ReferenceDwUpIdeal := by
  intro m g m' g' hpre hagree
  refine ⟨fun c => Cert.FfnDwUp.G m c, ?_, ?_⟩
  · exact Cert.FfnDwUp.run_result m g
  · refine (θ_run Cert.ReferenceDwUpIdeal.defs _ _).mono (fun _ h c => ?_) (Cert.ReferenceDwUpIdeal.Value.run m' g')
    obtain ⟨h0, hrest⟩ := h c
    obtain ⟨a0, a1, a2⟩ := hagree c
    refine ⟨(h0.trans (Cert.ReferenceDwUpIdeal.Read.val_main_v7_eq _ _ _)).trans ?_, hrest⟩
    rw [a0, a1, a2]
    funext i
    obtain ⟨z, r, l, rfl⟩ : ∃ (z : Fin 4) (r : Fin 1024) (l : Fin 4096), i = ix3 z r l := ⟨i 0, i 1, i 2, eq_ix3 i⟩
    exact Cert.FfnDwUp.ref_apply _ _ _ z r l

/-- The reference of the token mixer's input's gradient runs, leaves its arguments unchanged and its semaphores at zero. -/
theorem reference_dz_frame (m : (ℓ : Loc Cert.ReferenceDzIdeal.nD Cert.ReferenceDzIdeal.τ Cert.ReferenceDzIdeal.sig) → Buf (Elt Ideal) ℓ) (g : Dev Cert.ReferenceDzIdeal.nD → PrngReg) :
    θ_run (Cert.ReferenceDzIdeal.defs (F := Ideal)) (onTc (τ := Cert.ReferenceDzIdeal.τ) (Cert.ReferenceDzIdeal.main (F := Ideal))) ⟨m, fun _ => 0, g⟩ (fun r => (∀ c : Dev Cert.ReferenceDzIdeal.nD,
      r.2.mem ((c.tc : Thread Cert.ReferenceDzIdeal.nD Cert.ReferenceDzIdeal.τ).loc Cert.ReferenceDzIdeal.main_arg0) = m ((c.tc : Thread Cert.ReferenceDzIdeal.nD Cert.ReferenceDzIdeal.τ).loc Cert.ReferenceDzIdeal.main_arg0)
      ∧ r.2.mem ((c.tc : Thread Cert.ReferenceDzIdeal.nD Cert.ReferenceDzIdeal.τ).loc Cert.ReferenceDzIdeal.main_arg1) = m ((c.tc : Thread Cert.ReferenceDzIdeal.nD Cert.ReferenceDzIdeal.τ).loc Cert.ReferenceDzIdeal.main_arg1))
      ∧ r.2.sem = fun _ => 0) :=
  (θ_run Cert.ReferenceDzIdeal.defs _ _).mono (fun _ h => ⟨fun c => (h c).2, sem_eq_zero_of_no_sems rfl _⟩) (Cert.ReferenceDzIdeal.Value.run m g)

/-- The kernel's result for the token mixer's input's gradient is the reference's. -/
theorem equal_dz : Cert.algebraic_KernelDzIdeal_ReferenceDzIdeal := by
  intro m g m' g' hpre hagree
  refine ⟨fun c => Cert.MixDz.G m c, ?_, ?_⟩
  · exact Cert.MixDz.run_result m g
  · refine (θ_run Cert.ReferenceDzIdeal.defs _ _).mono (fun _ h c => ?_) (Cert.ReferenceDzIdeal.Value.run m' g')
    obtain ⟨h0, hrest⟩ := h c
    obtain ⟨a0, a1⟩ := hagree c
    refine ⟨(h0.trans (Cert.ReferenceDzIdeal.Read.val_main_v3_eq _ _)).trans ?_, hrest⟩
    rw [a0, a1]
    funext i
    obtain ⟨r, l, rfl⟩ : ∃ (r : Fin 8192) (l : Fin 1024), i = ix2 r l := ⟨i 0, i 1, eq_ix2 i⟩
    exact Cert.MixDz.ref_apply _ _ r l

/-- The reference of the combined projection's gradient runs, leaves its arguments unchanged and its semaphores at zero. -/
theorem reference_dw_in_frame (m : (ℓ : Loc Cert.ReferenceDwInIdeal.nD Cert.ReferenceDwInIdeal.τ Cert.ReferenceDwInIdeal.sig) → Buf (Elt Ideal) ℓ) (g : Dev Cert.ReferenceDwInIdeal.nD → PrngReg) :
    θ_run (Cert.ReferenceDwInIdeal.defs (F := Ideal)) (onTc (τ := Cert.ReferenceDwInIdeal.τ) (Cert.ReferenceDwInIdeal.main (F := Ideal))) ⟨m, fun _ => 0, g⟩ (fun r => (∀ c : Dev Cert.ReferenceDwInIdeal.nD,
      r.2.mem ((c.tc : Thread Cert.ReferenceDwInIdeal.nD Cert.ReferenceDwInIdeal.τ).loc Cert.ReferenceDwInIdeal.main_arg0) = m ((c.tc : Thread Cert.ReferenceDwInIdeal.nD Cert.ReferenceDwInIdeal.τ).loc Cert.ReferenceDwInIdeal.main_arg0)
      ∧ r.2.mem ((c.tc : Thread Cert.ReferenceDwInIdeal.nD Cert.ReferenceDwInIdeal.τ).loc Cert.ReferenceDwInIdeal.main_arg1) = m ((c.tc : Thread Cert.ReferenceDwInIdeal.nD Cert.ReferenceDwInIdeal.τ).loc Cert.ReferenceDwInIdeal.main_arg1)
      ∧ r.2.mem ((c.tc : Thread Cert.ReferenceDwInIdeal.nD Cert.ReferenceDwInIdeal.τ).loc Cert.ReferenceDwInIdeal.main_arg2) = m ((c.tc : Thread Cert.ReferenceDwInIdeal.nD Cert.ReferenceDwInIdeal.τ).loc Cert.ReferenceDwInIdeal.main_arg2))
      ∧ r.2.sem = fun _ => 0) :=
  (θ_run Cert.ReferenceDwInIdeal.defs _ _).mono (fun _ h => ⟨fun c => (h c).2, sem_eq_zero_of_no_sems rfl _⟩) (Cert.ReferenceDwInIdeal.Value.run m g)

/-- The kernel's result for the combined projection's gradient is the reference's. -/
theorem equal_dw_in : Cert.algebraic_KernelDwInIdeal_ReferenceDwInIdeal := by
  intro m g m' g' hpre hagree
  refine ⟨fun c => Cert.MixDwIn.G m c, ?_, ?_⟩
  · exact Cert.MixDwIn.run_result m g
  · refine (θ_run Cert.ReferenceDwInIdeal.defs _ _).mono (fun _ h c => ?_) (Cert.ReferenceDwInIdeal.Value.run m' g')
    obtain ⟨h0, hrest⟩ := h c
    obtain ⟨a0, a1, a2⟩ := hagree c
    refine ⟨(h0.trans (Cert.ReferenceDwInIdeal.Read.val_main_v7_eq _ _ _)).trans ?_, hrest⟩
    rw [a0, a1, a2]
    funext i
    obtain ⟨z, r, l, rfl⟩ : ∃ (z : Fin 4) (r : Fin 1024) (l : Fin 3584), i = ix3 z r l := ⟨i 0, i 1, i 2, eq_ix3 i⟩
    exact Cert.MixDwIn.ref_apply _ _ _ z r l

theorem claim : Cert.Claim :=
  ⟨Cert.Kernel.Gen.facts, Cert.KernelIdeal.Gen.facts, Cert.ReferenceIdeal.Gen.facts,
    Cert.KernelGqa.Gen.facts, Cert.KernelGqaIdeal.Gen.facts, Cert.ReferenceGqaIdeal.Gen.facts,
    Cert.KernelDh.Gen.facts, Cert.KernelDhIdeal.Gen.facts, Cert.ReferenceDhIdeal.Gen.facts,
    Cert.KernelDu.Gen.facts, Cert.KernelDuIdeal.Gen.facts, Cert.ReferenceDuIdeal.Gen.facts,
    Cert.KernelDwDown.Gen.facts, Cert.KernelDwDownIdeal.Gen.facts, Cert.ReferenceDwDownIdeal.Gen.facts,
    Cert.KernelDwUp.Gen.facts, Cert.KernelDwUpIdeal.Gen.facts, Cert.ReferenceDwUpIdeal.Gen.facts,
    Cert.KernelDz.Gen.facts, Cert.KernelDzIdeal.Gen.facts, Cert.ReferenceDzIdeal.Gen.facts,
    Cert.KernelDwIn.Gen.facts, Cert.KernelDwInIdeal.Gen.facts, Cert.ReferenceDwInIdeal.Gen.facts,
    preFacts, Cert.GqaBwd.preFacts,
    frame_kernel,
    fun m g _ => Any.run_frame m g,
    fun m g _ => Any.run_frame m g,
    fun m g _ => reference_frame m g,
    fun m g _ => reference_frame m g,
    Cert.GqaBwd.frame_kernel,
    fun m g _ => Cert.GqaBwd.Any.run_frame m g,
    fun m g _ => Cert.GqaBwd.Any.run_frame m g,
    fun m g _ => reference_gqa_frame m g,
    fun m g _ => reference_gqa_frame m g,
    fun m g _ => Cert.KernelDh.Gen.frame m g,
    fun m g _ => Cert.KernelDhIdeal.Gen.frame m g,
    fun m g _ => reference_dh_frame m g,
    fun m g _ => Cert.KernelDu.Gen.frame m g,
    fun m g _ => Cert.KernelDuIdeal.Gen.frame m g,
    fun m g _ => reference_du_frame m g,
    fun m g _ => Cert.KernelDwDown.Gen.frame m g,
    fun m g _ => Cert.KernelDwDownIdeal.Gen.frame m g,
    fun m g _ => reference_dw_down_frame m g,
    fun m g _ => Cert.KernelDwUp.Gen.frame m g,
    fun m g _ => Cert.KernelDwUpIdeal.Gen.frame m g,
    fun m g _ => reference_dw_up_frame m g,
    fun m g _ => Cert.KernelDz.Gen.frame m g,
    fun m g _ => Cert.KernelDzIdeal.Gen.frame m g,
    fun m g _ => reference_dz_frame m g,
    fun m g _ => Cert.KernelDwIn.Gen.frame m g,
    fun m g _ => Cert.KernelDwInIdeal.Gen.frame m g,
    fun m g _ => reference_dw_in_frame m g,
    trivial,
    equal_results,
    trivial,
    equal_gqa_results,
    trivial,
    equal_dh,
    trivial,
    equal_du,
    trivial,
    equal_dw_down,
    trivial,
    equal_dw_up,
    trivial,
    equal_dz,
    trivial,
    equal_dw_in⟩

end Cert.Proof

end
